-- ==== Defs.lean ====
def Pre_Kernel [hPre_lengths : Cert.Pre_lengths.Facts] (m : (ℓ : Loc Cert.Kernel.nD Cert.Kernel.τ Cert.Kernel.sig) → Buf (Elt Bits) ℓ) : Prop :=
  ∀ c : Dev Cert.Kernel.nD,
    (Cert.Pre_lengths.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_lengths : Cert.Pre_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_lengths : Cert.Pre_lengths.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_lengths : Cert.Pre_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pack.Statement Cert.KernelIdeal.S320x256
  ∧ IdealRules.bf16_pair.PackStatement Cert.KernelIdeal.S16x128
  ∧ IdealRules.bf16_pair.Statement Cert.KernelIdeal.S256x128 Cert.KernelIdeal.S128x128
  ∧ IdealRules.bf16_pair.PackStatement Cert.KernelIdeal.S128x128
  ∧ IdealRules.bf16_pair.Statement Cert.KernelIdeal.S16x128 Cert.KernelIdeal.S8x128

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_lengths : Cert.Pre_lengths.Facts) (hPre_tame : Cert.Pre_tame.Facts),
    quiescent_Kernel (hKernel := hKernel) (hPre_lengths := hPre_lengths)
    ∧ quiescent_KernelIdeal (hKernelIdeal := hKernelIdeal) (hPre_lengths := hPre_lengths)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_lengths.lean ====
abbrev S1500x512x96 : Shape := ⟨3, ![1500, 512, 96]⟩
abbrev S1500x512 : Shape := ⟨2, ![1500, 512]⟩
abbrev S1500 : Shape := ⟨1, ![1500]⟩
abbrev S1500x512x20 : Shape := ⟨3, ![1500, 512, 20]⟩
abbrev S20x96x16 : Shape := ⟨3, ![20, 96, 16]⟩
abbrev S_ : Shape := ⟨0, ![]⟩

class Facts : Prop where
  bcast_S_S1500 : S_.BroadcastsInDim S1500 (![] : Fin 0 → Fin S1500.rank)

variable [Facts]

def fn {F : FTy → Type} [FloatOps F] (main_arg0 : IVec S1500x512x96 8) (main_arg1 : FVec F S1500x512 .f32) (main_arg2 : IVec S1500 32) (main_arg3 : IVec S1500x512x20 32) (main_arg4 : IVec S20x96x16 8) : IVec S1500 1 :=
  let main_c : IVec S_ 32 := constantI S_ 32 512#32
  let main_v0 : IVec S1500 32 := broadcastInDim S1500 ![] bcast_S_S1500 main_c
  let main_v1 : IVec S1500 1 := cmpi .sle main_arg2 main_v0
  main_v1
-- ==== Pre_tame.lean ====
abbrev S1500x512x96 : Shape := ⟨3, ![1500, 512, 96]⟩
abbrev S1500x512 : Shape := ⟨2, ![1500, 512]⟩
abbrev S1500 : Shape := ⟨1, ![1500]⟩
abbrev S1500x512x20 : Shape := ⟨3, ![1500, 512, 20]⟩
abbrev S20x96x16 : Shape := ⟨3, ![20, 96, 16]⟩
abbrev S_ : Shape := ⟨0, ![]⟩

class Facts : Prop where
  bcast_S_S1500 : S_.BroadcastsInDim S1500 (![] : Fin 0 → Fin S1500.rank)
  reducesTo_S1500_S_d0 : S1500.ReducesTo [0] S_
  h_S_ : 0 < S_.numel
  bcast_S_S1500x512x20 : S_.BroadcastsInDim S1500x512x20 (![] : Fin 0 → Fin S1500x512x20.rank)
  reducesTo_S1500x512x20_S_d0_1_2 : S1500x512x20.ReducesTo [0, 1, 2] S_
  bcast_S_S1500x512 : S_.BroadcastsInDim S1500x512 (![] : Fin 0 → Fin S1500x512.rank)
  reducesTo_S1500x512_S_d0_1 : S1500x512.ReducesTo [0, 1] S_
  natLt_8_32 : 8 < 32
  bcast_S_S1500x512x96 : S_.BroadcastsInDim S1500x512x96 (![] : Fin 0 → Fin S1500x512x96.rank)
  reducesTo_S1500x512x96_S_d0_1_2 : S1500x512x96.ReducesTo [0, 1, 2] S_
  bcast_S_S20x96x16 : S_.BroadcastsInDim S20x96x16 (![] : Fin 0 → Fin S20x96x16.rank)
  reducesTo_S20x96x16_S_d0_1_2 : S20x96x16.ReducesTo [0, 1, 2] S_

variable [Facts]

def fn_part1 {F : FTy → Type} [FloatOps F] (main_arg4 : IVec S20x96x16 8) (main_v14 : IVec S_ 1) (main_v15 : IVec S1500x512x96 32) (main_c_5 : IVec S_ 32) : IVec S_ 1 :=
  let main_v16 : IVec S1500x512x96 32 := broadcastInDim S1500x512x96 ![] bcast_S_S1500x512x96 main_c_5
  let main_v17 : IVec S1500x512x96 32 := andi main_v15 main_v16
  let main_c_6 : IVec S_ 32 := constantI S_ 32 127#32
  let main_v18 : IVec S1500x512x96 32 := broadcastInDim S1500x512x96 ![] bcast_S_S1500x512x96 main_c_6
  let main_v19 : IVec S1500x512x96 1 := cmpi .ne main_v17 main_v18
  let main_c_7 : IVec S_ 1 := constantI S_ 1 1#1
  let main_v20 : IVec S_ 1 := (fun x v => Host.reduce IntOp.andi x v reducesTo_S1500x512x96_S_d0_1_2 h_S_) main_v19 main_c_7
  let main_v21 : IVec S_ 1 := andi main_v14 main_v20
  let main_v22 : IVec S20x96x16 32 := (extsi 32 · natLt_8_32) main_arg4
  let main_c_8 : IVec S_ 32 := constantI S_ 32 127#32
  let main_v23 : IVec S20x96x16 32 := broadcastInDim S20x96x16 ![] bcast_S_S20x96x16 main_c_8
  let main_v24 : IVec S20x96x16 32 := andi main_v22 main_v23
  let main_c_9 : IVec S_ 32 := constantI S_ 32 127#32
  let main_v25 : IVec S20x96x16 32 := broadcastInDim S20x96x16 ![] bcast_S_S20x96x16 main_c_9
  let main_v26 : IVec S20x96x16 1 := cmpi .ne main_v24 main_v25
  let main_c_10 : IVec S_ 1 := constantI S_ 1 1#1
  let main_v27 : IVec S_ 1 := (fun x v => Host.reduce IntOp.andi x v reducesTo_S20x96x16_S_d0_1_2 h_S_) main_v26 main_c_10
  let main_v28 : IVec S_ 1 := andi main_v21 main_v27
  main_v28

def fn {F : FTy → Type} [FloatOps F] (main_arg0 : IVec S1500x512x96 8) (main_arg1 : FVec F S1500x512 .f32) (main_arg2 : IVec S1500 32) (main_arg3 : IVec S1500x512x20 32) (main_arg4 : IVec S20x96x16 8) : IVec S_ 1 :=
  let main_c : IVec S_ 32 := constantI S_ 32 512#32
  let main_v0 : IVec S1500 32 := broadcastInDim S1500 ![] bcast_S_S1500 main_c
  let main_v1 : IVec S1500 1 := cmpi .sle main_arg2 main_v0
  let main_c_0 : IVec S_ 1 := constantI S_ 1 1#1
  let main_v2 : IVec S_ 1 := (fun x v => Host.reduce IntOp.andi x v reducesTo_S1500_S_d0 h_S_) main_v1 main_c_0
  let main_c_1 : IVec S_ 32 := constantI S_ 32 0#32
  let main_v3 : IVec S1500x512x20 32 := broadcastInDim S1500x512x20 ![] bcast_S_S1500x512x20 main_c_1
  let main_v4 : IVec S1500x512x20 1 := cmpi .sge main_arg3 main_v3
  let main_c_2 : IVec S_ 32 := constantI S_ 32 64#32
  let main_v5 : IVec S1500x512x20 32 := broadcastInDim S1500x512x20 ![] bcast_S_S1500x512x20 main_c_2
  let main_v6 : IVec S1500x512x20 1 := cmpi .slt main_arg3 main_v5
  let main_v7 : IVec S1500x512x20 1 := andi main_v4 main_v6
  let main_c_3 : IVec S_ 1 := constantI S_ 1 1#1
  let main_v8 : IVec S_ 1 := (fun x v => Host.reduce IntOp.andi x v reducesTo_S1500x512x20_S_d0_1_2 h_S_) main_v7 main_c_3
  let main_v9 : IVec S_ 1 := andi main_v2 main_v8
  let main_v10 : FVec F S1500x512 .f32 := Host.absf main_arg1
  let main_cst : FVec F S_ .f32 := constant S_ .f32 0x7F800000#32
  let main_v11 : FVec F S1500x512 .f32 := broadcastInDim S1500x512 ![] bcast_S_S1500x512 main_cst
  let main_v12 : IVec S1500x512 1 := cmpf .olt main_v10 main_v11
  let main_c_4 : IVec S_ 1 := constantI S_ 1 1#1
  let main_v13 : IVec S_ 1 := (fun x v => Host.reduce IntOp.andi x v reducesTo_S1500x512_S_d0_1 h_S_) main_v12 main_c_4
  let main_v14 : IVec S_ 1 := andi main_v9 main_v13
  let main_v15 : IVec S1500x512x96 32 := (extsi 32 · natLt_8_32) main_arg0
  let main_c_5 : IVec S_ 32 := constantI S_ 32 127#32
  fn_part1 (F := F) main_arg4 main_v14 main_v15 main_c_5
-- ==== Kernel.lean ====
abbrev S1500x512x96 : Shape := ⟨3, ![1500, 512, 96]⟩
abbrev S1500x512 : Shape := ⟨2, ![1500, 512]⟩
abbrev S1500 : Shape := ⟨1, ![1500]⟩
abbrev S1500x512x20 : Shape := ⟨3, ![1500, 512, 20]⟩
abbrev S20x96x16 : Shape := ⟨3, ![20, 96, 16]⟩
abbrev S1500x96x512 : Shape := ⟨3, ![1500, 96, 512]⟩
abbrev S20x1500x512 : Shape := ⟨3, ![20, 1500, 512]⟩
abbrev S20x16x96 : Shape := ⟨3, ![20, 16, 96]⟩
abbrev S320x96 : Shape := ⟨2, ![320, 96]⟩
abbrev S_ : Shape := ⟨0, ![]⟩
abbrev S1536 : Shape := ⟨1, ![1536]⟩
abbrev S1 : Shape := ⟨1, ![1]⟩
abbrev S1500x20480 : Shape := ⟨2, ![1500, 20480]⟩
abbrev S20x64x1500 : Shape := ⟨3, ![20, 64, 1500]⟩
abbrev S16x96x512 : Shape := ⟨3, ![16, 96, 512]⟩
abbrev S16x512 : Shape := ⟨2, ![16, 512]⟩
abbrev S20x16x512 : Shape := ⟨3, ![20, 16, 512]⟩
abbrev S16x20480 : Shape := ⟨2, ![16, 20480]⟩
abbrev S20x64x128 : Shape := ⟨3, ![20, 64, 128]⟩
abbrev S2x20x16x256 : Shape := ⟨4, ![2, 20, 16, 256]⟩
abbrev S2x16x256 : Shape := ⟨3, ![2, 16, 256]⟩
abbrev S16x10x16x128 : Shape := ⟨4, ![16, 10, 16, 128]⟩
abbrev S128x1280 : Shape := ⟨2, ![128, 1280]⟩
abbrev S8x512 : Shape := ⟨2, ![8, 512]⟩
abbrev S8x256 : Shape := ⟨2, ![8, 256]⟩
abbrev S1x8x256 : Shape := ⟨3, ![1, 8, 256]⟩
abbrev S1x8x512 : Shape := ⟨3, ![1, 8, 512]⟩
abbrev S1x1x8x256 : Shape := ⟨4, ![1, 1, 8, 256]⟩
abbrev S16x256 : Shape := ⟨2, ![16, 256]⟩
abbrev S16x128 : Shape := ⟨2, ![16, 128]⟩
abbrev S1x96x256 : Shape := ⟨3, ![1, 96, 256]⟩
abbrev S96x256 : Shape := ⟨2, ![96, 256]⟩
abbrev S320x256 : Shape := ⟨2, ![320, 256]⟩
abbrev S1x1x256 : Shape := ⟨3, ![1, 1, 256]⟩
abbrev S1x256 : Shape := ⟨2, ![1, 256]⟩
abbrev S40x8x256 : Shape := ⟨3, ![40, 8, 256]⟩
abbrev S1x1x1x256 : Shape := ⟨4, ![1, 1, 1, 256]⟩
abbrev S64x256 : Shape := ⟨2, ![64, 256]⟩
abbrev S256x256 : Shape := ⟨2, ![256, 256]⟩
abbrev S1x1x16x128 : Shape := ⟨4, ![1, 1, 16, 128]⟩
abbrev S128x128 : Shape := ⟨2, ![128, 128]⟩
abbrev S8x128 : Shape := ⟨2, ![8, 128]⟩
abbrev S2x64x128 : Shape := ⟨3, ![2, 64, 128]⟩

abbrev nBuf : Space → Nat
  | .hbm => 17
  | .vmem => 16
  | .smem => 1
  | _ => 0

abbrev bufTy : (tb : Table) → Fin (tcTables nBuf tb) → BufTy
  | .hbm, ⟨0, _⟩ => ⟨S1500x512x96, .i8⟩
  | .hbm, ⟨1, _⟩ => ⟨S1500x512, .f32⟩
  | .hbm, ⟨2, _⟩ => ⟨S1500, .i32⟩
  | .hbm, ⟨3, _⟩ => ⟨S1500x512x20, .i32⟩
  | .hbm, ⟨4, _⟩ => ⟨S20x96x16, .i8⟩
  | .hbm, ⟨5, _⟩ => ⟨S1500x512x96, .fp8e4m3⟩
  | .hbm, ⟨6, _⟩ => ⟨S20x96x16, .fp8e4m3⟩
  | .hbm, ⟨7, _⟩ => ⟨S1500x96x512, .fp8e4m3⟩
  | .hbm, ⟨8, _⟩ => ⟨S20x1500x512, .i32⟩
  | .hbm, ⟨9, _⟩ => ⟨S20x16x96, .fp8e4m3⟩
  | .hbm, ⟨10, _⟩ => ⟨S320x96, .fp8e4m3⟩
  | .hbm, ⟨11, _⟩ => ⟨S_, .i32⟩
  | .hbm, ⟨12, _⟩ => ⟨S1536, .i32⟩
  | .hbm, ⟨13, _⟩ => ⟨S_, .i32⟩
  | .hbm, ⟨14, _⟩ => ⟨S1, .i32⟩
  | .hbm, ⟨15, _⟩ => ⟨S1500x20480, .bf16⟩
  | .hbm, ⟨16, _⟩ => ⟨S20x64x1500, .i32⟩
  | .local _ .vmem, ⟨0, _⟩ => ⟨S16x96x512, .fp8e4m3⟩
  | .local _ .vmem, ⟨1, _⟩ => ⟨S16x96x512, .fp8e4m3⟩
  | .local _ .vmem, ⟨2, _⟩ => ⟨S16x512, .f32⟩
  | .local _ .vmem, ⟨3, _⟩ => ⟨S16x512, .f32⟩
  | .local _ .vmem, ⟨4, _⟩ => ⟨S20x16x512, .i32⟩
  | .local _ .vmem, ⟨5, _⟩ => ⟨S20x16x512, .i32⟩
  | .local _ .vmem, ⟨6, _⟩ => ⟨S320x96, .fp8e4m3⟩
  | .local _ .vmem, ⟨7, _⟩ => ⟨S16x20480, .bf16⟩
  | .local _ .vmem, ⟨8, _⟩ => ⟨S16x20480, .bf16⟩
  | .local _ .vmem, ⟨9, _⟩ => ⟨S20x64x128, .i32⟩
  | .local _ .vmem, ⟨10, _⟩ => ⟨S20x64x128, .i32⟩
  | .local _ .vmem, ⟨11, _⟩ => ⟨S2x20x16x256, .i32⟩
  | .local _ .vmem, ⟨12, _⟩ => ⟨S2x20x16x256, .i32⟩
  | .local _ .vmem, ⟨13, _⟩ => ⟨S2x16x256, .f32⟩
  | .local _ .vmem, ⟨14, _⟩ => ⟨S16x10x16x128, .f32⟩
  | .local _ .vmem, ⟨15, _⟩ => ⟨S128x1280, .f32⟩
  | .local _ .smem, ⟨0, _⟩ => ⟨S1536, .i32⟩
  | _, _ => ⟨S1500x512x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v9_0 : Ref sig .tc := ⟨.hbm, 15, rfl⟩
abbrev main_v9_1 : Ref sig .tc := ⟨.hbm, 16, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![94], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_0 : BitVec 32) (c0_i32_1 : BitVec 32) : Fin 1 → Nat :=
  let arg0 : BitVec 32 := BitVec.ofNat 32 (i 0).val
  let c16_i32 : BitVec 32 := 16#32
  let v3 : BitVec 32 := Scalar.muli arg0 c16_i32
  let v4 : BitVec 32 := Scalar.addi v3 c0_i32_0
  let v5 : BitVec 32 := Scalar.addi v4 c0_i32_1
  let v6 : Index := Scalar.indexCast v5
  ![v6.toNat]
@[reducible] def k0_t1_loop : Scf.Loop 32 :=
  let c0_i32_1014 : BitVec 32 := 0#32
  let c16_i32_1015 : BitVec 32 := 16#32
  let v1299 : BitVec 32 := Scalar.addi c0_i32_1014 c16_i32_1015
  let c1_i32_1016 : BitVec 32 := 1#32
  ⟨c0_i32_1014, v1299, c1_i32_1016⟩
def k0_off2 (i : grid0.Coords) (k0_t1 : Fin k0_t1_loop.trips) : Fin 1 → Nat :=
  let arg0 : BitVec 32 := BitVec.ofNat 32 (i 0).val
  let c16_i32_1029 : BitVec 32 := 16#32
  let v1317 : BitVec 32 := Scalar.muli arg0 c16_i32_1029
  let c0_i32_1014 : BitVec 32 := 0#32
  let c1_i32_1016 : BitVec 32 := 1#32
  let arg13 : BitVec 32 := Scf.iv c0_i32_1014 c1_i32_1016 k0_t1
  let v1318 : BitVec 32 := Scalar.addi v1317 arg13
  let v1319 : Index := Scalar.indexCast v1318
  ![v1319.toNat]
@[reducible] def k0_t2_loop (v1320 : BitVec 32) : Scf.Loop 32 :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1042 : BitVec 32 := 1#32
  ⟨c0_i32_1039, v1345, c1_i32_1042⟩

def k0_mult1 (v1320 : BitVec 32) (k0_t2 : Fin (k0_t2_loop v1320).trips) : BitVec 32 :=
  let c0_i32_1039 : BitVec 32 := 0#32
  let c1_i32_1042 : BitVec 32 := 1#32
  let arg14 : BitVec 32 := Scf.iv c0_i32_1039 c1_i32_1042 k0_t2
  let c256_i32_1044 : BitVec 32 := 256#32
  let v1348 : BitVec 32 := Scalar.muli arg14 c256_i32_1044
  v1348
def k0_off3 (k0_t1 : Fin k0_t1_loop.trips) (v1320 : BitVec 32) (k0_t2 : Fin (k0_t2_loop v1320).trips) : Fin 3 → Nat :=
  let c0_i32_1014 : BitVec 32 := 0#32
  let c1_i32_1016 : BitVec 32 := 1#32
  let arg13 : BitVec 32 := Scf.iv c0_i32_1014 c1_i32_1016 k0_t1
  let v1351 : Index := Scalar.indexCast arg13
  let c0_1046 : Index := 0#32
  let c0_i32_1039 : BitVec 32 := 0#32
  let c1_i32_1042 : BitVec 32 := 1#32
  let arg14 : BitVec 32 := Scf.iv c0_i32_1039 c1_i32_1042 k0_t2
  let c256_i32_1044 : BitVec 32 := 256#32
  let v1348 : BitVec 32 := Scalar.muli arg14 c256_i32_1044
  let v1349 : BitVec 32 := v1348
  let v1352 : Index := Scalar.indexCast v1349
  ![v1351.toNat, 0, v1352.toNat]
def k0_off4 (k0_t1 : Fin k0_t1_loop.trips) (v1320 : BitVec 32) (k0_t2 : Fin (k0_t2_loop v1320).trips) : Fin 3 → Nat :=
  let c0_i32_1039 : BitVec 32 := 0#32
  let c1_i32_1042 : BitVec 32 := 1#32
  let arg14 : BitVec 32 := Scf.iv c0_i32_1039 c1_i32_1042 k0_t2
  let v1358 : Index := Scalar.indexCast arg14
  let c0_i32_1014 : BitVec 32 := 0#32
  let c1_i32_1016 : BitVec 32 := 1#32
  let arg13 : BitVec 32 := Scf.iv c0_i32_1014 c1_i32_1016 k0_t1
  let v1359 : Index := Scalar.indexCast arg13
  let c0_1050 : Index := 0#32
  ![v1358.toNat, v1359.toNat, 0]
def k0_off5 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1380 : Index := Scalar.indexCast arg14
  let c0_1052 : Index := 0#32
  let c0_i32_1014 : BitVec 32 := 0#32
  let c1_i32_1016 : BitVec 32 := 1#32
  let arg13 : BitVec 32 := Scf.iv c0_i32_1014 c1_i32_1016 k0_t1
  let v1381 : Index := Scalar.indexCast arg13
  let c0_1053 : Index := 0#32
  ![v1380.toNat, 0, v1381.toNat, 0]
def k0_off6 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1404 : Index := Scalar.indexCast arg14
  let c1_1060 : Index := 1#32
  let c0_i32_1014 : BitVec 32 := 0#32
  let c1_i32_1016 : BitVec 32 := 1#32
  let arg13 : BitVec 32 := Scf.iv c0_i32_1014 c1_i32_1016 k0_t1
  let v1405 : Index := Scalar.indexCast arg13
  let c0_1061 : Index := 0#32
  ![v1404.toNat, 1, v1405.toNat, 0]
def k0_off7 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1428 : Index := Scalar.indexCast arg14
  let c2_1068 : Index := 2#32
  let c0_i32_1014 : BitVec 32 := 0#32
  let c1_i32_1016 : BitVec 32 := 1#32
  let arg13 : BitVec 32 := Scf.iv c0_i32_1014 c1_i32_1016 k0_t1
  let v1429 : Index := Scalar.indexCast arg13
  let c0_1069 : Index := 0#32
  ![v1428.toNat, 2, v1429.toNat, 0]
def k0_off8 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1452 : Index := Scalar.indexCast arg14
  let c3_1076 : Index := 3#32
  let c0_i32_1014 : BitVec 32 := 0#32
  let c1_i32_1016 : BitVec 32 := 1#32
  let arg13 : BitVec 32 := Scf.iv c0_i32_1014 c1_i32_1016 k0_t1
  let v1453 : Index := Scalar.indexCast arg13
  let c0_1077 : Index := 0#32
  ![v1452.toNat, 3, v1453.toNat, 0]
def k0_off9 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1494 : Index := Scalar.indexCast arg13
  let c0_1089 : Index := 0#32
  let c0_1090 : Index := 0#32
  let c0_1091 : Index := 0#32
  ![v1494.toNat, 0, 0, 0]
def k0_off10 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1509 : Index := Scalar.indexCast arg13
  let c1_1097 : Index := 1#32
  let c0_1098 : Index := 0#32
  let c0_1099 : Index := 0#32
  ![v1509.toNat, 1, 0, 0]
def k0_off11 (i : grid0.Coords) (k0_t1 : Fin k0_t1_loop.trips) : Fin 2 → Nat :=
  let arg0 : BitVec 32 := BitVec.ofNat 32 (i 0).val
  let c8_i32_1104 : BitVec 32 := 8#32
  let c0_i32_1105 : BitVec 32 := 0#32
  let v1519 : BitVec 1 := Scalar.cmpi .eq c8_i32_1104 c0_i32_1105
  let c1_i32_1106 : BitVec 32 := 1#32
  let v1520 : BitVec 32 := Scalar.select v1519 c1_i32_1106 c8_i32_1104
  let v1521 : BitVec 32 := Scalar.remsi arg0 v1520
  let c0_i32_1108 : BitVec 32 := 0#32
  let v1523 : BitVec 1 := Scalar.cmpi .slt v1521 c0_i32_1108
  let c0_i32_1109 : BitVec 32 := 0#32
  let v1524 : BitVec 1 := Scalar.cmpi .slt v1520 c0_i32_1109
  let v1525 : BitVec 1 := Scalar.xori v1523 v1524
  let c0_i32_1107 : BitVec 32 := 0#32
  let v1522 : BitVec 1 := Scalar.cmpi .ne v1521 c0_i32_1107
  let v1526 : BitVec 1 := Scalar.andi v1525 v1522
  let v1527 : BitVec 32 := Scalar.addi v1521 v1520
  let v1528 : BitVec 32 := Scalar.select v1526 v1527 v1521
  let c16_i32_1110 : BitVec 32 := 16#32
  let v1529 : BitVec 32 := Scalar.muli v1528 c16_i32_1110
  let c0_i32_1014 : BitVec 32 := 0#32
  let c1_i32_1016 : BitVec 32 := 1#32
  let arg13 : BitVec 32 := Scf.iv c0_i32_1014 c1_i32_1016 k0_t1
  let v1530 : BitVec 32 := Scalar.addi v1529 arg13
  let v1531 : Index := Scalar.indexCast v1530
  let c0_1111 : Index := 0#32
  ![v1531.toNat, 0]
def k0_off12 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1541 : Index := Scalar.indexCast arg14
  let c4_1114 : Index := 4#32
  let c0_i32_1014 : BitVec 32 := 0#32
  let c1_i32_1016 : BitVec 32 := 1#32
  let arg13 : BitVec 32 := Scf.iv c0_i32_1014 c1_i32_1016 k0_t1
  let v1542 : Index := Scalar.indexCast arg13
  let c0_1115 : Index := 0#32
  ![v1541.toNat, 4, v1542.toNat, 0]
def k0_off13 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1565 : Index := Scalar.indexCast arg14
  let c5_1122 : Index := 5#32
  let c0_i32_1014 : BitVec 32 := 0#32
  let c1_i32_1016 : BitVec 32 := 1#32
  let arg13 : BitVec 32 := Scf.iv c0_i32_1014 c1_i32_1016 k0_t1
  let v1566 : Index := Scalar.indexCast arg13
  let c0_1123 : Index := 0#32
  ![v1565.toNat, 5, v1566.toNat, 0]
def k0_off14 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1589 : Index := Scalar.indexCast arg14
  let c6_1130 : Index := 6#32
  let c0_i32_1014 : BitVec 32 := 0#32
  let c1_i32_1016 : BitVec 32 := 1#32
  let arg13 : BitVec 32 := Scf.iv c0_i32_1014 c1_i32_1016 k0_t1
  let v1590 : Index := Scalar.indexCast arg13
  let c0_1131 : Index := 0#32
  ![v1589.toNat, 6, v1590.toNat, 0]
def k0_off15 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1613 : Index := Scalar.indexCast arg14
  let c7_1138 : Index := 7#32
  let c0_i32_1014 : BitVec 32 := 0#32
  let c1_i32_1016 : BitVec 32 := 1#32
  let arg13 : BitVec 32 := Scf.iv c0_i32_1014 c1_i32_1016 k0_t1
  let v1614 : Index := Scalar.indexCast arg13
  let c0_1139 : Index := 0#32
  ![v1613.toNat, 7, v1614.toNat, 0]
def k0_off16 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1655 : Index := Scalar.indexCast arg13
  let c2_1152 : Index := 2#32
  let c0_1153 : Index := 0#32
  let c0_1154 : Index := 0#32
  ![v1655.toNat, 2, 0, 0]
def k0_off17 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1670 : Index := Scalar.indexCast arg13
  let c3_1160 : Index := 3#32
  let c0_1161 : Index := 0#32
  let c0_1162 : Index := 0#32
  ![v1670.toNat, 3, 0, 0]
def k0_off18 (i : grid0.Coords) (k0_t1 : Fin k0_t1_loop.trips) : Fin 2 → Nat :=
  let arg0 : BitVec 32 := BitVec.ofNat 32 (i 0).val
  let c8_i32_1167 : BitVec 32 := 8#32
  let c0_i32_1168 : BitVec 32 := 0#32
  let v1680 : BitVec 1 := Scalar.cmpi .eq c8_i32_1167 c0_i32_1168
  let c1_i32_1169 : BitVec 32 := 1#32
  let v1681 : BitVec 32 := Scalar.select v1680 c1_i32_1169 c8_i32_1167
  let v1682 : BitVec 32 := Scalar.remsi arg0 v1681
  let c0_i32_1171 : BitVec 32 := 0#32
  let v1684 : BitVec 1 := Scalar.cmpi .slt v1682 c0_i32_1171
  let c0_i32_1172 : BitVec 32 := 0#32
  let v1685 : BitVec 1 := Scalar.cmpi .slt v1681 c0_i32_1172
  let v1686 : BitVec 1 := Scalar.xori v1684 v1685
  let c0_i32_1170 : BitVec 32 := 0#32
  let v1683 : BitVec 1 := Scalar.cmpi .ne v1682 c0_i32_1170
  let v1687 : BitVec 1 := Scalar.andi v1686 v1683
  let v1688 : BitVec 32 := Scalar.addi v1682 v1681
  let v1689 : BitVec 32 := Scalar.select v1687 v1688 v1682
  let c16_i32_1173 : BitVec 32 := 16#32
  let v1690 : BitVec 32 := Scalar.muli v1689 c16_i32_1173
  let c0_i32_1014 : BitVec 32 := 0#32
  let c1_i32_1016 : BitVec 32 := 1#32
  let arg13 : BitVec 32 := Scf.iv c0_i32_1014 c1_i32_1016 k0_t1
  let v1691 : BitVec 32 := Scalar.addi v1690 arg13
  let v1692 : Index := Scalar.indexCast v1691
  let c256 : Index := 256#32
  ![v1692.toNat, 256]
def k0_off19 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1702 : Index := Scalar.indexCast arg14
  let c8_1176 : Index := 8#32
  let c0_i32_1014 : BitVec 32 := 0#32
  let c1_i32_1016 : BitVec 32 := 1#32
  let arg13 : BitVec 32 := Scf.iv c0_i32_1014 c1_i32_1016 k0_t1
  let v1703 : Index := Scalar.indexCast arg13
  let c0_1177 : Index := 0#32
  ![v1702.toNat, 8, v1703.toNat, 0]
def k0_off20 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1726 : Index := Scalar.indexCast arg14
  let c9_1184 : Index := 9#32
  let c0_i32_1014 : BitVec 32 := 0#32
  let c1_i32_1016 : BitVec 32 := 1#32
  let arg13 : BitVec 32 := Scf.iv c0_i32_1014 c1_i32_1016 k0_t1
  let v1727 : Index := Scalar.indexCast arg13
  let c0_1185 : Index := 0#32
  ![v1726.toNat, 9, v1727.toNat, 0]
def k0_off21 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1750 : Index := Scalar.indexCast arg14
  let c10_1192 : Index := 10#32
  let c0_i32_1014 : BitVec 32 := 0#32
  let c1_i32_1016 : BitVec 32 := 1#32
  let arg13 : BitVec 32 := Scf.iv c0_i32_1014 c1_i32_1016 k0_t1
  let v1751 : Index := Scalar.indexCast arg13
  let c0_1193 : Index := 0#32
  ![v1750.toNat, 10, v1751.toNat, 0]
def k0_off22 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1774 : Index := Scalar.indexCast arg14
  let c11_1200 : Index := 11#32
  let c0_i32_1014 : BitVec 32 := 0#32
  let c1_i32_1016 : BitVec 32 := 1#32
  let arg13 : BitVec 32 := Scf.iv c0_i32_1014 c1_i32_1016 k0_t1
  let v1775 : Index := Scalar.indexCast arg13
  let c0_1201 : Index := 0#32
  ![v1774.toNat, 11, v1775.toNat, 0]
def k0_off23 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1816 : Index := Scalar.indexCast arg13
  let c4_1214 : Index := 4#32
  let c0_1215 : Index := 0#32
  let c0_1216 : Index := 0#32
  ![v1816.toNat, 4, 0, 0]
def k0_off24 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1831 : Index := Scalar.indexCast arg13
  let c5_1222 : Index := 5#32
  let c0_1223 : Index := 0#32
  let c0_1224 : Index := 0#32
  ![v1831.toNat, 5, 0, 0]
def k0_off25 (i : grid0.Coords) (k0_t1 : Fin k0_t1_loop.trips) : Fin 2 → Nat :=
  let arg0 : BitVec 32 := BitVec.ofNat 32 (i 0).val
  let c8_i32_1229 : BitVec 32 := 8#32
  let c0_i32_1230 : BitVec 32 := 0#32
  let v1841 : BitVec 1 := Scalar.cmpi .eq c8_i32_1229 c0_i32_1230
  let c1_i32_1231 : BitVec 32 := 1#32
  let v1842 : BitVec 32 := Scalar.select v1841 c1_i32_1231 c8_i32_1229
  let v1843 : BitVec 32 := Scalar.remsi arg0 v1842
  let c0_i32_1233 : BitVec 32 := 0#32
  let v1845 : BitVec 1 := Scalar.cmpi .slt v1843 c0_i32_1233
  let c0_i32_1234 : BitVec 32 := 0#32
  let v1846 : BitVec 1 := Scalar.cmpi .slt v1842 c0_i32_1234
  let v1847 : BitVec 1 := Scalar.xori v1845 v1846
  let c0_i32_1232 : BitVec 32 := 0#32
  let v1844 : BitVec 1 := Scalar.cmpi .ne v1843 c0_i32_1232
  let v1848 : BitVec 1 := Scalar.andi v1847 v1844
  let v1849 : BitVec 32 := Scalar.addi v1843 v1842
  let v1850 : BitVec 32 := Scalar.select v1848 v1849 v1843
  let c16_i32_1235 : BitVec 32 := 16#32
  let v1851 : BitVec 32 := Scalar.muli v1850 c16_i32_1235
  let c0_i32_1014 : BitVec 32 := 0#32
  let c1_i32_1016 : BitVec 32 := 1#32
  let arg13 : BitVec 32 := Scf.iv c0_i32_1014 c1_i32_1016 k0_t1
  let v1852 : BitVec 32 := Scalar.addi v1851 arg13
  let v1853 : Index := Scalar.indexCast v1852
  let c512 : Index := 512#32
  ![v1853.toNat, 512]
def k0_off26 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1863 : Index := Scalar.indexCast arg14
  let c12_1238 : Index := 12#32
  let c0_i32_1014 : BitVec 32 := 0#32
  let c1_i32_1016 : BitVec 32 := 1#32
  let arg13 : BitVec 32 := Scf.iv c0_i32_1014 c1_i32_1016 k0_t1
  let v1864 : Index := Scalar.indexCast arg13
  let c0_1239 : Index := 0#32
  ![v1863.toNat, 12, v1864.toNat, 0]
def k0_off27 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1887 : Index := Scalar.indexCast arg14
  let c13_1246 : Index := 13#32
  let c0_i32_1014 : BitVec 32 := 0#32
  let c1_i32_1016 : BitVec 32 := 1#32
  let arg13 : BitVec 32 := Scf.iv c0_i32_1014 c1_i32_1016 k0_t1
  let v1888 : Index := Scalar.indexCast arg13
  let c0_1247 : Index := 0#32
  ![v1887.toNat, 13, v1888.toNat, 0]
def k0_off28 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1911 : Index := Scalar.indexCast arg14
  let c14_1254 : Index := 14#32
  let c0_i32_1014 : BitVec 32 := 0#32
  let c1_i32_1016 : BitVec 32 := 1#32
  let arg13 : BitVec 32 := Scf.iv c0_i32_1014 c1_i32_1016 k0_t1
  let v1912 : Index := Scalar.indexCast arg13
  let c0_1255 : Index := 0#32
  ![v1911.toNat, 14, v1912.toNat, 0]
def k0_off29 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v1935 : Index := Scalar.indexCast arg14
  let c15_1262 : Index := 15#32
  let c0_i32_1014 : BitVec 32 := 0#32
  let c1_i32_1016 : BitVec 32 := 1#32
  let arg13 : BitVec 32 := Scf.iv c0_i32_1014 c1_i32_1016 k0_t1
  let v1936 : Index := Scalar.indexCast arg13
  let c0_1263 : Index := 0#32
  ![v1935.toNat, 15, v1936.toNat, 0]
def k0_off30 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1977 : Index := Scalar.indexCast arg13
  let c6_1276 : Index := 6#32
  let c0_1277 : Index := 0#32
  let c0_1278 : Index := 0#32
  ![v1977.toNat, 6, 0, 0]
def k0_off31 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1992 : Index := Scalar.indexCast arg13
  let c7_1284 : Index := 7#32
  let c0_1285 : Index := 0#32
  let c0_1286 : Index := 0#32
  ![v1992.toNat, 7, 0, 0]
def k0_off32 (i : grid0.Coords) (k0_t1 : Fin k0_t1_loop.trips) : Fin 2 → Nat :=
  let arg0 : BitVec 32 := BitVec.ofNat 32 (i 0).val
  let c8_i32_1291 : BitVec 32 := 8#32
  let c0_i32_1292 : BitVec 32 := 0#32
  let v2002 : BitVec 1 := Scalar.cmpi .eq c8_i32_1291 c0_i32_1292
  let c1_i32_1293 : BitVec 32 := 1#32
  let v2003 : BitVec 32 := Scalar.select v2002 c1_i32_1293 c8_i32_1291
  let v2004 : BitVec 32 := Scalar.remsi arg0 v2003
  let c0_i32_1295 : BitVec 32 := 0#32
  let v2006 : BitVec 1 := Scalar.cmpi .slt v2004 c0_i32_1295
  let c0_i32_1296 : BitVec 32 := 0#32
  let v2007 : BitVec 1 := Scalar.cmpi .slt v2003 c0_i32_1296
  let v2008 : BitVec 1 := Scalar.xori v2006 v2007
  let c0_i32_1294 : BitVec 32 := 0#32
  let v2005 : BitVec 1 := Scalar.cmpi .ne v2004 c0_i32_1294
  let v2009 : BitVec 1 := Scalar.andi v2008 v2005
  let v2010 : BitVec 32 := Scalar.addi v2004 v2003
  let v2011 : BitVec 32 := Scalar.select v2009 v2010 v2004
  let c16_i32_1297 : BitVec 32 := 16#32
  let v2012 : BitVec 32 := Scalar.muli v2011 c16_i32_1297
  let c0_i32_1014 : BitVec 32 := 0#32
  let c1_i32_1016 : BitVec 32 := 1#32
  let arg13 : BitVec 32 := Scf.iv c0_i32_1014 c1_i32_1016 k0_t1
  let v2013 : BitVec 32 := Scalar.addi v2012 arg13
  let v2014 : Index := Scalar.indexCast v2013
  let c768 : Index := 768#32
  ![v2014.toNat, 768]
def k0_off33 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v2024 : Index := Scalar.indexCast arg14
  let c16_1300 : Index := 16#32
  let c0_i32_1014 : BitVec 32 := 0#32
  let c1_i32_1016 : BitVec 32 := 1#32
  let arg13 : BitVec 32 := Scf.iv c0_i32_1014 c1_i32_1016 k0_t1
  let v2025 : Index := Scalar.indexCast arg13
  let c0_1301 : Index := 0#32
  ![v2024.toNat, 16, v2025.toNat, 0]
def k0_off34 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v2048 : Index := Scalar.indexCast arg14
  let c17_1308 : Index := 17#32
  let c0_i32_1014 : BitVec 32 := 0#32
  let c1_i32_1016 : BitVec 32 := 1#32
  let arg13 : BitVec 32 := Scf.iv c0_i32_1014 c1_i32_1016 k0_t1
  let v2049 : Index := Scalar.indexCast arg13
  let c0_1309 : Index := 0#32
  ![v2048.toNat, 17, v2049.toNat, 0]
def k0_off35 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v2072 : Index := Scalar.indexCast arg14
  let c18_1316 : Index := 18#32
  let c0_i32_1014 : BitVec 32 := 0#32
  let c1_i32_1016 : BitVec 32 := 1#32
  let arg13 : BitVec 32 := Scf.iv c0_i32_1014 c1_i32_1016 k0_t1
  let v2073 : Index := Scalar.indexCast arg13
  let c0_1317 : Index := 0#32
  ![v2072.toNat, 18, v2073.toNat, 0]
def k0_off36 (k0_t1 : Fin k0_t1_loop.trips) (v1320 : BitVec 32) (k0_t2 : Fin (k0_t2_loop v1320).trips) : Fin 4 → Nat :=
  let c0_i32_1039 : BitVec 32 := 0#32
  let c1_i32_1042 : BitVec 32 := 1#32
  let arg14 : BitVec 32 := Scf.iv c0_i32_1039 c1_i32_1042 k0_t2
  let v2096 : Index := Scalar.indexCast arg14
  let c19_1324 : Index := 19#32
  let c0_i32_1014 : BitVec 32 := 0#32
  let c1_i32_1016 : BitVec 32 := 1#32
  let arg13 : BitVec 32 := Scf.iv c0_i32_1014 c1_i32_1016 k0_t1
  let v2097 : Index := Scalar.indexCast arg13
  let c0_1325 : Index := 0#32
  ![v2096.toNat, 19, v2097.toNat, 0]
def k0_off37 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v2138 : Index := Scalar.indexCast arg13
  let c8_1338 : Index := 8#32
  let c0_1339 : Index := 0#32
  let c0_1340 : Index := 0#32
  ![v2138.toNat, 8, 0, 0]
def k0_off38 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v2153 : Index := Scalar.indexCast arg13
  let c9_1346 : Index := 9#32
  let c0_1347 : Index := 0#32
  let c0_1348 : Index := 0#32
  ![v2153.toNat, 9, 0, 0]
def k0_off39 (i : grid0.Coords) (k0_t1 : Fin k0_t1_loop.trips) : Fin 2 → Nat :=
  let arg0 : BitVec 32 := BitVec.ofNat 32 (i 0).val
  let c8_i32_1353 : BitVec 32 := 8#32
  let c0_i32_1354 : BitVec 32 := 0#32
  let v2163 : BitVec 1 := Scalar.cmpi .eq c8_i32_1353 c0_i32_1354
  let c1_i32_1355 : BitVec 32 := 1#32
  let v2164 : BitVec 32 := Scalar.select v2163 c1_i32_1355 c8_i32_1353
  let v2165 : BitVec 32 := Scalar.remsi arg0 v2164
  let c0_i32_1357 : BitVec 32 := 0#32
  let v2167 : BitVec 1 := Scalar.cmpi .slt v2165 c0_i32_1357
  let c0_i32_1358 : BitVec 32 := 0#32
  let v2168 : BitVec 1 := Scalar.cmpi .slt v2164 c0_i32_1358
  let v2169 : BitVec 1 := Scalar.xori v2167 v2168
  let c0_i32_1356 : BitVec 32 := 0#32
  let v2166 : BitVec 1 := Scalar.cmpi .ne v2165 c0_i32_1356
  let v2170 : BitVec 1 := Scalar.andi v2169 v2166
  let v2171 : BitVec 32 := Scalar.addi v2165 v2164
  let v2172 : BitVec 32 := Scalar.select v2170 v2171 v2165
  let c16_i32_1359 : BitVec 32 := 16#32
  let v2173 : BitVec 32 := Scalar.muli v2172 c16_i32_1359
  let c0_i32_1014 : BitVec 32 := 0#32
  let c1_i32_1016 : BitVec 32 := 1#32
  let arg13 : BitVec 32 := Scf.iv c0_i32_1014 c1_i32_1016 k0_t1
  let v2174 : BitVec 32 := Scalar.addi v2173 arg13
  let v2175 : Index := Scalar.indexCast v2174
  let c1024 : Index := 1024#32
  ![v2175.toNat, 1024]
@[reducible] def k0_t3_loop (v1320 : BitVec 32) : Scf.Loop 32 :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let v1342 : BitVec 32 := Scalar.addi c0_i32_1039 v1341
  let c1_i32_1043 : BitVec 32 := 1#32
  ⟨v1345, v1342, c1_i32_1043⟩
def k0_mult2 (v1320 : BitVec 32) (k0_t3 : Fin (k0_t3_loop v1320).trips) : BitVec 32 :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let c256_i32_1044 : BitVec 32 := 256#32
  let v1348 : BitVec 32 := Scalar.muli arg14 c256_i32_1044
  v1348
def k0_off40 (k0_t1 : Fin k0_t1_loop.trips) (v1320 : BitVec 32) (k0_t3 : Fin (k0_t3_loop v1320).trips) : Fin 3 → Nat :=
  let c0_i32_1014 : BitVec 32 := 0#32
  let c1_i32_1016 : BitVec 32 := 1#32
  let arg13 : BitVec 32 := Scf.iv c0_i32_1014 c1_i32_1016 k0_t1
  let v1351 : Index := Scalar.indexCast arg13
  let c0_1046 : Index := 0#32
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let c256_i32_1044 : BitVec 32 := 256#32
  let v1348 : BitVec 32 := Scalar.muli arg14 c256_i32_1044
  let v1349 : BitVec 32 := v1348
  let v1352 : Index := Scalar.indexCast v1349
  ![v1351.toNat, 0, v1352.toNat]
def k0_off41 (k0_t1 : Fin k0_t1_loop.trips) (v1320 : BitVec 32) (k0_t3 : Fin (k0_t3_loop v1320).trips) : Fin 3 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1358 : Index := Scalar.indexCast arg14
  let c0_i32_1014 : BitVec 32 := 0#32
  let c1_i32_1016 : BitVec 32 := 1#32
  let arg13 : BitVec 32 := Scf.iv c0_i32_1014 c1_i32_1016 k0_t1
  let v1359 : Index := Scalar.indexCast arg13
  let c0_1050 : Index := 0#32
  ![v1358.toNat, v1359.toNat, 0]
def k0_off42 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1380 : Index := Scalar.indexCast arg14
  let c0_1052 : Index := 0#32
  let c0_i32_1014 : BitVec 32 := 0#32
  let c1_i32_1016 : BitVec 32 := 1#32
  let arg13 : BitVec 32 := Scf.iv c0_i32_1014 c1_i32_1016 k0_t1
  let v1381 : Index := Scalar.indexCast arg13
  let c0_1053 : Index := 0#32
  ![v1380.toNat, 0, v1381.toNat, 0]
def k0_off43 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1404 : Index := Scalar.indexCast arg14
  let c1_1060 : Index := 1#32
  let c0_i32_1014 : BitVec 32 := 0#32
  let c1_i32_1016 : BitVec 32 := 1#32
  let arg13 : BitVec 32 := Scf.iv c0_i32_1014 c1_i32_1016 k0_t1
  let v1405 : Index := Scalar.indexCast arg13
  let c0_1061 : Index := 0#32
  ![v1404.toNat, 1, v1405.toNat, 0]
def k0_off44 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1428 : Index := Scalar.indexCast arg14
  let c2_1068 : Index := 2#32
  let c0_i32_1014 : BitVec 32 := 0#32
  let c1_i32_1016 : BitVec 32 := 1#32
  let arg13 : BitVec 32 := Scf.iv c0_i32_1014 c1_i32_1016 k0_t1
  let v1429 : Index := Scalar.indexCast arg13
  let c0_1069 : Index := 0#32
  ![v1428.toNat, 2, v1429.toNat, 0]
def k0_off45 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1452 : Index := Scalar.indexCast arg14
  let c3_1076 : Index := 3#32
  let c0_i32_1014 : BitVec 32 := 0#32
  let c1_i32_1016 : BitVec 32 := 1#32
  let arg13 : BitVec 32 := Scf.iv c0_i32_1014 c1_i32_1016 k0_t1
  let v1453 : Index := Scalar.indexCast arg13
  let c0_1077 : Index := 0#32
  ![v1452.toNat, 3, v1453.toNat, 0]
def k0_off46 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1494 : Index := Scalar.indexCast arg13
  let c0_1089 : Index := 0#32
  let c0_1090 : Index := 0#32
  let c0_1091 : Index := 0#32
  ![v1494.toNat, 0, 0, 0]
def k0_off47 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1509 : Index := Scalar.indexCast arg13
  let c1_1097 : Index := 1#32
  let c0_1098 : Index := 0#32
  let c0_1099 : Index := 0#32
  ![v1509.toNat, 1, 0, 0]
def k0_off48 (i : grid0.Coords) (k0_t1 : Fin k0_t1_loop.trips) : Fin 2 → Nat :=
  let arg0 : BitVec 32 := BitVec.ofNat 32 (i 0).val
  let c8_i32_1104 : BitVec 32 := 8#32
  let c0_i32_1105 : BitVec 32 := 0#32
  let v1519 : BitVec 1 := Scalar.cmpi .eq c8_i32_1104 c0_i32_1105
  let c1_i32_1106 : BitVec 32 := 1#32
  let v1520 : BitVec 32 := Scalar.select v1519 c1_i32_1106 c8_i32_1104
  let v1521 : BitVec 32 := Scalar.remsi arg0 v1520
  let c0_i32_1108 : BitVec 32 := 0#32
  let v1523 : BitVec 1 := Scalar.cmpi .slt v1521 c0_i32_1108
  let c0_i32_1109 : BitVec 32 := 0#32
  let v1524 : BitVec 1 := Scalar.cmpi .slt v1520 c0_i32_1109
  let v1525 : BitVec 1 := Scalar.xori v1523 v1524
  let c0_i32_1107 : BitVec 32 := 0#32
  let v1522 : BitVec 1 := Scalar.cmpi .ne v1521 c0_i32_1107
  let v1526 : BitVec 1 := Scalar.andi v1525 v1522
  let v1527 : BitVec 32 := Scalar.addi v1521 v1520
  let v1528 : BitVec 32 := Scalar.select v1526 v1527 v1521
  let c16_i32_1110 : BitVec 32 := 16#32
  let v1529 : BitVec 32 := Scalar.muli v1528 c16_i32_1110
  let c0_i32_1014 : BitVec 32 := 0#32
  let c1_i32_1016 : BitVec 32 := 1#32
  let arg13 : BitVec 32 := Scf.iv c0_i32_1014 c1_i32_1016 k0_t1
  let v1530 : BitVec 32 := Scalar.addi v1529 arg13
  let v1531 : Index := Scalar.indexCast v1530
  let c0_1111 : Index := 0#32
  ![v1531.toNat, 0]
def k0_off49 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1541 : Index := Scalar.indexCast arg14
  let c4_1114 : Index := 4#32
  let c0_i32_1014 : BitVec 32 := 0#32
  let c1_i32_1016 : BitVec 32 := 1#32
  let arg13 : BitVec 32 := Scf.iv c0_i32_1014 c1_i32_1016 k0_t1
  let v1542 : Index := Scalar.indexCast arg13
  let c0_1115 : Index := 0#32
  ![v1541.toNat, 4, v1542.toNat, 0]
def k0_off50 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1565 : Index := Scalar.indexCast arg14
  let c5_1122 : Index := 5#32
  let c0_i32_1014 : BitVec 32 := 0#32
  let c1_i32_1016 : BitVec 32 := 1#32
  let arg13 : BitVec 32 := Scf.iv c0_i32_1014 c1_i32_1016 k0_t1
  let v1566 : Index := Scalar.indexCast arg13
  let c0_1123 : Index := 0#32
  ![v1565.toNat, 5, v1566.toNat, 0]
def k0_off51 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1589 : Index := Scalar.indexCast arg14
  let c6_1130 : Index := 6#32
  let c0_i32_1014 : BitVec 32 := 0#32
  let c1_i32_1016 : BitVec 32 := 1#32
  let arg13 : BitVec 32 := Scf.iv c0_i32_1014 c1_i32_1016 k0_t1
  let v1590 : Index := Scalar.indexCast arg13
  let c0_1131 : Index := 0#32
  ![v1589.toNat, 6, v1590.toNat, 0]
def k0_off52 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1613 : Index := Scalar.indexCast arg14
  let c7_1138 : Index := 7#32
  let c0_i32_1014 : BitVec 32 := 0#32
  let c1_i32_1016 : BitVec 32 := 1#32
  let arg13 : BitVec 32 := Scf.iv c0_i32_1014 c1_i32_1016 k0_t1
  let v1614 : Index := Scalar.indexCast arg13
  let c0_1139 : Index := 0#32
  ![v1613.toNat, 7, v1614.toNat, 0]
def k0_off53 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1655 : Index := Scalar.indexCast arg13
  let c2_1152 : Index := 2#32
  let c0_1153 : Index := 0#32
  let c0_1154 : Index := 0#32
  ![v1655.toNat, 2, 0, 0]
def k0_off54 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1670 : Index := Scalar.indexCast arg13
  let c3_1160 : Index := 3#32
  let c0_1161 : Index := 0#32
  let c0_1162 : Index := 0#32
  ![v1670.toNat, 3, 0, 0]
def k0_off55 (i : grid0.Coords) (k0_t1 : Fin k0_t1_loop.trips) : Fin 2 → Nat :=
  let arg0 : BitVec 32 := BitVec.ofNat 32 (i 0).val
  let c8_i32_1167 : BitVec 32 := 8#32
  let c0_i32_1168 : BitVec 32 := 0#32
  let v1680 : BitVec 1 := Scalar.cmpi .eq c8_i32_1167 c0_i32_1168
  let c1_i32_1169 : BitVec 32 := 1#32
  let v1681 : BitVec 32 := Scalar.select v1680 c1_i32_1169 c8_i32_1167
  let v1682 : BitVec 32 := Scalar.remsi arg0 v1681
  let c0_i32_1171 : BitVec 32 := 0#32
  let v1684 : BitVec 1 := Scalar.cmpi .slt v1682 c0_i32_1171
  let c0_i32_1172 : BitVec 32 := 0#32
  let v1685 : BitVec 1 := Scalar.cmpi .slt v1681 c0_i32_1172
  let v1686 : BitVec 1 := Scalar.xori v1684 v1685
  let c0_i32_1170 : BitVec 32 := 0#32
  let v1683 : BitVec 1 := Scalar.cmpi .ne v1682 c0_i32_1170
  let v1687 : BitVec 1 := Scalar.andi v1686 v1683
  let v1688 : BitVec 32 := Scalar.addi v1682 v1681
  let v1689 : BitVec 32 := Scalar.select v1687 v1688 v1682
  let c16_i32_1173 : BitVec 32 := 16#32
  let v1690 : BitVec 32 := Scalar.muli v1689 c16_i32_1173
  let c0_i32_1014 : BitVec 32 := 0#32
  let c1_i32_1016 : BitVec 32 := 1#32
  let arg13 : BitVec 32 := Scf.iv c0_i32_1014 c1_i32_1016 k0_t1
  let v1691 : BitVec 32 := Scalar.addi v1690 arg13
  let v1692 : Index := Scalar.indexCast v1691
  let c256 : Index := 256#32
  ![v1692.toNat, 256]
def k0_off56 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1702 : Index := Scalar.indexCast arg14
  let c8_1176 : Index := 8#32
  let c0_i32_1014 : BitVec 32 := 0#32
  let c1_i32_1016 : BitVec 32 := 1#32
  let arg13 : BitVec 32 := Scf.iv c0_i32_1014 c1_i32_1016 k0_t1
  let v1703 : Index := Scalar.indexCast arg13
  let c0_1177 : Index := 0#32
  ![v1702.toNat, 8, v1703.toNat, 0]
def k0_off57 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1726 : Index := Scalar.indexCast arg14
  let c9_1184 : Index := 9#32
  let c0_i32_1014 : BitVec 32 := 0#32
  let c1_i32_1016 : BitVec 32 := 1#32
  let arg13 : BitVec 32 := Scf.iv c0_i32_1014 c1_i32_1016 k0_t1
  let v1727 : Index := Scalar.indexCast arg13
  let c0_1185 : Index := 0#32
  ![v1726.toNat, 9, v1727.toNat, 0]
def k0_off58 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1750 : Index := Scalar.indexCast arg14
  let c10_1192 : Index := 10#32
  let c0_i32_1014 : BitVec 32 := 0#32
  let c1_i32_1016 : BitVec 32 := 1#32
  let arg13 : BitVec 32 := Scf.iv c0_i32_1014 c1_i32_1016 k0_t1
  let v1751 : Index := Scalar.indexCast arg13
  let c0_1193 : Index := 0#32
  ![v1750.toNat, 10, v1751.toNat, 0]
def k0_off59 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1774 : Index := Scalar.indexCast arg14
  let c11_1200 : Index := 11#32
  let c0_i32_1014 : BitVec 32 := 0#32
  let c1_i32_1016 : BitVec 32 := 1#32
  let arg13 : BitVec 32 := Scf.iv c0_i32_1014 c1_i32_1016 k0_t1
  let v1775 : Index := Scalar.indexCast arg13
  let c0_1201 : Index := 0#32
  ![v1774.toNat, 11, v1775.toNat, 0]
def k0_off60 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1816 : Index := Scalar.indexCast arg13
  let c4_1214 : Index := 4#32
  let c0_1215 : Index := 0#32
  let c0_1216 : Index := 0#32
  ![v1816.toNat, 4, 0, 0]
def k0_off61 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1831 : Index := Scalar.indexCast arg13
  let c5_1222 : Index := 5#32
  let c0_1223 : Index := 0#32
  let c0_1224 : Index := 0#32
  ![v1831.toNat, 5, 0, 0]
def k0_off62 (i : grid0.Coords) (k0_t1 : Fin k0_t1_loop.trips) : Fin 2 → Nat :=
  let arg0 : BitVec 32 := BitVec.ofNat 32 (i 0).val
  let c8_i32_1229 : BitVec 32 := 8#32
  let c0_i32_1230 : BitVec 32 := 0#32
  let v1841 : BitVec 1 := Scalar.cmpi .eq c8_i32_1229 c0_i32_1230
  let c1_i32_1231 : BitVec 32 := 1#32
  let v1842 : BitVec 32 := Scalar.select v1841 c1_i32_1231 c8_i32_1229
  let v1843 : BitVec 32 := Scalar.remsi arg0 v1842
  let c0_i32_1233 : BitVec 32 := 0#32
  let v1845 : BitVec 1 := Scalar.cmpi .slt v1843 c0_i32_1233
  let c0_i32_1234 : BitVec 32 := 0#32
  let v1846 : BitVec 1 := Scalar.cmpi .slt v1842 c0_i32_1234
  let v1847 : BitVec 1 := Scalar.xori v1845 v1846
  let c0_i32_1232 : BitVec 32 := 0#32
  let v1844 : BitVec 1 := Scalar.cmpi .ne v1843 c0_i32_1232
  let v1848 : BitVec 1 := Scalar.andi v1847 v1844
  let v1849 : BitVec 32 := Scalar.addi v1843 v1842
  let v1850 : BitVec 32 := Scalar.select v1848 v1849 v1843
  let c16_i32_1235 : BitVec 32 := 16#32
  let v1851 : BitVec 32 := Scalar.muli v1850 c16_i32_1235
  let c0_i32_1014 : BitVec 32 := 0#32
  let c1_i32_1016 : BitVec 32 := 1#32
  let arg13 : BitVec 32 := Scf.iv c0_i32_1014 c1_i32_1016 k0_t1
  let v1852 : BitVec 32 := Scalar.addi v1851 arg13
  let v1853 : Index := Scalar.indexCast v1852
  let c512 : Index := 512#32
  ![v1853.toNat, 512]
def k0_off63 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1863 : Index := Scalar.indexCast arg14
  let c12_1238 : Index := 12#32
  let c0_i32_1014 : BitVec 32 := 0#32
  let c1_i32_1016 : BitVec 32 := 1#32
  let arg13 : BitVec 32 := Scf.iv c0_i32_1014 c1_i32_1016 k0_t1
  let v1864 : Index := Scalar.indexCast arg13
  let c0_1239 : Index := 0#32
  ![v1863.toNat, 12, v1864.toNat, 0]
def k0_off64 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1887 : Index := Scalar.indexCast arg14
  let c13_1246 : Index := 13#32
  let c0_i32_1014 : BitVec 32 := 0#32
  let c1_i32_1016 : BitVec 32 := 1#32
  let arg13 : BitVec 32 := Scf.iv c0_i32_1014 c1_i32_1016 k0_t1
  let v1888 : Index := Scalar.indexCast arg13
  let c0_1247 : Index := 0#32
  ![v1887.toNat, 13, v1888.toNat, 0]
def k0_off65 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1911 : Index := Scalar.indexCast arg14
  let c14_1254 : Index := 14#32
  let c0_i32_1014 : BitVec 32 := 0#32
  let c1_i32_1016 : BitVec 32 := 1#32
  let arg13 : BitVec 32 := Scf.iv c0_i32_1014 c1_i32_1016 k0_t1
  let v1912 : Index := Scalar.indexCast arg13
  let c0_1255 : Index := 0#32
  ![v1911.toNat, 14, v1912.toNat, 0]
def k0_off66 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v1935 : Index := Scalar.indexCast arg14
  let c15_1262 : Index := 15#32
  let c0_i32_1014 : BitVec 32 := 0#32
  let c1_i32_1016 : BitVec 32 := 1#32
  let arg13 : BitVec 32 := Scf.iv c0_i32_1014 c1_i32_1016 k0_t1
  let v1936 : Index := Scalar.indexCast arg13
  let c0_1263 : Index := 0#32
  ![v1935.toNat, 15, v1936.toNat, 0]
def k0_off67 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1977 : Index := Scalar.indexCast arg13
  let c6_1276 : Index := 6#32
  let c0_1277 : Index := 0#32
  let c0_1278 : Index := 0#32
  ![v1977.toNat, 6, 0, 0]
def k0_off68 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v1992 : Index := Scalar.indexCast arg13
  let c7_1284 : Index := 7#32
  let c0_1285 : Index := 0#32
  let c0_1286 : Index := 0#32
  ![v1992.toNat, 7, 0, 0]
def k0_off69 (i : grid0.Coords) (k0_t1 : Fin k0_t1_loop.trips) : Fin 2 → Nat :=
  let arg0 : BitVec 32 := BitVec.ofNat 32 (i 0).val
  let c8_i32_1291 : BitVec 32 := 8#32
  let c0_i32_1292 : BitVec 32 := 0#32
  let v2002 : BitVec 1 := Scalar.cmpi .eq c8_i32_1291 c0_i32_1292
  let c1_i32_1293 : BitVec 32 := 1#32
  let v2003 : BitVec 32 := Scalar.select v2002 c1_i32_1293 c8_i32_1291
  let v2004 : BitVec 32 := Scalar.remsi arg0 v2003
  let c0_i32_1295 : BitVec 32 := 0#32
  let v2006 : BitVec 1 := Scalar.cmpi .slt v2004 c0_i32_1295
  let c0_i32_1296 : BitVec 32 := 0#32
  let v2007 : BitVec 1 := Scalar.cmpi .slt v2003 c0_i32_1296
  let v2008 : BitVec 1 := Scalar.xori v2006 v2007
  let c0_i32_1294 : BitVec 32 := 0#32
  let v2005 : BitVec 1 := Scalar.cmpi .ne v2004 c0_i32_1294
  let v2009 : BitVec 1 := Scalar.andi v2008 v2005
  let v2010 : BitVec 32 := Scalar.addi v2004 v2003
  let v2011 : BitVec 32 := Scalar.select v2009 v2010 v2004
  let c16_i32_1297 : BitVec 32 := 16#32
  let v2012 : BitVec 32 := Scalar.muli v2011 c16_i32_1297
  let c0_i32_1014 : BitVec 32 := 0#32
  let c1_i32_1016 : BitVec 32 := 1#32
  let arg13 : BitVec 32 := Scf.iv c0_i32_1014 c1_i32_1016 k0_t1
  let v2013 : BitVec 32 := Scalar.addi v2012 arg13
  let v2014 : Index := Scalar.indexCast v2013
  let c768 : Index := 768#32
  ![v2014.toNat, 768]
def k0_off70 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v2024 : Index := Scalar.indexCast arg14
  let c16_1300 : Index := 16#32
  let c0_i32_1014 : BitVec 32 := 0#32
  let c1_i32_1016 : BitVec 32 := 1#32
  let arg13 : BitVec 32 := Scf.iv c0_i32_1014 c1_i32_1016 k0_t1
  let v2025 : Index := Scalar.indexCast arg13
  let c0_1301 : Index := 0#32
  ![v2024.toNat, 16, v2025.toNat, 0]
def k0_off71 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v2048 : Index := Scalar.indexCast arg14
  let c17_1308 : Index := 17#32
  let c0_i32_1014 : BitVec 32 := 0#32
  let c1_i32_1016 : BitVec 32 := 1#32
  let arg13 : BitVec 32 := Scf.iv c0_i32_1014 c1_i32_1016 k0_t1
  let v2049 : Index := Scalar.indexCast arg13
  let c0_1309 : Index := 0#32
  ![v2048.toNat, 17, v2049.toNat, 0]
def k0_off72 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v2072 : Index := Scalar.indexCast arg14
  let c18_1316 : Index := 18#32
  let c0_i32_1014 : BitVec 32 := 0#32
  let c1_i32_1016 : BitVec 32 := 1#32
  let arg13 : BitVec 32 := Scf.iv c0_i32_1014 c1_i32_1016 k0_t1
  let v2073 : Index := Scalar.indexCast arg13
  let c0_1317 : Index := 0#32
  ![v2072.toNat, 18, v2073.toNat, 0]
def k0_off73 (k0_t1 : Fin k0_t1_loop.trips) (v1320 : BitVec 32) (k0_t3 : Fin (k0_t3_loop v1320).trips) : Fin 4 → Nat :=
  let c0_i32_1039 : BitVec 32 := 0#32
  let c256_i32 : BitVec 32 := 256#32
  let v1321 : BitVec 32 := Scalar.addi v1320 c256_i32
  let c1_i32_1030 : BitVec 32 := 1#32
  let v1322 : BitVec 32 := Scalar.subi v1321 c1_i32_1030
  let c0_i32_1032 : BitVec 32 := 0#32
  let v1324 : BitVec 1 := Scalar.cmpi .sgt v1322 c0_i32_1032
  let v1325 : BitVec 32 := Scalar.extui v1324
  let c0_i32_1033 : BitVec 32 := 0#32
  let v1326 : BitVec 1 := Scalar.cmpi .slt v1322 c0_i32_1033
  let v1327 : BitVec 32 := Scalar.extui v1326
  let v1328 : BitVec 32 := Scalar.subi v1325 v1327
  let c256_i32_1031 : BitVec 32 := 256#32
  let c0_i32_1034 : BitVec 32 := 0#32
  let v1329 : BitVec 1 := Scalar.cmpi .sgt c256_i32_1031 c0_i32_1034
  let v1330 : BitVec 32 := Scalar.extui v1329
  let c0_i32_1035 : BitVec 32 := 0#32
  let v1331 : BitVec 1 := Scalar.cmpi .slt c256_i32_1031 c0_i32_1035
  let v1332 : BitVec 32 := Scalar.extui v1331
  let v1333 : BitVec 32 := Scalar.subi v1330 v1332
  let v1334 : BitVec 1 := Scalar.cmpi .ne v1328 v1333
  let v1335 : BitVec 32 := Scalar.remsi v1322 c256_i32_1031
  let c0_i32_1036 : BitVec 32 := 0#32
  let v1336 : BitVec 1 := Scalar.cmpi .ne v1335 c0_i32_1036
  let v1337 : BitVec 1 := Scalar.andi v1334 v1336
  let v1323 : BitVec 32 := Scalar.divsi v1322 c256_i32_1031
  let c1_i32_1037 : BitVec 32 := 1#32
  let v1338 : BitVec 32 := Scalar.subi v1323 c1_i32_1037
  let v1339 : BitVec 32 := Scalar.select v1337 v1338 v1323
  let c1_i32_1038 : BitVec 32 := 1#32
  let v1340 : BitVec 32 := Scalar.maxsi v1339 c1_i32_1038
  let v1341 : BitVec 32 := Scalar.subi v1340 c0_i32_1039
  let c1_i32_1041 : BitVec 32 := 1#32
  let v1343 : BitVec 32 := Scalar.divsi v1341 c1_i32_1041
  let v1344 : BitVec 32 := Scalar.muli v1343 c1_i32_1041
  let v1345 : BitVec 32 := Scalar.addi c0_i32_1039 v1344
  let c1_i32_1043 : BitVec 32 := 1#32
  let arg14 : BitVec 32 := Scf.iv v1345 c1_i32_1043 k0_t3
  let v2096 : Index := Scalar.indexCast arg14
  let c19_1324 : Index := 19#32
  let c0_i32_1014 : BitVec 32 := 0#32
  let c1_i32_1016 : BitVec 32 := 1#32
  let arg13 : BitVec 32 := Scf.iv c0_i32_1014 c1_i32_1016 k0_t1
  let v2097 : Index := Scalar.indexCast arg13
  let c0_1325 : Index := 0#32
  ![v2096.toNat, 19, v2097.toNat, 0]

def k0_chk1_0 (k0_t1 : Fin k0_t1_loop.trips) (v1320 : BitVec 32) : Prop :=
  ((k0_t2_loop v1320).OK) ∧
  (∀ k0_t2 : Fin (k0_t2_loop v1320).trips, 256 ∣ (k0_mult1 v1320 k0_t2).toNat) ∧
  (∀ k0_t2 : Fin (k0_t2_loop v1320).trips, ∀ a, (k0_off3 k0_t1 v1320 k0_t2) a + S1x96x256.size a ≤ S16x96x512.size a) ∧
  (∀ k0_t2 : Fin (k0_t2_loop v1320).trips, ∀ a, (k0_off4 k0_t1 v1320 k0_t2) a + S1x1x256.size a ≤ S2x16x256.size a) ∧
  (∀ k0_t2 : Fin (k0_t2_loop v1320).trips, ∀ a, (k0_off5 k0_t1 v1320 k0_t2) a + S1x1x1x256.size a ≤ S2x20x16x256.size a) ∧
  (∀ k0_t2 : Fin (k0_t2_loop v1320).trips, ∀ a, (k0_off6 k0_t1 v1320 k0_t2) a + S1x1x1x256.size a ≤ S2x20x16x256.size a) ∧
  (∀ k0_t2 : Fin (k0_t2_loop v1320).trips, ∀ a, (k0_off7 k0_t1 v1320 k0_t2) a + S1x1x1x256.size a ≤ S2x20x16x256.size a) ∧
  (∀ k0_t2 : Fin (k0_t2_loop v1320).trips, ∀ a, (k0_off8 k0_t1 v1320 k0_t2) a + S1x1x1x256.size a ≤ S2x20x16x256.size a) ∧
  (∀ k0_t2 : Fin (k0_t2_loop v1320).trips, ∀ a, (k0_off12 k0_t1 v1320 k0_t2) a + S1x1x1x256.size a ≤ S2x20x16x256.size a) ∧
  (∀ k0_t2 : Fin (k0_t2_loop v1320).trips, ∀ a, (k0_off13 k0_t1 v1320 k0_t2) a + S1x1x1x256.size a ≤ S2x20x16x256.size a) ∧
  (∀ k0_t2 : Fin (k0_t2_loop v1320).trips, ∀ a, (k0_off14 k0_t1 v1320 k0_t2) a + S1x1x1x256.size a ≤ S2x20x16x256.size a) ∧
  (∀ k0_t2 : Fin (k0_t2_loop v1320).trips, ∀ a, (k0_off15 k0_t1 v1320 k0_t2) a + S1x1x1x256.size a ≤ S2x20x16x256.size a) ∧
  (∀ k0_t2 : Fin (k0_t2_loop v1320).trips, ∀ a, (k0_off19 k0_t1 v1320 k0_t2) a + S1x1x1x256.size a ≤ S2x20x16x256.size a) ∧
  (∀ k0_t2 : Fin (k0_t2_loop v1320).trips, ∀ a, (k0_off20 k0_t1 v1320 k0_t2) a + S1x1x1x256.size a ≤ S2x20x16x256.size a) ∧
  (∀ k0_t2 : Fin (k0_t2_loop v1320).trips, ∀ a, (k0_off21 k0_t1 v1320 k0_t2) a + S1x1x1x256.size a ≤ S2x20x16x256.size a) ∧
  (∀ k0_t2 : Fin (k0_t2_loop v1320).trips, ∀ a, (k0_off22 k0_t1 v1320 k0_t2) a + S1x1x1x256.size a ≤ S2x20x16x256.size a) ∧
  (∀ k0_t2 : Fin (k0_t2_loop v1320).trips, ∀ a, (k0_off26 k0_t1 v1320 k0_t2) a + S1x1x1x256.size a ≤ S2x20x16x256.size a) ∧
  (∀ k0_t2 : Fin (k0_t2_loop v1320).trips, ∀ a, (k0_off27 k0_t1 v1320 k0_t2) a + S1x1x1x256.size a ≤ S2x20x16x256.size a) ∧
  (∀ k0_t2 : Fin (k0_t2_loop v1320).trips, ∀ a, (k0_off28 k0_t1 v1320 k0_t2) a + S1x1x1x256.size a ≤ S2x20x16x256.size a) ∧
  (∀ k0_t2 : Fin (k0_t2_loop v1320).trips, ∀ a, (k0_off29 k0_t1 v1320 k0_t2) a + S1x1x1x256.size a ≤ S2x20x16x256.size a) ∧
  (∀ k0_t2 : Fin (k0_t2_loop v1320).trips, ∀ a, (k0_off33 k0_t1 v1320 k0_t2) a + S1x1x1x256.size a ≤ S2x20x16x256.size a) ∧
  (∀ k0_t2 : Fin (k0_t2_loop v1320).trips, ∀ a, (k0_off34 k0_t1 v1320 k0_t2) a + S1x1x1x256.size a ≤ S2x20x16x256.size a) ∧
  (∀ k0_t2 : Fin (k0_t2_loop v1320).trips, ∀ a, (k0_off35 k0_t1 v1320 k0_t2) a + S1x1x1x256.size a ≤ S2x20x16x256.size a) ∧
  (∀ k0_t2 : Fin (k0_t2_loop v1320).trips, ∀ a, (k0_off36 k0_t1 v1320 k0_t2) a + S1x1x1x256.size a ≤ S2x20x16x256.size a) ∧
  ((k0_t3_loop v1320).OK) ∧
  (∀ k0_t3 : Fin (k0_t3_loop v1320).trips, 256 ∣ (k0_mult2 v1320 k0_t3).toNat) ∧
  (∀ k0_t3 : Fin (k0_t3_loop v1320).trips, ∀ a, (k0_off40 k0_t1 v1320 k0_t3) a + S1x96x256.size a ≤ S16x96x512.size a) ∧
  (∀ k0_t3 : Fin (k0_t3_loop v1320).trips, ∀ a, (k0_off41 k0_t1 v1320 k0_t3) a + S1x1x256.size a ≤ S2x16x256.size a) ∧
  (∀ k0_t3 : Fin (k0_t3_loop v1320).trips, ∀ a, (k0_off42 k0_t1 v1320 k0_t3) a + S1x1x1x256.size a ≤ S2x20x16x256.size a) ∧
  (∀ k0_t3 : Fin (k0_t3_loop v1320).trips, ∀ a, (k0_off43 k0_t1 v1320 k0_t3) a + S1x1x1x256.size a ≤ S2x20x16x256.size a) ∧
  (∀ k0_t3 : Fin (k0_t3_loop v1320).trips, ∀ a, (k0_off44 k0_t1 v1320 k0_t3) a + S1x1x1x256.size a ≤ S2x20x16x256.size a) ∧
  (∀ k0_t3 : Fin (k0_t3_loop v1320).trips, ∀ a, (k0_off45 k0_t1 v1320 k0_t3) a + S1x1x1x256.size a ≤ S2x20x16x256.size a)
def k0_chk1_1 (k0_t1 : Fin k0_t1_loop.trips) (v1320 : BitVec 32) : Prop :=
  (∀ k0_t3 : Fin (k0_t3_loop v1320).trips, ∀ a, (k0_off49 k0_t1 v1320 k0_t3) a + S1x1x1x256.size a ≤ S2x20x16x256.size a) ∧
  (∀ k0_t3 : Fin (k0_t3_loop v1320).trips, ∀ a, (k0_off50 k0_t1 v1320 k0_t3) a + S1x1x1x256.size a ≤ S2x20x16x256.size a) ∧
  (∀ k0_t3 : Fin (k0_t3_loop v1320).trips, ∀ a, (k0_off51 k0_t1 v1320 k0_t3) a + S1x1x1x256.size a ≤ S2x20x16x256.size a) ∧
  (∀ k0_t3 : Fin (k0_t3_loop v1320).trips, ∀ a, (k0_off52 k0_t1 v1320 k0_t3) a + S1x1x1x256.size a ≤ S2x20x16x256.size a) ∧
  (∀ k0_t3 : Fin (k0_t3_loop v1320).trips, ∀ a, (k0_off56 k0_t1 v1320 k0_t3) a + S1x1x1x256.size a ≤ S2x20x16x256.size a) ∧
  (∀ k0_t3 : Fin (k0_t3_loop v1320).trips, ∀ a, (k0_off57 k0_t1 v1320 k0_t3) a + S1x1x1x256.size a ≤ S2x20x16x256.size a) ∧
  (∀ k0_t3 : Fin (k0_t3_loop v1320).trips, ∀ a, (k0_off58 k0_t1 v1320 k0_t3) a + S1x1x1x256.size a ≤ S2x20x16x256.size a) ∧
  (∀ k0_t3 : Fin (k0_t3_loop v1320).trips, ∀ a, (k0_off59 k0_t1 v1320 k0_t3) a + S1x1x1x256.size a ≤ S2x20x16x256.size a) ∧
  (∀ k0_t3 : Fin (k0_t3_loop v1320).trips, ∀ a, (k0_off63 k0_t1 v1320 k0_t3) a + S1x1x1x256.size a ≤ S2x20x16x256.size a) ∧
  (∀ k0_t3 : Fin (k0_t3_loop v1320).trips, ∀ a, (k0_off64 k0_t1 v1320 k0_t3) a + S1x1x1x256.size a ≤ S2x20x16x256.size a) ∧
  (∀ k0_t3 : Fin (k0_t3_loop v1320).trips, ∀ a, (k0_off65 k0_t1 v1320 k0_t3) a + S1x1x1x256.size a ≤ S2x20x16x256.size a) ∧
  (∀ k0_t3 : Fin (k0_t3_loop v1320).trips, ∀ a, (k0_off66 k0_t1 v1320 k0_t3) a + S1x1x1x256.size a ≤ S2x20x16x256.size a) ∧
  (∀ k0_t3 : Fin (k0_t3_loop v1320).trips, ∀ a, (k0_off70 k0_t1 v1320 k0_t3) a + S1x1x1x256.size a ≤ S2x20x16x256.size a) ∧
  (∀ k0_t3 : Fin (k0_t3_loop v1320).trips, ∀ a, (k0_off71 k0_t1 v1320 k0_t3) a + S1x1x1x256.size a ≤ S2x20x16x256.size a) ∧
  (∀ k0_t3 : Fin (k0_t3_loop v1320).trips, ∀ a, (k0_off72 k0_t1 v1320 k0_t3) a + S1x1x1x256.size a ≤ S2x20x16x256.size a) ∧
  (∀ k0_t3 : Fin (k0_t3_loop v1320).trips, ∀ a, (k0_off73 k0_t1 v1320 k0_t3) a + S1x1x1x256.size a ≤ S2x20x16x256.size a)
def k0_chk1 (k0_t1 : Fin k0_t1_loop.trips) (v1320 : BitVec 32) : Prop :=
  k0_chk1_0 k0_t1 v1320 ∧
  k0_chk1_1 k0_t1 v1320
theorem k0_t2_ok : ∀ (k0_t1 : Fin k0_t1_loop.trips) (v1320 : BitVec 32) (k0_hw1 : k0_chk1 k0_t1 v1320), (k0_t2_loop v1320).OK := fun k0_t1 v1320 k0_hw1 => k0_hw1.1.1
theorem k0_mult1_dvd : ∀ (k0_t1 : Fin k0_t1_loop.trips) (v1320 : BitVec 32) (k0_hw1 : k0_chk1 k0_t1 v1320) (k0_t2 : Fin (k0_t2_loop v1320).trips), 256 ∣ (k0_mult1 v1320 k0_t2).toNat := fun k0_t1 v1320 k0_hw1 k0_t2 => k0_hw1.1.2.1 k0_t2
theorem k0_off3_inb : ∀ (k0_t1 : Fin k0_t1_loop.trips) (v1320 : BitVec 32) (k0_hw1 : k0_chk1 k0_t1 v1320) (k0_t2 : Fin (k0_t2_loop v1320).trips), ∀ a, (k0_off3 k0_t1 v1320 k0_t2) a + S1x96x256.size a ≤ S16x96x512.size a := fun k0_t1 v1320 k0_hw1 k0_t2 => k0_hw1.1.2.2.1 k0_t2
theorem k0_off4_inb : ∀ (k0_t1 : Fin k0_t1_loop.trips) (v1320 : BitVec 32) (k0_hw1 : k0_chk1 k0_t1 v1320) (k0_t2 : Fin (k0_t2_loop v1320).trips), ∀ a, (k0_off4 k0_t1 v1320 k0_t2) a + S1x1x256.size a ≤ S2x16x256.size a := fun k0_t1 v1320 k0_hw1 k0_t2 => k0_hw1.1.2.2.2.1 k0_t2
theorem k0_off5_inb : ∀ (k0_t1 : Fin k0_t1_loop.trips) (v1320 : BitVec 32) (k0_hw1 : k0_chk1 k0_t1 v1320) (k0_t2 : Fin (k0_t2_loop v1320).trips), ∀ a, (k0_off5 k0_t1 v1320 k0_t2) a + S1x1x1x256.size a ≤ S2x20x16x256.size a := fun k0_t1 v1320 k0_hw1 k0_t2 => k0_hw1.1.2.2.2.2.1 k0_t2
theorem k0_off6_inb : ∀ (k0_t1 : Fin k0_t1_loop.trips) (v1320 : BitVec 32) (k0_hw1 : k0_chk1 k0_t1 v1320) (k0_t2 : Fin (k0_t2_loop v1320).trips), ∀ a, (k0_off6 k0_t1 v1320 k0_t2) a + S1x1x1x256.size a ≤ S2x20x16x256.size a := fun k0_t1 v1320 k0_hw1 k0_t2 => k0_hw1.1.2.2.2.2.2.1 k0_t2
theorem k0_off7_inb : ∀ (k0_t1 : Fin k0_t1_loop.trips) (v1320 : BitVec 32) (k0_hw1 : k0_chk1 k0_t1 v1320) (k0_t2 : Fin (k0_t2_loop v1320).trips), ∀ a, (k0_off7 k0_t1 v1320 k0_t2) a + S1x1x1x256.size a ≤ S2x20x16x256.size a := fun k0_t1 v1320 k0_hw1 k0_t2 => k0_hw1.1.2.2.2.2.2.2.1 k0_t2
theorem k0_off8_inb : ∀ (k0_t1 : Fin k0_t1_loop.trips) (v1320 : BitVec 32) (k0_hw1 : k0_chk1 k0_t1 v1320) (k0_t2 : Fin (k0_t2_loop v1320).trips), ∀ a, (k0_off8 k0_t1 v1320 k0_t2) a + S1x1x1x256.size a ≤ S2x20x16x256.size a := fun k0_t1 v1320 k0_hw1 k0_t2 => k0_hw1.1.2.2.2.2.2.2.2.1 k0_t2
theorem k0_off12_inb : ∀ (k0_t1 : Fin k0_t1_loop.trips) (v1320 : BitVec 32) (k0_hw1 : k0_chk1 k0_t1 v1320) (k0_t2 : Fin (k0_t2_loop v1320).trips), ∀ a, (k0_off12 k0_t1 v1320 k0_t2) a + S1x1x1x256.size a ≤ S2x20x16x256.size a := fun k0_t1 v1320 k0_hw1 k0_t2 => k0_hw1.1.2.2.2.2.2.2.2.2.1 k0_t2
theorem k0_off13_inb : ∀ (k0_t1 : Fin k0_t1_loop.trips) (v1320 : BitVec 32) (k0_hw1 : k0_chk1 k0_t1 v1320) (k0_t2 : Fin (k0_t2_loop v1320).trips), ∀ a, (k0_off13 k0_t1 v1320 k0_t2) a + S1x1x1x256.size a ≤ S2x20x16x256.size a := fun k0_t1 v1320 k0_hw1 k0_t2 => k0_hw1.1.2.2.2.2.2.2.2.2.2.1 k0_t2
theorem k0_off14_inb : ∀ (k0_t1 : Fin k0_t1_loop.trips) (v1320 : BitVec 32) (k0_hw1 : k0_chk1 k0_t1 v1320) (k0_t2 : Fin (k0_t2_loop v1320).trips), ∀ a, (k0_off14 k0_t1 v1320 k0_t2) a + S1x1x1x256.size a ≤ S2x20x16x256.size a := fun k0_t1 v1320 k0_hw1 k0_t2 => k0_hw1.1.2.2.2.2.2.2.2.2.2.2.1 k0_t2
theorem k0_off15_inb : ∀ (k0_t1 : Fin k0_t1_loop.trips) (v1320 : BitVec 32) (k0_hw1 : k0_chk1 k0_t1 v1320) (k0_t2 : Fin (k0_t2_loop v1320).trips), ∀ a, (k0_off15 k0_t1 v1320 k0_t2) a + S1x1x1x256.size a ≤ S2x20x16x256.size a := fun k0_t1 v1320 k0_hw1 k0_t2 => k0_hw1.1.2.2.2.2.2.2.2.2.2.2.2.1 k0_t2
theorem k0_off19_inb : ∀ (k0_t1 : Fin k0_t1_loop.trips) (v1320 : BitVec 32) (k0_hw1 : k0_chk1 k0_t1 v1320) (k0_t2 : Fin (k0_t2_loop v1320).trips), ∀ a, (k0_off19 k0_t1 v1320 k0_t2) a + S1x1x1x256.size a ≤ S2x20x16x256.size a := fun k0_t1 v1320 k0_hw1 k0_t2 => k0_hw1.1.2.2.2.2.2.2.2.2.2.2.2.2.1 k0_t2
theorem k0_off20_inb : ∀ (k0_t1 : Fin k0_t1_loop.trips) (v1320 : BitVec 32) (k0_hw1 : k0_chk1 k0_t1 v1320) (k0_t2 : Fin (k0_t2_loop v1320).trips), ∀ a, (k0_off20 k0_t1 v1320 k0_t2) a + S1x1x1x256.size a ≤ S2x20x16x256.size a := fun k0_t1 v1320 k0_hw1 k0_t2 => k0_hw1.1.2.2.2.2.2.2.2.2.2.2.2.2.2.1 k0_t2
theorem k0_off21_inb : ∀ (k0_t1 : Fin k0_t1_loop.trips) (v1320 : BitVec 32) (k0_hw1 : k0_chk1 k0_t1 v1320) (k0_t2 : Fin (k0_t2_loop v1320).trips), ∀ a, (k0_off21 k0_t1 v1320 k0_t2) a + S1x1x1x256.size a ≤ S2x20x16x256.size a := fun k0_t1 v1320 k0_hw1 k0_t2 => k0_hw1.1.2.2.2.2.2.2.2.2.2.2.2.2.2.2.1 k0_t2
theorem k0_off22_inb : ∀ (k0_t1 : Fin k0_t1_loop.trips) (v1320 : BitVec 32) (k0_hw1 : k0_chk1 k0_t1 v1320) (k0_t2 : Fin (k0_t2_loop v1320).trips), ∀ a, (k0_off22 k0_t1 v1320 k0_t2) a + S1x1x1x256.size a ≤ S2x20x16x256.size a := fun k0_t1 v1320 k0_hw1 k0_t2 => k0_hw1.1.2.2.2.2.2.2.2.2.2.2.2.2.2.2.2.1 k0_t2
theorem k0_off26_inb : ∀ (k0_t1 : Fin k0_t1_loop.trips) (v1320 : BitVec 32) (k0_hw1 : k0_chk1 k0_t1 v1320) (k0_t2 : Fin (k0_t2_loop v1320).trips), ∀ a, (k0_off26 k0_t1 v1320 k0_t2) a + S1x1x1x256.size a ≤ S2x20x16x256.size a := fun k0_t1 v1320 k0_hw1 k0_t2 => k0_hw1.1.2.2.2.2.2.2.2.2.2.2.2.2.2.2.2.2.1 k0_t2
theorem k0_off27_inb : ∀ (k0_t1 : Fin k0_t1_loop.trips) (v1320 : BitVec 32) (k0_hw1 : k0_chk1 k0_t1 v1320) (k0_t2 : Fin (k0_t2_loop v1320).trips), ∀ a, (k0_off27 k0_t1 v1320 k0_t2) a + S1x1x1x256.size a ≤ S2x20x16x256.size a := fun k0_t1 v1320 k0_hw1 k0_t2 => k0_hw1.1.2.2.2.2.2.2.2.2.2.2.2.2.2.2.2.2.2.1 k0_t2
theorem k0_off28_inb : ∀ (k0_t1 : Fin k0_t1_loop.trips) (v1320 : BitVec 32) (k0_hw1 : k0_chk1 k0_t1 v1320) (k0_t2 : Fin (k0_t2_loop v1320).trips), ∀ a, (k0_off28 k0_t1 v1320 k0_t2) a + S1x1x1x256.size a ≤ S2x20x16x256.size a := fun k0_t1 v1320 k0_hw1 k0_t2 => k0_hw1.1.2.2.2.2.2.2.2.2.2.2.2.2.2.2.2.2.2.2.1 k0_t2
theorem k0_off29_inb : ∀ (k0_t1 : Fin k0_t1_loop.trips) (v1320 : BitVec 32) (k0_hw1 : k0_chk1 k0_t1 v1320) (k0_t2 : Fin (k0_t2_loop v1320).trips), ∀ a, (k0_off29 k0_t1 v1320 k0_t2) a + S1x1x1x256.size a ≤ S2x20x16x256.size a := fun k0_t1 v1320 k0_hw1 k0_t2 => k0_hw1.1.2.2.2.2.2.2.2.2.2.2.2.2.2.2.2.2.2.2.2.1 k0_t2
theorem k0_off33_inb : ∀ (k0_t1 : Fin k0_t1_loop.trips) (v1320 : BitVec 32) (k0_hw1 : k0_chk1 k0_t1 v1320) (k0_t2 : Fin (k0_t2_loop v1320).trips), ∀ a, (k0_off33 k0_t1 v1320 k0_t2) a + S1x1x1x256.size a ≤ S2x20x16x256.size a := fun k0_t1 v1320 k0_hw1 k0_t2 => k0_hw1.1.2.2.2.2.2.2.2.2.2.2.2.2.2.2.2.2.2.2.2.2.1 k0_t2
theorem k0_off34_inb : ∀ (k0_t1 : Fin k0_t1_loop.trips) (v1320 : BitVec 32) (k0_hw1 : k0_chk1 k0_t1 v1320) (k0_t2 : Fin (k0_t2_loop v1320).trips), ∀ a, (k0_off34 k0_t1 v1320 k0_t2) a + S1x1x1x256.size a ≤ S2x20x16x256.size a := fun k0_t1 v1320 k0_hw1 k0_t2 => k0_hw1.1.2.2.2.2.2.2.2.2.2.2.2.2.2.2.2.2.2.2.2.2.2.1 k0_t2
theorem k0_off35_inb : ∀ (k0_t1 : Fin k0_t1_loop.trips) (v1320 : BitVec 32) (k0_hw1 : k0_chk1 k0_t1 v1320) (k0_t2 : Fin (k0_t2_loop v1320).trips), ∀ a, (k0_off35 k0_t1 v1320 k0_t2) a + S1x1x1x256.size a ≤ S2x20x16x256.size a := fun k0_t1 v1320 k0_hw1 k0_t2 => k0_hw1.1.2.2.2.2.2.2.2.2.2.2.2.2.2.2.2.2.2.2.2.2.2.2.1 k0_t2
theorem k0_off36_inb : ∀ (k0_t1 : Fin k0_t1_loop.trips) (v1320 : BitVec 32) (k0_hw1 : k0_chk1 k0_t1 v1320) (k0_t2 : Fin (k0_t2_loop v1320).trips), ∀ a, (k0_off36 k0_t1 v1320 k0_t2) a + S1x1x1x256.size a ≤ S2x20x16x256.size a := fun k0_t1 v1320 k0_hw1 k0_t2 => k0_hw1.1.2.2.2.2.2.2.2.2.2.2.2.2.2.2.2.2.2.2.2.2.2.2.2.1 k0_t2
theorem k0_t3_ok : ∀ (k0_t1 : Fin k0_t1_loop.trips) (v1320 : BitVec 32) (k0_hw1 : k0_chk1 k0_t1 v1320), (k0_t3_loop v1320).OK := fun k0_t1 v1320 k0_hw1 => k0_hw1.1.2.2.2.2.2.2.2.2.2.2.2.2.2.2.2.2.2.2.2.2.2.2.2.2.1
theorem k0_mult2_dvd : ∀ (k0_t1 : Fin k0_t1_loop.trips) (v1320 : BitVec 32) (k0_hw1 : k0_chk1 k0_t1 v1320) (k0_t3 : Fin (k0_t3_loop v1320).trips), 256 ∣ (k0_mult2 v1320 k0_t3).toNat := fun k0_t1 v1320 k0_hw1 k0_t3 => k0_hw1.1.2.2.2.2.2.2.2.2.2.2.2.2.2.2.2.2.2.2.2.2.2.2.2.2.2.1 k0_t3
theorem k0_off40_inb : ∀ (k0_t1 : Fin k0_t1_loop.trips) (v1320 : BitVec 32) (k0_hw1 : k0_chk1 k0_t1 v1320) (k0_t3 : Fin (k0_t3_loop v1320).trips), ∀ a, (k0_off40 k0_t1 v1320 k0_t3) a + S1x96x256.size a ≤ S16x96x512.size a := fun k0_t1 v1320 k0_hw1 k0_t3 => k0_hw1.1.2.2.2.2.2.2.2.2.2.2.2.2.2.2.2.2.2.2.2.2.2.2.2.2.2.2.1 k0_t3
theorem k0_off41_inb : ∀ (k0_t1 : Fin k0_t1_loop.trips) (v1320 : BitVec 32) (k0_hw1 : k0_chk1 k0_t1 v1320) (k0_t3 : Fin (k0_t3_loop v1320).trips), ∀ a, (k0_off41 k0_t1 v1320 k0_t3) a + S1x1x256.size a ≤ S2x16x256.size a := fun k0_t1 v1320 k0_hw1 k0_t3 => k0_hw1.1.2.2.2.2.2.2.2.2.2.2.2.2.2.2.2.2.2.2.2.2.2.2.2.2.2.2.2.1 k0_t3
theorem k0_off42_inb : ∀ (k0_t1 : Fin k0_t1_loop.trips) (v1320 : BitVec 32) (k0_hw1 : k0_chk1 k0_t1 v1320) (k0_t3 : Fin (k0_t3_loop v1320).trips), ∀ a, (k0_off42 k0_t1 v1320 k0_t3) a + S1x1x1x256.size a ≤ S2x20x16x256.size a := fun k0_t1 v1320 k0_hw1 k0_t3 => k0_hw1.1.2.2.2.2.2.2.2.2.2.2.2.2.2.2.2.2.2.2.2.2.2.2.2.2.2.2.2.2.1 k0_t3
theorem k0_off43_inb : ∀ (k0_t1 : Fin k0_t1_loop.trips) (v1320 : BitVec 32) (k0_hw1 : k0_chk1 k0_t1 v1320) (k0_t3 : Fin (k0_t3_loop v1320).trips), ∀ a, (k0_off43 k0_t1 v1320 k0_t3) a + S1x1x1x256.size a ≤ S2x20x16x256.size a := fun k0_t1 v1320 k0_hw1 k0_t3 => k0_hw1.1.2.2.2.2.2.2.2.2.2.2.2.2.2.2.2.2.2.2.2.2.2.2.2.2.2.2.2.2.2.1 k0_t3
theorem k0_off44_inb : ∀ (k0_t1 : Fin k0_t1_loop.trips) (v1320 : BitVec 32) (k0_hw1 : k0_chk1 k0_t1 v1320) (k0_t3 : Fin (k0_t3_loop v1320).trips), ∀ a, (k0_off44 k0_t1 v1320 k0_t3) a + S1x1x1x256.size a ≤ S2x20x16x256.size a := fun k0_t1 v1320 k0_hw1 k0_t3 => k0_hw1.1.2.2.2.2.2.2.2.2.2.2.2.2.2.2.2.2.2.2.2.2.2.2.2.2.2.2.2.2.2.2.1 k0_t3
theorem k0_off45_inb : ∀ (k0_t1 : Fin k0_t1_loop.trips) (v1320 : BitVec 32) (k0_hw1 : k0_chk1 k0_t1 v1320) (k0_t3 : Fin (k0_t3_loop v1320).trips), ∀ a, (k0_off45 k0_t1 v1320 k0_t3) a + S1x1x1x256.size a ≤ S2x20x16x256.size a := fun k0_t1 v1320 k0_hw1 k0_t3 => k0_hw1.1.2.2.2.2.2.2.2.2.2.2.2.2.2.2.2.2.2.2.2.2.2.2.2.2.2.2.2.2.2.2.2 k0_t3
theorem k0_off49_inb : ∀ (k0_t1 : Fin k0_t1_loop.trips) (v1320 : BitVec 32) (k0_hw1 : k0_chk1 k0_t1 v1320) (k0_t3 : Fin (k0_t3_loop v1320).trips), ∀ a, (k0_off49 k0_t1 v1320 k0_t3) a + S1x1x1x256.size a ≤ S2x20x16x256.size a := fun k0_t1 v1320 k0_hw1 k0_t3 => k0_hw1.2.1 k0_t3
theorem k0_off50_inb : ∀ (k0_t1 : Fin k0_t1_loop.trips) (v1320 : BitVec 32) (k0_hw1 : k0_chk1 k0_t1 v1320) (k0_t3 : Fin (k0_t3_loop v1320).trips), ∀ a, (k0_off50 k0_t1 v1320 k0_t3) a + S1x1x1x256.size a ≤ S2x20x16x256.size a := fun k0_t1 v1320 k0_hw1 k0_t3 => k0_hw1.2.2.1 k0_t3
theorem k0_off51_inb : ∀ (k0_t1 : Fin k0_t1_loop.trips) (v1320 : BitVec 32) (k0_hw1 : k0_chk1 k0_t1 v1320) (k0_t3 : Fin (k0_t3_loop v1320).trips), ∀ a, (k0_off51 k0_t1 v1320 k0_t3) a + S1x1x1x256.size a ≤ S2x20x16x256.size a := fun k0_t1 v1320 k0_hw1 k0_t3 => k0_hw1.2.2.2.1 k0_t3
theorem k0_off52_inb : ∀ (k0_t1 : Fin k0_t1_loop.trips) (v1320 : BitVec 32) (k0_hw1 : k0_chk1 k0_t1 v1320) (k0_t3 : Fin (k0_t3_loop v1320).trips), ∀ a, (k0_off52 k0_t1 v1320 k0_t3) a + S1x1x1x256.size a ≤ S2x20x16x256.size a := fun k0_t1 v1320 k0_hw1 k0_t3 => k0_hw1.2.2.2.2.1 k0_t3
theorem k0_off56_inb : ∀ (k0_t1 : Fin k0_t1_loop.trips) (v1320 : BitVec 32) (k0_hw1 : k0_chk1 k0_t1 v1320) (k0_t3 : Fin (k0_t3_loop v1320).trips), ∀ a, (k0_off56 k0_t1 v1320 k0_t3) a + S1x1x1x256.size a ≤ S2x20x16x256.size a := fun k0_t1 v1320 k0_hw1 k0_t3 => k0_hw1.2.2.2.2.2.1 k0_t3
theorem k0_off57_inb : ∀ (k0_t1 : Fin k0_t1_loop.trips) (v1320 : BitVec 32) (k0_hw1 : k0_chk1 k0_t1 v1320) (k0_t3 : Fin (k0_t3_loop v1320).trips), ∀ a, (k0_off57 k0_t1 v1320 k0_t3) a + S1x1x1x256.size a ≤ S2x20x16x256.size a := fun k0_t1 v1320 k0_hw1 k0_t3 => k0_hw1.2.2.2.2.2.2.1 k0_t3
theorem k0_off58_inb : ∀ (k0_t1 : Fin k0_t1_loop.trips) (v1320 : BitVec 32) (k0_hw1 : k0_chk1 k0_t1 v1320) (k0_t3 : Fin (k0_t3_loop v1320).trips), ∀ a, (k0_off58 k0_t1 v1320 k0_t3) a + S1x1x1x256.size a ≤ S2x20x16x256.size a := fun k0_t1 v1320 k0_hw1 k0_t3 => k0_hw1.2.2.2.2.2.2.2.1 k0_t3
theorem k0_off59_inb : ∀ (k0_t1 : Fin k0_t1_loop.trips) (v1320 : BitVec 32) (k0_hw1 : k0_chk1 k0_t1 v1320) (k0_t3 : Fin (k0_t3_loop v1320).trips), ∀ a, (k0_off59 k0_t1 v1320 k0_t3) a + S1x1x1x256.size a ≤ S2x20x16x256.size a := fun k0_t1 v1320 k0_hw1 k0_t3 => k0_hw1.2.2.2.2.2.2.2.2.1 k0_t3
theorem k0_off63_inb : ∀ (k0_t1 : Fin k0_t1_loop.trips) (v1320 : BitVec 32) (k0_hw1 : k0_chk1 k0_t1 v1320) (k0_t3 : Fin (k0_t3_loop v1320).trips), ∀ a, (k0_off63 k0_t1 v1320 k0_t3) a + S1x1x1x256.size a ≤ S2x20x16x256.size a := fun k0_t1 v1320 k0_hw1 k0_t3 => k0_hw1.2.2.2.2.2.2.2.2.2.1 k0_t3
theorem k0_off64_inb : ∀ (k0_t1 : Fin k0_t1_loop.trips) (v1320 : BitVec 32) (k0_hw1 : k0_chk1 k0_t1 v1320) (k0_t3 : Fin (k0_t3_loop v1320).trips), ∀ a, (k0_off64 k0_t1 v1320 k0_t3) a + S1x1x1x256.size a ≤ S2x20x16x256.size a := fun k0_t1 v1320 k0_hw1 k0_t3 => k0_hw1.2.2.2.2.2.2.2.2.2.2.1 k0_t3
theorem k0_off65_inb : ∀ (k0_t1 : Fin k0_t1_loop.trips) (v1320 : BitVec 32) (k0_hw1 : k0_chk1 k0_t1 v1320) (k0_t3 : Fin (k0_t3_loop v1320).trips), ∀ a, (k0_off65 k0_t1 v1320 k0_t3) a + S1x1x1x256.size a ≤ S2x20x16x256.size a := fun k0_t1 v1320 k0_hw1 k0_t3 => k0_hw1.2.2.2.2.2.2.2.2.2.2.2.1 k0_t3
theorem k0_off66_inb : ∀ (k0_t1 : Fin k0_t1_loop.trips) (v1320 : BitVec 32) (k0_hw1 : k0_chk1 k0_t1 v1320) (k0_t3 : Fin (k0_t3_loop v1320).trips), ∀ a, (k0_off66 k0_t1 v1320 k0_t3) a + S1x1x1x256.size a ≤ S2x20x16x256.size a := fun k0_t1 v1320 k0_hw1 k0_t3 => k0_hw1.2.2.2.2.2.2.2.2.2.2.2.2.1 k0_t3
theorem k0_off70_inb : ∀ (k0_t1 : Fin k0_t1_loop.trips) (v1320 : BitVec 32) (k0_hw1 : k0_chk1 k0_t1 v1320) (k0_t3 : Fin (k0_t3_loop v1320).trips), ∀ a, (k0_off70 k0_t1 v1320 k0_t3) a + S1x1x1x256.size a ≤ S2x20x16x256.size a := fun k0_t1 v1320 k0_hw1 k0_t3 => k0_hw1.2.2.2.2.2.2.2.2.2.2.2.2.2.1 k0_t3
theorem k0_off71_inb : ∀ (k0_t1 : Fin k0_t1_loop.trips) (v1320 : BitVec 32) (k0_hw1 : k0_chk1 k0_t1 v1320) (k0_t3 : Fin (k0_t3_loop v1320).trips), ∀ a, (k0_off71 k0_t1 v1320 k0_t3) a + S1x1x1x256.size a ≤ S2x20x16x256.size a := fun k0_t1 v1320 k0_hw1 k0_t3 => k0_hw1.2.2.2.2.2.2.2.2.2.2.2.2.2.2.1 k0_t3
theorem k0_off72_inb : ∀ (k0_t1 : Fin k0_t1_loop.trips) (v1320 : BitVec 32) (k0_hw1 : k0_chk1 k0_t1 v1320) (k0_t3 : Fin (k0_t3_loop v1320).trips), ∀ a, (k0_off72 k0_t1 v1320 k0_t3) a + S1x1x1x256.size a ≤ S2x20x16x256.size a := fun k0_t1 v1320 k0_hw1 k0_t3 => k0_hw1.2.2.2.2.2.2.2.2.2.2.2.2.2.2.2.1 k0_t3
theorem k0_off73_inb : ∀ (k0_t1 : Fin k0_t1_loop.trips) (v1320 : BitVec 32) (k0_hw1 : k0_chk1 k0_t1 v1320) (k0_t3 : Fin (k0_t3_loop v1320).trips), ∀ a, (k0_off73 k0_t1 v1320 k0_t3) a + S1x1x1x256.size a ≤ S2x20x16x256.size a := fun k0_t1 v1320 k0_hw1 k0_t3 => k0_hw1.2.2.2.2.2.2.2.2.2.2.2.2.2.2.2.2 k0_t3

def k0_off74 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v2138 : Index := Scalar.indexCast arg13
  let c8_1338 : Index := 8#32
  let c0_1339 : Index := 0#32
  let c0_1340 : Index := 0#32
  ![v2138.toNat, 8, 0, 0]
def k0_off75 (k0_t1 : Fin k0_t1_loop.trips) : Fin 4 → Nat :=
  let c0_i32_1014 : BitVec 32 := 0#32
  let c1_i32_1016 : BitVec 32 := 1#32
  let arg13 : BitVec 32 := Scf.iv c0_i32_1014 c1_i32_1016 k0_t1
  let v2153 : Index := Scalar.indexCast arg13
  let c9_1346 : Index := 9#32
  let c0_1347 : Index := 0#32
  let c0_1348 : Index := 0#32
  ![v2153.toNat, 9, 0, 0]
def k0_off76 (i : grid0.Coords) (k0_t1 : Fin k0_t1_loop.trips) : Fin 2 → Nat :=
  let arg0 : BitVec 32 := BitVec.ofNat 32 (i 0).val
  let c8_i32_1353 : BitVec 32 := 8#32
  let c0_i32_1354 : BitVec 32 := 0#32
  let v2163 : BitVec 1 := Scalar.cmpi .eq c8_i32_1353 c0_i32_1354
  let c1_i32_1355 : BitVec 32 := 1#32
  let v2164 : BitVec 32 := Scalar.select v2163 c1_i32_1355 c8_i32_1353
  let v2165 : BitVec 32 := Scalar.remsi arg0 v2164
  let c0_i32_1357 : BitVec 32 := 0#32
  let v2167 : BitVec 1 := Scalar.cmpi .slt v2165 c0_i32_1357
  let c0_i32_1358 : BitVec 32 := 0#32
  let v2168 : BitVec 1 := Scalar.cmpi .slt v2164 c0_i32_1358
  let v2169 : BitVec 1 := Scalar.xori v2167 v2168
  let c0_i32_1356 : BitVec 32 := 0#32
  let v2166 : BitVec 1 := Scalar.cmpi .ne v2165 c0_i32_1356
  let v2170 : BitVec 1 := Scalar.andi v2169 v2166
  let v2171 : BitVec 32 := Scalar.addi v2165 v2164
  let v2172 : BitVec 32 := Scalar.select v2170 v2171 v2165
  let c16_i32_1359 : BitVec 32 := 16#32
  let v2173 : BitVec 32 := Scalar.muli v2172 c16_i32_1359
  let c0_i32_1014 : BitVec 32 := 0#32
  let c1_i32_1016 : BitVec 32 := 1#32
  let arg13 : BitVec 32 := Scf.iv c0_i32_1014 c1_i32_1016 k0_t1
  let v2174 : BitVec 32 := Scalar.addi v2173 arg13
  let v2175 : Index := Scalar.indexCast v2174
  let c1024 : Index := 1024#32
  ![v2175.toNat, 1024]
@[reducible] def k0_t4_loop : Scf.Loop 32 :=
  let c0_i32_1018 : BitVec 32 := 0#32
  let c10_i32 : BitVec 32 := 10#32
  let v1301 : BitVec 32 := Scalar.addi c0_i32_1018 c10_i32
  let c1_i32_1019 : BitVec 32 := 1#32
  ⟨c0_i32_1018, v1301, c1_i32_1019⟩
def k0_off77 (k0_t4 : Fin k0_t4_loop.trips) : Fin 4 → Nat :=
  let c0_1029 : Index := 0#32
  let c0_i32_1018 : BitVec 32 := 0#32
  let c1_i32_1019 : BitVec 32 := 1#32
  let arg13 : BitVec 32 := Scf.iv c0_i32_1018 c1_i32_1019 k0_t4
  let v1317 : Index := Scalar.indexCast arg13
  let c0_1030 : Index := 0#32
  let c0_1031 : Index := 0#32
  ![0, v1317.toNat, 0, 0]
def k0_off78 (k0_t4 : Fin k0_t4_loop.trips) : Fin 4 → Nat :=
  let c1_1032 : Index := 1#32
  let c0_i32_1018 : BitVec 32 := 0#32
  let c1_i32_1019 : BitVec 32 := 1#32
  let arg13 : BitVec 32 := Scf.iv c0_i32_1018 c1_i32_1019 k0_t4
  let v1320 : Index := Scalar.indexCast arg13
  let c0_1033 : Index := 0#32
  let c0_1034 : Index := 0#32
  ![1, v1320.toNat, 0, 0]
def k0_off79 (k0_t4 : Fin k0_t4_loop.trips) : Fin 4 → Nat :=
  let c2_1035 : Index := 2#32
  let c0_i32_1018 : BitVec 32 := 0#32
  let c1_i32_1019 : BitVec 32 := 1#32
  let arg13 : BitVec 32 := Scf.iv c0_i32_1018 c1_i32_1019 k0_t4
  let v1324 : Index := Scalar.indexCast arg13
  let c0_1036 : Index := 0#32
  let c0_1037 : Index := 0#32
  ![2, v1324.toNat, 0, 0]
def k0_off80 (k0_t4 : Fin k0_t4_loop.trips) : Fin 4 → Nat :=
  let c3_1038 : Index := 3#32
  let c0_i32_1018 : BitVec 32 := 0#32
  let c1_i32_1019 : BitVec 32 := 1#32
  let arg13 : BitVec 32 := Scf.iv c0_i32_1018 c1_i32_1019 k0_t4
  let v1327 : Index := Scalar.indexCast arg13
  let c0_1039 : Index := 0#32
  let c0_1040 : Index := 0#32
  ![3, v1327.toNat, 0, 0]
def k0_off81 (k0_t4 : Fin k0_t4_loop.trips) : Fin 4 → Nat :=
  let c4_1041 : Index := 4#32
  let c0_i32_1018 : BitVec 32 := 0#32
  let c1_i32_1019 : BitVec 32 := 1#32
  let arg13 : BitVec 32 := Scf.iv c0_i32_1018 c1_i32_1019 k0_t4
  let v1331 : Index := Scalar.indexCast arg13
  let c0_1042 : Index := 0#32
  let c0_1043 : Index := 0#32
  ![4, v1331.toNat, 0, 0]
def k0_off82 (k0_t4 : Fin k0_t4_loop.trips) : Fin 4 → Nat :=
  let c5_1044 : Index := 5#32
  let c0_i32_1018 : BitVec 32 := 0#32
  let c1_i32_1019 : BitVec 32 := 1#32
  let arg13 : BitVec 32 := Scf.iv c0_i32_1018 c1_i32_1019 k0_t4
  let v1334 : Index := Scalar.indexCast arg13
  let c0_1045 : Index := 0#32
  let c0_1046 : Index := 0#32
  ![5, v1334.toNat, 0, 0]
def k0_off83 (k0_t4 : Fin k0_t4_loop.trips) : Fin 4 → Nat :=
  let c6_1047 : Index := 6#32
  let c0_i32_1018 : BitVec 32 := 0#32
  let c1_i32_1019 : BitVec 32 := 1#32
  let arg13 : BitVec 32 := Scf.iv c0_i32_1018 c1_i32_1019 k0_t4
  let v1338 : Index := Scalar.indexCast arg13
  let c0_1048 : Index := 0#32
  let c0_1049 : Index := 0#32
  ![6, v1338.toNat, 0, 0]
def k0_off84 (k0_t4 : Fin k0_t4_loop.trips) : Fin 4 → Nat :=
  let c7_1050 : Index := 7#32
  let c0_i32_1018 : BitVec 32 := 0#32
  let c1_i32_1019 : BitVec 32 := 1#32
  let arg13 : BitVec 32 := Scf.iv c0_i32_1018 c1_i32_1019 k0_t4
  let v1341 : Index := Scalar.indexCast arg13
  let c0_1051 : Index := 0#32
  let c0_1052 : Index := 0#32
  ![7, v1341.toNat, 0, 0]
def k0_off85 (k0_t4 : Fin k0_t4_loop.trips) : Fin 4 → Nat :=
  let c8_1053 : Index := 8#32
  let c0_i32_1018 : BitVec 32 := 0#32
  let c1_i32_1019 : BitVec 32 := 1#32
  let arg13 : BitVec 32 := Scf.iv c0_i32_1018 c1_i32_1019 k0_t4
  let v1345 : Index := Scalar.indexCast arg13
  let c0_1054 : Index := 0#32
  let c0_1055 : Index := 0#32
  ![8, v1345.toNat, 0, 0]
def k0_off86 (k0_t4 : Fin k0_t4_loop.trips) : Fin 4 → Nat :=
  let c9_1056 : Index := 9#32
  let c0_i32_1018 : BitVec 32 := 0#32
  let c1_i32_1019 : BitVec 32 := 1#32
  let arg13 : BitVec 32 := Scf.iv c0_i32_1018 c1_i32_1019 k0_t4
  let v1348 : Index := Scalar.indexCast arg13
  let c0_1057 : Index := 0#32
  let c0_1058 : Index := 0#32
  ![9, v1348.toNat, 0, 0]
def k0_off87 (k0_t4 : Fin k0_t4_loop.trips) : Fin 4 → Nat :=
  let c10_1059 : Index := 10#32
  let c0_i32_1018 : BitVec 32 := 0#32
  let c1_i32_1019 : BitVec 32 := 1#32
  let arg13 : BitVec 32 := Scf.iv c0_i32_1018 c1_i32_1019 k0_t4
  let v1352 : Index := Scalar.indexCast arg13
  let c0_1060 : Index := 0#32
  let c0_1061 : Index := 0#32
  ![10, v1352.toNat, 0, 0]
def k0_off88 (k0_t4 : Fin k0_t4_loop.trips) : Fin 4 → Nat :=
  let c11_1062 : Index := 11#32
  let c0_i32_1018 : BitVec 32 := 0#32
  let c1_i32_1019 : BitVec 32 := 1#32
  let arg13 : BitVec 32 := Scf.iv c0_i32_1018 c1_i32_1019 k0_t4
  let v1355 : Index := Scalar.indexCast arg13
  let c0_1063 : Index := 0#32
  let c0_1064 : Index := 0#32
  ![11, v1355.toNat, 0, 0]
def k0_off89 (k0_t4 : Fin k0_t4_loop.trips) : Fin 4 → Nat :=
  let c12_1065 : Index := 12#32
  let c0_i32_1018 : BitVec 32 := 0#32
  let c1_i32_1019 : BitVec 32 := 1#32
  let arg13 : BitVec 32 := Scf.iv c0_i32_1018 c1_i32_1019 k0_t4
  let v1359 : Index := Scalar.indexCast arg13
  let c0_1066 : Index := 0#32
  let c0_1067 : Index := 0#32
  ![12, v1359.toNat, 0, 0]
def k0_off90 (k0_t4 : Fin k0_t4_loop.trips) : Fin 4 → Nat :=
  let c13_1068 : Index := 13#32
  let c0_i32_1018 : BitVec 32 := 0#32
  let c1_i32_1019 : BitVec 32 := 1#32
  let arg13 : BitVec 32 := Scf.iv c0_i32_1018 c1_i32_1019 k0_t4
  let v1362 : Index := Scalar.indexCast arg13
  let c0_1069 : Index := 0#32
  let c0_1070 : Index := 0#32
  ![13, v1362.toNat, 0, 0]
def k0_off91 (k0_t4 : Fin k0_t4_loop.trips) : Fin 4 → Nat :=
  let c14_1071 : Index := 14#32
  let c0_i32_1018 : BitVec 32 := 0#32
  let c1_i32_1019 : BitVec 32 := 1#32
  let arg13 : BitVec 32 := Scf.iv c0_i32_1018 c1_i32_1019 k0_t4
  let v1366 : Index := Scalar.indexCast arg13
  let c0_1072 : Index := 0#32
  let c0_1073 : Index := 0#32
  ![14, v1366.toNat, 0, 0]
def k0_off92 (k0_t4 : Fin k0_t4_loop.trips) : Fin 4 → Nat :=
  let c15_1074 : Index := 15#32
  let c0_i32_1018 : BitVec 32 := 0#32
  let c1_i32_1019 : BitVec 32 := 1#32
  let arg13 : BitVec 32 := Scf.iv c0_i32_1018 c1_i32_1019 k0_t4
  let v1369 : Index := Scalar.indexCast arg13
  let c0_1075 : Index := 0#32
  let c0_1076 : Index := 0#32
  ![15, v1369.toNat, 0, 0]
def k0_mult3 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1105 : BitVec 32 := 16#32
  let v1443 : BitVec 32 := Scalar.muli arg13 c16_i32_1105
  let c0_i32_1106 : BitVec 32 := 0#32
  let v1444 : BitVec 32 := Scalar.addi v1443 c0_i32_1106
  let c128_i32 : BitVec 32 := 128#32
  let v1445 : BitVec 32 := Scalar.muli v1444 c128_i32
  v1445
def k0_off93 (k0_t4 : Fin k0_t4_loop.trips) (c0_i32_1106 : BitVec 32) : Fin 2 → Nat :=
  let c0_1107 : Index := 0#32
  let c0_i32_1018 : BitVec 32 := 0#32
  let c1_i32_1019 : BitVec 32 := 1#32
  let arg13 : BitVec 32 := Scf.iv c0_i32_1018 c1_i32_1019 k0_t4
  let c16_i32_1105 : BitVec 32 := 16#32
  let v1443 : BitVec 32 := Scalar.muli arg13 c16_i32_1105
  let v1444 : BitVec 32 := Scalar.addi v1443 c0_i32_1106
  let c128_i32 : BitVec 32 := 128#32
  let v1445 : BitVec 32 := Scalar.muli v1444 c128_i32
  let v1446 : BitVec 32 := v1445
  let v1449 : Index := Scalar.indexCast v1446
  ![0, v1449.toNat]
def k0_mult4 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1108 : BitVec 32 := 16#32
  let v1451 : BitVec 32 := Scalar.muli arg13 c16_i32_1108
  let c1_i32_1109 : BitVec 32 := 1#32
  let v1452 : BitVec 32 := Scalar.addi v1451 c1_i32_1109
  let c128_i32_1110 : BitVec 32 := 128#32
  let v1453 : BitVec 32 := Scalar.muli v1452 c128_i32_1110
  v1453
def k0_mult5 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1112 : BitVec 32 := 16#32
  let v1459 : BitVec 32 := Scalar.muli arg13 c16_i32_1112
  let c2_i32_1113 : BitVec 32 := 2#32
  let v1460 : BitVec 32 := Scalar.addi v1459 c2_i32_1113
  let c128_i32_1114 : BitVec 32 := 128#32
  let v1461 : BitVec 32 := Scalar.muli v1460 c128_i32_1114
  v1461
def k0_mult6 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1116 : BitVec 32 := 16#32
  let v1467 : BitVec 32 := Scalar.muli arg13 c16_i32_1116
  let c3_i32_1117 : BitVec 32 := 3#32
  let v1468 : BitVec 32 := Scalar.addi v1467 c3_i32_1117
  let c128_i32_1118 : BitVec 32 := 128#32
  let v1469 : BitVec 32 := Scalar.muli v1468 c128_i32_1118
  v1469
def k0_mult7 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1120 : BitVec 32 := 16#32
  let v1475 : BitVec 32 := Scalar.muli arg13 c16_i32_1120
  let c4_i32_1121 : BitVec 32 := 4#32
  let v1476 : BitVec 32 := Scalar.addi v1475 c4_i32_1121
  let c128_i32_1122 : BitVec 32 := 128#32
  let v1477 : BitVec 32 := Scalar.muli v1476 c128_i32_1122
  v1477
def k0_mult8 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1124 : BitVec 32 := 16#32
  let v1483 : BitVec 32 := Scalar.muli arg13 c16_i32_1124
  let c5_i32_1125 : BitVec 32 := 5#32
  let v1484 : BitVec 32 := Scalar.addi v1483 c5_i32_1125
  let c128_i32_1126 : BitVec 32 := 128#32
  let v1485 : BitVec 32 := Scalar.muli v1484 c128_i32_1126
  v1485
def k0_mult9 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1128 : BitVec 32 := 16#32
  let v1491 : BitVec 32 := Scalar.muli arg13 c16_i32_1128
  let c6_i32_1129 : BitVec 32 := 6#32
  let v1492 : BitVec 32 := Scalar.addi v1491 c6_i32_1129
  let c128_i32_1130 : BitVec 32 := 128#32
  let v1493 : BitVec 32 := Scalar.muli v1492 c128_i32_1130
  v1493
def k0_mult10 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1132 : BitVec 32 := 16#32
  let v1499 : BitVec 32 := Scalar.muli arg13 c16_i32_1132
  let c7_i32_1133 : BitVec 32 := 7#32
  let v1500 : BitVec 32 := Scalar.addi v1499 c7_i32_1133
  let c128_i32_1134 : BitVec 32 := 128#32
  let v1501 : BitVec 32 := Scalar.muli v1500 c128_i32_1134
  v1501
def k0_mult11 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1136 : BitVec 32 := 16#32
  let v1507 : BitVec 32 := Scalar.muli arg13 c16_i32_1136
  let c8_i32_1137 : BitVec 32 := 8#32
  let v1508 : BitVec 32 := Scalar.addi v1507 c8_i32_1137
  let c128_i32_1138 : BitVec 32 := 128#32
  let v1509 : BitVec 32 := Scalar.muli v1508 c128_i32_1138
  v1509
def k0_mult12 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1140 : BitVec 32 := 16#32
  let v1515 : BitVec 32 := Scalar.muli arg13 c16_i32_1140
  let c9_i32 : BitVec 32 := 9#32
  let v1516 : BitVec 32 := Scalar.addi v1515 c9_i32
  let c128_i32_1141 : BitVec 32 := 128#32
  let v1517 : BitVec 32 := Scalar.muli v1516 c128_i32_1141
  v1517
def k0_mult13 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1143 : BitVec 32 := 16#32
  let v1523 : BitVec 32 := Scalar.muli arg13 c16_i32_1143
  let c10_i32_1144 : BitVec 32 := 10#32
  let v1524 : BitVec 32 := Scalar.addi v1523 c10_i32_1144
  let c128_i32_1145 : BitVec 32 := 128#32
  let v1525 : BitVec 32 := Scalar.muli v1524 c128_i32_1145
  v1525
def k0_mult14 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1147 : BitVec 32 := 16#32
  let v1531 : BitVec 32 := Scalar.muli arg13 c16_i32_1147
  let c11_i32 : BitVec 32 := 11#32
  let v1532 : BitVec 32 := Scalar.addi v1531 c11_i32
  let c128_i32_1148 : BitVec 32 := 128#32
  let v1533 : BitVec 32 := Scalar.muli v1532 c128_i32_1148
  v1533
def k0_mult15 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1150 : BitVec 32 := 16#32
  let v1539 : BitVec 32 := Scalar.muli arg13 c16_i32_1150
  let c12_i32 : BitVec 32 := 12#32
  let v1540 : BitVec 32 := Scalar.addi v1539 c12_i32
  let c128_i32_1151 : BitVec 32 := 128#32
  let v1541 : BitVec 32 := Scalar.muli v1540 c128_i32_1151
  v1541
def k0_mult16 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1153 : BitVec 32 := 16#32
  let v1547 : BitVec 32 := Scalar.muli arg13 c16_i32_1153
  let c13_i32 : BitVec 32 := 13#32
  let v1548 : BitVec 32 := Scalar.addi v1547 c13_i32
  let c128_i32_1154 : BitVec 32 := 128#32
  let v1549 : BitVec 32 := Scalar.muli v1548 c128_i32_1154
  v1549
def k0_mult17 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1156 : BitVec 32 := 16#32
  let v1555 : BitVec 32 := Scalar.muli arg13 c16_i32_1156
  let c14_i32 : BitVec 32 := 14#32
  let v1556 : BitVec 32 := Scalar.addi v1555 c14_i32
  let c128_i32_1157 : BitVec 32 := 128#32
  let v1557 : BitVec 32 := Scalar.muli v1556 c128_i32_1157
  v1557
def k0_mult18 (k0_t4 : Fin k0_t4_loop.trips) : BitVec 32 :=
  let c0_i32_1018 : BitVec 32 := 0#32
  let c1_i32_1019 : BitVec 32 := 1#32
  let arg13 : BitVec 32 := Scf.iv c0_i32_1018 c1_i32_1019 k0_t4
  let c16_i32_1159 : BitVec 32 := 16#32
  let v1563 : BitVec 32 := Scalar.muli arg13 c16_i32_1159
  let c15_i32 : BitVec 32 := 15#32
  let v1564 : BitVec 32 := Scalar.addi v1563 c15_i32
  let c128_i32_1160 : BitVec 32 := 128#32
  let v1565 : BitVec 32 := Scalar.muli v1564 c128_i32_1160
  v1565
def k0_cond1 (i : grid0.Coords) : BitVec 1 :=
  let arg0 : BitVec 32 := BitVec.ofNat 32 (i 0).val
  let c8_i32_1021 : BitVec 32 := 8#32
  let c0_i32_1022 : BitVec 32 := 0#32
  let v1302 : BitVec 1 := Scalar.cmpi .eq c8_i32_1021 c0_i32_1022
  let c1_i32_1023 : BitVec 32 := 1#32
  let v1303 : BitVec 32 := Scalar.select v1302 c1_i32_1023 c8_i32_1021
  let v1304 : BitVec 32 := Scalar.remsi arg0 v1303
  let c0_i32_1025 : BitVec 32 := 0#32
  let v1306 : BitVec 1 := Scalar.cmpi .slt v1304 c0_i32_1025
  let c0_i32_1026 : BitVec 32 := 0#32
  let v1307 : BitVec 1 := Scalar.cmpi .slt v1303 c0_i32_1026
  let v1308 : BitVec 1 := Scalar.xori v1306 v1307
  let c0_i32_1024 : BitVec 32 := 0#32
  let v1305 : BitVec 1 := Scalar.cmpi .ne v1304 c0_i32_1024
  let v1309 : BitVec 1 := Scalar.andi v1308 v1305
  let v1310 : BitVec 32 := Scalar.addi v1304 v1303
  let v1311 : BitVec 32 := Scalar.select v1309 v1310 v1304
  let c7_i32_1027 : BitVec 32 := 7#32
  let v1312 : BitVec 1 := Scalar.cmpi .eq v1311 c7_i32_1027
  let c93_i32 : BitVec 32 := 93#32
  let v1313 : BitVec 1 := Scalar.cmpi .eq arg0 c93_i32
  let v1314 : BitVec 1 := Scalar.ori v1312 v1313
  let v1315 : BitVec 32 := Scalar.extui v1314
  let c0_i32_1028 : BitVec 32 := 0#32
  let v1316 : BitVec 1 := Scalar.cmpi .ne v1315 c0_i32_1028
  v1316

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, c0_i32_5.toNat, v16.toNat]

abbrev stage0_0 : Fin 2 → Memref sig .tc .vmem S16x96x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x16x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x20480 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S20x64x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S256x128 : Shape := ⟨2, ![256, 128]⟩
variable {F : FTy → Type} [FloatOps F]
-- ==== ReferenceIdeal.lean ====
abbrev S1500x512x96 : Shape := ⟨3, ![1500, 512, 96]⟩
abbrev S1500x512 : Shape := ⟨2, ![1500, 512]⟩
abbrev S1500 : Shape := ⟨1, ![1500]⟩
abbrev S1500x512x20 : Shape := ⟨3, ![1500, 512, 20]⟩
abbrev S20x96x16 : Shape := ⟨3, ![20, 96, 16]⟩
abbrev S1500x512x20x16 : Shape := ⟨4, ![1500, 512, 20, 16]⟩
abbrev S1500x512x1x1 : Shape := ⟨4, ![1500, 512, 1, 1]⟩
abbrev S_ : Shape := ⟨0, ![]⟩
abbrev S512 : Shape := ⟨1, ![512]⟩
abbrev S1x512 : Shape := ⟨2, ![1, 512]⟩
abbrev S1500x1 : Shape := ⟨2, ![1500, 1]⟩
abbrev S1500x1x1 : Shape := ⟨3, ![1500, 1, 1]⟩
abbrev S20 : Shape := ⟨1, ![20]⟩
abbrev S1x1x20 : Shape := ⟨3, ![1, 1, 20]⟩
abbrev S1500x512x1 : Shape := ⟨3, ![1500, 512, 1]⟩
abbrev S1500x1x20 : Shape := ⟨3, ![1500, 1, 20]⟩
abbrev S15360000 : Shape := ⟨1, ![15360000]⟩
abbrev S15360000x16 : Shape := ⟨2, ![15360000, 16]⟩
abbrev S1920001x16 : Shape := ⟨2, ![1920001, 16]⟩
abbrev S15360000x1 : Shape := ⟨2, ![15360000, 1]⟩
abbrev S1920000x16 : Shape := ⟨2, ![1920000, 16]⟩
abbrev S1500x20480 : Shape := ⟨2, ![1500, 20480]⟩

abbrev nBuf : Space → Nat
  | .hbm => 50
  | .vmem => 3
  | .smem => 0
  | _ => 0

abbrev bufTy : (tb : Table) → Fin (tcTables nBuf tb) → BufTy
  | .hbm, ⟨0, _⟩ => ⟨S1500x512x96, .i8⟩
  | .hbm, ⟨1, _⟩ => ⟨S1500x512, .f32⟩
  | .hbm, ⟨2, _⟩ => ⟨S1500, .i32⟩
  | .hbm, ⟨3, _⟩ => ⟨S1500x512x20, .i32⟩
  | .hbm, ⟨4, _⟩ => ⟨S20x96x16, .i8⟩
  | .hbm, ⟨5, _⟩ => ⟨S1500x512x96, .fp8e4m3⟩
  | .hbm, ⟨6, _⟩ => ⟨S20x96x16, .fp8e4m3⟩
  | .hbm, ⟨7, _⟩ => ⟨S1500x512x20x16, .f32⟩
  | .hbm, ⟨8, _⟩ => ⟨S1500x512x1x1, .f32⟩
  | .hbm, ⟨9, _⟩ => ⟨S1500x512x20x16, .f32⟩
  | .hbm, ⟨10, _⟩ => ⟨S1500x512x20x16, .f32⟩
  | .hbm, ⟨11, _⟩ => ⟨S_, .f32⟩
  | .hbm, ⟨12, _⟩ => ⟨S1500x512x20x16, .f32⟩
  | .hbm, ⟨13, _⟩ => ⟨S1500x512x20x16, .f32⟩
  | .hbm, ⟨14, _⟩ => ⟨S512, .i32⟩
  | .hbm, ⟨15, _⟩ => ⟨S1x512, .i32⟩
  | .hbm, ⟨16, _⟩ => ⟨S1500x1, .i32⟩
  | .hbm, ⟨17, _⟩ => ⟨S1500x512, .i32⟩
  | .hbm, ⟨18, _⟩ => ⟨S1500x512, .i32⟩
  | .hbm, ⟨19, _⟩ => ⟨S1500x512, .i1⟩
  | .hbm, ⟨20, _⟩ => ⟨S1500, .i32⟩
  | .hbm, ⟨21, _⟩ => ⟨S1500x1x1, .i32⟩
  | .hbm, ⟨22, _⟩ => ⟨S20, .i32⟩
  | .hbm, ⟨23, _⟩ => ⟨S1x1x20, .i32⟩
  | .hbm, ⟨24, _⟩ => ⟨S1500x512x1, .i1⟩
  | .hbm, ⟨25, _⟩ => ⟨S_, .i32⟩
  | .hbm, ⟨26, _⟩ => ⟨S1500x1x1, .i32⟩
  | .hbm, ⟨27, _⟩ => ⟨S1500x1x1, .i32⟩
  | .hbm, ⟨28, _⟩ => ⟨S1500x1x20, .i32⟩
  | .hbm, ⟨29, _⟩ => ⟨S1500x1x20, .i32⟩
  | .hbm, ⟨30, _⟩ => ⟨S1500x1x20, .i32⟩
  | .hbm, ⟨31, _⟩ => ⟨S_, .i32⟩
  | .hbm, ⟨32, _⟩ => ⟨S1500x1x20, .i32⟩
  | .hbm, ⟨33, _⟩ => ⟨S1500x1x20, .i32⟩
  | .hbm, ⟨34, _⟩ => ⟨S1500x512x20, .i32⟩
  | .hbm, ⟨35, _⟩ => ⟨S1500x512x20, .i32⟩
  | .hbm, ⟨36, _⟩ => ⟨S_, .i32⟩
  | .hbm, ⟨37, _⟩ => ⟨S_, .i32⟩
  | .hbm, ⟨38, _⟩ => ⟨S1500x512x20, .i1⟩
  | .hbm, ⟨39, _⟩ => ⟨S1500x512x20, .i32⟩
  | .hbm, ⟨40, _⟩ => ⟨S1500x512x20, .i32⟩
  | .hbm, ⟨41, _⟩ => ⟨S15360000, .i32⟩
  | .hbm, ⟨42, _⟩ => ⟨S15360000x16, .f32⟩
  | .hbm, ⟨43, _⟩ => ⟨S_, .f32⟩
  | .hbm, ⟨44, _⟩ => ⟨S1920001x16, .f32⟩
  | .hbm, ⟨45, _⟩ => ⟨S15360000x1, .i32⟩
  | .hbm, ⟨46, _⟩ => ⟨S1920001x16, .f32⟩
  | .hbm, ⟨47, _⟩ => ⟨S1920000x16, .f32⟩
  | .hbm, ⟨48, _⟩ => ⟨S1500x20480, .f32⟩
  | .hbm, ⟨49, _⟩ => ⟨S1500x20480, .bf16⟩
  | .local _ .vmem, ⟨0, _⟩ => ⟨S1500x512x96, .fp8e4m3⟩
  | .local _ .vmem, ⟨1, _⟩ => ⟨S20x96x16, .fp8e4m3⟩
  | .local _ .vmem, ⟨2, _⟩ => ⟨S1500x512x20x16, .f32⟩
  | _, _ => ⟨S1500x512x96, .i8⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1500x512x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x96x16 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1500x512x20x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Pre.lean ====
/- What the preconditions say of the arguments, read off the printed predicates. -/
module

public import proofs.«01_k».proof.Proof.Gen.Pre_lengths
public import Idealize.ShloMosaic.Lib.WordCmp

@[expose] public section

noncomputable section

open Idealize.ShloMosaic

namespace Cert.Pre

theorem ofBool_one {b : Bool} (h : BitVec.ofBool b = 1#1) : b = true := by
  revert h; cases b <;> decide

/-- A single entry of `and` is one only where both are. -/
theorem andi_one {a b : BitVec 1} (h : IntOp.andi a b = 1#1) : a = 1#1 ∧ b = 1#1 := by
  revert h; revert a b; decide

/-- Under `lengths` no document is longer than the window. -/
theorem lengths_le {F : FTy → Type} [FloatOps F] (a0 : IVec Pre_lengths.S1500x512x96 8) (a1 : FVec F Pre_lengths.S1500x512 .f32) (a2 : IVec Pre_lengths.S1500 32)
    (a3 : IVec Pre_lengths.S1500x512x20 32) (a4 : IVec Pre_lengths.S20x96x16 8)
    (h : Pre_lengths.fn (F := F) a0 a1 a2 a3 a4 = fun _ => 1#1) (d) : (a2 d).toInt ≤ 512 := by
  have e : BitVec.ofBool (decide ((a2 d).toInt ≤ (512#32).toInt)) = 1#1 := congrFun h d
  simpa using of_decide_eq_true (ofBool_one e)

end Cert.Pre

end
-- ==== Proof.KernelTrip.lean ====
/- One trip of the loop over a document's tiles of `Kernel`: what it writes, found by running it once at a symbolic trip. -/
module

public import proofs.«01_k».proof.Proof.Gen.Kernel.Loops
public import Idealize.ShloMosaic.Lib.Tactic

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the run: the pipeline library's. -/
local notation "𝕄" => MT nD τ sig Unit (Elt F) ℕ (UR sig nD τ) ℕ

/-! ## The rows of the counts scratch, in closed form -/

theorem k0_off11_eq : ∀ (i : grid0.Coords) (k0_t1 : Fin k0_t1_loop.trips), k0_off11 i k0_t1 = ![16 * ((i 0).val % 8) + k0_t1.val, 0] := by decide +kernel
instance (i : grid0.Coords) (k0_t1 : Fin k0_t1_loop.trips) : ClosedOff (k0_off11 i k0_t1) := ⟨_, k0_off11_eq i k0_t1⟩
theorem k0_off18_eq : ∀ (i : grid0.Coords) (k0_t1 : Fin k0_t1_loop.trips), k0_off18 i k0_t1 = ![16 * ((i 0).val % 8) + k0_t1.val, 256] := by decide +kernel
instance (i : grid0.Coords) (k0_t1 : Fin k0_t1_loop.trips) : ClosedOff (k0_off18 i k0_t1) := ⟨_, k0_off18_eq i k0_t1⟩
theorem k0_off25_eq : ∀ (i : grid0.Coords) (k0_t1 : Fin k0_t1_loop.trips), k0_off25 i k0_t1 = ![16 * ((i 0).val % 8) + k0_t1.val, 512] := by decide +kernel
instance (i : grid0.Coords) (k0_t1 : Fin k0_t1_loop.trips) : ClosedOff (k0_off25 i k0_t1) := ⟨_, k0_off25_eq i k0_t1⟩
theorem k0_off32_eq : ∀ (i : grid0.Coords) (k0_t1 : Fin k0_t1_loop.trips), k0_off32 i k0_t1 = ![16 * ((i 0).val % 8) + k0_t1.val, 768] := by decide +kernel
instance (i : grid0.Coords) (k0_t1 : Fin k0_t1_loop.trips) : ClosedOff (k0_off32 i k0_t1) := ⟨_, k0_off32_eq i k0_t1⟩
theorem k0_off39_eq : ∀ (i : grid0.Coords) (k0_t1 : Fin k0_t1_loop.trips), k0_off39 i k0_t1 = ![16 * ((i 0).val % 8) + k0_t1.val, 1024] := by decide +kernel
instance (i : grid0.Coords) (k0_t1 : Fin k0_t1_loop.trips) : ClosedOff (k0_off39 i k0_t1) := ⟨_, k0_off39_eq i k0_t1⟩
theorem k0_off48_eq : ∀ (i : grid0.Coords) (k0_t1 : Fin k0_t1_loop.trips), k0_off48 i k0_t1 = ![16 * ((i 0).val % 8) + k0_t1.val, 0] := by decide +kernel
instance (i : grid0.Coords) (k0_t1 : Fin k0_t1_loop.trips) : ClosedOff (k0_off48 i k0_t1) := ⟨_, k0_off48_eq i k0_t1⟩
theorem k0_off55_eq : ∀ (i : grid0.Coords) (k0_t1 : Fin k0_t1_loop.trips), k0_off55 i k0_t1 = ![16 * ((i 0).val % 8) + k0_t1.val, 256] := by decide +kernel
instance (i : grid0.Coords) (k0_t1 : Fin k0_t1_loop.trips) : ClosedOff (k0_off55 i k0_t1) := ⟨_, k0_off55_eq i k0_t1⟩
theorem k0_off62_eq : ∀ (i : grid0.Coords) (k0_t1 : Fin k0_t1_loop.trips), k0_off62 i k0_t1 = ![16 * ((i 0).val % 8) + k0_t1.val, 512] := by decide +kernel
instance (i : grid0.Coords) (k0_t1 : Fin k0_t1_loop.trips) : ClosedOff (k0_off62 i k0_t1) := ⟨_, k0_off62_eq i k0_t1⟩
theorem k0_off69_eq : ∀ (i : grid0.Coords) (k0_t1 : Fin k0_t1_loop.trips), k0_off69 i k0_t1 = ![16 * ((i 0).val % 8) + k0_t1.val, 768] := by decide +kernel
instance (i : grid0.Coords) (k0_t1 : Fin k0_t1_loop.trips) : ClosedOff (k0_off69 i k0_t1) := ⟨_, k0_off69_eq i k0_t1⟩
theorem k0_off76_eq : ∀ (i : grid0.Coords) (k0_t1 : Fin k0_t1_loop.trips), k0_off76 i k0_t1 = ![16 * ((i 0).val % 8) + k0_t1.val, 1024] := by decide +kernel
instance (i : grid0.Coords) (k0_t1 : Fin k0_t1_loop.trips) : ClosedOff (k0_off76 i k0_t1) := ⟨_, k0_off76_eq i k0_t1⟩

/-- One trip's resources: the point's projections, the words, the bytes and the factors it reads, the two scratch
    buffers it adds to. -/
abbrev Trip2 (c : Dev nD) (arg2 : Memref sig .tc .vmem S16x96x512 .fp8e4m3) (arg5 : Memref sig .tc .vmem S320x96 .fp8e4m3) (arg8 : Memref sig .tc .vmem S2x20x16x256 .i32) (arg9 : Memref sig .tc .vmem S2x20x16x256 .i32) (arg10 : Memref sig .tc .vmem S2x16x256 .f32) (arg11 : Memref sig .tc .vmem S16x10x16x128 .f32) (arg12 : Memref sig .tc .vmem S128x1280 .f32) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (f_arg11 : BufTy.Contents (Elt F) arg11.view.ty) (f_arg12 : BufTy.Contents (Elt F) arg12.view.ty) : sProp 𝕄 :=
  iprop((arg2.view.loc (c : Thread nD τ) ↦[arg2.view.set]{fullShare} X_arg2) ∗ (arg5.view.loc (c : Thread nD τ) ↦[arg5.view.set]{fullShare} X_arg5) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} f_arg11) ∗ (arg12.view.loc (c : Thread nD τ) ↦[arg12.view.set]{fullShare} f_arg12))

/-- One trip of `k0_t2_loop` at a symbolic `k`: the pieces written to the two scratch buffers, as functions of what
    they held. -/
@[irreducible] def trip2 (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (k0_t1 : Fin k0_t1_loop.trips) (arg13 : BitVec 32) (v1320 : Elt F .i32) (k0_hw1 : k0_chk1 k0_t1 v1320) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (k : Fin (k0_t2_loop v1320).trips) :
    Σ' (L11 : BufTy.Contents (Elt F) arg11.view.ty → BufTy.Contents (Elt F) arg12.view.ty → List (View.Piece (Elt F) S16x10x16x128 .f32)),
    { L12 : BufTy.Contents (Elt F) arg11.view.ty → BufTy.Contents (Elt F) arg12.view.ty → List (View.Piece (Elt F) S128x1280 .f32) // ∀ (E : Set ℕ) (acc : BitVec 32) (f_arg11 : BufTy.Contents (Elt F) arg11.view.ty) (f_arg12 : BufTy.Contents (Elt F) arg12.view.ty),
      Trip2 (F := F) c arg2 arg5 arg8 arg9 arg10 arg11 arg12 X_arg2 X_arg5 X_arg8 X_arg9 X_arg10 f_arg11 f_arg12
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 k acc)
          (fun _ => Trip2 (F := F) c arg2 arg5 arg8 arg9 arg10 arg11 arg12 X_arg2 X_arg5 X_arg8 X_arg9 X_arg10 (arg11.view.writes (Elt F) f_arg11 (L11 f_arg11 f_arg12)) (arg12.view.writes (Elt F) f_arg12 (L12 f_arg11 f_arg12))) } := by
  have hk : k0_t1.val < 16 := Nat.lt_of_lt_of_le k0_t1.isLt k0_t1_abs.2.1
  have hi : (i 0).val < 94 := (i 0).isLt
  refine ⟨?_, ?_, fun E acc f_arg11 f_arg12 => ?run⟩
  case run =>
    unfold k0_t2_body
    iintro ⟨H2, H5, H8, H9, H10, H11, H12⟩
    sl_exec_parts
    sl_step
    sl_close

end Cert.Kernel.Hand

end
-- ==== Proof.KernelArith.lean ====
/- The doc loop's word-bounded loop: a document of length at most 512 takes one or two tiles, the remainder loop after it
   makes no trip, and every access of a trip is in bounds. -/
module

public import proofs.«01_k».proof.Proof.Gen.Kernel
public import Idealize.ShloMosaic.Lib.Affine

@[expose] public section

set_option maxRecDepth 16384

noncomputable section

namespace Cert.Kernel.Hand

open Idealize.ShloMosaic Idealize.ShloMosaic.TcCoe
open Cert.Kernel

/-- The number of tiles a document of length word `v` takes, for lengths up to 512. -/
def tiles (v : BitVec 32) : Nat := if v.toInt ≤ 256 then 1 else 2

theorem tiles_pos (v : BitVec 32) : 1 ≤ tiles v := by unfold tiles; split <;> omega
theorem tiles_le (v : BitVec 32) : tiles v ≤ 2 := by unfold tiles; split <;> omega

/-- Signed division by 256, whatever the sign. -/
theorem divsi_256 (a : BitVec 32) : (Scalar.divsi a 256#32).toInt = a.toInt.tdiv 256 := by
  have h : ¬ IntOp.SDivCorner a 256#32 := by
    rintro (h | ⟨-, h⟩)
    · exact absurd h (by decide)
    · exact absurd h (by decide)
  rw [Scalar.divsi, IntOp.divsi, if_neg h, BitVec.toInt_sdiv_of_ne_or_ne _ _ (.inr (by decide))]
  rfl

theorem td_nonneg {x : Int} (h : 0 ≤ x) : x.tdiv 256 = x / 256 := Int.tdiv_eq_ediv_of_nonneg h
theorem td_neg {x : Int} (h : x ≤ 0) : x.tdiv 256 = -(-x / 256) := by
  rw [← Int.tdiv_eq_ediv_of_nonneg (by omega : 0 ≤ -x), Int.neg_tdiv, Int.neg_neg]

/-- The rounded-up quotient the kernel computes, clamped from below by one. -/
def tilesWord (v1320 : BitVec 32) : BitVec 32 :=
  let v1322 : BitVec 32 := Scalar.subi (Scalar.addi v1320 256#32) 1#32
  let v1328 : BitVec 32 := Scalar.subi (Scalar.extui (Scalar.cmpi .sgt v1322 0#32)) (Scalar.extui (Scalar.cmpi .slt v1322 0#32))
  let v1333 : BitVec 32 := Scalar.subi (Scalar.extui (Scalar.cmpi .sgt 256#32 0#32)) (Scalar.extui (Scalar.cmpi .slt 256#32 0#32))
  let v1337 : BitVec 1 := Scalar.andi (Scalar.cmpi .ne v1328 v1333) (Scalar.cmpi .ne (Scalar.remsi v1322 256#32) 0#32)
  let v1323 : BitVec 32 := Scalar.divsi v1322 256#32
  Scalar.maxsi (Scalar.select v1337 (Scalar.subi v1323 1#32) v1323) 1#32

theorem toInt_maxsi_one (x : BitVec 32) : (Scalar.maxsi x 1#32).toInt = max x.toInt 1 := by
  have h1 : (1#32 : BitVec 32).toInt = 1 := by decide
  rw [Scalar.maxsi, IntOp.maxsi]
  by_cases hs : (1#32 : BitVec 32).slt x
  · rw [if_pos hs]; rw [BitVec.slt_iff_toInt_lt] at hs; omega
  · rw [if_neg hs]; rw [BitVec.slt_iff_toInt_lt] at hs; omega

theorem toInt_sub_small (x y : BitVec 32) (h₁ : -2 ^ 31 ≤ x.toInt - y.toInt) (h₂ : x.toInt - y.toInt < 2 ^ 31) :
    (Scalar.subi x y).toInt = x.toInt - y.toInt := by
  rw [Scalar.subi, IntOp.subi, BitVec.toInt_sub]
  exact Int.bmod_eq_of_le (by omega) (by omega)

theorem toInt_add_small (x y : BitVec 32) (h₁ : -2 ^ 31 ≤ x.toInt + y.toInt) (h₂ : x.toInt + y.toInt < 2 ^ 31) :
    (Scalar.addi x y).toInt = x.toInt + y.toInt := by
  rw [Scalar.addi, IntOp.addi, BitVec.toInt_add]
  exact Int.bmod_eq_of_le (by omega) (by omega)

theorem tilesWord_toInt (v : BitVec 32) (h : v.toInt ≤ 512) : (tilesWord v).toInt = tiles v := by
  have h256 : (256#32 : BitVec 32).toInt = 256 := by decide
  have h1 : (1#32 : BitVec 32).toInt = 1 := by decide
  have h0 : (0#32 : BitVec 32).toInt = 0 := by decide
  have hlo : -2 ^ 31 ≤ v.toInt := by have := BitVec.le_toInt v; simpa using this
  have ha := toInt_add_small v 256#32 (by omega) (by omega)
  have hb := toInt_sub_small (Scalar.addi v 256#32) 1#32 (by omega) (by omega)
  have hd := divsi_256 (Scalar.subi (Scalar.addi v 256#32) 1#32)
  have hq : -2 ^ 24 ≤ (v.toInt + 256 - 1).tdiv 256 ∧ (v.toInt + 256 - 1).tdiv 256 ≤ 2 ∧ (0 < v.toInt + 255 → (v.toInt + 256 - 1).tdiv 256 = (v.toInt + 255) / 256) ∧ (v.toInt + 255 ≤ 0 → (v.toInt + 256 - 1).tdiv 256 ≤ 0) := by
    rcases Int.le_total 0 (v.toInt + 256 - 1) with hp | hp
    · rw [td_nonneg hp]; omega
    · rw [td_neg hp]; omega
  obtain ⟨q1, q2, q3, q4⟩ := hq
  have hs := toInt_sub_small (Scalar.divsi (Scalar.subi (Scalar.addi v 256#32) 1#32) 256#32) 1#32
    (by rw [hd, hb, ha, h256, h1]; omega) (by rw [hd, hb, ha, h256, h1]; omega)
  unfold tilesWord
  dsimp only
  rw [toInt_maxsi_one]
  unfold tiles
  by_cases hpos : 0 < v.toInt + 255
  · have hslt : Scalar.cmpi .sgt (Scalar.subi (Scalar.addi v 256#32) 1#32) 0#32 = 1#1 := by
      rw [Scalar.cmpi, IntOp.cmpi]
      have : (0#32 : BitVec 32).slt (Scalar.subi (Scalar.addi v 256#32) 1#32) = true := by
        rw [BitVec.slt_iff_toInt_lt]; omega
      simp [this]
    have hsgt : Scalar.cmpi .slt (Scalar.subi (Scalar.addi v 256#32) 1#32) 0#32 = 0#1 := by
      rw [Scalar.cmpi, IntOp.cmpi]
      have : (Scalar.subi (Scalar.addi v 256#32) 1#32).slt 0#32 = false := by
        rw [← Bool.not_eq_true, BitVec.slt_iff_toInt_lt]; omega
      simp [this]
    rw [hslt, hsgt]
    have hne : Scalar.cmpi .ne (Scalar.subi (Scalar.extui 1#1 : BitVec 32) (Scalar.extui 0#1)) (Scalar.subi (Scalar.extui (Scalar.cmpi .sgt 256#32 0#32)) (Scalar.extui (Scalar.cmpi .slt 256#32 0#32))) = 0#1 := by decide
    rw [hne]
    have hand : ∀ x : BitVec 1, Scalar.andi 0#1 x = 0#1 := by decide
    rw [hand]
    rw [show ∀ a b : BitVec 32, Scalar.select 0#1 a b = b from fun a b => rfl]
    rw [hd, hb, ha, h256, h1]
    split <;> omega
  · have hle : (Scalar.divsi (Scalar.subi (Scalar.addi v 256#32) 1#32) 256#32).toInt ≤ 0 := by
      rw [hd, hb, ha, h256, h1]; omega
    have key : ∀ c : BitVec 1, (Scalar.select c (Scalar.subi (Scalar.divsi (Scalar.subi (Scalar.addi v 256#32) 1#32) 256#32) 1#32) (Scalar.divsi (Scalar.subi (Scalar.addi v 256#32) 1#32) 256#32)).toInt ≤ 1 := by
      intro c
      unfold Scalar.select
      split <;> omega
    rw [if_pos (by omega)]
    have := key (Scalar.andi (Scalar.cmpi .ne (Scalar.subi (Scalar.extui (Scalar.cmpi .sgt (Scalar.subi (Scalar.addi v 256#32) 1#32) 0#32)) (Scalar.extui (Scalar.cmpi .slt (Scalar.subi (Scalar.addi v 256#32) 1#32) 0#32))) (Scalar.subi (Scalar.extui (Scalar.cmpi .sgt 256#32 0#32)) (Scalar.extui (Scalar.cmpi .slt 256#32 0#32)))) (Scalar.cmpi .ne (Scalar.remsi (Scalar.subi (Scalar.addi v 256#32) 1#32) 256#32) 0#32))
    omega

/-- The tile count as the loop bound the kernel reads it into. -/
theorem bound_eq (x : BitVec 32) : Scalar.addi 0#32 (Scalar.muli (Scalar.divsi (Scalar.subi x 0#32) 1#32) 1#32) = x := by
  have hz : Scalar.subi x 0#32 = x := by simp [Scalar.subi, IntOp.subi]
  have hd : Scalar.divsi x 1#32 = x := by
    have h : ¬ IntOp.SDivCorner x 1#32 := by
      rintro (h | ⟨-, h⟩)
      · exact absurd h (by decide)
      · exact absurd h (by decide)
    rw [Scalar.divsi, IntOp.divsi, if_neg h]
    apply BitVec.eq_of_toInt_eq
    rw [BitVec.toInt_sdiv_of_ne_or_ne _ _ (.inr (by decide))]
    rw [show (1#32 : BitVec 32).toInt = 1 from by decide, Int.tdiv_one]
  rw [hz, hd]
  simp [Scalar.addi, IntOp.addi, Scalar.muli, IntOp.muli]

theorem rest_eq (x : BitVec 32) : Scalar.addi 0#32 (Scalar.subi x 0#32) = x := by
  simp [Scalar.addi, IntOp.addi, Scalar.subi, IntOp.subi]

theorem t2_loop_eq (v : BitVec 32) : k0_t2_loop v = ⟨0#32, tilesWord v, 1#32⟩ := by
  show (⟨0#32, Scalar.addi 0#32 (Scalar.muli (Scalar.divsi (Scalar.subi (tilesWord v) 0#32) 1#32) 1#32), 1#32⟩ : Scf.Loop 32) = _
  rw [bound_eq]

theorem t3_loop_eq (v : BitVec 32) : k0_t3_loop v = ⟨tilesWord v, tilesWord v, 1#32⟩ := by
  show (⟨Scalar.addi 0#32 (Scalar.muli (Scalar.divsi (Scalar.subi (tilesWord v) 0#32) 1#32) 1#32), Scalar.addi 0#32 (Scalar.subi (tilesWord v) 0#32), 1#32⟩ : Scf.Loop 32) = _
  rw [bound_eq, rest_eq]

theorem t2_trips (v : BitVec 32) (h : v.toInt ≤ 512) : (k0_t2_loop v).trips = tiles v := by
  rw [t2_loop_eq]
  show Scf.trips _ _ _ = _
  rw [Scf.trips, tilesWord_toInt v h, show (0#32 : BitVec 32).toInt = 0 from by decide, show (1#32 : BitVec 32).toInt = 1 from by decide]
  omega

theorem t2_ok (v : BitVec 32) (h : v.toInt ≤ 512) : (k0_t2_loop v).OK := by
  have := t2_trips v h
  have hl := tiles_le v
  rw [t2_loop_eq] at this ⊢
  refine ⟨show 0 < (1#32 : BitVec 32).toInt by decide, ?_⟩
  change Scf.trips _ _ _ = _ at this
  rw [this, show (0#32 : BitVec 32).toInt = 0 from by decide, show (1#32 : BitVec 32).toInt = 1 from by decide]
  show (_ : Int) < 2 ^ (32 - 1)
  omega

theorem t3_trips (v : BitVec 32) (h : v.toInt ≤ 512) : (k0_t3_loop v).trips = 0 := by
  rw [t3_loop_eq]
  show Scf.trips _ _ _ = _
  show (((tilesWord v).toInt - (tilesWord v).toInt + (1#32 : BitVec 32).toInt - 1) / (1#32 : BitVec 32).toInt).toNat = 0
  rw [show (1#32 : BitVec 32).toInt = 1 from by decide]
  omega

theorem t3_trips' (v : BitVec 32) : (k0_t3_loop v).trips = 0 := by
  rw [t3_loop_eq]
  show (((tilesWord v).toInt - (tilesWord v).toInt + (1#32 : BitVec 32).toInt - 1) / (1#32 : BitVec 32).toInt).toNat = 0
  rw [show (1#32 : BitVec 32).toInt = 1 from by decide]
  omega

theorem t3_ok (v : BitVec 32) (h : v.toInt ≤ 512) : (k0_t3_loop v).OK := by
  have := t3_trips v h
  have hl := tiles_le v
  rw [t3_loop_eq] at this ⊢
  refine ⟨show 0 < (1#32 : BitVec 32).toInt by decide, ?_⟩
  change Scf.trips _ _ _ = _ at this
  rw [this, tilesWord_toInt v h]
  show (_ : Int) < 2 ^ (32 - 1)
  omega

theorem k0_mult1_in (t1 : Fin k0_t1_loop.trips) (v : BitVec 32) (k : Fin (k0_t2_loop v).trips) (hk : k.val < 2) :
    256 ∣ (k0_mult1 v k).toNat := by
  unfold k0_mult1
  generalize k.val = n at hk ⊢
  clear k t1 v
  revert n
  decide +kernel
theorem k0_off3_in (t1 : Fin k0_t1_loop.trips) (v : BitVec 32) (k : Fin (k0_t2_loop v).trips) (hk : k.val < 2) :
    ∀ a, k0_off3 t1 v k a + S1x96x256.size a ≤ S16x96x512.size a := by
  unfold k0_off3
  generalize k.val = n at hk ⊢
  clear k v
  revert n t1
  decide +kernel
theorem k0_off4_in (t1 : Fin k0_t1_loop.trips) (v : BitVec 32) (k : Fin (k0_t2_loop v).trips) (hk : k.val < 2) :
    ∀ a, k0_off4 t1 v k a + S1x1x256.size a ≤ S2x16x256.size a := by
  unfold k0_off4
  generalize k.val = n at hk ⊢
  clear k v
  revert n t1
  decide +kernel
theorem k0_off5_in (t1 : Fin k0_t1_loop.trips) (v : BitVec 32) (k : Fin (k0_t2_loop v).trips) (hk : k.val < 2) :
    ∀ a, k0_off5 t1 v k a + S1x1x1x256.size a ≤ S2x20x16x256.size a := by
  unfold k0_off5
  generalize k.val = n at hk ⊢
  clear k v
  revert n t1
  decide +kernel
theorem k0_off6_in (t1 : Fin k0_t1_loop.trips) (v : BitVec 32) (k : Fin (k0_t2_loop v).trips) (hk : k.val < 2) :
    ∀ a, k0_off6 t1 v k a + S1x1x1x256.size a ≤ S2x20x16x256.size a := by
  unfold k0_off6
  generalize k.val = n at hk ⊢
  clear k v
  revert n t1
  decide +kernel
theorem k0_off7_in (t1 : Fin k0_t1_loop.trips) (v : BitVec 32) (k : Fin (k0_t2_loop v).trips) (hk : k.val < 2) :
    ∀ a, k0_off7 t1 v k a + S1x1x1x256.size a ≤ S2x20x16x256.size a := by
  unfold k0_off7
  generalize k.val = n at hk ⊢
  clear k v
  revert n t1
  decide +kernel
theorem k0_off8_in (t1 : Fin k0_t1_loop.trips) (v : BitVec 32) (k : Fin (k0_t2_loop v).trips) (hk : k.val < 2) :
    ∀ a, k0_off8 t1 v k a + S1x1x1x256.size a ≤ S2x20x16x256.size a := by
  unfold k0_off8
  generalize k.val = n at hk ⊢
  clear k v
  revert n t1
  decide +kernel
theorem k0_off12_in (t1 : Fin k0_t1_loop.trips) (v : BitVec 32) (k : Fin (k0_t2_loop v).trips) (hk : k.val < 2) :
    ∀ a, k0_off12 t1 v k a + S1x1x1x256.size a ≤ S2x20x16x256.size a := by
  unfold k0_off12
  generalize k.val = n at hk ⊢
  clear k v
  revert n t1
  decide +kernel
theorem k0_off13_in (t1 : Fin k0_t1_loop.trips) (v : BitVec 32) (k : Fin (k0_t2_loop v).trips) (hk : k.val < 2) :
    ∀ a, k0_off13 t1 v k a + S1x1x1x256.size a ≤ S2x20x16x256.size a := by
  unfold k0_off13
  generalize k.val = n at hk ⊢
  clear k v
  revert n t1
  decide +kernel
theorem k0_off14_in (t1 : Fin k0_t1_loop.trips) (v : BitVec 32) (k : Fin (k0_t2_loop v).trips) (hk : k.val < 2) :
    ∀ a, k0_off14 t1 v k a + S1x1x1x256.size a ≤ S2x20x16x256.size a := by
  unfold k0_off14
  generalize k.val = n at hk ⊢
  clear k v
  revert n t1
  decide +kernel
theorem k0_off15_in (t1 : Fin k0_t1_loop.trips) (v : BitVec 32) (k : Fin (k0_t2_loop v).trips) (hk : k.val < 2) :
    ∀ a, k0_off15 t1 v k a + S1x1x1x256.size a ≤ S2x20x16x256.size a := by
  unfold k0_off15
  generalize k.val = n at hk ⊢
  clear k v
  revert n t1
  decide +kernel
theorem k0_off19_in (t1 : Fin k0_t1_loop.trips) (v : BitVec 32) (k : Fin (k0_t2_loop v).trips) (hk : k.val < 2) :
    ∀ a, k0_off19 t1 v k a + S1x1x1x256.size a ≤ S2x20x16x256.size a := by
  unfold k0_off19
  generalize k.val = n at hk ⊢
  clear k v
  revert n t1
  decide +kernel
theorem k0_off20_in (t1 : Fin k0_t1_loop.trips) (v : BitVec 32) (k : Fin (k0_t2_loop v).trips) (hk : k.val < 2) :
    ∀ a, k0_off20 t1 v k a + S1x1x1x256.size a ≤ S2x20x16x256.size a := by
  unfold k0_off20
  generalize k.val = n at hk ⊢
  clear k v
  revert n t1
  decide +kernel
theorem k0_off21_in (t1 : Fin k0_t1_loop.trips) (v : BitVec 32) (k : Fin (k0_t2_loop v).trips) (hk : k.val < 2) :
    ∀ a, k0_off21 t1 v k a + S1x1x1x256.size a ≤ S2x20x16x256.size a := by
  unfold k0_off21
  generalize k.val = n at hk ⊢
  clear k v
  revert n t1
  decide +kernel
theorem k0_off22_in (t1 : Fin k0_t1_loop.trips) (v : BitVec 32) (k : Fin (k0_t2_loop v).trips) (hk : k.val < 2) :
    ∀ a, k0_off22 t1 v k a + S1x1x1x256.size a ≤ S2x20x16x256.size a := by
  unfold k0_off22
  generalize k.val = n at hk ⊢
  clear k v
  revert n t1
  decide +kernel
theorem k0_off26_in (t1 : Fin k0_t1_loop.trips) (v : BitVec 32) (k : Fin (k0_t2_loop v).trips) (hk : k.val < 2) :
    ∀ a, k0_off26 t1 v k a + S1x1x1x256.size a ≤ S2x20x16x256.size a := by
  unfold k0_off26
  generalize k.val = n at hk ⊢
  clear k v
  revert n t1
  decide +kernel
theorem k0_off27_in (t1 : Fin k0_t1_loop.trips) (v : BitVec 32) (k : Fin (k0_t2_loop v).trips) (hk : k.val < 2) :
    ∀ a, k0_off27 t1 v k a + S1x1x1x256.size a ≤ S2x20x16x256.size a := by
  unfold k0_off27
  generalize k.val = n at hk ⊢
  clear k v
  revert n t1
  decide +kernel
theorem k0_off28_in (t1 : Fin k0_t1_loop.trips) (v : BitVec 32) (k : Fin (k0_t2_loop v).trips) (hk : k.val < 2) :
    ∀ a, k0_off28 t1 v k a + S1x1x1x256.size a ≤ S2x20x16x256.size a := by
  unfold k0_off28
  generalize k.val = n at hk ⊢
  clear k v
  revert n t1
  decide +kernel
theorem k0_off29_in (t1 : Fin k0_t1_loop.trips) (v : BitVec 32) (k : Fin (k0_t2_loop v).trips) (hk : k.val < 2) :
    ∀ a, k0_off29 t1 v k a + S1x1x1x256.size a ≤ S2x20x16x256.size a := by
  unfold k0_off29
  generalize k.val = n at hk ⊢
  clear k v
  revert n t1
  decide +kernel
theorem k0_off33_in (t1 : Fin k0_t1_loop.trips) (v : BitVec 32) (k : Fin (k0_t2_loop v).trips) (hk : k.val < 2) :
    ∀ a, k0_off33 t1 v k a + S1x1x1x256.size a ≤ S2x20x16x256.size a := by
  unfold k0_off33
  generalize k.val = n at hk ⊢
  clear k v
  revert n t1
  decide +kernel
theorem k0_off34_in (t1 : Fin k0_t1_loop.trips) (v : BitVec 32) (k : Fin (k0_t2_loop v).trips) (hk : k.val < 2) :
    ∀ a, k0_off34 t1 v k a + S1x1x1x256.size a ≤ S2x20x16x256.size a := by
  unfold k0_off34
  generalize k.val = n at hk ⊢
  clear k v
  revert n t1
  decide +kernel
theorem k0_off35_in (t1 : Fin k0_t1_loop.trips) (v : BitVec 32) (k : Fin (k0_t2_loop v).trips) (hk : k.val < 2) :
    ∀ a, k0_off35 t1 v k a + S1x1x1x256.size a ≤ S2x20x16x256.size a := by
  unfold k0_off35
  generalize k.val = n at hk ⊢
  clear k v
  revert n t1
  decide +kernel
theorem k0_off36_in (t1 : Fin k0_t1_loop.trips) (v : BitVec 32) (k : Fin (k0_t2_loop v).trips) (hk : k.val < 2) :
    ∀ a, k0_off36 t1 v k a + S1x1x1x256.size a ≤ S2x20x16x256.size a := by
  unfold k0_off36
  generalize k.val = n at hk ⊢
  clear k v
  revert n t1
  decide +kernel

theorem no (v : BitVec 32) (h : v.toInt ≤ 512) (k : Fin (k0_t3_loop v).trips) : False := by
  have h1 := k.isLt
  have h2 := t3_trips v h
  generalize (k0_t3_loop v).trips = n at *
  omega

/-- Every access of a document's trips is in bounds. -/
theorem chk (t1 : Fin k0_t1_loop.trips) (v : BitVec 32) (h : v.toInt ≤ 512) : k0_chk1 t1 v := by
  have hk : ∀ k : Fin (k0_t2_loop v).trips, k.val < 2 := fun k => by
    have h1 := k.isLt
    have h2 := t2_trips v h
    have h3 := tiles_le v
    generalize (k0_t2_loop v).trips = n at *
    omega
  unfold k0_chk1 k0_chk1_0 k0_chk1_1
  refine ⟨⟨t2_ok v h, ?_, ?_, ?_, ?_, ?_, ?_, ?_, ?_, ?_, ?_, ?_, ?_, ?_, ?_, ?_, ?_, ?_, ?_, ?_, ?_, ?_, ?_, ?_, t3_ok v h, fun k => (no v h k).elim, fun k => (no v h k).elim, fun k => (no v h k).elim, fun k => (no v h k).elim, fun k => (no v h k).elim, fun k => (no v h k).elim, fun k => (no v h k).elim⟩, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim⟩
  · exact fun k => k0_mult1_in t1 v k (hk k)
  · exact fun k => k0_off3_in t1 v k (hk k)
  · exact fun k => k0_off4_in t1 v k (hk k)
  · exact fun k => k0_off5_in t1 v k (hk k)
  · exact fun k => k0_off6_in t1 v k (hk k)
  · exact fun k => k0_off7_in t1 v k (hk k)
  · exact fun k => k0_off8_in t1 v k (hk k)
  · exact fun k => k0_off12_in t1 v k (hk k)
  · exact fun k => k0_off13_in t1 v k (hk k)
  · exact fun k => k0_off14_in t1 v k (hk k)
  · exact fun k => k0_off15_in t1 v k (hk k)
  · exact fun k => k0_off19_in t1 v k (hk k)
  · exact fun k => k0_off20_in t1 v k (hk k)
  · exact fun k => k0_off21_in t1 v k (hk k)
  · exact fun k => k0_off22_in t1 v k (hk k)
  · exact fun k => k0_off26_in t1 v k (hk k)
  · exact fun k => k0_off27_in t1 v k (hk k)
  · exact fun k => k0_off28_in t1 v k (hk k)
  · exact fun k => k0_off29_in t1 v k (hk k)
  · exact fun k => k0_off33_in t1 v k (hk k)
  · exact fun k => k0_off34_in t1 v k (hk k)
  · exact fun k => k0_off35_in t1 v k (hk k)
  · exact fun k => k0_off36_in t1 v k (hk k)
end Cert.Kernel.Hand

end
-- ==== Proof.KernelPoints.lean ====
/- The schedule of `Kernel`'s windows on the grid: at which points each is fetched and written back. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [BitOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (operand 4 (%5)) is fetched at the first point only, at any contents of the tables (its index map reads none). -/
theorem fetch0_3 (a : (pcfg0 (F := F)).Adm) : ∀ t : Fin (cfg0 a).N, ((cfg0 a).win 3).fetch t = true ↔ t.val % 94 = 0 :=
  (fun t => Pipeline.Window.fetchOf_const cc0_transform_3 (fun _ _ => rfl) (n := 94) (by decide) t : ∀ t : Fin grid0.N, Pipeline.Window.fetchOf grid0 false cc0_transform_3 t = true ↔ t.val % 94 = 0)
/-- Window 4 (result 0 (%9#0)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)
-- window 5 is written back at points [7, 15, 23, 31, 39, 47, 55, 63, 71, 79, 87, 93]: no closed form stated

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_v8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

end Cert.Kernel.Gen

end
-- ==== Proof.KernelFrame.lean ====
/- `Kernel`'s main around its one region: the host lines before and after it, the arrays' contents there, each
   window's block at a point. -/
module

public import proofs.«01_k».proof.Proof.Gen.Kernel.Launch
public import proofs.«01_k».proof.Proof.KernelPoints
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain (([] : List (List (HloOp τ sig (Elt F)))).map StableHlo.seq)) :=
  Pipeline.hmainP_around pcfgs 0 defs₀ 𝒱₀ m main [hostOps0] [] (by simp only [List.Forall]; exact hostOps0_sub)
    (by simp only [List.Forall]; exact hostOps0_fresh) main_chain

/-- No host line follows the region: nothing is touched, -/
theorem sfx_sub : ∀ ops ∈ ([] : List (List (HloOp τ sig (Elt F)))), ∀ op ∈ ops, op.bufs ⊆ Pipeline.tailRefs sig pre0 spec0 :=
  fun _ h => absurd h List.not_mem_nil
/-- nothing allocated, -/
theorem sfx_fresh : ∀ ops ∈ ([] : List (List (HloOp τ sig (Elt F)))), ∀ op ∈ ops, op.fresh = ∅ := fun _ h => absurd h List.not_mem_nil
/-- and no array of the pipeline written. -/
theorem sfx_keeps : ∀ ops ∈ ([] : List (List (HloOp τ sig (Elt F)))), ∀ op ∈ ops, ∀ w, Proc.devRef .tc (Pipeline.arrRef spec0 w) ∉ op.writes :=
  fun _ h => absurd h List.not_mem_nil

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S1536 .i32 := Memref.whole main_v8
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.Gen

end
-- ==== Proof.KernelLoops.lean ====
/- The loops of `Kernel` over a grid step's documents and over a document's tiles: the two scratch buffers they write, as
   functions of what the loops read and of what the buffers held. -/
module

public import proofs.«01_k».proof.Proof.KernelTrip
public import proofs.«01_k».proof.Proof.KernelArith
public import proofs.«01_k».proof.Proof.KernelFrame

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the run: the pipeline library's. -/
local notation "𝕄" => MT nD τ sig Unit (Elt F) ℕ (UR sig nD τ) ℕ

/-- The two scratch buffers before tile `k` of a document. -/
def st2 (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (k0_t1 : Fin k0_t1_loop.trips) (arg13 : BitVec 32) (v1320 : Elt F .i32) (k0_hw1 : k0_chk1 k0_t1 v1320) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (g : BufTy.Contents (Elt F) arg11.view.ty × BufTy.Contents (Elt F) arg12.view.ty) : ℕ → BufTy.Contents (Elt F) arg11.view.ty × BufTy.Contents (Elt F) arg12.view.ty
  | 0 => g
  | k + 1 =>
    if h : k < (k0_t2_loop v1320).trips then
      (arg11.view.writes (Elt F) (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k).1 ((trip2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 ⟨k, h⟩).1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k).1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k).2),
       arg12.view.writes (Elt F) (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k).2 ((trip2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 ⟨k, h⟩).2.1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k).1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k).2))
    else st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k

theorem st2_succ (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (k0_t1 : Fin k0_t1_loop.trips) (arg13 : BitVec 32) (v1320 : Elt F .i32) (k0_hw1 : k0_chk1 k0_t1 v1320) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (g : BufTy.Contents (Elt F) arg11.view.ty × BufTy.Contents (Elt F) arg12.view.ty) (k : Fin (k0_t2_loop v1320).trips) :
    st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g (k.val + 1)
    = (arg11.view.writes (Elt F) (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k.val).1 ((trip2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 k).1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k.val).1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k.val).2),
       arg12.view.writes (Elt F) (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k.val).2 ((trip2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 k).2.1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k.val).1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k.val).2)) := by
  rw [st2.eq_2]; exact dif_pos k.isLt

set_option warn.classDefReducibility false in
/-- The loop over a document's tiles, by its invariant. -/
@[sl_loop] def loopInv_k0_t2 (𝒱 : Variants) (c : Dev nD) (bd : Option 𝒱.V) (E : Set ℕ) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (k0_t1 : Fin k0_t1_loop.trips) (arg13 : BitVec 32) (v1320 : Elt F .i32) (k0_hw1 : k0_chk1 k0_t1 v1320) (init : BitVec 32) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (G_arg11 : BufTy.Contents (Elt F) arg11.view.ty) (G_arg12 : BufTy.Contents (Elt F) arg12.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 init where
  inv := fun k _ => iprop((arg2.view.loc (c : Thread nD τ) ↦[arg2.view.set]{fullShare} X_arg2) ∗ (arg5.view.loc (c : Thread nD τ) ↦[arg5.view.set]{fullShare} X_arg5) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10)
    ∗ (∃ f, (arg11.view.loc (c : Thread nD τ) ↦[arg11.view.set]{fullShare} f) ∗ ⌜f = (st2 (F := F) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 (G_arg11, G_arg12) k).1⌝)
    ∗ (∃ f, (arg12.view.loc (c : Thread nD τ) ↦[arg12.view.set]{fullShare} f) ∗ ⌜f = (st2 (F := F) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 (G_arg11, G_arg12) k).2⌝))
  step k acc := by
    iintro ⟨H2, H5, H8, H9, H10, ⟨%f11, H11, %h11⟩, ⟨%f12, H12, %h12⟩⟩
    iapply (wp_wand_r Idealize.ShloMosaic.frame (wpE (defs₀ (F := F)) 𝒱 (c : Thread nD τ) bd) E)
    isplitl [H2 H5 H8 H9 H10 H11 H12]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 k).2.2 E acc f11 f12)
      isplitl [H2]; · iexact H2
      isplitl [H5]; · iexact H5
      isplitl [H8]; · iexact H8
      isplitl [H9]; · iexact H9
      isplitl [H10]; · iexact H10
      isplitl [H11]; · iexact H11
      iexact H12
    · iintro %_ ⟨H2, H5, H8, H9, H10, H11, H12⟩
      isplitl [H2]; · iexact H2
      isplitl [H5]; · iexact H5
      isplitl [H8]; · iexact H8
      isplitl [H9]; · iexact H9
      isplitl [H10]; · iexact H10
      rw [st2_succ]
      isplitl [H11]
      · iexists _; isplitl [H11]; · iexact H11
        ipureintro; rw [h11, h12]
      · iexists _; isplitl [H12]; · iexact H12
        ipureintro; rw [h11, h12]

theorem t3_none (v : BitVec 32) (k : Fin (k0_t3_loop v).trips) : False := by
  have h1 := k.isLt
  have h2 := t3_trips' v
  generalize (k0_t3_loop v).trips = n at *
  omega

set_option warn.classDefReducibility false in
/-- The remainder loop makes no trip. -/
@[sl_loop] def loopInv_k0_t3 (𝒱 : Variants) (c : Dev nD) (bd : Option 𝒱.V) (E : Set ℕ) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (k0_t1 : Fin k0_t1_loop.trips) (arg13 : BitVec 32) (v1320 : Elt F .i32) (k0_hw1 : k0_chk1 k0_t1 v1320) (v1345 : BitVec 32) (init : BitVec 32) (X_arg5 : BufTy.Contents (Elt F) arg5.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 v1345 init where
  inv := fun k _ => iprop((arg5.view.loc (c : Thread nD τ) ↦[arg5.view.set]{fullShare} X_arg5))
  step k acc := (t3_none _ k).elim

/-- One document's resources. -/
abbrev Trip1 (c : Dev nD) (arg1 : Memref sig .tc .smem S1536 .i32) (arg2 : Memref sig .tc .vmem S16x96x512 .fp8e4m3) (arg5 : Memref sig .tc .vmem S320x96 .fp8e4m3) (arg8 : Memref sig .tc .vmem S2x20x16x256 .i32) (arg9 : Memref sig .tc .vmem S2x20x16x256 .i32) (arg10 : Memref sig .tc .vmem S2x16x256 .f32) (arg11 : Memref sig .tc .vmem S16x10x16x128 .f32) (arg12 : Memref sig .tc .vmem S128x1280 .f32) (X_arg1 : TbBuf0 (F := F) c arg1) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (f_arg11 : BufTy.Contents (Elt F) arg11.view.ty) (f_arg12 : BufTy.Contents (Elt F) arg12.view.ty) : sProp 𝕄 :=
  iprop((tbPt0 (F := F) c arg1 X_arg1) ∗ (arg2.view.loc (c : Thread nD τ) ↦[arg2.view.set]{fullShare} X_arg2) ∗ (arg5.view.loc (c : Thread nD τ) ↦[arg5.view.set]{fullShare} X_arg5) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} f_arg11) ∗ (arg12.view.loc (c : Thread nD τ) ↦[arg12.view.set]{fullShare} f_arg12))

/-- The length word the loop over documents reads for document `k`. -/
abbrev lenAt (c : Dev nD) (i : grid0.Coords) (arg1 : Memref sig .tc .smem S1536 .i32) (X_arg1 : TbBuf0 (F := F) c arg1) (k : Fin k0_t1_loop.trips) : BitVec 32 :=
  arg1.view.readAt (Elt F) (Rect.unit (s := S1536) (k0_off2 i k) S1.size (k0_off2_inb i k)).toLoadRect X_arg1 (Shape.Idx.first (numel1_S1.symm ▸ Nat.one_pos))

/-- One trip of `k0_t1_loop` at a symbolic `k`: what the two scratch buffers hold after it. -/
@[irreducible] def trip1 (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (X_arg1 : TbBuf0 (F := F) c arg1) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (k : Fin k0_t1_loop.trips) (hk1 : k0_chk1 k (lenAt (F := F) c i arg1 X_arg1 k)) :
    Σ' (N11 : BufTy.Contents (Elt F) arg11.view.ty → BufTy.Contents (Elt F) arg12.view.ty → BufTy.Contents (Elt F) arg11.view.ty),
    { N12 : BufTy.Contents (Elt F) arg11.view.ty → BufTy.Contents (Elt F) arg12.view.ty → BufTy.Contents (Elt F) arg12.view.ty // ∀ (E : Set ℕ) (f_arg11 : BufTy.Contents (Elt F) arg11.view.ty) (f_arg12 : BufTy.Contents (Elt F) arg12.view.ty),
      Trip1 (F := F) c arg1 arg2 arg5 arg8 arg9 arg10 arg11 arg12 X_arg1 X_arg2 X_arg5 X_arg8 X_arg9 X_arg10 f_arg11 f_arg12
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k ())
          (fun _ => Trip1 (F := F) c arg1 arg2 arg5 arg8 arg9 arg10 arg11 arg12 X_arg1 X_arg2 X_arg5 X_arg8 X_arg9 X_arg10 (N11 f_arg11 f_arg12) (N12 f_arg11 f_arg12)) } := by
  have hk : k.val < 16 := Nat.lt_of_lt_of_le k.isLt k0_t1_abs.2.1
  have hi : (i 0).val < 94 := (i 0).isLt
  refine ⟨?_, ?_, fun E f_arg11 f_arg12 => ?run⟩
  case run =>
    unfold k0_t1_body
    iintro ⟨H1, H2, H5, H8, H9, H10, H11, H12⟩
    sl_exec
    sl_step
    sl_close

/-- The two scratch buffers before document `k` of a grid step. -/
def st1 (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (X_arg1 : TbBuf0 (F := F) c arg1) (hL : ∀ k, (lenAt (F := F) c i arg1 X_arg1 k).toInt ≤ 512) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (g : BufTy.Contents (Elt F) arg11.view.ty × BufTy.Contents (Elt F) arg12.view.ty) : ℕ → BufTy.Contents (Elt F) arg11.view.ty × BufTy.Contents (Elt F) arg12.view.ty
  | 0 => g
  | k + 1 =>
    if h : k < k0_t1_loop.trips then
      ((trip1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 X_arg2 X_arg5 X_arg8 X_arg9 X_arg10 ⟨k, h⟩ (chk _ _ (hL _))).1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k).1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k).2,
       (trip1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 X_arg2 X_arg5 X_arg8 X_arg9 X_arg10 ⟨k, h⟩ (chk _ _ (hL _))).2.1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k).1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k).2)
    else st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k

theorem st1_succ (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (X_arg1 : TbBuf0 (F := F) c arg1) (hL : ∀ k, (lenAt (F := F) c i arg1 X_arg1 k).toInt ≤ 512) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (g : BufTy.Contents (Elt F) arg11.view.ty × BufTy.Contents (Elt F) arg12.view.ty) (k : Fin k0_t1_loop.trips) :
    st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g (k.val + 1)
    = ((trip1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 X_arg2 X_arg5 X_arg8 X_arg9 X_arg10 k (chk _ _ (hL _))).1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k.val).1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k.val).2,
       (trip1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 X_arg2 X_arg5 X_arg8 X_arg9 X_arg10 k (chk _ _ (hL _))).2.1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k.val).1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k.val).2) := by
  rw [st1.eq_2]; exact dif_pos k.isLt

set_option warn.classDefReducibility false in
/-- The loop over a grid step's documents, by its invariant. -/
@[sl_loop] def loopInv_k0_t1 (𝒱 : Variants) (c : Dev nD) (bd : Option 𝒱.V) (E : Set ℕ) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (X_arg1 : TbBuf0 (F := F) c arg1) (hL : ∀ k, (lenAt (F := F) c i arg1 X_arg1 k).toInt ≤ 512) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (G_arg11 : BufTy.Contents (Elt F) arg11.view.ty) (G_arg12 : BufTy.Contents (Elt F) arg12.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 where
  inv := fun k _ => iprop((tbPt0 (F := F) c arg1 X_arg1) ∗ (arg2.view.loc (c : Thread nD τ) ↦[arg2.view.set]{fullShare} X_arg2) ∗ (arg5.view.loc (c : Thread nD τ) ↦[arg5.view.set]{fullShare} X_arg5) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10)
    ∗ (∃ f, (arg11.view.loc (c : Thread nD τ) ↦[arg11.view.set]{fullShare} f) ∗ ⌜f = (st1 (F := F) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 (G_arg11, G_arg12) k).1⌝)
    ∗ (∃ f, (arg12.view.loc (c : Thread nD τ) ↦[arg12.view.set]{fullShare} f) ∗ ⌜f = (st1 (F := F) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 (G_arg11, G_arg12) k).2⌝))
  step k acc := by
    iintro ⟨H1, H2, H5, H8, H9, H10, ⟨%f11, H11, %h11⟩, ⟨%f12, H12, %h12⟩⟩
    iapply (wp_wand_r Idealize.ShloMosaic.frame (wpE (defs₀ (F := F)) 𝒱 (c : Thread nD τ) bd) E)
    isplitl [H1 H2 H5 H8 H9 H10 H11 H12]
    · iapply ((trip1 (F := F) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 X_arg2 X_arg5 X_arg8 X_arg9 X_arg10 k (chk _ _ (hL _))).2.2 E f11 f12)
      isplitl [H1]; · iexact H1
      isplitl [H2]; · iexact H2
      isplitl [H5]; · iexact H5
      isplitl [H8]; · iexact H8
      isplitl [H9]; · iexact H9
      isplitl [H10]; · iexact H10
      isplitl [H11]; · iexact H11
      iexact H12
    · iintro %_ ⟨H1, H2, H5, H8, H9, H10, H11, H12⟩
      isplitl [H1]; · iexact H1
      isplitl [H2]; · iexact H2
      isplitl [H5]; · iexact H5
      isplitl [H8]; · iexact H8
      isplitl [H9]; · iexact H9
      isplitl [H10]; · iexact H10
      rw [st1_succ]
      isplitl [H11]
      · iexists _; isplitl [H11]; · iexact H11
        ipureintro; rw [h11, h12]
      · iexists _; isplitl [H12]; · iexact H12
        ipureintro; rw [h11, h12]

end Cert.Kernel.Hand

end
-- ==== Proof.KernelBody.lean ====
/- One grid step of `Kernel`: what the body leaves in every buffer it writes, found by running it once at a symbolic step. -/
module

public import proofs.«01_k».proof.Proof.KernelLoops

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the run: the pipeline library's. -/
local notation "𝕄" => MT nD τ sig Unit (Elt F) ℕ (UR sig nD τ) ℕ

/-- One grid step's resources. -/
abbrev Step (c : Dev nD) (arg1 : Memref sig .tc .smem S1536 .i32) (arg2 : Memref sig .tc .vmem S16x96x512 .fp8e4m3) (arg3 : Memref sig .tc .vmem S16x512 .f32) (arg4 : Memref sig .tc .vmem S20x16x512 .i32) (arg5 : Memref sig .tc .vmem S320x96 .fp8e4m3) (arg6 : Memref sig .tc .vmem S16x20480 .bf16) (arg7 : Memref sig .tc .vmem S20x64x128 .i32) (arg8 : Memref sig .tc .vmem S2x20x16x256 .i32) (arg9 : Memref sig .tc .vmem S2x20x16x256 .i32) (arg10 : Memref sig .tc .vmem S2x16x256 .f32) (arg11 : Memref sig .tc .vmem S16x10x16x128 .f32) (arg12 : Memref sig .tc .vmem S128x1280 .f32) (X_arg1 : TbBuf0 (F := F) c arg1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) : sProp 𝕄 :=
  iprop((tbPt0 (F := F) c arg1 X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12))

/-- The body run on a grid step that ends a block of 128 documents. -/
@[irreducible] def stepFlush (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (X_arg1 : TbBuf0 (F := F) c arg1) (hL : ∀ k, (lenAt (F := F) c i arg1 X_arg1 k).toInt ≤ 512) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (hc : k0_cond1 i = 1#1) :
    Σ' (N_arg6 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg6.view.ty) (N_arg7 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg7.view.ty) (N_arg8 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg8.view.ty) (N_arg9 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg9.view.ty) (N_arg10 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg10.view.ty) (N_arg11 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg11.view.ty),
    { N_arg12 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg12.view.ty // ∀ (E : Set ℕ) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty),
      Step (F := F) c arg1 arg2 arg3 arg4 arg5 arg6 arg7 arg8 arg9 arg10 arg11 arg12 X_arg1 X_arg2 X_arg3 X_arg4 X_arg5 f_arg6 f_arg7 f_arg8 f_arg9 f_arg10 f_arg11 f_arg12
      ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12)
          (fun _ => Step (F := F) c arg1 arg2 arg3 arg4 arg5 arg6 arg7 arg8 arg9 arg10 arg11 arg12 X_arg1 X_arg2 X_arg3 X_arg4 X_arg5 (N_arg6 f_arg6 f_arg7 f_arg8 f_arg9 f_arg10 f_arg11 f_arg12) (N_arg7 f_arg6 f_arg7 f_arg8 f_arg9 f_arg10 f_arg11 f_arg12) (N_arg8 f_arg6 f_arg7 f_arg8 f_arg9 f_arg10 f_arg11 f_arg12) (N_arg9 f_arg6 f_arg7 f_arg8 f_arg9 f_arg10 f_arg11 f_arg12) (N_arg10 f_arg6 f_arg7 f_arg8 f_arg9 f_arg10 f_arg11 f_arg12) (N_arg11 f_arg6 f_arg7 f_arg8 f_arg9 f_arg10 f_arg11 f_arg12) (N_arg12 f_arg6 f_arg7 f_arg8 f_arg9 f_arg10 f_arg11 f_arg12)) } := by
  refine ⟨?_, ?_, ?_, ?_, ?_, ?_, ?_, fun E f_arg6 f_arg7 f_arg8 f_arg9 f_arg10 f_arg11 f_arg12 => ?run⟩
  case run =>
    unfold cc0__body
    iintro ⟨H1, H2, H3, H4, H5, H6, H7, H8, H9, H10, H11, H12⟩
    sl_exec_parts
    sl_step
    sl_close

/-- The body run on any other grid step. -/
@[irreducible] def stepKeep (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (X_arg1 : TbBuf0 (F := F) c arg1) (hL : ∀ k, (lenAt (F := F) c i arg1 X_arg1 k).toInt ≤ 512) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (hc : ¬ k0_cond1 i = 1#1) :
    Σ' (N_arg6 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg6.view.ty) (N_arg8 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg8.view.ty) (N_arg9 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg9.view.ty) (N_arg10 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg10.view.ty) (N_arg11 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg11.view.ty),
    { N_arg12 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg12.view.ty // ∀ (E : Set ℕ) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty),
      Step (F := F) c arg1 arg2 arg3 arg4 arg5 arg6 arg7 arg8 arg9 arg10 arg11 arg12 X_arg1 X_arg2 X_arg3 X_arg4 X_arg5 f_arg6 f_arg7 f_arg8 f_arg9 f_arg10 f_arg11 f_arg12
      ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12)
          (fun _ => Step (F := F) c arg1 arg2 arg3 arg4 arg5 arg6 arg7 arg8 arg9 arg10 arg11 arg12 X_arg1 X_arg2 X_arg3 X_arg4 X_arg5 (N_arg6 f_arg6 f_arg7 f_arg8 f_arg9 f_arg10 f_arg11 f_arg12) f_arg7 (N_arg8 f_arg6 f_arg7 f_arg8 f_arg9 f_arg10 f_arg11 f_arg12) (N_arg9 f_arg6 f_arg7 f_arg8 f_arg9 f_arg10 f_arg11 f_arg12) (N_arg10 f_arg6 f_arg7 f_arg8 f_arg9 f_arg10 f_arg11 f_arg12) (N_arg11 f_arg6 f_arg7 f_arg8 f_arg9 f_arg10 f_arg11 f_arg12) (N_arg12 f_arg6 f_arg7 f_arg8 f_arg9 f_arg10 f_arg11 f_arg12)) } := by
  refine ⟨?_, ?_, ?_, ?_, ?_, ?_, fun E f_arg6 f_arg7 f_arg8 f_arg9 f_arg10 f_arg11 f_arg12 => ?run⟩
  case run =>
    unfold cc0__body
    iintro ⟨H1, H2, H3, H4, H5, H6, H7, H8, H9, H10, H11, H12⟩
    sl_exec_parts
    sl_step
    sl_close

end Cert.Kernel.Hand

end
-- ==== Proof.KernelWeak.lean ====
/- `Kernel` runs and leaves its arguments: every staging buffer and scratch buffer at whatever it holds. -/
module

public import proofs.«01_k».proof.Proof.KernelBody
public import proofs.«01_k».proof.Proof.KernelFrame
public import Idealize.ShloMosaic.Lib.Routing.OpsOrder
public import Idealize.ShloMosaic.Lib.StableHlo.RunRead

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the run: the pipeline library's. -/
local notation "𝕄" => MT nD τ sig Unit (Elt F) ℕ (UR sig nD τ) ℕ

/-- One grid step's resources, nothing said of what the buffers hold but the table. -/
abbrev Any (c : Dev nD) (arg1 : Memref sig .tc .smem S1536 .i32) (arg2 : Memref sig .tc .vmem S16x96x512 .fp8e4m3) (arg3 : Memref sig .tc .vmem S16x512 .f32) (arg4 : Memref sig .tc .vmem S20x16x512 .i32) (arg5 : Memref sig .tc .vmem S320x96 .fp8e4m3) (arg6 : Memref sig .tc .vmem S16x20480 .bf16) (arg7 : Memref sig .tc .vmem S20x64x128 .i32) (arg8 : Memref sig .tc .vmem S2x20x16x256 .i32) (arg9 : Memref sig .tc .vmem S2x20x16x256 .i32) (arg10 : Memref sig .tc .vmem S2x16x256 .f32) (arg11 : Memref sig .tc .vmem S16x10x16x128 .f32) (arg12 : Memref sig .tc .vmem S128x1280 .f32) (X_arg1 : TbBuf0 (F := F) c arg1) : sProp 𝕄 :=
  iprop((tbPt0 (F := F) c arg1 X_arg1) ∗ (∃ f : BufTy.Contents (Elt F) arg2.view.ty, arg2.view.loc (c : Thread nD τ) ↦[arg2.view.set]{fullShare} f) ∗ (∃ f : BufTy.Contents (Elt F) arg3.view.ty, arg3.view.loc (c : Thread nD τ) ↦[arg3.view.set]{fullShare} f) ∗ (∃ f : BufTy.Contents (Elt F) arg4.view.ty, arg4.view.loc (c : Thread nD τ) ↦[arg4.view.set]{fullShare} f) ∗ (∃ f : BufTy.Contents (Elt F) arg5.view.ty, arg5.view.loc (c : Thread nD τ) ↦[arg5.view.set]{fullShare} f) ∗ (∃ f : BufTy.Contents (Elt F) arg6.view.ty, arg6.view.loc (c : Thread nD τ) ↦[arg6.view.set]{fullShare} f) ∗ (∃ f : BufTy.Contents (Elt F) arg7.view.ty, arg7.view.loc (c : Thread nD τ) ↦[arg7.view.set]{fullShare} f) ∗ (∃ f : BufTy.Contents (Elt F) arg8.view.ty, arg8.view.loc (c : Thread nD τ) ↦[arg8.view.set]{fullShare} f) ∗ (∃ f : BufTy.Contents (Elt F) arg9.view.ty, arg9.view.loc (c : Thread nD τ) ↦[arg9.view.set]{fullShare} f) ∗ (∃ f : BufTy.Contents (Elt F) arg10.view.ty, arg10.view.loc (c : Thread nD τ) ↦[arg10.view.set]{fullShare} f) ∗ (∃ f : BufTy.Contents (Elt F) arg11.view.ty, arg11.view.loc (c : Thread nD τ) ↦[arg11.view.set]{fullShare} f) ∗ (∃ f : BufTy.Contents (Elt F) arg12.view.ty, arg12.view.loc (c : Thread nD τ) ↦[arg12.view.set]{fullShare} f))

/-- The body runs on any grid step, from any contents. -/
theorem step_any (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (X_arg1 : TbBuf0 (F := F) c arg1) (hL : ∀ k, (lenAt (F := F) c i arg1 X_arg1 k).toInt ≤ 512) (E : Set ℕ) :
    Any (F := F) c arg1 arg2 arg3 arg4 arg5 arg6 arg7 arg8 arg9 arg10 arg11 arg12 X_arg1
    ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12) (fun _ => Any (F := F) c arg1 arg2 arg3 arg4 arg5 arg6 arg7 arg8 arg9 arg10 arg11 arg12 X_arg1) := by
  iintro ⟨H1, ⟨%f_arg2, H_arg2⟩, ⟨%f_arg3, H_arg3⟩, ⟨%f_arg4, H_arg4⟩, ⟨%f_arg5, H_arg5⟩, ⟨%f_arg6, H_arg6⟩, ⟨%f_arg7, H_arg7⟩, ⟨%f_arg8, H_arg8⟩, ⟨%f_arg9, H_arg9⟩, ⟨%f_arg10, H_arg10⟩, ⟨%f_arg11, H_arg11⟩, ⟨%f_arg12, H_arg12⟩⟩
  by_cases hc : k0_cond1 i = 1#1
  · iapply (wp_wand_r Idealize.ShloMosaic.frame (wpE (defs₀ (F := F)) 𝒱 (c : Thread nD τ) bd) E)
    isplitl [H1 H_arg2 H_arg3 H_arg4 H_arg5 H_arg6 H_arg7 H_arg8 H_arg9 H_arg10 H_arg11 H_arg12]
    · iapply (stepFlush (F := F) 𝒱 c bd i arg1 harg1 arg2 harg2 arg3 harg3 arg4 harg4 arg5 harg5 arg6 harg6 arg7 harg7 arg8 harg8 arg9 harg9 arg10 harg10 arg11 harg11 arg12 harg12 X_arg1 hL f_arg2 f_arg3 f_arg4 f_arg5 hc).2.2.2.2.2.2.2 E f_arg6 f_arg7 f_arg8 f_arg9 f_arg10 f_arg11 f_arg12
      isplitl [H1]; · iexact H1
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexact H_arg7
      isplitl [H_arg8]; · iexact H_arg8
      isplitl [H_arg9]; · iexact H_arg9
      isplitl [H_arg10]; · iexact H_arg10
      isplitl [H_arg11]; · iexact H_arg11
      iexact H_arg12
    · iintro %_ ⟨H1, H_arg2, H_arg3, H_arg4, H_arg5, H_arg6, H_arg7, H_arg8, H_arg9, H_arg10, H_arg11, H_arg12⟩
      isplitl [H1]; · iexact H1
      isplitl [H_arg2]; · iexists _; iexact H_arg2
      isplitl [H_arg3]; · iexists _; iexact H_arg3
      isplitl [H_arg4]; · iexists _; iexact H_arg4
      isplitl [H_arg5]; · iexists _; iexact H_arg5
      isplitl [H_arg6]; · iexists _; iexact H_arg6
      isplitl [H_arg7]; · iexists _; iexact H_arg7
      isplitl [H_arg8]; · iexists _; iexact H_arg8
      isplitl [H_arg9]; · iexists _; iexact H_arg9
      isplitl [H_arg10]; · iexists _; iexact H_arg10
      isplitl [H_arg11]; · iexists _; iexact H_arg11
      iexists _; iexact H_arg12
  · iapply (wp_wand_r Idealize.ShloMosaic.frame (wpE (defs₀ (F := F)) 𝒱 (c : Thread nD τ) bd) E)
    isplitl [H1 H_arg2 H_arg3 H_arg4 H_arg5 H_arg6 H_arg7 H_arg8 H_arg9 H_arg10 H_arg11 H_arg12]
    · iapply (stepKeep (F := F) 𝒱 c bd i arg1 harg1 arg2 harg2 arg3 harg3 arg4 harg4 arg5 harg5 arg6 harg6 arg7 harg7 arg8 harg8 arg9 harg9 arg10 harg10 arg11 harg11 arg12 harg12 X_arg1 hL f_arg2 f_arg3 f_arg4 f_arg5 hc).2.2.2.2.2.2 E f_arg6 f_arg7 f_arg8 f_arg9 f_arg10 f_arg11 f_arg12
      isplitl [H1]; · iexact H1
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexact H_arg7
      isplitl [H_arg8]; · iexact H_arg8
      isplitl [H_arg9]; · iexact H_arg9
      isplitl [H_arg10]; · iexact H_arg10
      isplitl [H_arg11]; · iexact H_arg11
      iexact H_arg12
    · iintro %_ ⟨H1, H_arg2, H_arg3, H_arg4, H_arg5, H_arg6, H_arg7, H_arg8, H_arg9, H_arg10, H_arg11, H_arg12⟩
      isplitl [H1]; · iexact H1
      isplitl [H_arg2]; · iexists _; iexact H_arg2
      isplitl [H_arg3]; · iexists _; iexact H_arg3
      isplitl [H_arg4]; · iexists _; iexact H_arg4
      isplitl [H_arg5]; · iexists _; iexact H_arg5
      isplitl [H_arg6]; · iexists _; iexact H_arg6
      isplitl [H_arg7]; · iexists _; iexact H_arg7
      isplitl [H_arg8]; · iexists _; iexact H_arg8
      isplitl [H_arg9]; · iexists _; iexact H_arg9
      isplitl [H_arg10]; · iexists _; iexact H_arg10
      isplitl [H_arg11]; · iexists _; iexact H_arg11
      iexists _; iexact H_arg12

open Idealize.ShloMosaic.Pipeline (Dat RDat BodyObligationLoose)

variable (m : (ℓ : Loc nD τ sig) → Buf (Elt F) ℓ) (ρ : Dev nD → PrngReg)

/-- A document's length as a trip reads it is a word of the table. -/
theorem lenAt_mem (c : Dev nD) (i : grid0.Coords) (X : TbBuf0 (F := F) c tbM0_0) (k : Fin 16) : ∃ j, lenAt (F := F) c i tbM0_0 X k = X j := ⟨_, rfl⟩

/-- The pipeline's proof data, every window forgotten. -/
def datW (hO : Ok m) : (p : Fin 1) → (c : Dev nD) → Dat τ (Elt F) Unit ℕ (UR sig nD τ) ℕ ((Pipeline.pin pcfgs fun _ => adm m hO) p) c := fun _ c =>
  { A := fun w => V m c (Pipeline.arrRef spec0 w)
    after := fun w t => Dat.unnamed w t
    Φ := fun _ => iprop(Pipeline.ΦA spec0 c ∗ Pipeline.ΦT pre0 (tbl m) c)
    q := fun _ => fullShare
    owed := fun _ => 0 }

theorem datW_A (hO : Ok m) (c : Dev nD) (w) : (datW m hO 0 c).A w = V m c (Pipeline.arrRef spec0 w) := by dsimp only [datW]

theorem defs₀_row (a : (pcfg0 (F := F)).Adm) (t : Fin (cfg0 a).N) :
    defs₀ (F := F) .tc (cfg0 a).body ((cfg0 a).bodyArgs t ((cfg0 a).slots t)) = bodyAt0 a t := by
  unfold defs₀; rw [Defs.onTc_tc]

/-- A window's current staging buffer. -/
abbrev stg (hO : Ok m) (c : Dev nD) (w : Fin (cfgM m hO).W) (t : Fin (cfgM m hO).N) : sProp 𝕄 :=
  iprop(∃ X, owns (c : Thread nD τ) (((cfgM m hO).win w).stage ((cfgM m hO).slots t w)) fullShare X)

theorem obl_any (hO : Ok m) (hlen : ∀ j, ((tbl m 0 : S1536.Idx → BitVec 32) j).toInt ≤ 512) (c : Dev nD) (t : Fin (cfgM m hO).N) :
    iprop((datW m hO 0 c).Φ t.castSucc ∗ (datW m hO 0 c).owesAt () t.castSucc ∗ (stg m hO c 0 t ∗ stg m hO c 1 t ∗ stg m hO c 2 t ∗ stg m hO c 3 t ∗ stg m hO c 4 t ∗ stg m hO c 5 t))
    ⊢ wp frame (wpE (defs₀ (F := F)) Variants.none c none) Set.univ (bodyAt0 (adm m hO) t) (fun _ =>
      iprop((datW m hO 0 c).Φ t.succ ∗ (datW m hO 0 c).owesAt () t.succ ∗ (stg m hO c 0 t ∗ stg m hO c 1 t ∗ stg m hO c 2 t ∗ stg m hO c 3 t ∗ stg m hO c 4 t ∗ stg m hO c 5 t))) := by
  rw [show (datW m hO 0 c).Φ t.succ = iprop(Pipeline.ΦA spec0 c ∗ Pipeline.ΦT pre0 (tbl m) c) from rfl,
    show (datW m hO 0 c).Φ t.castSucc = iprop(Pipeline.ΦA spec0 c ∗ Pipeline.ΦT pre0 (tbl m) c) from rfl, PhiT0_eq]
  unfold Pipeline.ΦA
  rw [scopedRest0_eq]
  simp only [← owns_whole]
  unfold stg bodyAt0 Dat.owesAt Pipeline.owesWithin owns
  rw [show (datW m hO 0 c).owed t.castSucc = 0 from rfl, show (datW m hO 0 c).owed t.succ = 0 from rfl]
  iintro ⟨⟨⟨⟨⟨%d8, %f8, -, S8⟩, ⟨%d9, %f9, -, S9⟩, ⟨%d10, %f10, -, S10⟩, ⟨%d11, %f11, -, S11⟩, ⟨%d12, %f12, -, S12⟩⟩, Hg⟩, HT⟩, ⟨%W, %hW, HW⟩, ⟨%d2, %f2, -, S2⟩, ⟨%d3, %f3, -, S3⟩, ⟨%d4, %f4, -, S4⟩, ⟨%d5, %f5, -, S5⟩, ⟨%d6, %f6, -, S6⟩, ⟨%d7, %f7, -, S7⟩⟩
  iapply (wp_wand_r Idealize.ShloMosaic.frame (wpE (defs₀ (F := F)) Variants.none (c : Thread nD τ) none) Set.univ)
  isplitl [HT S2 S3 S4 S5 S6 S7 S8 S9 S10 S11 S12]
  · iapply (step_any (F := F) Variants.none c none (grid0.coords t) _ _ _ _ _ _ _ _ _ _ _ _ _ _ _ _ _ _ _ _ _ _ _ _ (tbl m 0) (fun k => by obtain ⟨j, hj⟩ := lenAt_mem (F := F) c (grid0.coords t) (tbl m 0) k; rw [hj]; exact hlen j) Set.univ)
    isplitl [HT]; · iexact HT
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    iexists _; iexact S12
  · iintro %_ ⟨HT, ⟨%g2, S2⟩, ⟨%g3, S3⟩, ⟨%g4, S4⟩, ⟨%g5, S5⟩, ⟨%g6, S6⟩, ⟨%g7, S7⟩, ⟨%g8, S8⟩, ⟨%g9, S9⟩, ⟨%g10, S10⟩, ⟨%g11, S11⟩, ⟨%g12, S12⟩⟩
    isplitl [HT Hg S8 S9 S10 S11 S12]
    · isplitl [Hg S8 S9 S10 S11 S12]
      · isplitl [S8 S9 S10 S11 S12]
        · isplitl [S8]
          · iexists _; iexists _; isplitr
            swap; · iexact S8
            ipureintro; rfl
          isplitl [S9]
          · iexists _; iexists _; isplitr
            swap; · iexact S9
            ipureintro; rfl
          isplitl [S10]
          · iexists _; iexists _; isplitr
            swap; · iexact S10
            ipureintro; rfl
          isplitl [S11]
          · iexists _; iexists _; isplitr
            swap; · iexact S11
            ipureintro; rfl
          iexists _; iexists _; isplitr
          swap; · iexact S12
          ipureintro; rfl
        iexact Hg
      iexact HT
    isplitl [HW]
    · iexists W; isplitr
      · ipureintro; exact fun _ _ => Or.inl trivial
      iexact HW
    isplitl [S2]
    · iexists _; iexists _; isplitr
      swap; · iexact S2
      ipureintro; rfl
    isplitl [S3]
    · iexists _; iexists _; isplitr
      swap; · iexact S3
      ipureintro; rfl
    isplitl [S4]
    · iexists _; iexists _; isplitr
      swap; · iexact S4
      ipureintro; rfl
    isplitl [S5]
    · iexists _; iexists _; isplitr
      swap; · iexact S5
      ipureintro; rfl
    isplitl [S6]
    · iexists _; iexists _; isplitr
      swap; · iexact S6
      ipureintro; rfl
    iexists _; iexists _; isplitr
    swap; · iexact S7
    ipureintro; rfl

theorem bodyW (hO : Ok m) (hlen : ∀ j, ((tbl m 0 : S1536.Idx → BitVec 32) j).toInt ≤ 512) (c : Dev nD) :
    BodyObligationLoose (datW m hO 0 c) (defs₀ (F := F)) Variants.none () Set.univ (fun _ => true) := fun t => by
  rw [bigSep_W0]
  exact triple_restated (obl_any m hO hlen c t) (congrArg (fun b => wp Idealize.ShloMosaic.frame (wpE (defs₀ (F := F)) Variants.none (c : Thread nD τ) none) Set.univ b) (defs₀_row (adm m hO) t).symm) .rfl fun _ => .rfl

/-- No host line follows the region. -/
theorem sfx_T : ∀ ops ∈ ([] : List (List (HloOp τ sig (Elt F)))), ∀ op ∈ ops, ∀ b : Ref sig .tc, Proc.devRef .tc b ∈ op.writes → b ∈ (∅ : Finset (Ref sig .tc)) :=
  fun _ h => absurd h List.not_mem_nil

set_option backward.isDefEq.respectTransparency.types false in
/-- The program runs from a table of lengths within the window and leaves its arguments. -/
theorem quiescent_of (hO : Ok m) (hlen : ∀ j, ((tbl m 0 : S1536.Idx → BitVec 32) j).toInt ≤ 512) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frameP_around_T_forget pcfgs (fun _ => adm m hO) (datW m hO) 0 launch0 defs₀ Variants.none (fun _ => true) ∅ m ρ main
    (fun c => bodyW m hO hlen c) (fun c => (datW m hO 0 c).share_full fun _ => rfl) (fun _ _ => rfl) (V0 m) []
    sfx_sub sfx_fresh sfx_keeps sfx_T (hmain m Variants.none) (datW_A m hO) (V_pre m) (fun _ _ => rfl) _
    (fun r h => ⟨fun c => ⟨((h.1 c).2 main_arg0 (by decide : main_arg0 ∈ Pipeline.restRefs sig spec0 \ ∅)).trans (V_main_arg0 m c),
      (by have := (h.1 c).1 1; rw [RDat.ArrAt_in _ 1 rfl] at this; exact this.trans (V_main_arg1 m c)),
      ((h.1 c).2 main_arg2 (by decide : main_arg2 ∈ Pipeline.restRefs sig spec0 \ ∅)).trans (V_main_arg2 m c),
      ((h.1 c).2 main_arg3 (by decide : main_arg3 ∈ Pipeline.restRefs sig spec0 \ ∅)).trans (V_main_arg3 m c),
      ((h.1 c).2 main_arg4 (by decide : main_arg4 ∈ Pipeline.restRefs sig spec0 \ ∅)).trans (V_main_arg4 m c)⟩, h.2⟩)

/-- The table of lengths the region reads: the documents' lengths scattered into zeros. -/
theorem tbl_eq : tbl m 0 = Host.scatter scatter_S1536_S1_S1500_0_n_0_0 (fun _ b => b) (broadcastInDim S1536 ![] bcast_S_S1536 (constantI S_ 32 0#32))
    (broadcastInDim S1 ![] bcast_S_S1 (constantI S_ 32 0#32)) (m (((0 : Dev nD) : Thread nD τ).loc main_arg2)) := by
  show StableHlo.after hostOps0 _ (Proc.devRef .tc main_v8) = _
  unfold hostOps0
  after_results_simp

/-- Every word of the table is within the window when every document's length is. -/
theorem tbl_le (h : ∀ d, ((m (((0 : Dev nD) : Thread nD τ).loc main_arg2) : S1500.Idx → BitVec 32) d).toInt ≤ 512) (j : S1536.Idx) :
    ((tbl m 0 : S1536.Idx → BitVec 32) j).toInt ≤ 512 := by
  rw [tbl_eq]
  exact Routing.scatter_forall _ _ (fun w : BitVec 32 => w.toInt ≤ 512) (fun _ _ _ h => h) _ _ _ (fun _ => by show (0#32).toInt ≤ 512; decide) h j

end Cert.Kernel.Hand

end
-- ==== Proof.KernelIdealTrip.lean ====
/- One trip of the loop over a document's tiles of `KernelIdeal`: what it writes, found by running it once at a symbolic trip. -/
module

public import proofs.«01_k».proof.Proof.Gen.KernelIdeal.Loops
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline library's. -/
local notation "𝕄" => MT nD τ sig Unit (Elt F) ℕ (UR sig nD τ) ℕ

/-! ## The rows of the counts scratch, in closed form -/

theorem k0_off11_eq : ∀ (i : grid0.Coords) (k0_t1 : Fin k0_t1_loop.trips), k0_off11 i k0_t1 = ![16 * ((i 0).val % 8) + k0_t1.val, 0] := by decide +kernel
instance (i : grid0.Coords) (k0_t1 : Fin k0_t1_loop.trips) : ClosedOff (k0_off11 i k0_t1) := ⟨_, k0_off11_eq i k0_t1⟩
theorem k0_off18_eq : ∀ (i : grid0.Coords) (k0_t1 : Fin k0_t1_loop.trips), k0_off18 i k0_t1 = ![16 * ((i 0).val % 8) + k0_t1.val, 256] := by decide +kernel
instance (i : grid0.Coords) (k0_t1 : Fin k0_t1_loop.trips) : ClosedOff (k0_off18 i k0_t1) := ⟨_, k0_off18_eq i k0_t1⟩
theorem k0_off25_eq : ∀ (i : grid0.Coords) (k0_t1 : Fin k0_t1_loop.trips), k0_off25 i k0_t1 = ![16 * ((i 0).val % 8) + k0_t1.val, 512] := by decide +kernel
instance (i : grid0.Coords) (k0_t1 : Fin k0_t1_loop.trips) : ClosedOff (k0_off25 i k0_t1) := ⟨_, k0_off25_eq i k0_t1⟩
theorem k0_off32_eq : ∀ (i : grid0.Coords) (k0_t1 : Fin k0_t1_loop.trips), k0_off32 i k0_t1 = ![16 * ((i 0).val % 8) + k0_t1.val, 768] := by decide +kernel
instance (i : grid0.Coords) (k0_t1 : Fin k0_t1_loop.trips) : ClosedOff (k0_off32 i k0_t1) := ⟨_, k0_off32_eq i k0_t1⟩
theorem k0_off39_eq : ∀ (i : grid0.Coords) (k0_t1 : Fin k0_t1_loop.trips), k0_off39 i k0_t1 = ![16 * ((i 0).val % 8) + k0_t1.val, 1024] := by decide +kernel
instance (i : grid0.Coords) (k0_t1 : Fin k0_t1_loop.trips) : ClosedOff (k0_off39 i k0_t1) := ⟨_, k0_off39_eq i k0_t1⟩
theorem k0_off48_eq : ∀ (i : grid0.Coords) (k0_t1 : Fin k0_t1_loop.trips), k0_off48 i k0_t1 = ![16 * ((i 0).val % 8) + k0_t1.val, 0] := by decide +kernel
instance (i : grid0.Coords) (k0_t1 : Fin k0_t1_loop.trips) : ClosedOff (k0_off48 i k0_t1) := ⟨_, k0_off48_eq i k0_t1⟩
theorem k0_off55_eq : ∀ (i : grid0.Coords) (k0_t1 : Fin k0_t1_loop.trips), k0_off55 i k0_t1 = ![16 * ((i 0).val % 8) + k0_t1.val, 256] := by decide +kernel
instance (i : grid0.Coords) (k0_t1 : Fin k0_t1_loop.trips) : ClosedOff (k0_off55 i k0_t1) := ⟨_, k0_off55_eq i k0_t1⟩
theorem k0_off62_eq : ∀ (i : grid0.Coords) (k0_t1 : Fin k0_t1_loop.trips), k0_off62 i k0_t1 = ![16 * ((i 0).val % 8) + k0_t1.val, 512] := by decide +kernel
instance (i : grid0.Coords) (k0_t1 : Fin k0_t1_loop.trips) : ClosedOff (k0_off62 i k0_t1) := ⟨_, k0_off62_eq i k0_t1⟩
theorem k0_off69_eq : ∀ (i : grid0.Coords) (k0_t1 : Fin k0_t1_loop.trips), k0_off69 i k0_t1 = ![16 * ((i 0).val % 8) + k0_t1.val, 768] := by decide +kernel
instance (i : grid0.Coords) (k0_t1 : Fin k0_t1_loop.trips) : ClosedOff (k0_off69 i k0_t1) := ⟨_, k0_off69_eq i k0_t1⟩
theorem k0_off76_eq : ∀ (i : grid0.Coords) (k0_t1 : Fin k0_t1_loop.trips), k0_off76 i k0_t1 = ![16 * ((i 0).val % 8) + k0_t1.val, 1024] := by decide +kernel
instance (i : grid0.Coords) (k0_t1 : Fin k0_t1_loop.trips) : ClosedOff (k0_off76 i k0_t1) := ⟨_, k0_off76_eq i k0_t1⟩

/-- One trip's resources: the point's projections, the words, the bytes and the factors it reads, the two scratch
    buffers it adds to. -/
abbrev Trip2 (c : Dev nD) (arg2 : Memref sig .tc .vmem S16x96x512 .fp8e4m3) (arg5 : Memref sig .tc .vmem S320x96 .fp8e4m3) (arg8 : Memref sig .tc .vmem S2x20x16x256 .i32) (arg9 : Memref sig .tc .vmem S2x20x16x256 .i32) (arg10 : Memref sig .tc .vmem S2x16x256 .f32) (arg11 : Memref sig .tc .vmem S16x10x16x128 .f32) (arg12 : Memref sig .tc .vmem S128x1280 .f32) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (f_arg11 : BufTy.Contents (Elt F) arg11.view.ty) (f_arg12 : BufTy.Contents (Elt F) arg12.view.ty) : sProp 𝕄 :=
  iprop((arg2.view.loc (c : Thread nD τ) ↦[arg2.view.set]{fullShare} X_arg2) ∗ (arg5.view.loc (c : Thread nD τ) ↦[arg5.view.set]{fullShare} X_arg5) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} f_arg11) ∗ (arg12.view.loc (c : Thread nD τ) ↦[arg12.view.set]{fullShare} f_arg12))

/-- One trip of `k0_t2_loop` at a symbolic `k`: the pieces written to the two scratch buffers, as functions of what
    they held. -/
@[irreducible] def trip2 (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (k0_t1 : Fin k0_t1_loop.trips) (arg13 : BitVec 32) (v1320 : Elt F .i32) (k0_hw1 : k0_chk1 k0_t1 v1320) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (k : Fin (k0_t2_loop v1320).trips) :
    Σ' (L11 : BufTy.Contents (Elt F) arg11.view.ty → BufTy.Contents (Elt F) arg12.view.ty → List (View.Piece (Elt F) S16x10x16x128 .f32)),
    { L12 : BufTy.Contents (Elt F) arg11.view.ty → BufTy.Contents (Elt F) arg12.view.ty → List (View.Piece (Elt F) S128x1280 .f32) // ∀ (E : Set ℕ) (acc : BitVec 32) (f_arg11 : BufTy.Contents (Elt F) arg11.view.ty) (f_arg12 : BufTy.Contents (Elt F) arg12.view.ty),
      Trip2 (F := F) c arg2 arg5 arg8 arg9 arg10 arg11 arg12 X_arg2 X_arg5 X_arg8 X_arg9 X_arg10 f_arg11 f_arg12
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 k acc)
          (fun _ => Trip2 (F := F) c arg2 arg5 arg8 arg9 arg10 arg11 arg12 X_arg2 X_arg5 X_arg8 X_arg9 X_arg10 (arg11.view.writes (Elt F) f_arg11 (L11 f_arg11 f_arg12)) (arg12.view.writes (Elt F) f_arg12 (L12 f_arg11 f_arg12))) } := by
  have hk : k0_t1.val < 16 := Nat.lt_of_lt_of_le k0_t1.isLt k0_t1_abs.2.1
  have hi : (i 0).val < 94 := (i 0).isLt
  refine ⟨?_, ?_, fun E acc f_arg11 f_arg12 => ?run⟩
  case run =>
    unfold k0_t2_body
    iintro ⟨H2, H5, H8, H9, H10, H11, H12⟩
    sl_exec_parts
    sl_step
    sl_close

end Cert.KernelIdeal.Hand

end
-- ==== Proof.KernelIdealArith.lean ====
/- The doc loop's word-bounded loop: a document of length at most 512 takes one or two tiles, the remainder loop after it
   makes no trip, and every access of a trip is in bounds. -/
module

public import proofs.«01_k».proof.Proof.Gen.KernelIdeal
public import Idealize.ShloMosaic.Lib.Affine

@[expose] public section

set_option maxRecDepth 16384

noncomputable section

namespace Cert.KernelIdeal.Hand

open Idealize.ShloMosaic Idealize.ShloMosaic.TcCoe
open Cert.KernelIdeal

/-- The number of tiles a document of length word `v` takes, for lengths up to 512. -/
def tiles (v : BitVec 32) : Nat := if v.toInt ≤ 256 then 1 else 2

theorem tiles_pos (v : BitVec 32) : 1 ≤ tiles v := by unfold tiles; split <;> omega
theorem tiles_le (v : BitVec 32) : tiles v ≤ 2 := by unfold tiles; split <;> omega

/-- Signed division by 256, whatever the sign. -/
theorem divsi_256 (a : BitVec 32) : (Scalar.divsi a 256#32).toInt = a.toInt.tdiv 256 := by
  have h : ¬ IntOp.SDivCorner a 256#32 := by
    rintro (h | ⟨-, h⟩)
    · exact absurd h (by decide)
    · exact absurd h (by decide)
  rw [Scalar.divsi, IntOp.divsi, if_neg h, BitVec.toInt_sdiv_of_ne_or_ne _ _ (.inr (by decide))]
  rfl

theorem td_nonneg {x : Int} (h : 0 ≤ x) : x.tdiv 256 = x / 256 := Int.tdiv_eq_ediv_of_nonneg h
theorem td_neg {x : Int} (h : x ≤ 0) : x.tdiv 256 = -(-x / 256) := by
  rw [← Int.tdiv_eq_ediv_of_nonneg (by omega : 0 ≤ -x), Int.neg_tdiv, Int.neg_neg]

/-- The rounded-up quotient the kernel computes, clamped from below by one. -/
def tilesWord (v1320 : BitVec 32) : BitVec 32 :=
  let v1322 : BitVec 32 := Scalar.subi (Scalar.addi v1320 256#32) 1#32
  let v1328 : BitVec 32 := Scalar.subi (Scalar.extui (Scalar.cmpi .sgt v1322 0#32)) (Scalar.extui (Scalar.cmpi .slt v1322 0#32))
  let v1333 : BitVec 32 := Scalar.subi (Scalar.extui (Scalar.cmpi .sgt 256#32 0#32)) (Scalar.extui (Scalar.cmpi .slt 256#32 0#32))
  let v1337 : BitVec 1 := Scalar.andi (Scalar.cmpi .ne v1328 v1333) (Scalar.cmpi .ne (Scalar.remsi v1322 256#32) 0#32)
  let v1323 : BitVec 32 := Scalar.divsi v1322 256#32
  Scalar.maxsi (Scalar.select v1337 (Scalar.subi v1323 1#32) v1323) 1#32

theorem toInt_maxsi_one (x : BitVec 32) : (Scalar.maxsi x 1#32).toInt = max x.toInt 1 := by
  have h1 : (1#32 : BitVec 32).toInt = 1 := by decide
  rw [Scalar.maxsi, IntOp.maxsi]
  by_cases hs : (1#32 : BitVec 32).slt x
  · rw [if_pos hs]; rw [BitVec.slt_iff_toInt_lt] at hs; omega
  · rw [if_neg hs]; rw [BitVec.slt_iff_toInt_lt] at hs; omega

theorem toInt_sub_small (x y : BitVec 32) (h₁ : -2 ^ 31 ≤ x.toInt - y.toInt) (h₂ : x.toInt - y.toInt < 2 ^ 31) :
    (Scalar.subi x y).toInt = x.toInt - y.toInt := by
  rw [Scalar.subi, IntOp.subi, BitVec.toInt_sub]
  exact Int.bmod_eq_of_le (by omega) (by omega)

theorem toInt_add_small (x y : BitVec 32) (h₁ : -2 ^ 31 ≤ x.toInt + y.toInt) (h₂ : x.toInt + y.toInt < 2 ^ 31) :
    (Scalar.addi x y).toInt = x.toInt + y.toInt := by
  rw [Scalar.addi, IntOp.addi, BitVec.toInt_add]
  exact Int.bmod_eq_of_le (by omega) (by omega)

theorem tilesWord_toInt (v : BitVec 32) (h : v.toInt ≤ 512) : (tilesWord v).toInt = tiles v := by
  have h256 : (256#32 : BitVec 32).toInt = 256 := by decide
  have h1 : (1#32 : BitVec 32).toInt = 1 := by decide
  have h0 : (0#32 : BitVec 32).toInt = 0 := by decide
  have hlo : -2 ^ 31 ≤ v.toInt := by have := BitVec.le_toInt v; simpa using this
  have ha := toInt_add_small v 256#32 (by omega) (by omega)
  have hb := toInt_sub_small (Scalar.addi v 256#32) 1#32 (by omega) (by omega)
  have hd := divsi_256 (Scalar.subi (Scalar.addi v 256#32) 1#32)
  have hq : -2 ^ 24 ≤ (v.toInt + 256 - 1).tdiv 256 ∧ (v.toInt + 256 - 1).tdiv 256 ≤ 2 ∧ (0 < v.toInt + 255 → (v.toInt + 256 - 1).tdiv 256 = (v.toInt + 255) / 256) ∧ (v.toInt + 255 ≤ 0 → (v.toInt + 256 - 1).tdiv 256 ≤ 0) := by
    rcases Int.le_total 0 (v.toInt + 256 - 1) with hp | hp
    · rw [td_nonneg hp]; omega
    · rw [td_neg hp]; omega
  obtain ⟨q1, q2, q3, q4⟩ := hq
  have hs := toInt_sub_small (Scalar.divsi (Scalar.subi (Scalar.addi v 256#32) 1#32) 256#32) 1#32
    (by rw [hd, hb, ha, h256, h1]; omega) (by rw [hd, hb, ha, h256, h1]; omega)
  unfold tilesWord
  dsimp only
  rw [toInt_maxsi_one]
  unfold tiles
  by_cases hpos : 0 < v.toInt + 255
  · have hslt : Scalar.cmpi .sgt (Scalar.subi (Scalar.addi v 256#32) 1#32) 0#32 = 1#1 := by
      rw [Scalar.cmpi, IntOp.cmpi]
      have : (0#32 : BitVec 32).slt (Scalar.subi (Scalar.addi v 256#32) 1#32) = true := by
        rw [BitVec.slt_iff_toInt_lt]; omega
      simp [this]
    have hsgt : Scalar.cmpi .slt (Scalar.subi (Scalar.addi v 256#32) 1#32) 0#32 = 0#1 := by
      rw [Scalar.cmpi, IntOp.cmpi]
      have : (Scalar.subi (Scalar.addi v 256#32) 1#32).slt 0#32 = false := by
        rw [← Bool.not_eq_true, BitVec.slt_iff_toInt_lt]; omega
      simp [this]
    rw [hslt, hsgt]
    have hne : Scalar.cmpi .ne (Scalar.subi (Scalar.extui 1#1 : BitVec 32) (Scalar.extui 0#1)) (Scalar.subi (Scalar.extui (Scalar.cmpi .sgt 256#32 0#32)) (Scalar.extui (Scalar.cmpi .slt 256#32 0#32))) = 0#1 := by decide
    rw [hne]
    have hand : ∀ x : BitVec 1, Scalar.andi 0#1 x = 0#1 := by decide
    rw [hand]
    rw [show ∀ a b : BitVec 32, Scalar.select 0#1 a b = b from fun a b => rfl]
    rw [hd, hb, ha, h256, h1]
    split <;> omega
  · have hle : (Scalar.divsi (Scalar.subi (Scalar.addi v 256#32) 1#32) 256#32).toInt ≤ 0 := by
      rw [hd, hb, ha, h256, h1]; omega
    have key : ∀ c : BitVec 1, (Scalar.select c (Scalar.subi (Scalar.divsi (Scalar.subi (Scalar.addi v 256#32) 1#32) 256#32) 1#32) (Scalar.divsi (Scalar.subi (Scalar.addi v 256#32) 1#32) 256#32)).toInt ≤ 1 := by
      intro c
      unfold Scalar.select
      split <;> omega
    rw [if_pos (by omega)]
    have := key (Scalar.andi (Scalar.cmpi .ne (Scalar.subi (Scalar.extui (Scalar.cmpi .sgt (Scalar.subi (Scalar.addi v 256#32) 1#32) 0#32)) (Scalar.extui (Scalar.cmpi .slt (Scalar.subi (Scalar.addi v 256#32) 1#32) 0#32))) (Scalar.subi (Scalar.extui (Scalar.cmpi .sgt 256#32 0#32)) (Scalar.extui (Scalar.cmpi .slt 256#32 0#32)))) (Scalar.cmpi .ne (Scalar.remsi (Scalar.subi (Scalar.addi v 256#32) 1#32) 256#32) 0#32))
    omega

/-- The tile count as the loop bound the kernel reads it into. -/
theorem bound_eq (x : BitVec 32) : Scalar.addi 0#32 (Scalar.muli (Scalar.divsi (Scalar.subi x 0#32) 1#32) 1#32) = x := by
  have hz : Scalar.subi x 0#32 = x := by simp [Scalar.subi, IntOp.subi]
  have hd : Scalar.divsi x 1#32 = x := by
    have h : ¬ IntOp.SDivCorner x 1#32 := by
      rintro (h | ⟨-, h⟩)
      · exact absurd h (by decide)
      · exact absurd h (by decide)
    rw [Scalar.divsi, IntOp.divsi, if_neg h]
    apply BitVec.eq_of_toInt_eq
    rw [BitVec.toInt_sdiv_of_ne_or_ne _ _ (.inr (by decide))]
    rw [show (1#32 : BitVec 32).toInt = 1 from by decide, Int.tdiv_one]
  rw [hz, hd]
  simp [Scalar.addi, IntOp.addi, Scalar.muli, IntOp.muli]

theorem rest_eq (x : BitVec 32) : Scalar.addi 0#32 (Scalar.subi x 0#32) = x := by
  simp [Scalar.addi, IntOp.addi, Scalar.subi, IntOp.subi]

theorem t2_loop_eq (v : BitVec 32) : k0_t2_loop v = ⟨0#32, tilesWord v, 1#32⟩ := by
  show (⟨0#32, Scalar.addi 0#32 (Scalar.muli (Scalar.divsi (Scalar.subi (tilesWord v) 0#32) 1#32) 1#32), 1#32⟩ : Scf.Loop 32) = _
  rw [bound_eq]

theorem t3_loop_eq (v : BitVec 32) : k0_t3_loop v = ⟨tilesWord v, tilesWord v, 1#32⟩ := by
  show (⟨Scalar.addi 0#32 (Scalar.muli (Scalar.divsi (Scalar.subi (tilesWord v) 0#32) 1#32) 1#32), Scalar.addi 0#32 (Scalar.subi (tilesWord v) 0#32), 1#32⟩ : Scf.Loop 32) = _
  rw [bound_eq, rest_eq]

theorem t2_trips (v : BitVec 32) (h : v.toInt ≤ 512) : (k0_t2_loop v).trips = tiles v := by
  rw [t2_loop_eq]
  show Scf.trips _ _ _ = _
  rw [Scf.trips, tilesWord_toInt v h, show (0#32 : BitVec 32).toInt = 0 from by decide, show (1#32 : BitVec 32).toInt = 1 from by decide]
  omega

theorem t2_ok (v : BitVec 32) (h : v.toInt ≤ 512) : (k0_t2_loop v).OK := by
  have := t2_trips v h
  have hl := tiles_le v
  rw [t2_loop_eq] at this ⊢
  refine ⟨show 0 < (1#32 : BitVec 32).toInt by decide, ?_⟩
  change Scf.trips _ _ _ = _ at this
  rw [this, show (0#32 : BitVec 32).toInt = 0 from by decide, show (1#32 : BitVec 32).toInt = 1 from by decide]
  show (_ : Int) < 2 ^ (32 - 1)
  omega

theorem t3_trips (v : BitVec 32) (h : v.toInt ≤ 512) : (k0_t3_loop v).trips = 0 := by
  rw [t3_loop_eq]
  show Scf.trips _ _ _ = _
  show (((tilesWord v).toInt - (tilesWord v).toInt + (1#32 : BitVec 32).toInt - 1) / (1#32 : BitVec 32).toInt).toNat = 0
  rw [show (1#32 : BitVec 32).toInt = 1 from by decide]
  omega

theorem t3_trips' (v : BitVec 32) : (k0_t3_loop v).trips = 0 := by
  rw [t3_loop_eq]
  show (((tilesWord v).toInt - (tilesWord v).toInt + (1#32 : BitVec 32).toInt - 1) / (1#32 : BitVec 32).toInt).toNat = 0
  rw [show (1#32 : BitVec 32).toInt = 1 from by decide]
  omega

theorem t3_ok (v : BitVec 32) (h : v.toInt ≤ 512) : (k0_t3_loop v).OK := by
  have := t3_trips v h
  have hl := tiles_le v
  rw [t3_loop_eq] at this ⊢
  refine ⟨show 0 < (1#32 : BitVec 32).toInt by decide, ?_⟩
  change Scf.trips _ _ _ = _ at this
  rw [this, tilesWord_toInt v h]
  show (_ : Int) < 2 ^ (32 - 1)
  omega

theorem k0_mult1_in (t1 : Fin k0_t1_loop.trips) (v : BitVec 32) (k : Fin (k0_t2_loop v).trips) (hk : k.val < 2) :
    256 ∣ (k0_mult1 v k).toNat := by
  unfold k0_mult1
  generalize k.val = n at hk ⊢
  clear k t1 v
  revert n
  decide +kernel
theorem k0_off3_in (t1 : Fin k0_t1_loop.trips) (v : BitVec 32) (k : Fin (k0_t2_loop v).trips) (hk : k.val < 2) :
    ∀ a, k0_off3 t1 v k a + S1x96x256.size a ≤ S16x96x512.size a := by
  unfold k0_off3
  generalize k.val = n at hk ⊢
  clear k v
  revert n t1
  decide +kernel
theorem k0_off4_in (t1 : Fin k0_t1_loop.trips) (v : BitVec 32) (k : Fin (k0_t2_loop v).trips) (hk : k.val < 2) :
    ∀ a, k0_off4 t1 v k a + S1x1x256.size a ≤ S2x16x256.size a := by
  unfold k0_off4
  generalize k.val = n at hk ⊢
  clear k v
  revert n t1
  decide +kernel
theorem k0_off5_in (t1 : Fin k0_t1_loop.trips) (v : BitVec 32) (k : Fin (k0_t2_loop v).trips) (hk : k.val < 2) :
    ∀ a, k0_off5 t1 v k a + S1x1x1x256.size a ≤ S2x20x16x256.size a := by
  unfold k0_off5
  generalize k.val = n at hk ⊢
  clear k v
  revert n t1
  decide +kernel
theorem k0_off6_in (t1 : Fin k0_t1_loop.trips) (v : BitVec 32) (k : Fin (k0_t2_loop v).trips) (hk : k.val < 2) :
    ∀ a, k0_off6 t1 v k a + S1x1x1x256.size a ≤ S2x20x16x256.size a := by
  unfold k0_off6
  generalize k.val = n at hk ⊢
  clear k v
  revert n t1
  decide +kernel
theorem k0_off7_in (t1 : Fin k0_t1_loop.trips) (v : BitVec 32) (k : Fin (k0_t2_loop v).trips) (hk : k.val < 2) :
    ∀ a, k0_off7 t1 v k a + S1x1x1x256.size a ≤ S2x20x16x256.size a := by
  unfold k0_off7
  generalize k.val = n at hk ⊢
  clear k v
  revert n t1
  decide +kernel
theorem k0_off8_in (t1 : Fin k0_t1_loop.trips) (v : BitVec 32) (k : Fin (k0_t2_loop v).trips) (hk : k.val < 2) :
    ∀ a, k0_off8 t1 v k a + S1x1x1x256.size a ≤ S2x20x16x256.size a := by
  unfold k0_off8
  generalize k.val = n at hk ⊢
  clear k v
  revert n t1
  decide +kernel
theorem k0_off12_in (t1 : Fin k0_t1_loop.trips) (v : BitVec 32) (k : Fin (k0_t2_loop v).trips) (hk : k.val < 2) :
    ∀ a, k0_off12 t1 v k a + S1x1x1x256.size a ≤ S2x20x16x256.size a := by
  unfold k0_off12
  generalize k.val = n at hk ⊢
  clear k v
  revert n t1
  decide +kernel
theorem k0_off13_in (t1 : Fin k0_t1_loop.trips) (v : BitVec 32) (k : Fin (k0_t2_loop v).trips) (hk : k.val < 2) :
    ∀ a, k0_off13 t1 v k a + S1x1x1x256.size a ≤ S2x20x16x256.size a := by
  unfold k0_off13
  generalize k.val = n at hk ⊢
  clear k v
  revert n t1
  decide +kernel
theorem k0_off14_in (t1 : Fin k0_t1_loop.trips) (v : BitVec 32) (k : Fin (k0_t2_loop v).trips) (hk : k.val < 2) :
    ∀ a, k0_off14 t1 v k a + S1x1x1x256.size a ≤ S2x20x16x256.size a := by
  unfold k0_off14
  generalize k.val = n at hk ⊢
  clear k v
  revert n t1
  decide +kernel
theorem k0_off15_in (t1 : Fin k0_t1_loop.trips) (v : BitVec 32) (k : Fin (k0_t2_loop v).trips) (hk : k.val < 2) :
    ∀ a, k0_off15 t1 v k a + S1x1x1x256.size a ≤ S2x20x16x256.size a := by
  unfold k0_off15
  generalize k.val = n at hk ⊢
  clear k v
  revert n t1
  decide +kernel
theorem k0_off19_in (t1 : Fin k0_t1_loop.trips) (v : BitVec 32) (k : Fin (k0_t2_loop v).trips) (hk : k.val < 2) :
    ∀ a, k0_off19 t1 v k a + S1x1x1x256.size a ≤ S2x20x16x256.size a := by
  unfold k0_off19
  generalize k.val = n at hk ⊢
  clear k v
  revert n t1
  decide +kernel
theorem k0_off20_in (t1 : Fin k0_t1_loop.trips) (v : BitVec 32) (k : Fin (k0_t2_loop v).trips) (hk : k.val < 2) :
    ∀ a, k0_off20 t1 v k a + S1x1x1x256.size a ≤ S2x20x16x256.size a := by
  unfold k0_off20
  generalize k.val = n at hk ⊢
  clear k v
  revert n t1
  decide +kernel
theorem k0_off21_in (t1 : Fin k0_t1_loop.trips) (v : BitVec 32) (k : Fin (k0_t2_loop v).trips) (hk : k.val < 2) :
    ∀ a, k0_off21 t1 v k a + S1x1x1x256.size a ≤ S2x20x16x256.size a := by
  unfold k0_off21
  generalize k.val = n at hk ⊢
  clear k v
  revert n t1
  decide +kernel
theorem k0_off22_in (t1 : Fin k0_t1_loop.trips) (v : BitVec 32) (k : Fin (k0_t2_loop v).trips) (hk : k.val < 2) :
    ∀ a, k0_off22 t1 v k a + S1x1x1x256.size a ≤ S2x20x16x256.size a := by
  unfold k0_off22
  generalize k.val = n at hk ⊢
  clear k v
  revert n t1
  decide +kernel
theorem k0_off26_in (t1 : Fin k0_t1_loop.trips) (v : BitVec 32) (k : Fin (k0_t2_loop v).trips) (hk : k.val < 2) :
    ∀ a, k0_off26 t1 v k a + S1x1x1x256.size a ≤ S2x20x16x256.size a := by
  unfold k0_off26
  generalize k.val = n at hk ⊢
  clear k v
  revert n t1
  decide +kernel
theorem k0_off27_in (t1 : Fin k0_t1_loop.trips) (v : BitVec 32) (k : Fin (k0_t2_loop v).trips) (hk : k.val < 2) :
    ∀ a, k0_off27 t1 v k a + S1x1x1x256.size a ≤ S2x20x16x256.size a := by
  unfold k0_off27
  generalize k.val = n at hk ⊢
  clear k v
  revert n t1
  decide +kernel
theorem k0_off28_in (t1 : Fin k0_t1_loop.trips) (v : BitVec 32) (k : Fin (k0_t2_loop v).trips) (hk : k.val < 2) :
    ∀ a, k0_off28 t1 v k a + S1x1x1x256.size a ≤ S2x20x16x256.size a := by
  unfold k0_off28
  generalize k.val = n at hk ⊢
  clear k v
  revert n t1
  decide +kernel
theorem k0_off29_in (t1 : Fin k0_t1_loop.trips) (v : BitVec 32) (k : Fin (k0_t2_loop v).trips) (hk : k.val < 2) :
    ∀ a, k0_off29 t1 v k a + S1x1x1x256.size a ≤ S2x20x16x256.size a := by
  unfold k0_off29
  generalize k.val = n at hk ⊢
  clear k v
  revert n t1
  decide +kernel
theorem k0_off33_in (t1 : Fin k0_t1_loop.trips) (v : BitVec 32) (k : Fin (k0_t2_loop v).trips) (hk : k.val < 2) :
    ∀ a, k0_off33 t1 v k a + S1x1x1x256.size a ≤ S2x20x16x256.size a := by
  unfold k0_off33
  generalize k.val = n at hk ⊢
  clear k v
  revert n t1
  decide +kernel
theorem k0_off34_in (t1 : Fin k0_t1_loop.trips) (v : BitVec 32) (k : Fin (k0_t2_loop v).trips) (hk : k.val < 2) :
    ∀ a, k0_off34 t1 v k a + S1x1x1x256.size a ≤ S2x20x16x256.size a := by
  unfold k0_off34
  generalize k.val = n at hk ⊢
  clear k v
  revert n t1
  decide +kernel
theorem k0_off35_in (t1 : Fin k0_t1_loop.trips) (v : BitVec 32) (k : Fin (k0_t2_loop v).trips) (hk : k.val < 2) :
    ∀ a, k0_off35 t1 v k a + S1x1x1x256.size a ≤ S2x20x16x256.size a := by
  unfold k0_off35
  generalize k.val = n at hk ⊢
  clear k v
  revert n t1
  decide +kernel
theorem k0_off36_in (t1 : Fin k0_t1_loop.trips) (v : BitVec 32) (k : Fin (k0_t2_loop v).trips) (hk : k.val < 2) :
    ∀ a, k0_off36 t1 v k a + S1x1x1x256.size a ≤ S2x20x16x256.size a := by
  unfold k0_off36
  generalize k.val = n at hk ⊢
  clear k v
  revert n t1
  decide +kernel

theorem no (v : BitVec 32) (h : v.toInt ≤ 512) (k : Fin (k0_t3_loop v).trips) : False := by
  have h1 := k.isLt
  have h2 := t3_trips v h
  generalize (k0_t3_loop v).trips = n at *
  omega

/-- Every access of a document's trips is in bounds. -/
theorem chk (t1 : Fin k0_t1_loop.trips) (v : BitVec 32) (h : v.toInt ≤ 512) : k0_chk1 t1 v := by
  have hk : ∀ k : Fin (k0_t2_loop v).trips, k.val < 2 := fun k => by
    have h1 := k.isLt
    have h2 := t2_trips v h
    have h3 := tiles_le v
    generalize (k0_t2_loop v).trips = n at *
    omega
  unfold k0_chk1 k0_chk1_0 k0_chk1_1
  refine ⟨⟨t2_ok v h, ?_, ?_, ?_, ?_, ?_, ?_, ?_, ?_, ?_, ?_, ?_, ?_, ?_, ?_, ?_, ?_, ?_, ?_, ?_, ?_, ?_, ?_, ?_, t3_ok v h, fun k => (no v h k).elim, fun k => (no v h k).elim, fun k => (no v h k).elim, fun k => (no v h k).elim, fun k => (no v h k).elim, fun k => (no v h k).elim, fun k => (no v h k).elim⟩, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim, fun k => (no v h k).elim⟩
  · exact fun k => k0_mult1_in t1 v k (hk k)
  · exact fun k => k0_off3_in t1 v k (hk k)
  · exact fun k => k0_off4_in t1 v k (hk k)
  · exact fun k => k0_off5_in t1 v k (hk k)
  · exact fun k => k0_off6_in t1 v k (hk k)
  · exact fun k => k0_off7_in t1 v k (hk k)
  · exact fun k => k0_off8_in t1 v k (hk k)
  · exact fun k => k0_off12_in t1 v k (hk k)
  · exact fun k => k0_off13_in t1 v k (hk k)
  · exact fun k => k0_off14_in t1 v k (hk k)
  · exact fun k => k0_off15_in t1 v k (hk k)
  · exact fun k => k0_off19_in t1 v k (hk k)
  · exact fun k => k0_off20_in t1 v k (hk k)
  · exact fun k => k0_off21_in t1 v k (hk k)
  · exact fun k => k0_off22_in t1 v k (hk k)
  · exact fun k => k0_off26_in t1 v k (hk k)
  · exact fun k => k0_off27_in t1 v k (hk k)
  · exact fun k => k0_off28_in t1 v k (hk k)
  · exact fun k => k0_off29_in t1 v k (hk k)
  · exact fun k => k0_off33_in t1 v k (hk k)
  · exact fun k => k0_off34_in t1 v k (hk k)
  · exact fun k => k0_off35_in t1 v k (hk k)
  · exact fun k => k0_off36_in t1 v k (hk k)
end Cert.KernelIdeal.Hand

end
-- ==== Proof.KernelIdealPoints.lean ====
/- The schedule of `KernelIdeal`'s windows on the grid: at which points each is fetched and written back. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (operand 4 (%5)) is fetched at the first point only, at any contents of the tables (its index map reads none). -/
theorem fetch0_3 (a : (pcfg0 (F := F)).Adm) : ∀ t : Fin (cfg0 a).N, ((cfg0 a).win 3).fetch t = true ↔ t.val % 94 = 0 :=
  (fun t => Pipeline.Window.fetchOf_const cc0_transform_3 (fun _ _ => rfl) (n := 94) (by decide) t : ∀ t : Fin grid0.N, Pipeline.Window.fetchOf grid0 false cc0_transform_3 t = true ↔ t.val % 94 = 0)
/-- Window 4 (result 0 (%9#0)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)
-- window 5 is written back at points [7, 15, 23, 31, 39, 47, 55, 63, 71, 79, 87, 93]: no closed form stated

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_v8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

end Cert.KernelIdeal.Gen

end
-- ==== Proof.KernelIdealFrame.lean ====
/- `KernelIdeal`'s main around its one region: the host lines before and after it, the arrays' contents there, each
   window's block at a point. -/
module

public import proofs.«01_k».proof.Proof.Gen.KernelIdeal.Launch
public import proofs.«01_k».proof.Proof.KernelIdealPoints
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain (([] : List (List (HloOp τ sig (Elt F)))).map StableHlo.seq)) :=
  Pipeline.hmainP_around pcfgs 0 defs₀ 𝒱₀ m main [hostOps0] [] (by simp only [List.Forall]; exact hostOps0_sub)
    (by simp only [List.Forall]; exact hostOps0_fresh) main_chain

/-- No host line follows the region: nothing is touched, -/
theorem sfx_sub : ∀ ops ∈ ([] : List (List (HloOp τ sig (Elt F)))), ∀ op ∈ ops, op.bufs ⊆ Pipeline.tailRefs sig pre0 spec0 :=
  fun _ h => absurd h List.not_mem_nil
/-- nothing allocated, -/
theorem sfx_fresh : ∀ ops ∈ ([] : List (List (HloOp τ sig (Elt F)))), ∀ op ∈ ops, op.fresh = ∅ := fun _ h => absurd h List.not_mem_nil
/-- and no array of the pipeline written. -/
theorem sfx_keeps : ∀ ops ∈ ([] : List (List (HloOp τ sig (Elt F)))), ∀ op ∈ ops, ∀ w, Proc.devRef .tc (Pipeline.arrRef spec0 w) ∉ op.writes :=
  fun _ h => absurd h List.not_mem_nil

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S1536 .i32 := Memref.whole main_v8
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Gen

end
-- ==== Proof.KernelIdealLoops.lean ====
/- The loops of `KernelIdeal` over a grid step's documents and over a document's tiles: the two scratch buffers they write, as
   functions of what the loops read and of what the buffers held. -/
module

public import proofs.«01_k».proof.Proof.KernelIdealTrip
public import proofs.«01_k».proof.Proof.KernelIdealArith
public import proofs.«01_k».proof.Proof.KernelIdealFrame

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline library's. -/
local notation "𝕄" => MT nD τ sig Unit (Elt F) ℕ (UR sig nD τ) ℕ

/-- The two scratch buffers before tile `k` of a document. -/
def st2 (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (k0_t1 : Fin k0_t1_loop.trips) (arg13 : BitVec 32) (v1320 : Elt F .i32) (k0_hw1 : k0_chk1 k0_t1 v1320) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (g : BufTy.Contents (Elt F) arg11.view.ty × BufTy.Contents (Elt F) arg12.view.ty) : ℕ → BufTy.Contents (Elt F) arg11.view.ty × BufTy.Contents (Elt F) arg12.view.ty
  | 0 => g
  | k + 1 =>
    if h : k < (k0_t2_loop v1320).trips then
      (arg11.view.writes (Elt F) (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k).1 ((trip2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 ⟨k, h⟩).1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k).1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k).2),
       arg12.view.writes (Elt F) (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k).2 ((trip2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 ⟨k, h⟩).2.1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k).1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k).2))
    else st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k

theorem st2_succ (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (k0_t1 : Fin k0_t1_loop.trips) (arg13 : BitVec 32) (v1320 : Elt F .i32) (k0_hw1 : k0_chk1 k0_t1 v1320) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (g : BufTy.Contents (Elt F) arg11.view.ty × BufTy.Contents (Elt F) arg12.view.ty) (k : Fin (k0_t2_loop v1320).trips) :
    st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g (k.val + 1)
    = (arg11.view.writes (Elt F) (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k.val).1 ((trip2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 k).1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k.val).1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k.val).2),
       arg12.view.writes (Elt F) (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k.val).2 ((trip2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 k).2.1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k.val).1 (st2 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 g k.val).2)) := by
  rw [st2.eq_2]; exact dif_pos k.isLt

set_option warn.classDefReducibility false in
/-- The loop over a document's tiles, by its invariant. -/
@[sl_loop] def loopInv_k0_t2 (𝒱 : Variants) (c : Dev nD) (bd : Option 𝒱.V) (E : Set ℕ) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (k0_t1 : Fin k0_t1_loop.trips) (arg13 : BitVec 32) (v1320 : Elt F .i32) (k0_hw1 : k0_chk1 k0_t1 v1320) (init : BitVec 32) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (G_arg11 : BufTy.Contents (Elt F) arg11.view.ty) (G_arg12 : BufTy.Contents (Elt F) arg12.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 init where
  inv := fun k _ => iprop((arg2.view.loc (c : Thread nD τ) ↦[arg2.view.set]{fullShare} X_arg2) ∗ (arg5.view.loc (c : Thread nD τ) ↦[arg5.view.set]{fullShare} X_arg5) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10)
    ∗ (∃ f, (arg11.view.loc (c : Thread nD τ) ↦[arg11.view.set]{fullShare} f) ∗ ⌜f = (st2 (F := F) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 (G_arg11, G_arg12) k).1⌝)
    ∗ (∃ f, (arg12.view.loc (c : Thread nD τ) ↦[arg12.view.set]{fullShare} f) ∗ ⌜f = (st2 (F := F) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 (G_arg11, G_arg12) k).2⌝))
  step k acc := by
    iintro ⟨H2, H5, H8, H9, H10, ⟨%f11, H11, %h11⟩, ⟨%f12, H12, %h12⟩⟩
    iapply (wp_wand_r Idealize.ShloMosaic.frame (wpE (defs₀ (F := F)) 𝒱 (c : Thread nD τ) bd) E)
    isplitl [H2 H5 H8 H9 H10 H11 H12]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 X_arg2 X_arg5 X_arg8 X_arg9 X_arg10 k).2.2 E acc f11 f12)
      isplitl [H2]; · iexact H2
      isplitl [H5]; · iexact H5
      isplitl [H8]; · iexact H8
      isplitl [H9]; · iexact H9
      isplitl [H10]; · iexact H10
      isplitl [H11]; · iexact H11
      iexact H12
    · iintro %_ ⟨H2, H5, H8, H9, H10, H11, H12⟩
      isplitl [H2]; · iexact H2
      isplitl [H5]; · iexact H5
      isplitl [H8]; · iexact H8
      isplitl [H9]; · iexact H9
      isplitl [H10]; · iexact H10
      rw [st2_succ]
      isplitl [H11]
      · iexists _; isplitl [H11]; · iexact H11
        ipureintro; rw [h11, h12]
      · iexists _; isplitl [H12]; · iexact H12
        ipureintro; rw [h11, h12]

theorem t3_none (v : BitVec 32) (k : Fin (k0_t3_loop v).trips) : False := by
  have h1 := k.isLt
  have h2 := t3_trips' v
  generalize (k0_t3_loop v).trips = n at *
  omega

set_option warn.classDefReducibility false in
/-- The remainder loop makes no trip. -/
@[sl_loop] def loopInv_k0_t3 (𝒱 : Variants) (c : Dev nD) (bd : Option 𝒱.V) (E : Set ℕ) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (k0_t1 : Fin k0_t1_loop.trips) (arg13 : BitVec 32) (v1320 : Elt F .i32) (k0_hw1 : k0_chk1 k0_t1 v1320) (v1345 : BitVec 32) (init : BitVec 32) (X_arg5 : BufTy.Contents (Elt F) arg5.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k0_t1 arg13 v1320 k0_hw1 v1345 init where
  inv := fun k _ => iprop((arg5.view.loc (c : Thread nD τ) ↦[arg5.view.set]{fullShare} X_arg5))
  step k acc := (t3_none _ k).elim

/-- One document's resources. -/
abbrev Trip1 (c : Dev nD) (arg1 : Memref sig .tc .smem S1536 .i32) (arg2 : Memref sig .tc .vmem S16x96x512 .fp8e4m3) (arg5 : Memref sig .tc .vmem S320x96 .fp8e4m3) (arg8 : Memref sig .tc .vmem S2x20x16x256 .i32) (arg9 : Memref sig .tc .vmem S2x20x16x256 .i32) (arg10 : Memref sig .tc .vmem S2x16x256 .f32) (arg11 : Memref sig .tc .vmem S16x10x16x128 .f32) (arg12 : Memref sig .tc .vmem S128x1280 .f32) (X_arg1 : TbBuf0 (F := F) c arg1) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (f_arg11 : BufTy.Contents (Elt F) arg11.view.ty) (f_arg12 : BufTy.Contents (Elt F) arg12.view.ty) : sProp 𝕄 :=
  iprop((tbPt0 (F := F) c arg1 X_arg1) ∗ (arg2.view.loc (c : Thread nD τ) ↦[arg2.view.set]{fullShare} X_arg2) ∗ (arg5.view.loc (c : Thread nD τ) ↦[arg5.view.set]{fullShare} X_arg5) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} f_arg11) ∗ (arg12.view.loc (c : Thread nD τ) ↦[arg12.view.set]{fullShare} f_arg12))

/-- The length word the loop over documents reads for document `k`. -/
abbrev lenAt (c : Dev nD) (i : grid0.Coords) (arg1 : Memref sig .tc .smem S1536 .i32) (X_arg1 : TbBuf0 (F := F) c arg1) (k : Fin k0_t1_loop.trips) : BitVec 32 :=
  arg1.view.readAt (Elt F) (Rect.unit (s := S1536) (k0_off2 i k) S1.size (k0_off2_inb i k)).toLoadRect X_arg1 (Shape.Idx.first (numel1_S1.symm ▸ Nat.one_pos))

/-- One trip of `k0_t1_loop` at a symbolic `k`: what the two scratch buffers hold after it. -/
@[irreducible] def trip1 (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (X_arg1 : TbBuf0 (F := F) c arg1) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (k : Fin k0_t1_loop.trips) (hk1 : k0_chk1 k (lenAt (F := F) c i arg1 X_arg1 k)) :
    Σ' (N11 : BufTy.Contents (Elt F) arg11.view.ty → BufTy.Contents (Elt F) arg12.view.ty → BufTy.Contents (Elt F) arg11.view.ty),
    { N12 : BufTy.Contents (Elt F) arg11.view.ty → BufTy.Contents (Elt F) arg12.view.ty → BufTy.Contents (Elt F) arg12.view.ty // ∀ (E : Set ℕ) (f_arg11 : BufTy.Contents (Elt F) arg11.view.ty) (f_arg12 : BufTy.Contents (Elt F) arg12.view.ty),
      Trip1 (F := F) c arg1 arg2 arg5 arg8 arg9 arg10 arg11 arg12 X_arg1 X_arg2 X_arg5 X_arg8 X_arg9 X_arg10 f_arg11 f_arg12
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 k ())
          (fun _ => Trip1 (F := F) c arg1 arg2 arg5 arg8 arg9 arg10 arg11 arg12 X_arg1 X_arg2 X_arg5 X_arg8 X_arg9 X_arg10 (N11 f_arg11 f_arg12) (N12 f_arg11 f_arg12)) } := by
  have hk : k.val < 16 := Nat.lt_of_lt_of_le k.isLt k0_t1_abs.2.1
  have hi : (i 0).val < 94 := (i 0).isLt
  refine ⟨?_, ?_, fun E f_arg11 f_arg12 => ?run⟩
  case run =>
    unfold k0_t1_body
    iintro ⟨H1, H2, H5, H8, H9, H10, H11, H12⟩
    sl_exec
    sl_step
    sl_close

/-- The two scratch buffers before document `k` of a grid step. -/
def st1 (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (X_arg1 : TbBuf0 (F := F) c arg1) (hL : ∀ k, (lenAt (F := F) c i arg1 X_arg1 k).toInt ≤ 512) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (g : BufTy.Contents (Elt F) arg11.view.ty × BufTy.Contents (Elt F) arg12.view.ty) : ℕ → BufTy.Contents (Elt F) arg11.view.ty × BufTy.Contents (Elt F) arg12.view.ty
  | 0 => g
  | k + 1 =>
    if h : k < k0_t1_loop.trips then
      ((trip1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 X_arg2 X_arg5 X_arg8 X_arg9 X_arg10 ⟨k, h⟩ (chk _ _ (hL _))).1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k).1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k).2,
       (trip1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 X_arg2 X_arg5 X_arg8 X_arg9 X_arg10 ⟨k, h⟩ (chk _ _ (hL _))).2.1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k).1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k).2)
    else st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k

theorem st1_succ (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (X_arg1 : TbBuf0 (F := F) c arg1) (hL : ∀ k, (lenAt (F := F) c i arg1 X_arg1 k).toInt ≤ 512) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (g : BufTy.Contents (Elt F) arg11.view.ty × BufTy.Contents (Elt F) arg12.view.ty) (k : Fin k0_t1_loop.trips) :
    st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g (k.val + 1)
    = ((trip1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 X_arg2 X_arg5 X_arg8 X_arg9 X_arg10 k (chk _ _ (hL _))).1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k.val).1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k.val).2,
       (trip1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 X_arg2 X_arg5 X_arg8 X_arg9 X_arg10 k (chk _ _ (hL _))).2.1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k.val).1 (st1 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 g k.val).2) := by
  rw [st1.eq_2]; exact dif_pos k.isLt

set_option warn.classDefReducibility false in
/-- The loop over a grid step's documents, by its invariant. -/
@[sl_loop] def loopInv_k0_t1 (𝒱 : Variants) (c : Dev nD) (bd : Option 𝒱.V) (E : Set ℕ) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (v1296 : IVec S8x256 32) (v1298 : IVec S16x128 32) (X_arg1 : TbBuf0 (F := F) c arg1) (hL : ∀ k, (lenAt (F := F) c i arg1 X_arg1 k).toInt ≤ 512) (X_arg2 : BufTy.Contents (Elt F) arg2.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (G_arg11 : BufTy.Contents (Elt F) arg11.view.ty) (G_arg12 : BufTy.Contents (Elt F) arg12.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 where
  inv := fun k _ => iprop((tbPt0 (F := F) c arg1 X_arg1) ∗ (arg2.view.loc (c : Thread nD τ) ↦[arg2.view.set]{fullShare} X_arg2) ∗ (arg5.view.loc (c : Thread nD τ) ↦[arg5.view.set]{fullShare} X_arg5) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10)
    ∗ (∃ f, (arg11.view.loc (c : Thread nD τ) ↦[arg11.view.set]{fullShare} f) ∗ ⌜f = (st1 (F := F) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 (G_arg11, G_arg12) k).1⌝)
    ∗ (∃ f, (arg12.view.loc (c : Thread nD τ) ↦[arg12.view.set]{fullShare} f) ∗ ⌜f = (st1 (F := F) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 hL X_arg2 X_arg5 X_arg8 X_arg9 X_arg10 (G_arg11, G_arg12) k).2⌝))
  step k acc := by
    iintro ⟨H1, H2, H5, H8, H9, H10, ⟨%f11, H11, %h11⟩, ⟨%f12, H12, %h12⟩⟩
    iapply (wp_wand_r Idealize.ShloMosaic.frame (wpE (defs₀ (F := F)) 𝒱 (c : Thread nD τ) bd) E)
    isplitl [H1 H2 H5 H8 H9 H10 H11 H12]
    · iapply ((trip1 (F := F) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 v1296 v1298 X_arg1 X_arg2 X_arg5 X_arg8 X_arg9 X_arg10 k (chk _ _ (hL _))).2.2 E f11 f12)
      isplitl [H1]; · iexact H1
      isplitl [H2]; · iexact H2
      isplitl [H5]; · iexact H5
      isplitl [H8]; · iexact H8
      isplitl [H9]; · iexact H9
      isplitl [H10]; · iexact H10
      isplitl [H11]; · iexact H11
      iexact H12
    · iintro %_ ⟨H1, H2, H5, H8, H9, H10, H11, H12⟩
      isplitl [H1]; · iexact H1
      isplitl [H2]; · iexact H2
      isplitl [H5]; · iexact H5
      isplitl [H8]; · iexact H8
      isplitl [H9]; · iexact H9
      isplitl [H10]; · iexact H10
      rw [st1_succ]
      isplitl [H11]
      · iexists _; isplitl [H11]; · iexact H11
        ipureintro; rw [h11, h12]
      · iexists _; isplitl [H12]; · iexact H12
        ipureintro; rw [h11, h12]

end Cert.KernelIdeal.Hand

end
-- ==== Proof.KernelIdealBody.lean ====
/- One grid step of `KernelIdeal`: what the body leaves in every buffer it writes, found by running it once at a symbolic step. -/
module

public import proofs.«01_k».proof.Proof.KernelIdealLoops

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline library's. -/
local notation "𝕄" => MT nD τ sig Unit (Elt F) ℕ (UR sig nD τ) ℕ

/-- One grid step's resources. -/
abbrev Step (c : Dev nD) (arg1 : Memref sig .tc .smem S1536 .i32) (arg2 : Memref sig .tc .vmem S16x96x512 .fp8e4m3) (arg3 : Memref sig .tc .vmem S16x512 .f32) (arg4 : Memref sig .tc .vmem S20x16x512 .i32) (arg5 : Memref sig .tc .vmem S320x96 .fp8e4m3) (arg6 : Memref sig .tc .vmem S16x20480 .bf16) (arg7 : Memref sig .tc .vmem S20x64x128 .i32) (arg8 : Memref sig .tc .vmem S2x20x16x256 .i32) (arg9 : Memref sig .tc .vmem S2x20x16x256 .i32) (arg10 : Memref sig .tc .vmem S2x16x256 .f32) (arg11 : Memref sig .tc .vmem S16x10x16x128 .f32) (arg12 : Memref sig .tc .vmem S128x1280 .f32) (X_arg1 : TbBuf0 (F := F) c arg1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) : sProp 𝕄 :=
  iprop((tbPt0 (F := F) c arg1 X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12))

/-- The body run on a grid step that ends a block of 128 documents. -/
@[irreducible] def stepFlush (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (X_arg1 : TbBuf0 (F := F) c arg1) (hL : ∀ k, (lenAt (F := F) c i arg1 X_arg1 k).toInt ≤ 512) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (hc : k0_cond1 i = 1#1) :
    Σ' (N_arg6 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg6.view.ty) (N_arg7 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg7.view.ty) (N_arg8 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg8.view.ty) (N_arg9 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg9.view.ty) (N_arg10 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg10.view.ty) (N_arg11 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg11.view.ty),
    { N_arg12 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg12.view.ty // ∀ (E : Set ℕ) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty),
      Step (F := F) c arg1 arg2 arg3 arg4 arg5 arg6 arg7 arg8 arg9 arg10 arg11 arg12 X_arg1 X_arg2 X_arg3 X_arg4 X_arg5 f_arg6 f_arg7 f_arg8 f_arg9 f_arg10 f_arg11 f_arg12
      ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12)
          (fun _ => Step (F := F) c arg1 arg2 arg3 arg4 arg5 arg6 arg7 arg8 arg9 arg10 arg11 arg12 X_arg1 X_arg2 X_arg3 X_arg4 X_arg5 (N_arg6 f_arg6 f_arg7 f_arg8 f_arg9 f_arg10 f_arg11 f_arg12) (N_arg7 f_arg6 f_arg7 f_arg8 f_arg9 f_arg10 f_arg11 f_arg12) (N_arg8 f_arg6 f_arg7 f_arg8 f_arg9 f_arg10 f_arg11 f_arg12) (N_arg9 f_arg6 f_arg7 f_arg8 f_arg9 f_arg10 f_arg11 f_arg12) (N_arg10 f_arg6 f_arg7 f_arg8 f_arg9 f_arg10 f_arg11 f_arg12) (N_arg11 f_arg6 f_arg7 f_arg8 f_arg9 f_arg10 f_arg11 f_arg12) (N_arg12 f_arg6 f_arg7 f_arg8 f_arg9 f_arg10 f_arg11 f_arg12)) } := by
  refine ⟨?_, ?_, ?_, ?_, ?_, ?_, ?_, fun E f_arg6 f_arg7 f_arg8 f_arg9 f_arg10 f_arg11 f_arg12 => ?run⟩
  case run =>
    unfold cc0__body
    iintro ⟨H1, H2, H3, H4, H5, H6, H7, H8, H9, H10, H11, H12⟩
    sl_exec_parts
    sl_step
    sl_close

/-- The body run on any other grid step. -/
@[irreducible] def stepKeep (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (X_arg1 : TbBuf0 (F := F) c arg1) (hL : ∀ k, (lenAt (F := F) c i arg1 X_arg1 k).toInt ≤ 512) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (hc : ¬ k0_cond1 i = 1#1) :
    Σ' (N_arg6 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg6.view.ty) (N_arg8 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg8.view.ty) (N_arg9 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg9.view.ty) (N_arg10 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg10.view.ty) (N_arg11 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg11.view.ty),
    { N_arg12 : BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg12.view.ty // ∀ (E : Set ℕ) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty),
      Step (F := F) c arg1 arg2 arg3 arg4 arg5 arg6 arg7 arg8 arg9 arg10 arg11 arg12 X_arg1 X_arg2 X_arg3 X_arg4 X_arg5 f_arg6 f_arg7 f_arg8 f_arg9 f_arg10 f_arg11 f_arg12
      ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12)
          (fun _ => Step (F := F) c arg1 arg2 arg3 arg4 arg5 arg6 arg7 arg8 arg9 arg10 arg11 arg12 X_arg1 X_arg2 X_arg3 X_arg4 X_arg5 (N_arg6 f_arg6 f_arg7 f_arg8 f_arg9 f_arg10 f_arg11 f_arg12) f_arg7 (N_arg8 f_arg6 f_arg7 f_arg8 f_arg9 f_arg10 f_arg11 f_arg12) (N_arg9 f_arg6 f_arg7 f_arg8 f_arg9 f_arg10 f_arg11 f_arg12) (N_arg10 f_arg6 f_arg7 f_arg8 f_arg9 f_arg10 f_arg11 f_arg12) (N_arg11 f_arg6 f_arg7 f_arg8 f_arg9 f_arg10 f_arg11 f_arg12) (N_arg12 f_arg6 f_arg7 f_arg8 f_arg9 f_arg10 f_arg11 f_arg12)) } := by
  refine ⟨?_, ?_, ?_, ?_, ?_, ?_, fun E f_arg6 f_arg7 f_arg8 f_arg9 f_arg10 f_arg11 f_arg12 => ?run⟩
  case run =>
    unfold cc0__body
    iintro ⟨H1, H2, H3, H4, H5, H6, H7, H8, H9, H10, H11, H12⟩
    sl_exec_parts
    sl_step
    sl_close

end Cert.KernelIdeal.Hand

end
-- ==== Proof.KernelIdealWeak.lean ====
/- `KernelIdeal` runs and leaves its arguments: every staging buffer and scratch buffer at whatever it holds. -/
module

public import proofs.«01_k».proof.Proof.KernelIdealBody
public import proofs.«01_k».proof.Proof.KernelIdealFrame
public import Idealize.ShloMosaic.Lib.Routing.OpsOrder
public import Idealize.ShloMosaic.Lib.StableHlo.RunRead

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline library's. -/
local notation "𝕄" => MT nD τ sig Unit (Elt F) ℕ (UR sig nD τ) ℕ

/-- One grid step's resources, nothing said of what the buffers hold but the table. -/
abbrev Any (c : Dev nD) (arg1 : Memref sig .tc .smem S1536 .i32) (arg2 : Memref sig .tc .vmem S16x96x512 .fp8e4m3) (arg3 : Memref sig .tc .vmem S16x512 .f32) (arg4 : Memref sig .tc .vmem S20x16x512 .i32) (arg5 : Memref sig .tc .vmem S320x96 .fp8e4m3) (arg6 : Memref sig .tc .vmem S16x20480 .bf16) (arg7 : Memref sig .tc .vmem S20x64x128 .i32) (arg8 : Memref sig .tc .vmem S2x20x16x256 .i32) (arg9 : Memref sig .tc .vmem S2x20x16x256 .i32) (arg10 : Memref sig .tc .vmem S2x16x256 .f32) (arg11 : Memref sig .tc .vmem S16x10x16x128 .f32) (arg12 : Memref sig .tc .vmem S128x1280 .f32) (X_arg1 : TbBuf0 (F := F) c arg1) : sProp 𝕄 :=
  iprop((tbPt0 (F := F) c arg1 X_arg1) ∗ (∃ f : BufTy.Contents (Elt F) arg2.view.ty, arg2.view.loc (c : Thread nD τ) ↦[arg2.view.set]{fullShare} f) ∗ (∃ f : BufTy.Contents (Elt F) arg3.view.ty, arg3.view.loc (c : Thread nD τ) ↦[arg3.view.set]{fullShare} f) ∗ (∃ f : BufTy.Contents (Elt F) arg4.view.ty, arg4.view.loc (c : Thread nD τ) ↦[arg4.view.set]{fullShare} f) ∗ (∃ f : BufTy.Contents (Elt F) arg5.view.ty, arg5.view.loc (c : Thread nD τ) ↦[arg5.view.set]{fullShare} f) ∗ (∃ f : BufTy.Contents (Elt F) arg6.view.ty, arg6.view.loc (c : Thread nD τ) ↦[arg6.view.set]{fullShare} f) ∗ (∃ f : BufTy.Contents (Elt F) arg7.view.ty, arg7.view.loc (c : Thread nD τ) ↦[arg7.view.set]{fullShare} f) ∗ (∃ f : BufTy.Contents (Elt F) arg8.view.ty, arg8.view.loc (c : Thread nD τ) ↦[arg8.view.set]{fullShare} f) ∗ (∃ f : BufTy.Contents (Elt F) arg9.view.ty, arg9.view.loc (c : Thread nD τ) ↦[arg9.view.set]{fullShare} f) ∗ (∃ f : BufTy.Contents (Elt F) arg10.view.ty, arg10.view.loc (c : Thread nD τ) ↦[arg10.view.set]{fullShare} f) ∗ (∃ f : BufTy.Contents (Elt F) arg11.view.ty, arg11.view.loc (c : Thread nD τ) ↦[arg11.view.set]{fullShare} f) ∗ (∃ f : BufTy.Contents (Elt F) arg12.view.ty, arg12.view.loc (c : Thread nD τ) ↦[arg12.view.set]{fullShare} f))

/-- The body runs on any grid step, from any contents. -/
theorem step_any (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (X_arg1 : TbBuf0 (F := F) c arg1) (hL : ∀ k, (lenAt (F := F) c i arg1 X_arg1 k).toInt ≤ 512) (E : Set ℕ) :
    Any (F := F) c arg1 arg2 arg3 arg4 arg5 arg6 arg7 arg8 arg9 arg10 arg11 arg12 X_arg1
    ⊢ wp frame (wpE (defs₀ (F := F)) 𝒱 (c : Thread nD τ) bd) E (cc0__body (F := F) i arg1 harg1 arg2 harg2 arg3 harg3 arg4 harg4 arg5 harg5 arg6 harg6 arg7 harg7 arg8 harg8 arg9 harg9 arg10 harg10 arg11 harg11 arg12 harg12) (fun _ => Any (F := F) c arg1 arg2 arg3 arg4 arg5 arg6 arg7 arg8 arg9 arg10 arg11 arg12 X_arg1) := by
  iintro ⟨H1, ⟨%f_arg2, H_arg2⟩, ⟨%f_arg3, H_arg3⟩, ⟨%f_arg4, H_arg4⟩, ⟨%f_arg5, H_arg5⟩, ⟨%f_arg6, H_arg6⟩, ⟨%f_arg7, H_arg7⟩, ⟨%f_arg8, H_arg8⟩, ⟨%f_arg9, H_arg9⟩, ⟨%f_arg10, H_arg10⟩, ⟨%f_arg11, H_arg11⟩, ⟨%f_arg12, H_arg12⟩⟩
  by_cases hc : k0_cond1 i = 1#1
  · iapply (wp_wand_r Idealize.ShloMosaic.frame (wpE (defs₀ (F := F)) 𝒱 (c : Thread nD τ) bd) E)
    isplitl [H1 H_arg2 H_arg3 H_arg4 H_arg5 H_arg6 H_arg7 H_arg8 H_arg9 H_arg10 H_arg11 H_arg12]
    · iapply (stepFlush (F := F) 𝒱 c bd i arg1 harg1 arg2 harg2 arg3 harg3 arg4 harg4 arg5 harg5 arg6 harg6 arg7 harg7 arg8 harg8 arg9 harg9 arg10 harg10 arg11 harg11 arg12 harg12 X_arg1 hL f_arg2 f_arg3 f_arg4 f_arg5 hc).2.2.2.2.2.2.2 E f_arg6 f_arg7 f_arg8 f_arg9 f_arg10 f_arg11 f_arg12
      isplitl [H1]; · iexact H1
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexact H_arg7
      isplitl [H_arg8]; · iexact H_arg8
      isplitl [H_arg9]; · iexact H_arg9
      isplitl [H_arg10]; · iexact H_arg10
      isplitl [H_arg11]; · iexact H_arg11
      iexact H_arg12
    · iintro %_ ⟨H1, H_arg2, H_arg3, H_arg4, H_arg5, H_arg6, H_arg7, H_arg8, H_arg9, H_arg10, H_arg11, H_arg12⟩
      isplitl [H1]; · iexact H1
      isplitl [H_arg2]; · iexists _; iexact H_arg2
      isplitl [H_arg3]; · iexists _; iexact H_arg3
      isplitl [H_arg4]; · iexists _; iexact H_arg4
      isplitl [H_arg5]; · iexists _; iexact H_arg5
      isplitl [H_arg6]; · iexists _; iexact H_arg6
      isplitl [H_arg7]; · iexists _; iexact H_arg7
      isplitl [H_arg8]; · iexists _; iexact H_arg8
      isplitl [H_arg9]; · iexists _; iexact H_arg9
      isplitl [H_arg10]; · iexists _; iexact H_arg10
      isplitl [H_arg11]; · iexists _; iexact H_arg11
      iexists _; iexact H_arg12
  · iapply (wp_wand_r Idealize.ShloMosaic.frame (wpE (defs₀ (F := F)) 𝒱 (c : Thread nD τ) bd) E)
    isplitl [H1 H_arg2 H_arg3 H_arg4 H_arg5 H_arg6 H_arg7 H_arg8 H_arg9 H_arg10 H_arg11 H_arg12]
    · iapply (stepKeep (F := F) 𝒱 c bd i arg1 harg1 arg2 harg2 arg3 harg3 arg4 harg4 arg5 harg5 arg6 harg6 arg7 harg7 arg8 harg8 arg9 harg9 arg10 harg10 arg11 harg11 arg12 harg12 X_arg1 hL f_arg2 f_arg3 f_arg4 f_arg5 hc).2.2.2.2.2.2 E f_arg6 f_arg7 f_arg8 f_arg9 f_arg10 f_arg11 f_arg12
      isplitl [H1]; · iexact H1
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexact H_arg7
      isplitl [H_arg8]; · iexact H_arg8
      isplitl [H_arg9]; · iexact H_arg9
      isplitl [H_arg10]; · iexact H_arg10
      isplitl [H_arg11]; · iexact H_arg11
      iexact H_arg12
    · iintro %_ ⟨H1, H_arg2, H_arg3, H_arg4, H_arg5, H_arg6, H_arg7, H_arg8, H_arg9, H_arg10, H_arg11, H_arg12⟩
      isplitl [H1]; · iexact H1
      isplitl [H_arg2]; · iexists _; iexact H_arg2
      isplitl [H_arg3]; · iexists _; iexact H_arg3
      isplitl [H_arg4]; · iexists _; iexact H_arg4
      isplitl [H_arg5]; · iexists _; iexact H_arg5
      isplitl [H_arg6]; · iexists _; iexact H_arg6
      isplitl [H_arg7]; · iexists _; iexact H_arg7
      isplitl [H_arg8]; · iexists _; iexact H_arg8
      isplitl [H_arg9]; · iexists _; iexact H_arg9
      isplitl [H_arg10]; · iexists _; iexact H_arg10
      isplitl [H_arg11]; · iexists _; iexact H_arg11
      iexists _; iexact H_arg12

open Idealize.ShloMosaic.Pipeline (Dat RDat BodyObligationLoose)

variable (m : (ℓ : Loc nD τ sig) → Buf (Elt F) ℓ) (ρ : Dev nD → PrngReg)

/-- A document's length as a trip reads it is a word of the table. -/
theorem lenAt_mem (c : Dev nD) (i : grid0.Coords) (X : TbBuf0 (F := F) c tbM0_0) (k : Fin 16) : ∃ j, lenAt (F := F) c i tbM0_0 X k = X j := ⟨_, rfl⟩

/-- The pipeline's proof data, every window forgotten. -/
def datW (hO : Ok m) : (p : Fin 1) → (c : Dev nD) → Dat τ (Elt F) Unit ℕ (UR sig nD τ) ℕ ((Pipeline.pin pcfgs fun _ => adm m hO) p) c := fun _ c =>
  { A := fun w => V m c (Pipeline.arrRef spec0 w)
    after := fun w t => Dat.unnamed w t
    Φ := fun _ => iprop(Pipeline.ΦA spec0 c ∗ Pipeline.ΦT pre0 (tbl m) c)
    q := fun _ => fullShare
    owed := fun _ => 0 }

theorem datW_A (hO : Ok m) (c : Dev nD) (w) : (datW m hO 0 c).A w = V m c (Pipeline.arrRef spec0 w) := by dsimp only [datW]

theorem defs₀_row (a : (pcfg0 (F := F)).Adm) (t : Fin (cfg0 a).N) :
    defs₀ (F := F) .tc (cfg0 a).body ((cfg0 a).bodyArgs t ((cfg0 a).slots t)) = bodyAt0 a t := by
  unfold defs₀; rw [Defs.onTc_tc]

/-- A window's current staging buffer. -/
abbrev stg (hO : Ok m) (c : Dev nD) (w : Fin (cfgM m hO).W) (t : Fin (cfgM m hO).N) : sProp 𝕄 :=
  iprop(∃ X, owns (c : Thread nD τ) (((cfgM m hO).win w).stage ((cfgM m hO).slots t w)) fullShare X)

theorem obl_any (hO : Ok m) (hlen : ∀ j, ((tbl m 0 : S1536.Idx → BitVec 32) j).toInt ≤ 512) (c : Dev nD) (t : Fin (cfgM m hO).N) :
    iprop((datW m hO 0 c).Φ t.castSucc ∗ (datW m hO 0 c).owesAt () t.castSucc ∗ (stg m hO c 0 t ∗ stg m hO c 1 t ∗ stg m hO c 2 t ∗ stg m hO c 3 t ∗ stg m hO c 4 t ∗ stg m hO c 5 t))
    ⊢ wp frame (wpE (defs₀ (F := F)) Variants.none c none) Set.univ (bodyAt0 (adm m hO) t) (fun _ =>
      iprop((datW m hO 0 c).Φ t.succ ∗ (datW m hO 0 c).owesAt () t.succ ∗ (stg m hO c 0 t ∗ stg m hO c 1 t ∗ stg m hO c 2 t ∗ stg m hO c 3 t ∗ stg m hO c 4 t ∗ stg m hO c 5 t))) := by
  rw [show (datW m hO 0 c).Φ t.succ = iprop(Pipeline.ΦA spec0 c ∗ Pipeline.ΦT pre0 (tbl m) c) from rfl,
    show (datW m hO 0 c).Φ t.castSucc = iprop(Pipeline.ΦA spec0 c ∗ Pipeline.ΦT pre0 (tbl m) c) from rfl, PhiT0_eq]
  unfold Pipeline.ΦA
  rw [scopedRest0_eq]
  simp only [← owns_whole]
  unfold stg bodyAt0 Dat.owesAt Pipeline.owesWithin owns
  rw [show (datW m hO 0 c).owed t.castSucc = 0 from rfl, show (datW m hO 0 c).owed t.succ = 0 from rfl]
  iintro ⟨⟨⟨⟨⟨%d8, %f8, -, S8⟩, ⟨%d9, %f9, -, S9⟩, ⟨%d10, %f10, -, S10⟩, ⟨%d11, %f11, -, S11⟩, ⟨%d12, %f12, -, S12⟩⟩, Hg⟩, HT⟩, ⟨%W, %hW, HW⟩, ⟨%d2, %f2, -, S2⟩, ⟨%d3, %f3, -, S3⟩, ⟨%d4, %f4, -, S4⟩, ⟨%d5, %f5, -, S5⟩, ⟨%d6, %f6, -, S6⟩, ⟨%d7, %f7, -, S7⟩⟩
  iapply (wp_wand_r Idealize.ShloMosaic.frame (wpE (defs₀ (F := F)) Variants.none (c : Thread nD τ) none) Set.univ)
  isplitl [HT S2 S3 S4 S5 S6 S7 S8 S9 S10 S11 S12]
  · iapply (step_any (F := F) Variants.none c none (grid0.coords t) _ _ _ _ _ _ _ _ _ _ _ _ _ _ _ _ _ _ _ _ _ _ _ _ (tbl m 0) (fun k => by obtain ⟨j, hj⟩ := lenAt_mem (F := F) c (grid0.coords t) (tbl m 0) k; rw [hj]; exact hlen j) Set.univ)
    isplitl [HT]; · iexact HT
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    iexists _; iexact S12
  · iintro %_ ⟨HT, ⟨%g2, S2⟩, ⟨%g3, S3⟩, ⟨%g4, S4⟩, ⟨%g5, S5⟩, ⟨%g6, S6⟩, ⟨%g7, S7⟩, ⟨%g8, S8⟩, ⟨%g9, S9⟩, ⟨%g10, S10⟩, ⟨%g11, S11⟩, ⟨%g12, S12⟩⟩
    isplitl [HT Hg S8 S9 S10 S11 S12]
    · isplitl [Hg S8 S9 S10 S11 S12]
      · isplitl [S8 S9 S10 S11 S12]
        · isplitl [S8]
          · iexists _; iexists _; isplitr
            swap; · iexact S8
            ipureintro; rfl
          isplitl [S9]
          · iexists _; iexists _; isplitr
            swap; · iexact S9
            ipureintro; rfl
          isplitl [S10]
          · iexists _; iexists _; isplitr
            swap; · iexact S10
            ipureintro; rfl
          isplitl [S11]
          · iexists _; iexists _; isplitr
            swap; · iexact S11
            ipureintro; rfl
          iexists _; iexists _; isplitr
          swap; · iexact S12
          ipureintro; rfl
        iexact Hg
      iexact HT
    isplitl [HW]
    · iexists W; isplitr
      · ipureintro; exact fun _ _ => Or.inl trivial
      iexact HW
    isplitl [S2]
    · iexists _; iexists _; isplitr
      swap; · iexact S2
      ipureintro; rfl
    isplitl [S3]
    · iexists _; iexists _; isplitr
      swap; · iexact S3
      ipureintro; rfl
    isplitl [S4]
    · iexists _; iexists _; isplitr
      swap; · iexact S4
      ipureintro; rfl
    isplitl [S5]
    · iexists _; iexists _; isplitr
      swap; · iexact S5
      ipureintro; rfl
    isplitl [S6]
    · iexists _; iexists _; isplitr
      swap; · iexact S6
      ipureintro; rfl
    iexists _; iexists _; isplitr
    swap; · iexact S7
    ipureintro; rfl

theorem bodyW (hO : Ok m) (hlen : ∀ j, ((tbl m 0 : S1536.Idx → BitVec 32) j).toInt ≤ 512) (c : Dev nD) :
    BodyObligationLoose (datW m hO 0 c) (defs₀ (F := F)) Variants.none () Set.univ (fun _ => true) := fun t => by
  rw [bigSep_W0]
  exact triple_restated (obl_any m hO hlen c t) (congrArg (fun b => wp Idealize.ShloMosaic.frame (wpE (defs₀ (F := F)) Variants.none (c : Thread nD τ) none) Set.univ b) (defs₀_row (adm m hO) t).symm) .rfl fun _ => .rfl

/-- No host line follows the region. -/
theorem sfx_T : ∀ ops ∈ ([] : List (List (HloOp τ sig (Elt F)))), ∀ op ∈ ops, ∀ b : Ref sig .tc, Proc.devRef .tc b ∈ op.writes → b ∈ (∅ : Finset (Ref sig .tc)) :=
  fun _ h => absurd h List.not_mem_nil

set_option backward.isDefEq.respectTransparency.types false in
/-- The program runs from a table of lengths within the window and leaves its arguments. -/
theorem quiescent_of (hO : Ok m) (hlen : ∀ j, ((tbl m 0 : S1536.Idx → BitVec 32) j).toInt ≤ 512) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frameP_around_T_forget pcfgs (fun _ => adm m hO) (datW m hO) 0 launch0 defs₀ Variants.none (fun _ => true) ∅ m ρ main
    (fun c => bodyW m hO hlen c) (fun c => (datW m hO 0 c).share_full fun _ => rfl) (fun _ _ => rfl) (V0 m) []
    sfx_sub sfx_fresh sfx_keeps sfx_T (hmain m Variants.none) (datW_A m hO) (V_pre m) (fun _ _ => rfl) _
    (fun r h => ⟨fun c => ⟨((h.1 c).2 main_arg0 (by decide : main_arg0 ∈ Pipeline.restRefs sig spec0 \ ∅)).trans (V_main_arg0 m c),
      (by have := (h.1 c).1 1; rw [RDat.ArrAt_in _ 1 rfl] at this; exact this.trans (V_main_arg1 m c)),
      ((h.1 c).2 main_arg2 (by decide : main_arg2 ∈ Pipeline.restRefs sig spec0 \ ∅)).trans (V_main_arg2 m c),
      ((h.1 c).2 main_arg3 (by decide : main_arg3 ∈ Pipeline.restRefs sig spec0 \ ∅)).trans (V_main_arg3 m c),
      ((h.1 c).2 main_arg4 (by decide : main_arg4 ∈ Pipeline.restRefs sig spec0 \ ∅)).trans (V_main_arg4 m c)⟩, h.2⟩)

/-- The table of lengths the region reads: the documents' lengths scattered into zeros. -/
theorem tbl_eq : tbl m 0 = Host.scatter scatter_S1536_S1_S1500_0_n_0_0 (fun _ b => b) (broadcastInDim S1536 ![] bcast_S_S1536 (constantI S_ 32 0#32))
    (broadcastInDim S1 ![] bcast_S_S1 (constantI S_ 32 0#32)) (m (((0 : Dev nD) : Thread nD τ).loc main_arg2)) := by
  show StableHlo.after hostOps0 _ (Proc.devRef .tc main_v8) = _
  unfold hostOps0
  after_results_simp

/-- Every word of the table is within the window when every document's length is. -/
theorem tbl_le (h : ∀ d, ((m (((0 : Dev nD) : Thread nD τ).loc main_arg2) : S1500.Idx → BitVec 32) d).toInt ≤ 512) (j : S1536.Idx) :
    ((tbl m 0 : S1536.Idx → BitVec 32) j).toInt ≤ 512 := by
  rw [tbl_eq]
  exact Routing.scatter_forall _ _ (fun w : BitVec 32 => w.toInt ≤ 512) (fun _ _ _ h => h) _ _ _ (fun _ => by show (0#32).toInt ≤ 512; decide) h j

end Cert.KernelIdeal.Hand

end
-- ==== Proof.PreTame.lean ====
/- What the precondition `tame` says of the arguments, read off the printed predicate. -/
module

public import proofs.«01_k».proof.Proof.Pre
public import proofs.«01_k».proof.Proof.Gen.Pre_tame
public import Idealize.ShloMosaic.Lib.ReduceAll
public import Idealize.ShloMosaic.Lib.WordCmp
public import Idealize.ShloMosaic.Lib.IdealHost

@[expose] public section

noncomputable section

open Idealize.ShloMosaic

namespace Cert.Pre

instance : Subsingleton Pre_tame.S_.Idx := ⟨fun a b => funext fun k => absurd k.2 (Nat.not_lt_zero _)⟩

/-- What `tame` says of the arguments. -/
structure Tame (a0 : IVec Pre_tame.S1500x512x96 8) (a1 : FVec Ideal Pre_tame.S1500x512 .f32) (a2 : IVec Pre_tame.S1500 32)
    (a3 : IVec Pre_tame.S1500x512x20 32) (a4 : IVec Pre_tame.S20x96x16 8) : Prop where
  len : ∀ d, (a2 d).toInt ≤ 512
  code : ∀ j, 0 ≤ (a3 j).toInt ∧ (a3 j).toInt < 64
  scale : ∀ j, (a1 j : EReal) ≠ ⊤ ∧ (a1 j : EReal) ≠ ⊥
  x : ∀ j, ((a0 j).signExtend 32) &&& 127#32 ≠ 127#32
  proj : ∀ j, ((a4 j).signExtend 32) &&& 127#32 ≠ 127#32

theorem tame_of (a0 : IVec Pre_tame.S1500x512x96 8) (a1 : FVec Ideal Pre_tame.S1500x512 .f32) (a2 : IVec Pre_tame.S1500 32)
    (a3 : IVec Pre_tame.S1500x512x20 32) (a4 : IVec Pre_tame.S20x96x16 8)
    (h : Pre_tame.fn (F := Ideal) a0 a1 a2 a3 a4 = fun _ => 1#1) : Tame a0 a1 a2 a3 a4 := by
  have e := congrFun h (Shape.Idx.first (s := Pre_tame.S_) (by decide))
  unfold Pre_tame.fn Pre_tame.fn_part1 at e
  obtain ⟨e, e4⟩ := andi_one e
  obtain ⟨e, e0⟩ := andi_one e
  obtain ⟨e, e1⟩ := andi_one e
  obtain ⟨e2, e3⟩ := andi_one e
  replace e0 := Host.reduce_andi_all _ _ _ _ _ e0
  replace e1 := Host.reduce_andi_all _ _ _ _ _ e1
  replace e2 := Host.reduce_andi_all _ _ _ _ _ e2
  replace e3 := Host.reduce_andi_all _ _ _ _ _ e3
  replace e4 := Host.reduce_andi_all _ _ _ _ _ e4
  refine ⟨fun d => ?_, fun j => ?_, fun j => ?_, fun j => ?_, fun j => ?_⟩
  · have := e2 d
    change BitVec.ofBool (decide ((a2 d).toInt ≤ (512#32).toInt)) = 1#1 at this
    simpa using of_decide_eq_true (ofBool_one this)
  · obtain ⟨u, v⟩ := andi_one (e3 j)
    change BitVec.ofBool (decide ((0#32).toInt ≤ (a3 j).toInt)) = 1#1 at u
    change BitVec.ofBool (decide ((a3 j).toInt < (64#32).toInt)) = 1#1 at v
    exact ⟨by simpa using of_decide_eq_true (ofBool_one u), by simpa using of_decide_eq_true (ofBool_one v)⟩
  · have := e1 j
    have htop : Ideal.ofBits .f32 0x7F800000#32 = ⊤ := by simp [Ideal.ofBits, Ideal.ieee]
    change BitVec.ofBool (decide (max (a1 j : EReal) (-(a1 j : EReal)) < Ideal.ofBits .f32 0x7F800000#32)) = 1#1 at this
    rw [htop] at this
    have h := of_decide_eq_true (ofBool_one this)
    constructor
    · intro e; rw [e] at h; simp at h
    · intro e; rw [e] at h; simp at h
  · have := e0 j
    change BitVec.ofBool (((a0 j).signExtend 32 &&& 127#32) != 127#32) = 1#1 at this
    simpa using ofBool_one this
  · have := e4 j
    change BitVec.ofBool (((a4 j).signExtend 32 &&& 127#32) != 127#32) = 1#1 at this
    simpa using ofBool_one this

end Cert.Pre

end
-- ==== Proof.KernelIdealTripVal.lean ====
module

public import proofs.«01_k».proof.Proof.KernelIdealBody
public import Idealize.ShloMosaic.Lib.Pointwise
public import Idealize.ShloMosaic.Lib.BitcastPair
public import Idealize.ShloMosaic.PureOps.Ideal.Laws

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic

/-- The byte word `b` where the token's word number `w` is `t`, else nothing. -/
def pick (w t b : BitVec 32) : BitVec 32 := if w = t then b else 0#32

/-- One of the words stacked into a one-hot block: the byte word where the token's word number is the row's, else nothing. -/
def hotWord (h : BitVec 32) (w b : IVec S1x1x1x256 32) : IVec S8x256 32 :=
  select (cmpi .eq (broadcastTo S8x256 (shapeCast S1x256 w shapeCasts_S1x1x1x256_S1x256) broadcasts_S1x256_S8x256)
      (addi (iota .tc S8x256 32 [0] iota_S8x256_d0_w32) (broadcast S8x256 h)))
    (broadcastTo S8x256 (shapeCast S1x256 (shapeCast S1x256 b shapeCasts_S1x1x1x256_S1x256) shapeCasts_S1x256_S1x256) broadcasts_S1x256_S8x256)
    (broadcast S8x256 0#32)

/-- The one-hot block of four repetitions. -/
def hotM (w0 b0 w1 b1 w2 b2 w3 b3 : IVec S1x1x1x256 32) : FVec Ideal S256x256 .fp8e4m3 :=
  bitcastToFloat .fp8e4m3 (bitcast S256x256 8 (concatenate S64x256 0 [⟨S8x256, hotWord 0#32 w0 b0⟩, ⟨S8x256, hotWord 8#32 w0 b0⟩,
    ⟨S8x256, hotWord 0#32 w1 b1⟩, ⟨S8x256, hotWord 8#32 w1 b1⟩, ⟨S8x256, hotWord 0#32 w2 b2⟩, ⟨S8x256, hotWord 8#32 w2 b2⟩,
    ⟨S8x256, hotWord 0#32 w3 b3⟩, ⟨S8x256, hotWord 8#32 w3 b3⟩]
    concatenates_S8x256_S8x256_S8x256_S8x256_S8x256_S8x256_S8x256_S8x256_S64x256_d0) bitcasts_S64x256_w32_S256x256_w8)

theorem hotWord_apply (h : BitVec 32) (w b : IVec S1x1x1x256 32) (q : Fin 8) (s : Fin 256) :
    hotWord h w b (ix2 q s) = pick (w (ix4 0 0 0 s)) (BitVec.ofNat 32 q.val + h) (b (ix4 0 0 0 s)) := by
  unfold hotWord pick
  pointwise
  by_cases hc : w (ix4 0 0 0 s) = BitVec.ofNat 32 q.val + h
  · simp [Scalar.select, IntOp.cmpi, IntOp.addi, hc]
  · have : (w (ix4 0 0 0 s) == BitVec.ofNat 32 q.val + h) = false := by simpa using hc
    simp only [Scalar.select, IntOp.cmpi, IntOp.addi, this, if_neg hc]
    rfl

/-- The word a one-hot block holds in row `q` of its 64 rows of words. -/
theorem hotWords_apply (w b : Fin 4 → IVec S1x1x1x256 32) (q : Fin 64) (s : Fin 256) :
    concatenate S64x256 0 [⟨S8x256, hotWord 0#32 (w 0) (b 0)⟩, ⟨S8x256, hotWord 8#32 (w 0) (b 0)⟩,
      ⟨S8x256, hotWord 0#32 (w 1) (b 1)⟩, ⟨S8x256, hotWord 8#32 (w 1) (b 1)⟩, ⟨S8x256, hotWord 0#32 (w 2) (b 2)⟩, ⟨S8x256, hotWord 8#32 (w 2) (b 2)⟩,
      ⟨S8x256, hotWord 0#32 (w 3) (b 3)⟩, ⟨S8x256, hotWord 8#32 (w 3) (b 3)⟩]
      concatenates_S8x256_S8x256_S8x256_S8x256_S8x256_S8x256_S8x256_S8x256_S64x256_d0 (ix2 q s)
      = pick (w ⟨q.val / 16, by omega⟩ (ix4 0 0 0 s)) (BitVec.ofNat 32 (q.val % 16)) (b ⟨q.val / 16, by omega⟩ (ix4 0 0 0 s)) := by
  pointwise
  simp only [hotWord_apply]
  obtain ⟨q, hq⟩ := q
  interval_cases q <;> (try simp) <;> rfl

theorem hotM_apply (w b : Fin 4 → IVec S1x1x1x256 32) (col : Fin 256) (s : Fin 256) :
    hotM (w 0) (b 0) (w 1) (b 1) (w 2) (b 2) (w 3) (b 3) (ix2 col s)
      = Ideal.ofBits .fp8e4m3 ((pick (w ⟨col.val / 64, by omega⟩ (ix4 0 0 0 s)) (BitVec.ofNat 32 (col.val % 64 / 4)) (b ⟨col.val / 64, by omega⟩ (ix4 0 0 0 s))).extractLsb' (8 * (col.val % 4)) 8) := by
  unfold hotM
  pointwise
  congr 1
  apply BitVec.eq_of_getLsbD_eq
  intro q hq
  rw [bitcast_getLsbD _ _ _ q hq (by decide)]
  have hrow : Shape.row (s := S256x256) (ix2 col s) = col.val := rfl
  have e1 : (col.val * 8 + q) / 32 = col.val / 4 := by omega
  have e2 : (col.val * 8 + q) % 32 = 8 * (col.val % 4) + q := by omega
  have es : ∀ hp, Shape.Bitcasts.srcIdx bitcasts_S64x256_w32_S256x256_w8 (ix2 col s) ((Shape.row (s := S256x256) (ix2 col s) * 8 + q) / 32) hp = (ix2 ⟨col.val / 4, by omega⟩ s : S64x256.Idx) := by
    intro hp
    funext a
    apply Fin.ext
    match a with
    | ⟨0, _⟩ => rw [Shape.Bitcasts.srcIdx_row _ _ _ _ _ rfl, hrow, e1]; rfl
    | ⟨1, _⟩ => rw [Shape.Bitcasts.srcIdx_other _ _ _ _ _ (show ¬ (1 + 2 = 2) by omega)]; rfl
  rw [es, hotWords_apply, hrow, e2, BitVec.getLsbD_extractLsb']
  have e3 : col.val / 4 / 16 = col.val / 64 := by omega
  have e4 : col.val / 4 % 16 = col.val % 64 / 4 := by omega
  simp only [e3, e4, hq, decide_true, Bool.true_and]

/-- The counts of one group of repetitions in one tile: ones times the one-hot block. -/
def cntM (hot : FVec Ideal S256x256 .fp8e4m3) : FVec Ideal S16x256 .f32 :=
  matmul dot_S16x256_S256x256_S16x256_1_1_0_0_n_n none (broadcast S16x256 (Scalar.ofBits .bf16 0x3F80#16) : FVec Ideal S16x256 .bf16) hot (constant S16x256 .f32 0x00000000#32)

/-- One row of the counts added to what was there. -/
def cntP (first : BitVec 1) (hot : FVec Ideal S256x256 .fp8e4m3) (old : FVec Ideal S1x256 .f32) : FVec Ideal S1x256 .f32 :=
  shapeCast S1x256 (addf (extractStridedSlice S1x256 ![0, 0] (cntM hot) slices_S16x256_o0_0_S1x256)
    (Scalar.select first (broadcast S1x256 (FloatOps.ofBits (F := Ideal) .f32 0#32)) old)) shapeCasts_S1x256_S1x256

/-- The projections of one tile, scaled. -/
def projM (x : FVec Ideal S1x96x256 .fp8e4m3) (pr : FVec Ideal S320x96 .fp8e4m3) (fac : FVec Ideal S1x1x256 .f32) : FVec Ideal S320x256 .f32 := k0_pay6 (F := Ideal) x pr fac

/-- One sum block added to what was there. -/
def sumP (first : BitVec 1) (o1 o2 : Fin 2 → ℕ) (out : FVec Ideal S64x256 .f32) (h1 : Shape.Slices S64x256 o1 S16x128) (h2 : Shape.Slices S64x256 o2 S16x128) (old : FVec Ideal S1x1x16x128 .f32) : FVec Ideal S1x1x16x128 .f32 :=
  shapeCast S1x1x16x128 (addf (select (cmpi .slt (iota .tc S16x128 32 [1] iota_S16x128_d1_w32) (broadcast S16x128 64#32))
      (extractStridedSlice S16x128 o1 out h1) (extractStridedSlice S16x128 o2 out h2))
    (Scalar.select first (broadcast S16x128 (FloatOps.ofBits (F := Ideal) .f32 0#32)) (shapeCast S16x128 old shapeCasts_S1x1x16x128_S16x128))) shapeCasts_S16x128_S1x1x16x128

/-- The sums of one group of repetitions in one tile: the three pieces of the projections, each times the one-hot block. -/
def outM (o : Fin 2 → ℕ) (hs : Shape.Slices S320x256 o S64x256) (p : FVec Ideal S320x256 .f32) (hot : FVec Ideal S256x256 .fp8e4m3) : FVec Ideal S64x256 .f32 :=
  addf (addf (addf (broadcast S64x256 (FloatOps.ofBits (F := Ideal) .f32 0#32))
    (matmul dot_S64x256_S256x256_S64x256_1_1_0_0_n_n none (extractStridedSlice S64x256 o (truncf .bf16 (extf .f32 (truncf .bf16 p)) bitsLt_bf16_f32) hs) hot (constant S64x256 .f32 0x00000000#32)))
    (matmul dot_S64x256_S256x256_S64x256_1_1_0_0_n_n none (extractStridedSlice S64x256 o (truncf .bf16 (extf .f32 (truncf .bf16 (subf p (extf .f32 (truncf .bf16 p))))) bitsLt_bf16_f32) hs) hot (constant S64x256 .f32 0x00000000#32)))
    (matmul dot_S64x256_S256x256_S64x256_1_1_0_0_n_n none (extractStridedSlice S64x256 o (truncf .bf16 (subf (subf p (extf .f32 (truncf .bf16 p))) (extf .f32 (truncf .bf16 (subf p (extf .f32 (truncf .bf16 p)))))) bitsLt_bf16_f32) hs) hot (constant S64x256 .f32 0x00000000#32))

/-- The words a trip reads, of one repetition. -/
abbrev wd (m : Memref sig .tc .vmem S2x20x16x256 .i32) (X : BufTy.Contents (Elt Ideal) m.view.ty) (off : Fin 4 → ℕ) (h : ∀ a, off a + S1x1x1x256.size a ≤ S2x20x16x256.size a) : IVec S1x1x1x256 32 :=
  View.readAt (Elt Ideal) m.view (Rect.unit (s := S2x20x16x256) off S1x1x1x256.size h).toLoadRect X

theorem trip2_counts  (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (k0_t1 : Fin k0_t1_loop.trips) (arg13 : BitVec 32) (v1320 : Elt Ideal .i32) (k0_hw1 : k0_chk1 k0_t1 v1320) (X_arg2 : BufTy.Contents (Elt Ideal) arg2.view.ty) (X_arg5 : BufTy.Contents (Elt Ideal) arg5.view.ty) (X_arg8 : BufTy.Contents (Elt Ideal) arg8.view.ty) (X_arg9 : BufTy.Contents (Elt Ideal) arg9.view.ty) (X_arg10 : BufTy.Contents (Elt Ideal) arg10.view.ty) (k : Fin (k0_t2_loop v1320).trips)  (f_arg11 : BufTy.Contents (Elt Ideal) arg11.view.ty) (f_arg12 : BufTy.Contents (Elt Ideal) arg12.view.ty) :
    (trip2 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) k0_t1 arg13 v1320 k0_hw1 X_arg2 X_arg5 X_arg8 X_arg9 X_arg10 k).2.1 f_arg11 f_arg12 = [⟨Rect.unit (s := S128x1280) (k0_off39 i k0_t1) S1x256.size (k0_off39_inb i k0_t1), cntP (trip2.sl.v1350 (F := Ideal) v1320 k) (hotM (wd arg8 X_arg8 (k0_off33 k0_t1 v1320 k) (k0_off33_inb k0_t1 v1320 k0_hw1 k)) (wd arg9 X_arg9 (k0_off33 k0_t1 v1320 k) (k0_off33_inb k0_t1 v1320 k0_hw1 k)) (wd arg8 X_arg8 (k0_off34 k0_t1 v1320 k) (k0_off34_inb k0_t1 v1320 k0_hw1 k)) (wd arg9 X_arg9 (k0_off34 k0_t1 v1320 k) (k0_off34_inb k0_t1 v1320 k0_hw1 k)) (wd arg8 X_arg8 (k0_off35 k0_t1 v1320 k) (k0_off35_inb k0_t1 v1320 k0_hw1 k)) (wd arg9 X_arg9 (k0_off35 k0_t1 v1320 k) (k0_off35_inb k0_t1 v1320 k0_hw1 k)) (wd arg8 X_arg8 (k0_off36 k0_t1 v1320 k) (k0_off36_inb k0_t1 v1320 k0_hw1 k)) (wd arg9 X_arg9 (k0_off36 k0_t1 v1320 k) (k0_off36_inb k0_t1 v1320 k0_hw1 k))) (View.readAt (Elt Ideal) arg12.view (Rect.unit (s := S128x1280) (k0_off39 i k0_t1) S1x256.size (k0_off39_inb i k0_t1)).toLoadRect f_arg12)⟩,
      ⟨Rect.unit (s := S128x1280) (k0_off32 i k0_t1) S1x256.size (k0_off32_inb i k0_t1), cntP (trip2.sl.v1350 (F := Ideal) v1320 k) (hotM (wd arg8 X_arg8 (k0_off26 k0_t1 v1320 k) (k0_off26_inb k0_t1 v1320 k0_hw1 k)) (wd arg9 X_arg9 (k0_off26 k0_t1 v1320 k) (k0_off26_inb k0_t1 v1320 k0_hw1 k)) (wd arg8 X_arg8 (k0_off27 k0_t1 v1320 k) (k0_off27_inb k0_t1 v1320 k0_hw1 k)) (wd arg9 X_arg9 (k0_off27 k0_t1 v1320 k) (k0_off27_inb k0_t1 v1320 k0_hw1 k)) (wd arg8 X_arg8 (k0_off28 k0_t1 v1320 k) (k0_off28_inb k0_t1 v1320 k0_hw1 k)) (wd arg9 X_arg9 (k0_off28 k0_t1 v1320 k) (k0_off28_inb k0_t1 v1320 k0_hw1 k)) (wd arg8 X_arg8 (k0_off29 k0_t1 v1320 k) (k0_off29_inb k0_t1 v1320 k0_hw1 k)) (wd arg9 X_arg9 (k0_off29 k0_t1 v1320 k) (k0_off29_inb k0_t1 v1320 k0_hw1 k))) (View.readAt (Elt Ideal) arg12.view (Rect.unit (s := S128x1280) (k0_off32 i k0_t1) S1x256.size (k0_off32_inb i k0_t1)).toLoadRect f_arg12)⟩,
      ⟨Rect.unit (s := S128x1280) (k0_off25 i k0_t1) S1x256.size (k0_off25_inb i k0_t1), cntP (trip2.sl.v1350 (F := Ideal) v1320 k) (hotM (wd arg8 X_arg8 (k0_off19 k0_t1 v1320 k) (k0_off19_inb k0_t1 v1320 k0_hw1 k)) (wd arg9 X_arg9 (k0_off19 k0_t1 v1320 k) (k0_off19_inb k0_t1 v1320 k0_hw1 k)) (wd arg8 X_arg8 (k0_off20 k0_t1 v1320 k) (k0_off20_inb k0_t1 v1320 k0_hw1 k)) (wd arg9 X_arg9 (k0_off20 k0_t1 v1320 k) (k0_off20_inb k0_t1 v1320 k0_hw1 k)) (wd arg8 X_arg8 (k0_off21 k0_t1 v1320 k) (k0_off21_inb k0_t1 v1320 k0_hw1 k)) (wd arg9 X_arg9 (k0_off21 k0_t1 v1320 k) (k0_off21_inb k0_t1 v1320 k0_hw1 k)) (wd arg8 X_arg8 (k0_off22 k0_t1 v1320 k) (k0_off22_inb k0_t1 v1320 k0_hw1 k)) (wd arg9 X_arg9 (k0_off22 k0_t1 v1320 k) (k0_off22_inb k0_t1 v1320 k0_hw1 k))) (View.readAt (Elt Ideal) arg12.view (Rect.unit (s := S128x1280) (k0_off25 i k0_t1) S1x256.size (k0_off25_inb i k0_t1)).toLoadRect f_arg12)⟩,
      ⟨Rect.unit (s := S128x1280) (k0_off18 i k0_t1) S1x256.size (k0_off18_inb i k0_t1), cntP (trip2.sl.v1350 (F := Ideal) v1320 k) (hotM (wd arg8 X_arg8 (k0_off12 k0_t1 v1320 k) (k0_off12_inb k0_t1 v1320 k0_hw1 k)) (wd arg9 X_arg9 (k0_off12 k0_t1 v1320 k) (k0_off12_inb k0_t1 v1320 k0_hw1 k)) (wd arg8 X_arg8 (k0_off13 k0_t1 v1320 k) (k0_off13_inb k0_t1 v1320 k0_hw1 k)) (wd arg9 X_arg9 (k0_off13 k0_t1 v1320 k) (k0_off13_inb k0_t1 v1320 k0_hw1 k)) (wd arg8 X_arg8 (k0_off14 k0_t1 v1320 k) (k0_off14_inb k0_t1 v1320 k0_hw1 k)) (wd arg9 X_arg9 (k0_off14 k0_t1 v1320 k) (k0_off14_inb k0_t1 v1320 k0_hw1 k)) (wd arg8 X_arg8 (k0_off15 k0_t1 v1320 k) (k0_off15_inb k0_t1 v1320 k0_hw1 k)) (wd arg9 X_arg9 (k0_off15 k0_t1 v1320 k) (k0_off15_inb k0_t1 v1320 k0_hw1 k))) (View.readAt (Elt Ideal) arg12.view (Rect.unit (s := S128x1280) (k0_off18 i k0_t1) S1x256.size (k0_off18_inb i k0_t1)).toLoadRect f_arg12)⟩,
      ⟨Rect.unit (s := S128x1280) (k0_off11 i k0_t1) S1x256.size (k0_off11_inb i k0_t1), cntP (trip2.sl.v1350 (F := Ideal) v1320 k) (hotM (wd arg8 X_arg8 (k0_off5 k0_t1 v1320 k) (k0_off5_inb k0_t1 v1320 k0_hw1 k)) (wd arg9 X_arg9 (k0_off5 k0_t1 v1320 k) (k0_off5_inb k0_t1 v1320 k0_hw1 k)) (wd arg8 X_arg8 (k0_off6 k0_t1 v1320 k) (k0_off6_inb k0_t1 v1320 k0_hw1 k)) (wd arg9 X_arg9 (k0_off6 k0_t1 v1320 k) (k0_off6_inb k0_t1 v1320 k0_hw1 k)) (wd arg8 X_arg8 (k0_off7 k0_t1 v1320 k) (k0_off7_inb k0_t1 v1320 k0_hw1 k)) (wd arg9 X_arg9 (k0_off7 k0_t1 v1320 k) (k0_off7_inb k0_t1 v1320 k0_hw1 k)) (wd arg8 X_arg8 (k0_off8 k0_t1 v1320 k) (k0_off8_inb k0_t1 v1320 k0_hw1 k)) (wd arg9 X_arg9 (k0_off8 k0_t1 v1320 k) (k0_off8_inb k0_t1 v1320 k0_hw1 k))) (View.readAt (Elt Ideal) arg12.view (Rect.unit (s := S128x1280) (k0_off11 i k0_t1) S1x256.size (k0_off11_inb i k0_t1)).toLoadRect f_arg12)⟩] := by
  unfold trip2
  rfl

theorem trip2_sums  (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (k0_t1 : Fin k0_t1_loop.trips) (arg13 : BitVec 32) (v1320 : Elt Ideal .i32) (k0_hw1 : k0_chk1 k0_t1 v1320) (X_arg2 : BufTy.Contents (Elt Ideal) arg2.view.ty) (X_arg5 : BufTy.Contents (Elt Ideal) arg5.view.ty) (X_arg8 : BufTy.Contents (Elt Ideal) arg8.view.ty) (X_arg9 : BufTy.Contents (Elt Ideal) arg9.view.ty) (X_arg10 : BufTy.Contents (Elt Ideal) arg10.view.ty) (k : Fin (k0_t2_loop v1320).trips)  (f_arg11 : BufTy.Contents (Elt Ideal) arg11.view.ty) (f_arg12 : BufTy.Contents (Elt Ideal) arg12.view.ty) :
    (trip2 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) k0_t1 arg13 v1320 k0_hw1 X_arg2 X_arg5 X_arg8 X_arg9 X_arg10 k).1 f_arg11 f_arg12 = [⟨Rect.unit (s := S16x10x16x128) (k0_off38 k0_t1) S1x1x16x128.size (k0_off38_inb k0_t1), sumP (trip2.sl.v1350 (F := Ideal) v1320 k) ![32, 128] ![48, 128] (outM ![256, 0] slices_S320x256_o256_0_S64x256 (projM (View.readAt (Elt Ideal) arg2.view (Rect.unit (s := S16x96x512) (k0_off3 k0_t1 v1320 k) S1x96x256.size (k0_off3_inb k0_t1 v1320 k0_hw1 k)).toLoadRect X_arg2) (View.readAt (Elt Ideal) arg5.view (Rect.unit (s := S320x96) ![0, 0] S320x96.size inb_S320x96_S320x96_0_0).toLoadRect X_arg5) (View.readAt (Elt Ideal) arg10.view (Rect.unit (s := S2x16x256) (k0_off4 k0_t1 v1320 k) S1x1x256.size (k0_off4_inb k0_t1 v1320 k0_hw1 k)).toLoadRect X_arg10)) (hotM (wd arg8 X_arg8 (k0_off33 k0_t1 v1320 k) (k0_off33_inb k0_t1 v1320 k0_hw1 k)) (wd arg9 X_arg9 (k0_off33 k0_t1 v1320 k) (k0_off33_inb k0_t1 v1320 k0_hw1 k)) (wd arg8 X_arg8 (k0_off34 k0_t1 v1320 k) (k0_off34_inb k0_t1 v1320 k0_hw1 k)) (wd arg9 X_arg9 (k0_off34 k0_t1 v1320 k) (k0_off34_inb k0_t1 v1320 k0_hw1 k)) (wd arg8 X_arg8 (k0_off35 k0_t1 v1320 k) (k0_off35_inb k0_t1 v1320 k0_hw1 k)) (wd arg9 X_arg9 (k0_off35 k0_t1 v1320 k) (k0_off35_inb k0_t1 v1320 k0_hw1 k)) (wd arg8 X_arg8 (k0_off36 k0_t1 v1320 k) (k0_off36_inb k0_t1 v1320 k0_hw1 k)) (wd arg9 X_arg9 (k0_off36 k0_t1 v1320 k) (k0_off36_inb k0_t1 v1320 k0_hw1 k)))) slices_S64x256_o32_128_S16x128 slices_S64x256_o48_128_S16x128 (View.readAt (Elt Ideal) arg11.view (Rect.unit (s := S16x10x16x128) (k0_off38 k0_t1) S1x1x16x128.size (k0_off38_inb k0_t1)).toLoadRect f_arg11)⟩,
      ⟨Rect.unit (s := S16x10x16x128) (k0_off37 k0_t1) S1x1x16x128.size (k0_off37_inb k0_t1), sumP (trip2.sl.v1350 (F := Ideal) v1320 k) ![0, 0] ![16, 0] (outM ![256, 0] slices_S320x256_o256_0_S64x256 (projM (View.readAt (Elt Ideal) arg2.view (Rect.unit (s := S16x96x512) (k0_off3 k0_t1 v1320 k) S1x96x256.size (k0_off3_inb k0_t1 v1320 k0_hw1 k)).toLoadRect X_arg2) (View.readAt (Elt Ideal) arg5.view (Rect.unit (s := S320x96) ![0, 0] S320x96.size inb_S320x96_S320x96_0_0).toLoadRect X_arg5) (View.readAt (Elt Ideal) arg10.view (Rect.unit (s := S2x16x256) (k0_off4 k0_t1 v1320 k) S1x1x256.size (k0_off4_inb k0_t1 v1320 k0_hw1 k)).toLoadRect X_arg10)) (hotM (wd arg8 X_arg8 (k0_off33 k0_t1 v1320 k) (k0_off33_inb k0_t1 v1320 k0_hw1 k)) (wd arg9 X_arg9 (k0_off33 k0_t1 v1320 k) (k0_off33_inb k0_t1 v1320 k0_hw1 k)) (wd arg8 X_arg8 (k0_off34 k0_t1 v1320 k) (k0_off34_inb k0_t1 v1320 k0_hw1 k)) (wd arg9 X_arg9 (k0_off34 k0_t1 v1320 k) (k0_off34_inb k0_t1 v1320 k0_hw1 k)) (wd arg8 X_arg8 (k0_off35 k0_t1 v1320 k) (k0_off35_inb k0_t1 v1320 k0_hw1 k)) (wd arg9 X_arg9 (k0_off35 k0_t1 v1320 k) (k0_off35_inb k0_t1 v1320 k0_hw1 k)) (wd arg8 X_arg8 (k0_off36 k0_t1 v1320 k) (k0_off36_inb k0_t1 v1320 k0_hw1 k)) (wd arg9 X_arg9 (k0_off36 k0_t1 v1320 k) (k0_off36_inb k0_t1 v1320 k0_hw1 k)))) slices_S64x256_o0_0_S16x128 slices_S64x256_o16_0_S16x128 (View.readAt (Elt Ideal) arg11.view (Rect.unit (s := S16x10x16x128) (k0_off37 k0_t1) S1x1x16x128.size (k0_off37_inb k0_t1)).toLoadRect f_arg11)⟩,
      ⟨Rect.unit (s := S16x10x16x128) (k0_off31 k0_t1) S1x1x16x128.size (k0_off31_inb k0_t1), sumP (trip2.sl.v1350 (F := Ideal) v1320 k) ![32, 128] ![48, 128] (outM ![192, 0] slices_S320x256_o192_0_S64x256 (projM (View.readAt (Elt Ideal) arg2.view (Rect.unit (s := S16x96x512) (k0_off3 k0_t1 v1320 k) S1x96x256.size (k0_off3_inb k0_t1 v1320 k0_hw1 k)).toLoadRect X_arg2) (View.readAt (Elt Ideal) arg5.view (Rect.unit (s := S320x96) ![0, 0] S320x96.size inb_S320x96_S320x96_0_0).toLoadRect X_arg5) (View.readAt (Elt Ideal) arg10.view (Rect.unit (s := S2x16x256) (k0_off4 k0_t1 v1320 k) S1x1x256.size (k0_off4_inb k0_t1 v1320 k0_hw1 k)).toLoadRect X_arg10)) (hotM (wd arg8 X_arg8 (k0_off26 k0_t1 v1320 k) (k0_off26_inb k0_t1 v1320 k0_hw1 k)) (wd arg9 X_arg9 (k0_off26 k0_t1 v1320 k) (k0_off26_inb k0_t1 v1320 k0_hw1 k)) (wd arg8 X_arg8 (k0_off27 k0_t1 v1320 k) (k0_off27_inb k0_t1 v1320 k0_hw1 k)) (wd arg9 X_arg9 (k0_off27 k0_t1 v1320 k) (k0_off27_inb k0_t1 v1320 k0_hw1 k)) (wd arg8 X_arg8 (k0_off28 k0_t1 v1320 k) (k0_off28_inb k0_t1 v1320 k0_hw1 k)) (wd arg9 X_arg9 (k0_off28 k0_t1 v1320 k) (k0_off28_inb k0_t1 v1320 k0_hw1 k)) (wd arg8 X_arg8 (k0_off29 k0_t1 v1320 k) (k0_off29_inb k0_t1 v1320 k0_hw1 k)) (wd arg9 X_arg9 (k0_off29 k0_t1 v1320 k) (k0_off29_inb k0_t1 v1320 k0_hw1 k)))) slices_S64x256_o32_128_S16x128 slices_S64x256_o48_128_S16x128 (View.readAt (Elt Ideal) arg11.view (Rect.unit (s := S16x10x16x128) (k0_off31 k0_t1) S1x1x16x128.size (k0_off31_inb k0_t1)).toLoadRect f_arg11)⟩,
      ⟨Rect.unit (s := S16x10x16x128) (k0_off30 k0_t1) S1x1x16x128.size (k0_off30_inb k0_t1), sumP (trip2.sl.v1350 (F := Ideal) v1320 k) ![0, 0] ![16, 0] (outM ![192, 0] slices_S320x256_o192_0_S64x256 (projM (View.readAt (Elt Ideal) arg2.view (Rect.unit (s := S16x96x512) (k0_off3 k0_t1 v1320 k) S1x96x256.size (k0_off3_inb k0_t1 v1320 k0_hw1 k)).toLoadRect X_arg2) (View.readAt (Elt Ideal) arg5.view (Rect.unit (s := S320x96) ![0, 0] S320x96.size inb_S320x96_S320x96_0_0).toLoadRect X_arg5) (View.readAt (Elt Ideal) arg10.view (Rect.unit (s := S2x16x256) (k0_off4 k0_t1 v1320 k) S1x1x256.size (k0_off4_inb k0_t1 v1320 k0_hw1 k)).toLoadRect X_arg10)) (hotM (wd arg8 X_arg8 (k0_off26 k0_t1 v1320 k) (k0_off26_inb k0_t1 v1320 k0_hw1 k)) (wd arg9 X_arg9 (k0_off26 k0_t1 v1320 k) (k0_off26_inb k0_t1 v1320 k0_hw1 k)) (wd arg8 X_arg8 (k0_off27 k0_t1 v1320 k) (k0_off27_inb k0_t1 v1320 k0_hw1 k)) (wd arg9 X_arg9 (k0_off27 k0_t1 v1320 k) (k0_off27_inb k0_t1 v1320 k0_hw1 k)) (wd arg8 X_arg8 (k0_off28 k0_t1 v1320 k) (k0_off28_inb k0_t1 v1320 k0_hw1 k)) (wd arg9 X_arg9 (k0_off28 k0_t1 v1320 k) (k0_off28_inb k0_t1 v1320 k0_hw1 k)) (wd arg8 X_arg8 (k0_off29 k0_t1 v1320 k) (k0_off29_inb k0_t1 v1320 k0_hw1 k)) (wd arg9 X_arg9 (k0_off29 k0_t1 v1320 k) (k0_off29_inb k0_t1 v1320 k0_hw1 k)))) slices_S64x256_o0_0_S16x128 slices_S64x256_o16_0_S16x128 (View.readAt (Elt Ideal) arg11.view (Rect.unit (s := S16x10x16x128) (k0_off30 k0_t1) S1x1x16x128.size (k0_off30_inb k0_t1)).toLoadRect f_arg11)⟩,
      ⟨Rect.unit (s := S16x10x16x128) (k0_off24 k0_t1) S1x1x16x128.size (k0_off24_inb k0_t1), sumP (trip2.sl.v1350 (F := Ideal) v1320 k) ![32, 128] ![48, 128] (outM ![128, 0] slices_S320x256_o128_0_S64x256 (projM (View.readAt (Elt Ideal) arg2.view (Rect.unit (s := S16x96x512) (k0_off3 k0_t1 v1320 k) S1x96x256.size (k0_off3_inb k0_t1 v1320 k0_hw1 k)).toLoadRect X_arg2) (View.readAt (Elt Ideal) arg5.view (Rect.unit (s := S320x96) ![0, 0] S320x96.size inb_S320x96_S320x96_0_0).toLoadRect X_arg5) (View.readAt (Elt Ideal) arg10.view (Rect.unit (s := S2x16x256) (k0_off4 k0_t1 v1320 k) S1x1x256.size (k0_off4_inb k0_t1 v1320 k0_hw1 k)).toLoadRect X_arg10)) (hotM (wd arg8 X_arg8 (k0_off19 k0_t1 v1320 k) (k0_off19_inb k0_t1 v1320 k0_hw1 k)) (wd arg9 X_arg9 (k0_off19 k0_t1 v1320 k) (k0_off19_inb k0_t1 v1320 k0_hw1 k)) (wd arg8 X_arg8 (k0_off20 k0_t1 v1320 k) (k0_off20_inb k0_t1 v1320 k0_hw1 k)) (wd arg9 X_arg9 (k0_off20 k0_t1 v1320 k) (k0_off20_inb k0_t1 v1320 k0_hw1 k)) (wd arg8 X_arg8 (k0_off21 k0_t1 v1320 k) (k0_off21_inb k0_t1 v1320 k0_hw1 k)) (wd arg9 X_arg9 (k0_off21 k0_t1 v1320 k) (k0_off21_inb k0_t1 v1320 k0_hw1 k)) (wd arg8 X_arg8 (k0_off22 k0_t1 v1320 k) (k0_off22_inb k0_t1 v1320 k0_hw1 k)) (wd arg9 X_arg9 (k0_off22 k0_t1 v1320 k) (k0_off22_inb k0_t1 v1320 k0_hw1 k)))) slices_S64x256_o32_128_S16x128 slices_S64x256_o48_128_S16x128 (View.readAt (Elt Ideal) arg11.view (Rect.unit (s := S16x10x16x128) (k0_off24 k0_t1) S1x1x16x128.size (k0_off24_inb k0_t1)).toLoadRect f_arg11)⟩,
      ⟨Rect.unit (s := S16x10x16x128) (k0_off23 k0_t1) S1x1x16x128.size (k0_off23_inb k0_t1), sumP (trip2.sl.v1350 (F := Ideal) v1320 k) ![0, 0] ![16, 0] (outM ![128, 0] slices_S320x256_o128_0_S64x256 (projM (View.readAt (Elt Ideal) arg2.view (Rect.unit (s := S16x96x512) (k0_off3 k0_t1 v1320 k) S1x96x256.size (k0_off3_inb k0_t1 v1320 k0_hw1 k)).toLoadRect X_arg2) (View.readAt (Elt Ideal) arg5.view (Rect.unit (s := S320x96) ![0, 0] S320x96.size inb_S320x96_S320x96_0_0).toLoadRect X_arg5) (View.readAt (Elt Ideal) arg10.view (Rect.unit (s := S2x16x256) (k0_off4 k0_t1 v1320 k) S1x1x256.size (k0_off4_inb k0_t1 v1320 k0_hw1 k)).toLoadRect X_arg10)) (hotM (wd arg8 X_arg8 (k0_off19 k0_t1 v1320 k) (k0_off19_inb k0_t1 v1320 k0_hw1 k)) (wd arg9 X_arg9 (k0_off19 k0_t1 v1320 k) (k0_off19_inb k0_t1 v1320 k0_hw1 k)) (wd arg8 X_arg8 (k0_off20 k0_t1 v1320 k) (k0_off20_inb k0_t1 v1320 k0_hw1 k)) (wd arg9 X_arg9 (k0_off20 k0_t1 v1320 k) (k0_off20_inb k0_t1 v1320 k0_hw1 k)) (wd arg8 X_arg8 (k0_off21 k0_t1 v1320 k) (k0_off21_inb k0_t1 v1320 k0_hw1 k)) (wd arg9 X_arg9 (k0_off21 k0_t1 v1320 k) (k0_off21_inb k0_t1 v1320 k0_hw1 k)) (wd arg8 X_arg8 (k0_off22 k0_t1 v1320 k) (k0_off22_inb k0_t1 v1320 k0_hw1 k)) (wd arg9 X_arg9 (k0_off22 k0_t1 v1320 k) (k0_off22_inb k0_t1 v1320 k0_hw1 k)))) slices_S64x256_o0_0_S16x128 slices_S64x256_o16_0_S16x128 (View.readAt (Elt Ideal) arg11.view (Rect.unit (s := S16x10x16x128) (k0_off23 k0_t1) S1x1x16x128.size (k0_off23_inb k0_t1)).toLoadRect f_arg11)⟩,
      ⟨Rect.unit (s := S16x10x16x128) (k0_off17 k0_t1) S1x1x16x128.size (k0_off17_inb k0_t1), sumP (trip2.sl.v1350 (F := Ideal) v1320 k) ![32, 128] ![48, 128] (outM ![64, 0] slices_S320x256_o64_0_S64x256 (projM (View.readAt (Elt Ideal) arg2.view (Rect.unit (s := S16x96x512) (k0_off3 k0_t1 v1320 k) S1x96x256.size (k0_off3_inb k0_t1 v1320 k0_hw1 k)).toLoadRect X_arg2) (View.readAt (Elt Ideal) arg5.view (Rect.unit (s := S320x96) ![0, 0] S320x96.size inb_S320x96_S320x96_0_0).toLoadRect X_arg5) (View.readAt (Elt Ideal) arg10.view (Rect.unit (s := S2x16x256) (k0_off4 k0_t1 v1320 k) S1x1x256.size (k0_off4_inb k0_t1 v1320 k0_hw1 k)).toLoadRect X_arg10)) (hotM (wd arg8 X_arg8 (k0_off12 k0_t1 v1320 k) (k0_off12_inb k0_t1 v1320 k0_hw1 k)) (wd arg9 X_arg9 (k0_off12 k0_t1 v1320 k) (k0_off12_inb k0_t1 v1320 k0_hw1 k)) (wd arg8 X_arg8 (k0_off13 k0_t1 v1320 k) (k0_off13_inb k0_t1 v1320 k0_hw1 k)) (wd arg9 X_arg9 (k0_off13 k0_t1 v1320 k) (k0_off13_inb k0_t1 v1320 k0_hw1 k)) (wd arg8 X_arg8 (k0_off14 k0_t1 v1320 k) (k0_off14_inb k0_t1 v1320 k0_hw1 k)) (wd arg9 X_arg9 (k0_off14 k0_t1 v1320 k) (k0_off14_inb k0_t1 v1320 k0_hw1 k)) (wd arg8 X_arg8 (k0_off15 k0_t1 v1320 k) (k0_off15_inb k0_t1 v1320 k0_hw1 k)) (wd arg9 X_arg9 (k0_off15 k0_t1 v1320 k) (k0_off15_inb k0_t1 v1320 k0_hw1 k)))) slices_S64x256_o32_128_S16x128 slices_S64x256_o48_128_S16x128 (View.readAt (Elt Ideal) arg11.view (Rect.unit (s := S16x10x16x128) (k0_off17 k0_t1) S1x1x16x128.size (k0_off17_inb k0_t1)).toLoadRect f_arg11)⟩,
      ⟨Rect.unit (s := S16x10x16x128) (k0_off16 k0_t1) S1x1x16x128.size (k0_off16_inb k0_t1), sumP (trip2.sl.v1350 (F := Ideal) v1320 k) ![0, 0] ![16, 0] (outM ![64, 0] slices_S320x256_o64_0_S64x256 (projM (View.readAt (Elt Ideal) arg2.view (Rect.unit (s := S16x96x512) (k0_off3 k0_t1 v1320 k) S1x96x256.size (k0_off3_inb k0_t1 v1320 k0_hw1 k)).toLoadRect X_arg2) (View.readAt (Elt Ideal) arg5.view (Rect.unit (s := S320x96) ![0, 0] S320x96.size inb_S320x96_S320x96_0_0).toLoadRect X_arg5) (View.readAt (Elt Ideal) arg10.view (Rect.unit (s := S2x16x256) (k0_off4 k0_t1 v1320 k) S1x1x256.size (k0_off4_inb k0_t1 v1320 k0_hw1 k)).toLoadRect X_arg10)) (hotM (wd arg8 X_arg8 (k0_off12 k0_t1 v1320 k) (k0_off12_inb k0_t1 v1320 k0_hw1 k)) (wd arg9 X_arg9 (k0_off12 k0_t1 v1320 k) (k0_off12_inb k0_t1 v1320 k0_hw1 k)) (wd arg8 X_arg8 (k0_off13 k0_t1 v1320 k) (k0_off13_inb k0_t1 v1320 k0_hw1 k)) (wd arg9 X_arg9 (k0_off13 k0_t1 v1320 k) (k0_off13_inb k0_t1 v1320 k0_hw1 k)) (wd arg8 X_arg8 (k0_off14 k0_t1 v1320 k) (k0_off14_inb k0_t1 v1320 k0_hw1 k)) (wd arg9 X_arg9 (k0_off14 k0_t1 v1320 k) (k0_off14_inb k0_t1 v1320 k0_hw1 k)) (wd arg8 X_arg8 (k0_off15 k0_t1 v1320 k) (k0_off15_inb k0_t1 v1320 k0_hw1 k)) (wd arg9 X_arg9 (k0_off15 k0_t1 v1320 k) (k0_off15_inb k0_t1 v1320 k0_hw1 k)))) slices_S64x256_o0_0_S16x128 slices_S64x256_o16_0_S16x128 (View.readAt (Elt Ideal) arg11.view (Rect.unit (s := S16x10x16x128) (k0_off16 k0_t1) S1x1x16x128.size (k0_off16_inb k0_t1)).toLoadRect f_arg11)⟩,
      ⟨Rect.unit (s := S16x10x16x128) (k0_off10 k0_t1) S1x1x16x128.size (k0_off10_inb k0_t1), sumP (trip2.sl.v1350 (F := Ideal) v1320 k) ![32, 128] ![48, 128] (outM ![0, 0] slices_S320x256_o0_0_S64x256 (projM (View.readAt (Elt Ideal) arg2.view (Rect.unit (s := S16x96x512) (k0_off3 k0_t1 v1320 k) S1x96x256.size (k0_off3_inb k0_t1 v1320 k0_hw1 k)).toLoadRect X_arg2) (View.readAt (Elt Ideal) arg5.view (Rect.unit (s := S320x96) ![0, 0] S320x96.size inb_S320x96_S320x96_0_0).toLoadRect X_arg5) (View.readAt (Elt Ideal) arg10.view (Rect.unit (s := S2x16x256) (k0_off4 k0_t1 v1320 k) S1x1x256.size (k0_off4_inb k0_t1 v1320 k0_hw1 k)).toLoadRect X_arg10)) (hotM (wd arg8 X_arg8 (k0_off5 k0_t1 v1320 k) (k0_off5_inb k0_t1 v1320 k0_hw1 k)) (wd arg9 X_arg9 (k0_off5 k0_t1 v1320 k) (k0_off5_inb k0_t1 v1320 k0_hw1 k)) (wd arg8 X_arg8 (k0_off6 k0_t1 v1320 k) (k0_off6_inb k0_t1 v1320 k0_hw1 k)) (wd arg9 X_arg9 (k0_off6 k0_t1 v1320 k) (k0_off6_inb k0_t1 v1320 k0_hw1 k)) (wd arg8 X_arg8 (k0_off7 k0_t1 v1320 k) (k0_off7_inb k0_t1 v1320 k0_hw1 k)) (wd arg9 X_arg9 (k0_off7 k0_t1 v1320 k) (k0_off7_inb k0_t1 v1320 k0_hw1 k)) (wd arg8 X_arg8 (k0_off8 k0_t1 v1320 k) (k0_off8_inb k0_t1 v1320 k0_hw1 k)) (wd arg9 X_arg9 (k0_off8 k0_t1 v1320 k) (k0_off8_inb k0_t1 v1320 k0_hw1 k)))) slices_S64x256_o32_128_S16x128 slices_S64x256_o48_128_S16x128 (View.readAt (Elt Ideal) arg11.view (Rect.unit (s := S16x10x16x128) (k0_off10 k0_t1) S1x1x16x128.size (k0_off10_inb k0_t1)).toLoadRect f_arg11)⟩,
      ⟨Rect.unit (s := S16x10x16x128) (k0_off9 k0_t1) S1x1x16x128.size (k0_off9_inb k0_t1), sumP (trip2.sl.v1350 (F := Ideal) v1320 k) ![0, 0] ![16, 0] (outM ![0, 0] slices_S320x256_o0_0_S64x256 (projM (View.readAt (Elt Ideal) arg2.view (Rect.unit (s := S16x96x512) (k0_off3 k0_t1 v1320 k) S1x96x256.size (k0_off3_inb k0_t1 v1320 k0_hw1 k)).toLoadRect X_arg2) (View.readAt (Elt Ideal) arg5.view (Rect.unit (s := S320x96) ![0, 0] S320x96.size inb_S320x96_S320x96_0_0).toLoadRect X_arg5) (View.readAt (Elt Ideal) arg10.view (Rect.unit (s := S2x16x256) (k0_off4 k0_t1 v1320 k) S1x1x256.size (k0_off4_inb k0_t1 v1320 k0_hw1 k)).toLoadRect X_arg10)) (hotM (wd arg8 X_arg8 (k0_off5 k0_t1 v1320 k) (k0_off5_inb k0_t1 v1320 k0_hw1 k)) (wd arg9 X_arg9 (k0_off5 k0_t1 v1320 k) (k0_off5_inb k0_t1 v1320 k0_hw1 k)) (wd arg8 X_arg8 (k0_off6 k0_t1 v1320 k) (k0_off6_inb k0_t1 v1320 k0_hw1 k)) (wd arg9 X_arg9 (k0_off6 k0_t1 v1320 k) (k0_off6_inb k0_t1 v1320 k0_hw1 k)) (wd arg8 X_arg8 (k0_off7 k0_t1 v1320 k) (k0_off7_inb k0_t1 v1320 k0_hw1 k)) (wd arg9 X_arg9 (k0_off7 k0_t1 v1320 k) (k0_off7_inb k0_t1 v1320 k0_hw1 k)) (wd arg8 X_arg8 (k0_off8 k0_t1 v1320 k) (k0_off8_inb k0_t1 v1320 k0_hw1 k)) (wd arg9 X_arg9 (k0_off8 k0_t1 v1320 k) (k0_off8_inb k0_t1 v1320 k0_hw1 k)))) slices_S64x256_o0_0_S16x128 slices_S64x256_o16_0_S16x128 (View.readAt (Elt Ideal) arg11.view (Rect.unit (s := S16x10x16x128) (k0_off9 k0_t1) S1x1x16x128.size (k0_off9_inb k0_t1)).toLoadRect f_arg11)⟩] := by
  unfold trip2
  rfl

theorem outM_apply (o0 : ℕ) (ho : o0 + 64 ≤ 320) (hs : Shape.Slices S320x256 ![o0, 0] S64x256) (p : FVec Ideal S320x256 .f32) (hot : FVec Ideal S256x256 .fp8e4m3)
    (hp : ∀ r s, p (ix2 r s) ≠ ⊥ ∧ p (ix2 r s) ≠ ⊤) (q : Fin 64) (col : Fin 256) :
    outM ![o0, 0] hs p hot (ix2 q col) = ∑ s : Fin 256, p (ix2 ⟨o0 + q.val, by omega⟩ s) * hot (ix2 col s) := by
  have hr : ∀ r s, p (ix2 r s) - p (ix2 r s) = 0 := fun r s => EReal.sub_self (hp r s).2 (hp r s).1
  pointwise [outM]
  simp only [hr]
  simp

theorem lane_lt (lane : ℕ) (h : lane < 128) : IntOp.cmpi .slt (BitVec.ofNat 32 lane) 64#32 = if lane < 64 then 1#1 else 0#1 := by
  interval_cases lane <;> rfl

theorem sumP_apply (first : BitVec 1) (h : Fin 2) (out : FVec Ideal S64x256 .f32) (h1 : Shape.Slices S64x256 ![32 * h.val, 128 * h.val] S16x128) (h2 : Shape.Slices S64x256 ![32 * h.val + 16, 128 * h.val] S16x128)
    (old : FVec Ideal S1x1x16x128 .f32) (dp : Fin 16) (lane : Fin 128) :
    sumP first ![32 * h.val, 128 * h.val] ![32 * h.val + 16, 128 * h.val] out h1 h2 old (ix4 0 0 dp lane)
      = out (ix2 ⟨32 * h.val + 16 * (lane.val / 64) + dp.val, by omega⟩ ⟨128 * h.val + lane.val, by omega⟩) + (if first = 1#1 then 0 else old (ix4 0 0 dp lane)) := by
  pointwise [sumP]
  rw [lane_lt _ lane.isLt]
  refine congrArg₂ (· + ·) ?_ rfl
  by_cases hl : lane.val < 64
  · rw [if_pos hl]
    have e : 32 * h.val + 16 * (lane.val / 64) + dp.val = 32 * h.val + dp.val := by omega
    simp only [e]
    rfl
  · rw [if_neg hl]
    have e : 32 * h.val + 16 * (lane.val / 64) + dp.val = 32 * h.val + 16 + dp.val := by omega
    simp only [e]
    rfl

theorem cntP_apply (first : BitVec 1) (hot : FVec Ideal S256x256 .fp8e4m3) (old : FVec Ideal S1x256 .f32) (col : Fin 256) :
    cntP first hot old (ix2 0 col) = (∑ s : Fin 256, hot (ix2 col s)) + (if first = 1#1 then 0 else old (ix2 0 col)) := by
  pointwise [cntP, cntM]
  rfl

/-- A word read of the scratch is the scratch's element. -/
theorem wd_apply (m : Memref sig .tc .vmem S2x20x16x256 .i32) (X : BufTy.Contents (Elt Ideal) m.view.ty) (off : Fin 4 → ℕ) (h : ∀ a, off a + S1x1x1x256.size a ≤ S2x20x16x256.size a)
    (k : Fin 2) (r : Fin 20) (t : Fin 16) (hoff : off = ![k.val, r.val, t.val, 0]) (s : Fin 256) :
    wd m X off h (ix4 0 0 0 s) = m.view.read (Elt Ideal) X (ix4 k r t s) := by
  subst hoff
  show m.view.read (Elt Ideal) X _ = _
  congr 1
  funext a
  apply Fin.ext
  match a with
  | ⟨0, _⟩ => rfl
  | ⟨1, _⟩ => rfl
  | ⟨2, _⟩ => rfl
  | ⟨3, _⟩ => show 0 + 1 * s.val = s.val; omega

/-- The one-hot entry of a repetition's bucket at a token, of the words and byte words of a document. -/
def hotAt (W B : Fin 20 → Fin 256 → BitVec 32) (r : Fin 20) (b : ℕ) (s : Fin 256) : EReal :=
  Ideal.ofBits .fp8e4m3 ((pick (W r s) (BitVec.ofNat 32 (b / 4)) (B r s)).extractLsb' (8 * (b % 4)) 8)

theorem hotM_group (g : Fin 5) (W B : Fin 20 → Fin 256 → BitVec 32) (w0 b0 w1 b1 w2 b2 w3 b3 : IVec S1x1x1x256 32)
    (hw0 : ∀ s, w0 (ix4 0 0 0 s) = W ⟨4 * g.val, by omega⟩ s) (hb0 : ∀ s, b0 (ix4 0 0 0 s) = B ⟨4 * g.val, by omega⟩ s)
    (hw1 : ∀ s, w1 (ix4 0 0 0 s) = W ⟨4 * g.val + 1, by omega⟩ s) (hb1 : ∀ s, b1 (ix4 0 0 0 s) = B ⟨4 * g.val + 1, by omega⟩ s)
    (hw2 : ∀ s, w2 (ix4 0 0 0 s) = W ⟨4 * g.val + 2, by omega⟩ s) (hb2 : ∀ s, b2 (ix4 0 0 0 s) = B ⟨4 * g.val + 2, by omega⟩ s)
    (hw3 : ∀ s, w3 (ix4 0 0 0 s) = W ⟨4 * g.val + 3, by omega⟩ s) (hb3 : ∀ s, b3 (ix4 0 0 0 s) = B ⟨4 * g.val + 3, by omega⟩ s)
    (col s : Fin 256) : hotM w0 b0 w1 b1 w2 b2 w3 b3 (ix2 col s) = hotAt W B ⟨4 * g.val + col.val / 64, by omega⟩ (col.val % 64) s := by
  refine (hotM_apply ![w0, w1, w2, w3] ![b0, b1, b2, b3] col s).trans ?_
  unfold hotAt
  have hc : col.val / 64 = 0 ∨ col.val / 64 = 1 ∨ col.val / 64 = 2 ∨ col.val / 64 = 3 := by omega
  have e4 : col.val % 64 % 4 = col.val % 4 := by omega
  rw [e4]
  rcases hc with h | h | h | h <;> simp only [h]
  · exact congrArg₂ (fun x y => Ideal.ofBits .fp8e4m3 ((pick x _ y).extractLsb' _ 8)) (hw0 s) (hb0 s)
  · exact congrArg₂ (fun x y => Ideal.ofBits .fp8e4m3 ((pick x _ y).extractLsb' _ 8)) (hw1 s) (hb1 s)
  · exact congrArg₂ (fun x y => Ideal.ofBits .fp8e4m3 ((pick x _ y).extractLsb' _ 8)) (hw2 s) (hb2 s)
  · exact congrArg₂ (fun x y => Ideal.ofBits .fp8e4m3 ((pick x _ y).extractLsb' _ 8)) (hw3 s) (hb3 s)

/-- What one tile adds to a sum: bucket `lane % 64` of repetition `2 u + lane / 64`, at output coordinate `dp`. -/
def tileSum (p : FVec Ideal S320x256 .f32) (W B : Fin 20 → Fin 256 → BitVec 32) (u : Fin 10) (dp : Fin 16) (lane : Fin 128) : EReal :=
  ∑ s : Fin 256, p (ix2 ⟨(2 * u.val + lane.val / 64) * 16 + dp.val, by omega⟩ s) * hotAt W B ⟨2 * u.val + lane.val / 64, by omega⟩ (lane.val % 64) s

/-- What one tile adds to a count. -/
def tileCnt (W B : Fin 20 → Fin 256 → BitVec 32) (col : Fin 1280) : EReal := ∑ s : Fin 256, hotAt W B ⟨col.val / 64, by omega⟩ (col.val % 64) s

/-- The sums after a tile at a place of the block: the tile's sum added to what was there, or to nothing in the first tile. -/
def sumG (first : BitVec 1) (p : FVec Ideal S320x256 .f32) (W B : Fin 20 → Fin 256 → BitVec 32) (old : S16x10x16x128.Idx → EReal) (y : S16x10x16x128.Idx) : EReal :=
  tileSum p W B (y 1) (y 2) (y 3) + (if first = 1#1 then 0 else old y)

/-- One piece of a trip's sums is the tile's sums added to what was there. -/
theorem sum_piece (g : Fin 5) (h : Fin 2) (arg11 : Memref sig .tc .vmem S16x10x16x128 .f32) (f : BufTy.Contents (Elt Ideal) arg11.view.ty) (first : BitVec 1) (t : Fin 16)
    (off : Fin 4 → ℕ) (inb : ∀ a, off a + S1x1x16x128.size a ≤ S16x10x16x128.size a) (hoff : off = ![t.val, 2 * g.val + h.val, 0, 0])
    (hs : Shape.Slices S320x256 ![64 * g.val, 0] S64x256) (p : FVec Ideal S320x256 .f32) (hot : FVec Ideal S256x256 .fp8e4m3) (W B : Fin 20 → Fin 256 → BitVec 32)
    (hp : ∀ r s, p (ix2 r s) ≠ ⊥ ∧ p (ix2 r s) ≠ ⊤) (hhot : ∀ col s : Fin 256, hot (ix2 col s) = hotAt W B ⟨4 * g.val + col.val / 64, by omega⟩ (col.val % 64) s)
    (h1 : Shape.Slices S64x256 ![32 * h.val, 128 * h.val] S16x128) (h2 : Shape.Slices S64x256 ![32 * h.val + 16, 128 * h.val] S16x128) (x : S1x1x16x128.Idx) :
    sumP first ![32 * h.val, 128 * h.val] ![32 * h.val + 16, 128 * h.val] (outM ![64 * g.val, 0] hs p hot) h1 h2 (View.readAt (Elt Ideal) arg11.view (Rect.unit (s := S16x10x16x128) off S1x1x16x128.size inb).toLoadRect f) x
      = sumG first p W B (arg11.view.read (Elt Ideal) f) ((Rect.unit (s := S16x10x16x128) off S1x1x16x128.size inb).emb x) := by
  subst hoff
  obtain ⟨dp, lane, rfl⟩ : ∃ (dp : Fin 16) (lane : Fin 128), x = ix4 0 0 dp lane := ⟨x 2, x 3, by
    funext a; apply Fin.ext
    match a with
    | ⟨0, _⟩ => have := (x 0).isLt; show (x 0).val = 0; change (x 0).val < 1 at this; omega
    | ⟨1, _⟩ => have := (x 1).isLt; show (x 1).val = 0; change (x 1).val < 1 at this; omega
    | ⟨2, _⟩ => rfl
    | ⟨3, _⟩ => rfl⟩
  have hy : (Rect.unit (s := S16x10x16x128) ![t.val, 2 * g.val + h.val, 0, 0] S1x1x16x128.size inb).emb (ix4 0 0 dp lane) = ix4 t ⟨2 * g.val + h.val, by omega⟩ dp lane := by
    funext a; apply Fin.ext
    match a with
    | ⟨0, _⟩ => rfl
    | ⟨1, _⟩ => rfl
    | ⟨2, _⟩ => show 0 + 1 * dp.val = dp.val; omega
    | ⟨3, _⟩ => show 0 + 1 * lane.val = lane.val; omega
  refine (sumP_apply first h _ h1 h2 _ dp lane).trans (Eq.trans ?_ (congrArg (sumG first p W B (arg11.view.read (Elt Ideal) f)) hy.symm))
  refine congrArg₂ (· + ·) ?_ ?_
  · rw [outM_apply (64 * g.val) (by omega) hs p hot hp]
    show _ = tileSum p W B ⟨2 * g.val + h.val, _⟩ dp lane
    unfold tileSum
    refine Finset.sum_congr rfl fun s _ => ?_
    rw [hhot]
    have e1 : 64 * g.val + (32 * h.val + 16 * (lane.val / 64) + dp.val) = (2 * (2 * g.val + h.val) + lane.val / 64) * 16 + dp.val := by omega
    have e2 : 4 * g.val + (128 * h.val + lane.val) / 64 = 2 * (2 * g.val + h.val) + lane.val / 64 := by omega
    have e3 : (128 * h.val + lane.val) % 64 = lane.val % 64 := by omega
    simp only [e1, e2, e3]
  · refine congrArg (fun z => if first = 1#1 then 0 else z) ?_
    exact congrArg (arg11.view.read (Elt Ideal) f) hy

theorem k0_off5_at (t1 : Fin k0_t1_loop.trips) (v : BitVec 32) (k : Fin (k0_t2_loop v).trips) (hk : k.val < 2) :
    k0_off5 t1 v k = ![k.val, 0, t1.val, 0] := by
  unfold k0_off5
  generalize k.val = n at hk ⊢
  clear k v
  revert n t1
  decide +kernel
theorem k0_off6_at (t1 : Fin k0_t1_loop.trips) (v : BitVec 32) (k : Fin (k0_t2_loop v).trips) (hk : k.val < 2) :
    k0_off6 t1 v k = ![k.val, 1, t1.val, 0] := by
  unfold k0_off6
  generalize k.val = n at hk ⊢
  clear k v
  revert n t1
  decide +kernel
theorem k0_off7_at (t1 : Fin k0_t1_loop.trips) (v : BitVec 32) (k : Fin (k0_t2_loop v).trips) (hk : k.val < 2) :
    k0_off7 t1 v k = ![k.val, 2, t1.val, 0] := by
  unfold k0_off7
  generalize k.val = n at hk ⊢
  clear k v
  revert n t1
  decide +kernel
theorem k0_off8_at (t1 : Fin k0_t1_loop.trips) (v : BitVec 32) (k : Fin (k0_t2_loop v).trips) (hk : k.val < 2) :
    k0_off8 t1 v k = ![k.val, 3, t1.val, 0] := by
  unfold k0_off8
  generalize k.val = n at hk ⊢
  clear k v
  revert n t1
  decide +kernel
theorem k0_off12_at (t1 : Fin k0_t1_loop.trips) (v : BitVec 32) (k : Fin (k0_t2_loop v).trips) (hk : k.val < 2) :
    k0_off12 t1 v k = ![k.val, 4, t1.val, 0] := by
  unfold k0_off12
  generalize k.val = n at hk ⊢
  clear k v
  revert n t1
  decide +kernel
theorem k0_off13_at (t1 : Fin k0_t1_loop.trips) (v : BitVec 32) (k : Fin (k0_t2_loop v).trips) (hk : k.val < 2) :
    k0_off13 t1 v k = ![k.val, 5, t1.val, 0] := by
  unfold k0_off13
  generalize k.val = n at hk ⊢
  clear k v
  revert n t1
  decide +kernel
theorem k0_off14_at (t1 : Fin k0_t1_loop.trips) (v : BitVec 32) (k : Fin (k0_t2_loop v).trips) (hk : k.val < 2) :
    k0_off14 t1 v k = ![k.val, 6, t1.val, 0] := by
  unfold k0_off14
  generalize k.val = n at hk ⊢
  clear k v
  revert n t1
  decide +kernel
theorem k0_off15_at (t1 : Fin k0_t1_loop.trips) (v : BitVec 32) (k : Fin (k0_t2_loop v).trips) (hk : k.val < 2) :
    k0_off15 t1 v k = ![k.val, 7, t1.val, 0] := by
  unfold k0_off15
  generalize k.val = n at hk ⊢
  clear k v
  revert n t1
  decide +kernel
theorem k0_off19_at (t1 : Fin k0_t1_loop.trips) (v : BitVec 32) (k : Fin (k0_t2_loop v).trips) (hk : k.val < 2) :
    k0_off19 t1 v k = ![k.val, 8, t1.val, 0] := by
  unfold k0_off19
  generalize k.val = n at hk ⊢
  clear k v
  revert n t1
  decide +kernel
theorem k0_off20_at (t1 : Fin k0_t1_loop.trips) (v : BitVec 32) (k : Fin (k0_t2_loop v).trips) (hk : k.val < 2) :
    k0_off20 t1 v k = ![k.val, 9, t1.val, 0] := by
  unfold k0_off20
  generalize k.val = n at hk ⊢
  clear k v
  revert n t1
  decide +kernel
theorem k0_off21_at (t1 : Fin k0_t1_loop.trips) (v : BitVec 32) (k : Fin (k0_t2_loop v).trips) (hk : k.val < 2) :
    k0_off21 t1 v k = ![k.val, 10, t1.val, 0] := by
  unfold k0_off21
  generalize k.val = n at hk ⊢
  clear k v
  revert n t1
  decide +kernel
theorem k0_off22_at (t1 : Fin k0_t1_loop.trips) (v : BitVec 32) (k : Fin (k0_t2_loop v).trips) (hk : k.val < 2) :
    k0_off22 t1 v k = ![k.val, 11, t1.val, 0] := by
  unfold k0_off22
  generalize k.val = n at hk ⊢
  clear k v
  revert n t1
  decide +kernel
theorem k0_off26_at (t1 : Fin k0_t1_loop.trips) (v : BitVec 32) (k : Fin (k0_t2_loop v).trips) (hk : k.val < 2) :
    k0_off26 t1 v k = ![k.val, 12, t1.val, 0] := by
  unfold k0_off26
  generalize k.val = n at hk ⊢
  clear k v
  revert n t1
  decide +kernel
theorem k0_off27_at (t1 : Fin k0_t1_loop.trips) (v : BitVec 32) (k : Fin (k0_t2_loop v).trips) (hk : k.val < 2) :
    k0_off27 t1 v k = ![k.val, 13, t1.val, 0] := by
  unfold k0_off27
  generalize k.val = n at hk ⊢
  clear k v
  revert n t1
  decide +kernel
theorem k0_off28_at (t1 : Fin k0_t1_loop.trips) (v : BitVec 32) (k : Fin (k0_t2_loop v).trips) (hk : k.val < 2) :
    k0_off28 t1 v k = ![k.val, 14, t1.val, 0] := by
  unfold k0_off28
  generalize k.val = n at hk ⊢
  clear k v
  revert n t1
  decide +kernel
theorem k0_off29_at (t1 : Fin k0_t1_loop.trips) (v : BitVec 32) (k : Fin (k0_t2_loop v).trips) (hk : k.val < 2) :
    k0_off29 t1 v k = ![k.val, 15, t1.val, 0] := by
  unfold k0_off29
  generalize k.val = n at hk ⊢
  clear k v
  revert n t1
  decide +kernel
theorem k0_off33_at (t1 : Fin k0_t1_loop.trips) (v : BitVec 32) (k : Fin (k0_t2_loop v).trips) (hk : k.val < 2) :
    k0_off33 t1 v k = ![k.val, 16, t1.val, 0] := by
  unfold k0_off33
  generalize k.val = n at hk ⊢
  clear k v
  revert n t1
  decide +kernel
theorem k0_off34_at (t1 : Fin k0_t1_loop.trips) (v : BitVec 32) (k : Fin (k0_t2_loop v).trips) (hk : k.val < 2) :
    k0_off34 t1 v k = ![k.val, 17, t1.val, 0] := by
  unfold k0_off34
  generalize k.val = n at hk ⊢
  clear k v
  revert n t1
  decide +kernel
theorem k0_off35_at (t1 : Fin k0_t1_loop.trips) (v : BitVec 32) (k : Fin (k0_t2_loop v).trips) (hk : k.val < 2) :
    k0_off35 t1 v k = ![k.val, 18, t1.val, 0] := by
  unfold k0_off35
  generalize k.val = n at hk ⊢
  clear k v
  revert n t1
  decide +kernel
theorem k0_off36_at (t1 : Fin k0_t1_loop.trips) (v : BitVec 32) (k : Fin (k0_t2_loop v).trips) (hk : k.val < 2) :
    k0_off36 t1 v k = ![k.val, 19, t1.val, 0] := by
  unfold k0_off36
  generalize k.val = n at hk ⊢
  clear k v
  revert n t1
  decide +kernel
theorem k0_off3_at (t1 : Fin k0_t1_loop.trips) (v : BitVec 32) (k : Fin (k0_t2_loop v).trips) (hk : k.val < 2) :
    k0_off3 t1 v k = ![t1.val, 0, 256 * k.val] := by
  unfold k0_off3
  generalize k.val = n at hk ⊢
  clear k v
  revert n t1
  decide +kernel
theorem k0_off4_at (t1 : Fin k0_t1_loop.trips) (v : BitVec 32) (k : Fin (k0_t2_loop v).trips) (hk : k.val < 2) :
    k0_off4 t1 v k = ![k.val, t1.val, 0] := by
  unfold k0_off4
  generalize k.val = n at hk ⊢
  clear k v
  revert n t1
  decide +kernel

theorem mem_sum (t : Fin 16) (u : Fin 10) (dp : Fin 16) (lane : Fin 128) (off : Fin 4 → ℕ) (inb : ∀ a, off a + S1x1x16x128.size a ≤ S16x10x16x128.size a) (hoff : off = ![t.val, u.val, 0, 0]) :
    (ix4 t u dp lane : S16x10x16x128.Idx) ∈ (Rect.unit (s := S16x10x16x128) off S1x1x16x128.size inb).set := by
  subst hoff
  rw [Rect.mem_set_unit]
  intro a
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, (Nat.zero_add 16).symm ▸ dp.isLt⟩
  | ⟨3, _⟩ => exact ⟨Nat.zero_le _, (Nat.zero_add 128).symm ▸ lane.isLt⟩

theorem miss_sum (d t : Fin 16) (u u' : Fin 10) (dp : Fin 16) (lane : Fin 128) (off : Fin 4 → ℕ) (inb : ∀ a, off a + S1x1x16x128.size a ≤ S16x10x16x128.size a) (hoff : off = ![t.val, u'.val, 0, 0]) (hd : ¬ d = t) :
    (ix4 d u dp lane : S16x10x16x128.Idx) ∉ (Rect.unit (s := S16x10x16x128) off S1x1x16x128.size inb).set := by
  subst hoff
  rw [Rect.mem_set_unit]
  intro h
  have := h 0
  change t.val ≤ d.val ∧ d.val < t.val + 1 at this
  exact hd (Fin.ext (by omega))

set_option maxHeartbeats 1600000 in
/-- A trip's sums: the tile's added to the document's own, every other document's left alone. -/
theorem trip2_sums_read  (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (k0_t1 : Fin k0_t1_loop.trips) (arg13 : BitVec 32) (v1320 : Elt Ideal .i32) (k0_hw1 : k0_chk1 k0_t1 v1320) (X_arg2 : BufTy.Contents (Elt Ideal) arg2.view.ty) (X_arg5 : BufTy.Contents (Elt Ideal) arg5.view.ty) (X_arg8 : BufTy.Contents (Elt Ideal) arg8.view.ty) (X_arg9 : BufTy.Contents (Elt Ideal) arg9.view.ty) (X_arg10 : BufTy.Contents (Elt Ideal) arg10.view.ty) (k : Fin (k0_t2_loop v1320).trips)  (f_arg11 : BufTy.Contents (Elt Ideal) arg11.view.ty) (f_arg12 : BufTy.Contents (Elt Ideal) arg12.view.ty) (td : Fin 16) (htd : td.val = k0_t1.val) (kk : Fin 2) (hkk : k.val = kk.val)
    (p : FVec Ideal S320x256 .f32) (hpe : p = (projM (View.readAt (Elt Ideal) arg2.view (Rect.unit (s := S16x96x512) (k0_off3 k0_t1 v1320 k) S1x96x256.size (k0_off3_inb k0_t1 v1320 k0_hw1 k)).toLoadRect X_arg2) (View.readAt (Elt Ideal) arg5.view (Rect.unit (s := S320x96) ![0, 0] S320x96.size inb_S320x96_S320x96_0_0).toLoadRect X_arg5) (View.readAt (Elt Ideal) arg10.view (Rect.unit (s := S2x16x256) (k0_off4 k0_t1 v1320 k) S1x1x256.size (k0_off4_inb k0_t1 v1320 k0_hw1 k)).toLoadRect X_arg10))) (hp : ∀ r s, p (ix2 r s) ≠ ⊥ ∧ p (ix2 r s) ≠ ⊤)
    (d : Fin 16) (u : Fin 10) (dp : Fin 16) (lane : Fin 128) :
    arg11.view.read (Elt Ideal) (arg11.view.writes (Elt Ideal) f_arg11 ((trip2 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) k0_t1 arg13 v1320 k0_hw1 X_arg2 X_arg5 X_arg8 X_arg9 X_arg10 k).1 f_arg11 f_arg12)) (ix4 d u dp lane)
      = if d = td then sumG (trip2.sl.v1350 (F := Ideal) v1320 k) p (fun r s => arg8.view.read (Elt Ideal) X_arg8 (ix4 kk r td s)) (fun r s => arg9.view.read (Elt Ideal) X_arg9 (ix4 kk r td s)) (arg11.view.read (Elt Ideal) f_arg11) (ix4 d u dp lane)
        else arg11.view.read (Elt Ideal) f_arg11 (ix4 d u dp lane) := by
  rw [trip2_sums]
  subst hpe
  have hk : k.val < 2 := by omega
  generalize hW : (fun (r : Fin 20) (s : Fin 256) => arg8.view.read (Elt Ideal) X_arg8 (ix4 kk r td s)) = W
  generalize hB : (fun (r : Fin 20) (s : Fin 256) => arg9.view.read (Elt Ideal) X_arg9 (ix4 kk r td s)) = B
  split
  · rename_i hd
    subst hd
    refine View.read_writes_apply_of_pieces (Val := Elt Ideal) (e := .f32) arg11.view f_arg11 (sumG (trip2.sl.v1350 (F := Ideal) v1320 k) (projM (View.readAt (Elt Ideal) arg2.view (Rect.unit (s := S16x96x512) (k0_off3 k0_t1 v1320 k) S1x96x256.size (k0_off3_inb k0_t1 v1320 k0_hw1 k)).toLoadRect X_arg2) (View.readAt (Elt Ideal) arg5.view (Rect.unit (s := S320x96) ![0, 0] S320x96.size inb_S320x96_S320x96_0_0).toLoadRect X_arg5) (View.readAt (Elt Ideal) arg10.view (Rect.unit (s := S2x16x256) (k0_off4 k0_t1 v1320 k) S1x1x256.size (k0_off4_inb k0_t1 v1320 k0_hw1 k)).toLoadRect X_arg10)) W B (arg11.view.read (Elt Ideal) f_arg11)) _ ?_ _ ?_
    · subst hW hB
      simp only [List.forall_mem_cons, List.not_mem_nil, false_imp_iff, implies_true, and_true]
      refine ⟨?_, ?_, ?_, ?_, ?_, ?_, ?_, ?_, ?_, ?_⟩
      · exact fun x => sum_piece 4 1 arg11 f_arg11 _ d (k0_off38 k0_t1) (k0_off38_inb k0_t1) (by rw [k0_off38_eq, htd]; rfl) _ _ _ _ _ hp (fun col s => hotM_group 4 (fun (r : Fin 20) (s : Fin 256) => arg8.view.read (Elt Ideal) X_arg8 (ix4 kk r d s)) (fun (r : Fin 20) (s : Fin 256) => arg9.view.read (Elt Ideal) X_arg9 (ix4 kk r d s)) _ _ _ _ _ _ _ _ (fun s => wd_apply arg8 X_arg8 _ _ kk ⟨4 * (4 : Fin 5).val + 0, by decide⟩ d (by rw [k0_off33_at k0_t1 v1320 k hk, hkk, htd]; rfl) s) (fun s => wd_apply arg9 X_arg9 _ _ kk ⟨4 * (4 : Fin 5).val + 0, by decide⟩ d (by rw [k0_off33_at k0_t1 v1320 k hk, hkk, htd]; rfl) s) (fun s => wd_apply arg8 X_arg8 _ _ kk ⟨4 * (4 : Fin 5).val + 1, by decide⟩ d (by rw [k0_off34_at k0_t1 v1320 k hk, hkk, htd]; rfl) s) (fun s => wd_apply arg9 X_arg9 _ _ kk ⟨4 * (4 : Fin 5).val + 1, by decide⟩ d (by rw [k0_off34_at k0_t1 v1320 k hk, hkk, htd]; rfl) s) (fun s => wd_apply arg8 X_arg8 _ _ kk ⟨4 * (4 : Fin 5).val + 2, by decide⟩ d (by rw [k0_off35_at k0_t1 v1320 k hk, hkk, htd]; rfl) s) (fun s => wd_apply arg9 X_arg9 _ _ kk ⟨4 * (4 : Fin 5).val + 2, by decide⟩ d (by rw [k0_off35_at k0_t1 v1320 k hk, hkk, htd]; rfl) s) (fun s => wd_apply arg8 X_arg8 _ _ kk ⟨4 * (4 : Fin 5).val + 3, by decide⟩ d (by rw [k0_off36_at k0_t1 v1320 k hk, hkk, htd]; rfl) s) (fun s => wd_apply arg9 X_arg9 _ _ kk ⟨4 * (4 : Fin 5).val + 3, by decide⟩ d (by rw [k0_off36_at k0_t1 v1320 k hk, hkk, htd]; rfl) s) col s) _ _ x
      · exact fun x => sum_piece 4 0 arg11 f_arg11 _ d (k0_off37 k0_t1) (k0_off37_inb k0_t1) (by rw [k0_off37_eq, htd]; rfl) _ _ _ _ _ hp (fun col s => hotM_group 4 (fun (r : Fin 20) (s : Fin 256) => arg8.view.read (Elt Ideal) X_arg8 (ix4 kk r d s)) (fun (r : Fin 20) (s : Fin 256) => arg9.view.read (Elt Ideal) X_arg9 (ix4 kk r d s)) _ _ _ _ _ _ _ _ (fun s => wd_apply arg8 X_arg8 _ _ kk ⟨4 * (4 : Fin 5).val + 0, by decide⟩ d (by rw [k0_off33_at k0_t1 v1320 k hk, hkk, htd]; rfl) s) (fun s => wd_apply arg9 X_arg9 _ _ kk ⟨4 * (4 : Fin 5).val + 0, by decide⟩ d (by rw [k0_off33_at k0_t1 v1320 k hk, hkk, htd]; rfl) s) (fun s => wd_apply arg8 X_arg8 _ _ kk ⟨4 * (4 : Fin 5).val + 1, by decide⟩ d (by rw [k0_off34_at k0_t1 v1320 k hk, hkk, htd]; rfl) s) (fun s => wd_apply arg9 X_arg9 _ _ kk ⟨4 * (4 : Fin 5).val + 1, by decide⟩ d (by rw [k0_off34_at k0_t1 v1320 k hk, hkk, htd]; rfl) s) (fun s => wd_apply arg8 X_arg8 _ _ kk ⟨4 * (4 : Fin 5).val + 2, by decide⟩ d (by rw [k0_off35_at k0_t1 v1320 k hk, hkk, htd]; rfl) s) (fun s => wd_apply arg9 X_arg9 _ _ kk ⟨4 * (4 : Fin 5).val + 2, by decide⟩ d (by rw [k0_off35_at k0_t1 v1320 k hk, hkk, htd]; rfl) s) (fun s => wd_apply arg8 X_arg8 _ _ kk ⟨4 * (4 : Fin 5).val + 3, by decide⟩ d (by rw [k0_off36_at k0_t1 v1320 k hk, hkk, htd]; rfl) s) (fun s => wd_apply arg9 X_arg9 _ _ kk ⟨4 * (4 : Fin 5).val + 3, by decide⟩ d (by rw [k0_off36_at k0_t1 v1320 k hk, hkk, htd]; rfl) s) col s) _ _ x
      · exact fun x => sum_piece 3 1 arg11 f_arg11 _ d (k0_off31 k0_t1) (k0_off31_inb k0_t1) (by rw [k0_off31_eq, htd]; rfl) _ _ _ _ _ hp (fun col s => hotM_group 3 (fun (r : Fin 20) (s : Fin 256) => arg8.view.read (Elt Ideal) X_arg8 (ix4 kk r d s)) (fun (r : Fin 20) (s : Fin 256) => arg9.view.read (Elt Ideal) X_arg9 (ix4 kk r d s)) _ _ _ _ _ _ _ _ (fun s => wd_apply arg8 X_arg8 _ _ kk ⟨4 * (3 : Fin 5).val + 0, by decide⟩ d (by rw [k0_off26_at k0_t1 v1320 k hk, hkk, htd]; rfl) s) (fun s => wd_apply arg9 X_arg9 _ _ kk ⟨4 * (3 : Fin 5).val + 0, by decide⟩ d (by rw [k0_off26_at k0_t1 v1320 k hk, hkk, htd]; rfl) s) (fun s => wd_apply arg8 X_arg8 _ _ kk ⟨4 * (3 : Fin 5).val + 1, by decide⟩ d (by rw [k0_off27_at k0_t1 v1320 k hk, hkk, htd]; rfl) s) (fun s => wd_apply arg9 X_arg9 _ _ kk ⟨4 * (3 : Fin 5).val + 1, by decide⟩ d (by rw [k0_off27_at k0_t1 v1320 k hk, hkk, htd]; rfl) s) (fun s => wd_apply arg8 X_arg8 _ _ kk ⟨4 * (3 : Fin 5).val + 2, by decide⟩ d (by rw [k0_off28_at k0_t1 v1320 k hk, hkk, htd]; rfl) s) (fun s => wd_apply arg9 X_arg9 _ _ kk ⟨4 * (3 : Fin 5).val + 2, by decide⟩ d (by rw [k0_off28_at k0_t1 v1320 k hk, hkk, htd]; rfl) s) (fun s => wd_apply arg8 X_arg8 _ _ kk ⟨4 * (3 : Fin 5).val + 3, by decide⟩ d (by rw [k0_off29_at k0_t1 v1320 k hk, hkk, htd]; rfl) s) (fun s => wd_apply arg9 X_arg9 _ _ kk ⟨4 * (3 : Fin 5).val + 3, by decide⟩ d (by rw [k0_off29_at k0_t1 v1320 k hk, hkk, htd]; rfl) s) col s) _ _ x
      · exact fun x => sum_piece 3 0 arg11 f_arg11 _ d (k0_off30 k0_t1) (k0_off30_inb k0_t1) (by rw [k0_off30_eq, htd]; rfl) _ _ _ _ _ hp (fun col s => hotM_group 3 (fun (r : Fin 20) (s : Fin 256) => arg8.view.read (Elt Ideal) X_arg8 (ix4 kk r d s)) (fun (r : Fin 20) (s : Fin 256) => arg9.view.read (Elt Ideal) X_arg9 (ix4 kk r d s)) _ _ _ _ _ _ _ _ (fun s => wd_apply arg8 X_arg8 _ _ kk ⟨4 * (3 : Fin 5).val + 0, by decide⟩ d (by rw [k0_off26_at k0_t1 v1320 k hk, hkk, htd]; rfl) s) (fun s => wd_apply arg9 X_arg9 _ _ kk ⟨4 * (3 : Fin 5).val + 0, by decide⟩ d (by rw [k0_off26_at k0_t1 v1320 k hk, hkk, htd]; rfl) s) (fun s => wd_apply arg8 X_arg8 _ _ kk ⟨4 * (3 : Fin 5).val + 1, by decide⟩ d (by rw [k0_off27_at k0_t1 v1320 k hk, hkk, htd]; rfl) s) (fun s => wd_apply arg9 X_arg9 _ _ kk ⟨4 * (3 : Fin 5).val + 1, by decide⟩ d (by rw [k0_off27_at k0_t1 v1320 k hk, hkk, htd]; rfl) s) (fun s => wd_apply arg8 X_arg8 _ _ kk ⟨4 * (3 : Fin 5).val + 2, by decide⟩ d (by rw [k0_off28_at k0_t1 v1320 k hk, hkk, htd]; rfl) s) (fun s => wd_apply arg9 X_arg9 _ _ kk ⟨4 * (3 : Fin 5).val + 2, by decide⟩ d (by rw [k0_off28_at k0_t1 v1320 k hk, hkk, htd]; rfl) s) (fun s => wd_apply arg8 X_arg8 _ _ kk ⟨4 * (3 : Fin 5).val + 3, by decide⟩ d (by rw [k0_off29_at k0_t1 v1320 k hk, hkk, htd]; rfl) s) (fun s => wd_apply arg9 X_arg9 _ _ kk ⟨4 * (3 : Fin 5).val + 3, by decide⟩ d (by rw [k0_off29_at k0_t1 v1320 k hk, hkk, htd]; rfl) s) col s) _ _ x
      · exact fun x => sum_piece 2 1 arg11 f_arg11 _ d (k0_off24 k0_t1) (k0_off24_inb k0_t1) (by rw [k0_off24_eq, htd]; rfl) _ _ _ _ _ hp (fun col s => hotM_group 2 (fun (r : Fin 20) (s : Fin 256) => arg8.view.read (Elt Ideal) X_arg8 (ix4 kk r d s)) (fun (r : Fin 20) (s : Fin 256) => arg9.view.read (Elt Ideal) X_arg9 (ix4 kk r d s)) _ _ _ _ _ _ _ _ (fun s => wd_apply arg8 X_arg8 _ _ kk ⟨4 * (2 : Fin 5).val + 0, by decide⟩ d (by rw [k0_off19_at k0_t1 v1320 k hk, hkk, htd]; rfl) s) (fun s => wd_apply arg9 X_arg9 _ _ kk ⟨4 * (2 : Fin 5).val + 0, by decide⟩ d (by rw [k0_off19_at k0_t1 v1320 k hk, hkk, htd]; rfl) s) (fun s => wd_apply arg8 X_arg8 _ _ kk ⟨4 * (2 : Fin 5).val + 1, by decide⟩ d (by rw [k0_off20_at k0_t1 v1320 k hk, hkk, htd]; rfl) s) (fun s => wd_apply arg9 X_arg9 _ _ kk ⟨4 * (2 : Fin 5).val + 1, by decide⟩ d (by rw [k0_off20_at k0_t1 v1320 k hk, hkk, htd]; rfl) s) (fun s => wd_apply arg8 X_arg8 _ _ kk ⟨4 * (2 : Fin 5).val + 2, by decide⟩ d (by rw [k0_off21_at k0_t1 v1320 k hk, hkk, htd]; rfl) s) (fun s => wd_apply arg9 X_arg9 _ _ kk ⟨4 * (2 : Fin 5).val + 2, by decide⟩ d (by rw [k0_off21_at k0_t1 v1320 k hk, hkk, htd]; rfl) s) (fun s => wd_apply arg8 X_arg8 _ _ kk ⟨4 * (2 : Fin 5).val + 3, by decide⟩ d (by rw [k0_off22_at k0_t1 v1320 k hk, hkk, htd]; rfl) s) (fun s => wd_apply arg9 X_arg9 _ _ kk ⟨4 * (2 : Fin 5).val + 3, by decide⟩ d (by rw [k0_off22_at k0_t1 v1320 k hk, hkk, htd]; rfl) s) col s) _ _ x
      · exact fun x => sum_piece 2 0 arg11 f_arg11 _ d (k0_off23 k0_t1) (k0_off23_inb k0_t1) (by rw [k0_off23_eq, htd]; rfl) _ _ _ _ _ hp (fun col s => hotM_group 2 (fun (r : Fin 20) (s : Fin 256) => arg8.view.read (Elt Ideal) X_arg8 (ix4 kk r d s)) (fun (r : Fin 20) (s : Fin 256) => arg9.view.read (Elt Ideal) X_arg9 (ix4 kk r d s)) _ _ _ _ _ _ _ _ (fun s => wd_apply arg8 X_arg8 _ _ kk ⟨4 * (2 : Fin 5).val + 0, by decide⟩ d (by rw [k0_off19_at k0_t1 v1320 k hk, hkk, htd]; rfl) s) (fun s => wd_apply arg9 X_arg9 _ _ kk ⟨4 * (2 : Fin 5).val + 0, by decide⟩ d (by rw [k0_off19_at k0_t1 v1320 k hk, hkk, htd]; rfl) s) (fun s => wd_apply arg8 X_arg8 _ _ kk ⟨4 * (2 : Fin 5).val + 1, by decide⟩ d (by rw [k0_off20_at k0_t1 v1320 k hk, hkk, htd]; rfl) s) (fun s => wd_apply arg9 X_arg9 _ _ kk ⟨4 * (2 : Fin 5).val + 1, by decide⟩ d (by rw [k0_off20_at k0_t1 v1320 k hk, hkk, htd]; rfl) s) (fun s => wd_apply arg8 X_arg8 _ _ kk ⟨4 * (2 : Fin 5).val + 2, by decide⟩ d (by rw [k0_off21_at k0_t1 v1320 k hk, hkk, htd]; rfl) s) (fun s => wd_apply arg9 X_arg9 _ _ kk ⟨4 * (2 : Fin 5).val + 2, by decide⟩ d (by rw [k0_off21_at k0_t1 v1320 k hk, hkk, htd]; rfl) s) (fun s => wd_apply arg8 X_arg8 _ _ kk ⟨4 * (2 : Fin 5).val + 3, by decide⟩ d (by rw [k0_off22_at k0_t1 v1320 k hk, hkk, htd]; rfl) s) (fun s => wd_apply arg9 X_arg9 _ _ kk ⟨4 * (2 : Fin 5).val + 3, by decide⟩ d (by rw [k0_off22_at k0_t1 v1320 k hk, hkk, htd]; rfl) s) col s) _ _ x
      · exact fun x => sum_piece 1 1 arg11 f_arg11 _ d (k0_off17 k0_t1) (k0_off17_inb k0_t1) (by rw [k0_off17_eq, htd]; rfl) _ _ _ _ _ hp (fun col s => hotM_group 1 (fun (r : Fin 20) (s : Fin 256) => arg8.view.read (Elt Ideal) X_arg8 (ix4 kk r d s)) (fun (r : Fin 20) (s : Fin 256) => arg9.view.read (Elt Ideal) X_arg9 (ix4 kk r d s)) _ _ _ _ _ _ _ _ (fun s => wd_apply arg8 X_arg8 _ _ kk ⟨4 * (1 : Fin 5).val + 0, by decide⟩ d (by rw [k0_off12_at k0_t1 v1320 k hk, hkk, htd]; rfl) s) (fun s => wd_apply arg9 X_arg9 _ _ kk ⟨4 * (1 : Fin 5).val + 0, by decide⟩ d (by rw [k0_off12_at k0_t1 v1320 k hk, hkk, htd]; rfl) s) (fun s => wd_apply arg8 X_arg8 _ _ kk ⟨4 * (1 : Fin 5).val + 1, by decide⟩ d (by rw [k0_off13_at k0_t1 v1320 k hk, hkk, htd]; rfl) s) (fun s => wd_apply arg9 X_arg9 _ _ kk ⟨4 * (1 : Fin 5).val + 1, by decide⟩ d (by rw [k0_off13_at k0_t1 v1320 k hk, hkk, htd]; rfl) s) (fun s => wd_apply arg8 X_arg8 _ _ kk ⟨4 * (1 : Fin 5).val + 2, by decide⟩ d (by rw [k0_off14_at k0_t1 v1320 k hk, hkk, htd]; rfl) s) (fun s => wd_apply arg9 X_arg9 _ _ kk ⟨4 * (1 : Fin 5).val + 2, by decide⟩ d (by rw [k0_off14_at k0_t1 v1320 k hk, hkk, htd]; rfl) s) (fun s => wd_apply arg8 X_arg8 _ _ kk ⟨4 * (1 : Fin 5).val + 3, by decide⟩ d (by rw [k0_off15_at k0_t1 v1320 k hk, hkk, htd]; rfl) s) (fun s => wd_apply arg9 X_arg9 _ _ kk ⟨4 * (1 : Fin 5).val + 3, by decide⟩ d (by rw [k0_off15_at k0_t1 v1320 k hk, hkk, htd]; rfl) s) col s) _ _ x
      · exact fun x => sum_piece 1 0 arg11 f_arg11 _ d (k0_off16 k0_t1) (k0_off16_inb k0_t1) (by rw [k0_off16_eq, htd]; rfl) _ _ _ _ _ hp (fun col s => hotM_group 1 (fun (r : Fin 20) (s : Fin 256) => arg8.view.read (Elt Ideal) X_arg8 (ix4 kk r d s)) (fun (r : Fin 20) (s : Fin 256) => arg9.view.read (Elt Ideal) X_arg9 (ix4 kk r d s)) _ _ _ _ _ _ _ _ (fun s => wd_apply arg8 X_arg8 _ _ kk ⟨4 * (1 : Fin 5).val + 0, by decide⟩ d (by rw [k0_off12_at k0_t1 v1320 k hk, hkk, htd]; rfl) s) (fun s => wd_apply arg9 X_arg9 _ _ kk ⟨4 * (1 : Fin 5).val + 0, by decide⟩ d (by rw [k0_off12_at k0_t1 v1320 k hk, hkk, htd]; rfl) s) (fun s => wd_apply arg8 X_arg8 _ _ kk ⟨4 * (1 : Fin 5).val + 1, by decide⟩ d (by rw [k0_off13_at k0_t1 v1320 k hk, hkk, htd]; rfl) s) (fun s => wd_apply arg9 X_arg9 _ _ kk ⟨4 * (1 : Fin 5).val + 1, by decide⟩ d (by rw [k0_off13_at k0_t1 v1320 k hk, hkk, htd]; rfl) s) (fun s => wd_apply arg8 X_arg8 _ _ kk ⟨4 * (1 : Fin 5).val + 2, by decide⟩ d (by rw [k0_off14_at k0_t1 v1320 k hk, hkk, htd]; rfl) s) (fun s => wd_apply arg9 X_arg9 _ _ kk ⟨4 * (1 : Fin 5).val + 2, by decide⟩ d (by rw [k0_off14_at k0_t1 v1320 k hk, hkk, htd]; rfl) s) (fun s => wd_apply arg8 X_arg8 _ _ kk ⟨4 * (1 : Fin 5).val + 3, by decide⟩ d (by rw [k0_off15_at k0_t1 v1320 k hk, hkk, htd]; rfl) s) (fun s => wd_apply arg9 X_arg9 _ _ kk ⟨4 * (1 : Fin 5).val + 3, by decide⟩ d (by rw [k0_off15_at k0_t1 v1320 k hk, hkk, htd]; rfl) s) col s) _ _ x
      · exact fun x => sum_piece 0 1 arg11 f_arg11 _ d (k0_off10 k0_t1) (k0_off10_inb k0_t1) (by rw [k0_off10_eq, htd]; rfl) _ _ _ _ _ hp (fun col s => hotM_group 0 (fun (r : Fin 20) (s : Fin 256) => arg8.view.read (Elt Ideal) X_arg8 (ix4 kk r d s)) (fun (r : Fin 20) (s : Fin 256) => arg9.view.read (Elt Ideal) X_arg9 (ix4 kk r d s)) _ _ _ _ _ _ _ _ (fun s => wd_apply arg8 X_arg8 _ _ kk ⟨4 * (0 : Fin 5).val + 0, by decide⟩ d (by rw [k0_off5_at k0_t1 v1320 k hk, hkk, htd]; rfl) s) (fun s => wd_apply arg9 X_arg9 _ _ kk ⟨4 * (0 : Fin 5).val + 0, by decide⟩ d (by rw [k0_off5_at k0_t1 v1320 k hk, hkk, htd]; rfl) s) (fun s => wd_apply arg8 X_arg8 _ _ kk ⟨4 * (0 : Fin 5).val + 1, by decide⟩ d (by rw [k0_off6_at k0_t1 v1320 k hk, hkk, htd]; rfl) s) (fun s => wd_apply arg9 X_arg9 _ _ kk ⟨4 * (0 : Fin 5).val + 1, by decide⟩ d (by rw [k0_off6_at k0_t1 v1320 k hk, hkk, htd]; rfl) s) (fun s => wd_apply arg8 X_arg8 _ _ kk ⟨4 * (0 : Fin 5).val + 2, by decide⟩ d (by rw [k0_off7_at k0_t1 v1320 k hk, hkk, htd]; rfl) s) (fun s => wd_apply arg9 X_arg9 _ _ kk ⟨4 * (0 : Fin 5).val + 2, by decide⟩ d (by rw [k0_off7_at k0_t1 v1320 k hk, hkk, htd]; rfl) s) (fun s => wd_apply arg8 X_arg8 _ _ kk ⟨4 * (0 : Fin 5).val + 3, by decide⟩ d (by rw [k0_off8_at k0_t1 v1320 k hk, hkk, htd]; rfl) s) (fun s => wd_apply arg9 X_arg9 _ _ kk ⟨4 * (0 : Fin 5).val + 3, by decide⟩ d (by rw [k0_off8_at k0_t1 v1320 k hk, hkk, htd]; rfl) s) col s) _ _ x
      · exact fun x => sum_piece 0 0 arg11 f_arg11 _ d (k0_off9 k0_t1) (k0_off9_inb k0_t1) (by rw [k0_off9_eq, htd]; rfl) _ _ _ _ _ hp (fun col s => hotM_group 0 (fun (r : Fin 20) (s : Fin 256) => arg8.view.read (Elt Ideal) X_arg8 (ix4 kk r d s)) (fun (r : Fin 20) (s : Fin 256) => arg9.view.read (Elt Ideal) X_arg9 (ix4 kk r d s)) _ _ _ _ _ _ _ _ (fun s => wd_apply arg8 X_arg8 _ _ kk ⟨4 * (0 : Fin 5).val + 0, by decide⟩ d (by rw [k0_off5_at k0_t1 v1320 k hk, hkk, htd]; rfl) s) (fun s => wd_apply arg9 X_arg9 _ _ kk ⟨4 * (0 : Fin 5).val + 0, by decide⟩ d (by rw [k0_off5_at k0_t1 v1320 k hk, hkk, htd]; rfl) s) (fun s => wd_apply arg8 X_arg8 _ _ kk ⟨4 * (0 : Fin 5).val + 1, by decide⟩ d (by rw [k0_off6_at k0_t1 v1320 k hk, hkk, htd]; rfl) s) (fun s => wd_apply arg9 X_arg9 _ _ kk ⟨4 * (0 : Fin 5).val + 1, by decide⟩ d (by rw [k0_off6_at k0_t1 v1320 k hk, hkk, htd]; rfl) s) (fun s => wd_apply arg8 X_arg8 _ _ kk ⟨4 * (0 : Fin 5).val + 2, by decide⟩ d (by rw [k0_off7_at k0_t1 v1320 k hk, hkk, htd]; rfl) s) (fun s => wd_apply arg9 X_arg9 _ _ kk ⟨4 * (0 : Fin 5).val + 2, by decide⟩ d (by rw [k0_off7_at k0_t1 v1320 k hk, hkk, htd]; rfl) s) (fun s => wd_apply arg8 X_arg8 _ _ kk ⟨4 * (0 : Fin 5).val + 3, by decide⟩ d (by rw [k0_off8_at k0_t1 v1320 k hk, hkk, htd]; rfl) s) (fun s => wd_apply arg9 X_arg9 _ _ kk ⟨4 * (0 : Fin 5).val + 3, by decide⟩ d (by rw [k0_off8_at k0_t1 v1320 k hk, hkk, htd]; rfl) s) col s) _ _ x
    · obtain ⟨u, hu⟩ := u
      interval_cases u
      · exact ⟨_, .tail _ (.tail _ (.tail _ (.tail _ (.tail _ (.tail _ (.tail _ (.tail _ (.tail _ (.head _))))))))), mem_sum d 0 dp lane (k0_off9 k0_t1) (k0_off9_inb k0_t1) (by rw [k0_off9_eq, htd]; rfl)⟩
      · exact ⟨_, .tail _ (.tail _ (.tail _ (.tail _ (.tail _ (.tail _ (.tail _ (.tail _ (.head _)))))))), mem_sum d 1 dp lane (k0_off10 k0_t1) (k0_off10_inb k0_t1) (by rw [k0_off10_eq, htd]; rfl)⟩
      · exact ⟨_, .tail _ (.tail _ (.tail _ (.tail _ (.tail _ (.tail _ (.tail _ (.head _))))))), mem_sum d 2 dp lane (k0_off16 k0_t1) (k0_off16_inb k0_t1) (by rw [k0_off16_eq, htd]; rfl)⟩
      · exact ⟨_, .tail _ (.tail _ (.tail _ (.tail _ (.tail _ (.tail _ (.head _)))))), mem_sum d 3 dp lane (k0_off17 k0_t1) (k0_off17_inb k0_t1) (by rw [k0_off17_eq, htd]; rfl)⟩
      · exact ⟨_, .tail _ (.tail _ (.tail _ (.tail _ (.tail _ (.head _))))), mem_sum d 4 dp lane (k0_off23 k0_t1) (k0_off23_inb k0_t1) (by rw [k0_off23_eq, htd]; rfl)⟩
      · exact ⟨_, .tail _ (.tail _ (.tail _ (.tail _ (.head _)))), mem_sum d 5 dp lane (k0_off24 k0_t1) (k0_off24_inb k0_t1) (by rw [k0_off24_eq, htd]; rfl)⟩
      · exact ⟨_, .tail _ (.tail _ (.tail _ (.head _))), mem_sum d 6 dp lane (k0_off30 k0_t1) (k0_off30_inb k0_t1) (by rw [k0_off30_eq, htd]; rfl)⟩
      · exact ⟨_, .tail _ (.tail _ (.head _)), mem_sum d 7 dp lane (k0_off31 k0_t1) (k0_off31_inb k0_t1) (by rw [k0_off31_eq, htd]; rfl)⟩
      · exact ⟨_, .tail _ (.head _), mem_sum d 8 dp lane (k0_off37 k0_t1) (k0_off37_inb k0_t1) (by rw [k0_off37_eq, htd]; rfl)⟩
      · exact ⟨_, .head _, mem_sum d 9 dp lane (k0_off38 k0_t1) (k0_off38_inb k0_t1) (by rw [k0_off38_eq, htd]; rfl)⟩
  · rename_i hd
    refine View.read_writes_apply_of_forall_not_mem (Val := Elt Ideal) arg11.view f_arg11 _ _ ?_
    simp only [List.forall_mem_cons, List.not_mem_nil, false_imp_iff, implies_true, and_true]
    refine ⟨?_, ?_, ?_, ?_, ?_, ?_, ?_, ?_, ?_, ?_⟩
    · exact miss_sum d td u 9 dp lane (k0_off38 k0_t1) (k0_off38_inb k0_t1) (by rw [k0_off38_eq, htd]; rfl) hd
    · exact miss_sum d td u 8 dp lane (k0_off37 k0_t1) (k0_off37_inb k0_t1) (by rw [k0_off37_eq, htd]; rfl) hd
    · exact miss_sum d td u 7 dp lane (k0_off31 k0_t1) (k0_off31_inb k0_t1) (by rw [k0_off31_eq, htd]; rfl) hd
    · exact miss_sum d td u 6 dp lane (k0_off30 k0_t1) (k0_off30_inb k0_t1) (by rw [k0_off30_eq, htd]; rfl) hd
    · exact miss_sum d td u 5 dp lane (k0_off24 k0_t1) (k0_off24_inb k0_t1) (by rw [k0_off24_eq, htd]; rfl) hd
    · exact miss_sum d td u 4 dp lane (k0_off23 k0_t1) (k0_off23_inb k0_t1) (by rw [k0_off23_eq, htd]; rfl) hd
    · exact miss_sum d td u 3 dp lane (k0_off17 k0_t1) (k0_off17_inb k0_t1) (by rw [k0_off17_eq, htd]; rfl) hd
    · exact miss_sum d td u 2 dp lane (k0_off16 k0_t1) (k0_off16_inb k0_t1) (by rw [k0_off16_eq, htd]; rfl) hd
    · exact miss_sum d td u 1 dp lane (k0_off10 k0_t1) (k0_off10_inb k0_t1) (by rw [k0_off10_eq, htd]; rfl) hd
    · exact miss_sum d td u 0 dp lane (k0_off9 k0_t1) (k0_off9_inb k0_t1) (by rw [k0_off9_eq, htd]; rfl) hd

end Cert.KernelIdeal.Hand
end
-- ==== Proof.KernelIdealTripCnt.lean ====
module

public import proofs.«01_k».proof.Proof.KernelIdealTripVal
public import Idealize.ShloMosaic.Lib.Pointwise
public import Idealize.ShloMosaic.Lib.BitcastPair
public import Idealize.ShloMosaic.PureOps.Ideal.Laws

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic

/-- The counts after a tile at a place of the block: the tile's count added to what was there, or to nothing in the first tile. -/
def cntG (first : BitVec 1) (W B : Fin 20 → Fin 256 → BitVec 32) (old : S128x1280.Idx → EReal) (y : S128x1280.Idx) : EReal :=
  tileCnt W B (y 1) + (if first = 1#1 then 0 else old y)

/-- One piece of a trip's counts is the tile's counts added to what was there. -/
theorem cnt_piece (g : Fin 5) (arg12 : Memref sig .tc .vmem S128x1280 .f32) (f : BufTy.Contents (Elt Ideal) arg12.view.ty) (first : BitVec 1) (row : Fin 128)
    (off : Fin 2 → ℕ) (inb : ∀ a, off a + S1x256.size a ≤ S128x1280.size a) (hoff : off = ![row.val, 256 * g.val])
    (hot : FVec Ideal S256x256 .fp8e4m3) (W B : Fin 20 → Fin 256 → BitVec 32)
    (hhot : ∀ col s : Fin 256, hot (ix2 col s) = hotAt W B ⟨4 * g.val + col.val / 64, by omega⟩ (col.val % 64) s) (x : S1x256.Idx) :
    cntP first hot (View.readAt (Elt Ideal) arg12.view (Rect.unit (s := S128x1280) off S1x256.size inb).toLoadRect f) x
      = cntG first W B (arg12.view.read (Elt Ideal) f) ((Rect.unit (s := S128x1280) off S1x256.size inb).emb x) := by
  subst hoff
  obtain ⟨col, rfl⟩ : ∃ (col : Fin 256), x = ix2 0 col := ⟨x 1, by
    funext a; apply Fin.ext
    match a with
    | ⟨0, _⟩ => have := (x 0).isLt; show (x 0).val = 0; change (x 0).val < 1 at this; omega
    | ⟨1, _⟩ => rfl⟩
  have hy : (Rect.unit (s := S128x1280) ![row.val, 256 * g.val] S1x256.size inb).emb (ix2 0 col) = ix2 row ⟨256 * g.val + col.val, by omega⟩ := by
    funext a; apply Fin.ext
    match a with
    | ⟨0, _⟩ => rfl
    | ⟨1, _⟩ => show 256 * g.val + 1 * col.val = 256 * g.val + col.val; omega
  refine (cntP_apply first hot _ col).trans (Eq.trans ?_ (congrArg (cntG first W B (arg12.view.read (Elt Ideal) f)) hy.symm))
  refine congrArg₂ (· + ·) ?_ ?_
  · show _ = tileCnt W B ⟨256 * g.val + col.val, _⟩
    unfold tileCnt
    refine Finset.sum_congr rfl fun s _ => ?_
    rw [hhot]
    have e2 : 4 * g.val + col.val / 64 = (256 * g.val + col.val) / 64 := by omega
    have e3 : (256 * g.val + col.val) % 64 = col.val % 64 := by omega
    simp only [e2, e3]
  · refine congrArg (fun z => if first = 1#1 then 0 else z) ?_
    exact congrArg (arg12.view.read (Elt Ideal) f) hy

theorem mem_cnt (row : Fin 128) (g : Fin 5) (col : Fin 1280) (off : Fin 2 → ℕ) (inb : ∀ a, off a + S1x256.size a ≤ S128x1280.size a) (hoff : off = ![row.val, 256 * g.val]) (hg : col.val / 256 = g.val) :
    (ix2 row col : S128x1280.Idx) ∈ (Rect.unit (s := S128x1280) off S1x256.size inb).set := by
  subst hoff
  rw [Rect.mem_set_unit]
  intro a
  match a with
  | ⟨0, _⟩ => exact ⟨Nat.le_refl _, Nat.lt_succ_self _⟩
  | ⟨1, _⟩ => show 256 * g.val ≤ col.val ∧ col.val < 256 * g.val + 256; omega

theorem miss_cnt (d t : Fin 128) (g : Fin 5) (col : Fin 1280) (off : Fin 2 → ℕ) (inb : ∀ a, off a + S1x256.size a ≤ S128x1280.size a) (hoff : off = ![t.val, 256 * g.val]) (hd : ¬ d = t) :
    (ix2 d col : S128x1280.Idx) ∉ (Rect.unit (s := S128x1280) off S1x256.size inb).set := by
  subst hoff
  rw [Rect.mem_set_unit]
  intro h
  have := h 0
  change t.val ≤ d.val ∧ d.val < t.val + 1 at this
  exact hd (Fin.ext (by omega))

set_option maxHeartbeats 1600000 in
/-- A trip's counts: the tile's added to the document's own row, every other row left alone. -/
theorem trip2_counts_read  (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (k0_t1 : Fin k0_t1_loop.trips) (arg13 : BitVec 32) (v1320 : Elt Ideal .i32) (k0_hw1 : k0_chk1 k0_t1 v1320) (X_arg2 : BufTy.Contents (Elt Ideal) arg2.view.ty) (X_arg5 : BufTy.Contents (Elt Ideal) arg5.view.ty) (X_arg8 : BufTy.Contents (Elt Ideal) arg8.view.ty) (X_arg9 : BufTy.Contents (Elt Ideal) arg9.view.ty) (X_arg10 : BufTy.Contents (Elt Ideal) arg10.view.ty) (k : Fin (k0_t2_loop v1320).trips)  (f_arg11 : BufTy.Contents (Elt Ideal) arg11.view.ty) (f_arg12 : BufTy.Contents (Elt Ideal) arg12.view.ty) (td : Fin 16) (htd : td.val = k0_t1.val) (kk : Fin 2) (hkk : k.val = kk.val) (row : Fin 128) (hrow : 16 * ((i 0).val % 8) + k0_t1.val = row.val)
    (d : Fin 128) (col : Fin 1280) :
    arg12.view.read (Elt Ideal) (arg12.view.writes (Elt Ideal) f_arg12 ((trip2 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) k0_t1 arg13 v1320 k0_hw1 X_arg2 X_arg5 X_arg8 X_arg9 X_arg10 k).2.1 f_arg11 f_arg12)) (ix2 d col)
      = if d = row then cntG (trip2.sl.v1350 (F := Ideal) v1320 k) (fun r s => arg8.view.read (Elt Ideal) X_arg8 (ix4 kk r td s)) (fun r s => arg9.view.read (Elt Ideal) X_arg9 (ix4 kk r td s)) (arg12.view.read (Elt Ideal) f_arg12) (ix2 d col)
        else arg12.view.read (Elt Ideal) f_arg12 (ix2 d col) := by
  rw [trip2_counts]
  have hk : k.val < 2 := by omega
  split
  · rename_i hd
    subst hd
    refine View.read_writes_apply_of_pieces (Val := Elt Ideal) (e := .f32) arg12.view f_arg12 (cntG (trip2.sl.v1350 (F := Ideal) v1320 k) (fun r s => arg8.view.read (Elt Ideal) X_arg8 (ix4 kk r td s)) (fun r s => arg9.view.read (Elt Ideal) X_arg9 (ix4 kk r td s)) (arg12.view.read (Elt Ideal) f_arg12)) _ ?_ _ ?_
    · simp only [List.forall_mem_cons, List.not_mem_nil, false_imp_iff, implies_true, and_true]
      refine ⟨?_, ?_, ?_, ?_, ?_⟩
      · exact fun x => cnt_piece 4 arg12 f_arg12 _ d (k0_off39 i k0_t1) (k0_off39_inb i k0_t1) (by rw [k0_off39_eq, hrow]; rfl) _ _ _ (fun col s => hotM_group 4 (fun (r : Fin 20) (s : Fin 256) => arg8.view.read (Elt Ideal) X_arg8 (ix4 kk r td s)) (fun (r : Fin 20) (s : Fin 256) => arg9.view.read (Elt Ideal) X_arg9 (ix4 kk r td s)) _ _ _ _ _ _ _ _ (fun s => wd_apply arg8 X_arg8 _ _ kk ⟨4 * (4 : Fin 5).val + 0, by decide⟩ td (by rw [k0_off33_at k0_t1 v1320 k hk, hkk, htd]; rfl) s) (fun s => wd_apply arg9 X_arg9 _ _ kk ⟨4 * (4 : Fin 5).val + 0, by decide⟩ td (by rw [k0_off33_at k0_t1 v1320 k hk, hkk, htd]; rfl) s) (fun s => wd_apply arg8 X_arg8 _ _ kk ⟨4 * (4 : Fin 5).val + 1, by decide⟩ td (by rw [k0_off34_at k0_t1 v1320 k hk, hkk, htd]; rfl) s) (fun s => wd_apply arg9 X_arg9 _ _ kk ⟨4 * (4 : Fin 5).val + 1, by decide⟩ td (by rw [k0_off34_at k0_t1 v1320 k hk, hkk, htd]; rfl) s) (fun s => wd_apply arg8 X_arg8 _ _ kk ⟨4 * (4 : Fin 5).val + 2, by decide⟩ td (by rw [k0_off35_at k0_t1 v1320 k hk, hkk, htd]; rfl) s) (fun s => wd_apply arg9 X_arg9 _ _ kk ⟨4 * (4 : Fin 5).val + 2, by decide⟩ td (by rw [k0_off35_at k0_t1 v1320 k hk, hkk, htd]; rfl) s) (fun s => wd_apply arg8 X_arg8 _ _ kk ⟨4 * (4 : Fin 5).val + 3, by decide⟩ td (by rw [k0_off36_at k0_t1 v1320 k hk, hkk, htd]; rfl) s) (fun s => wd_apply arg9 X_arg9 _ _ kk ⟨4 * (4 : Fin 5).val + 3, by decide⟩ td (by rw [k0_off36_at k0_t1 v1320 k hk, hkk, htd]; rfl) s) col s) x
      · exact fun x => cnt_piece 3 arg12 f_arg12 _ d (k0_off32 i k0_t1) (k0_off32_inb i k0_t1) (by rw [k0_off32_eq, hrow]; rfl) _ _ _ (fun col s => hotM_group 3 (fun (r : Fin 20) (s : Fin 256) => arg8.view.read (Elt Ideal) X_arg8 (ix4 kk r td s)) (fun (r : Fin 20) (s : Fin 256) => arg9.view.read (Elt Ideal) X_arg9 (ix4 kk r td s)) _ _ _ _ _ _ _ _ (fun s => wd_apply arg8 X_arg8 _ _ kk ⟨4 * (3 : Fin 5).val + 0, by decide⟩ td (by rw [k0_off26_at k0_t1 v1320 k hk, hkk, htd]; rfl) s) (fun s => wd_apply arg9 X_arg9 _ _ kk ⟨4 * (3 : Fin 5).val + 0, by decide⟩ td (by rw [k0_off26_at k0_t1 v1320 k hk, hkk, htd]; rfl) s) (fun s => wd_apply arg8 X_arg8 _ _ kk ⟨4 * (3 : Fin 5).val + 1, by decide⟩ td (by rw [k0_off27_at k0_t1 v1320 k hk, hkk, htd]; rfl) s) (fun s => wd_apply arg9 X_arg9 _ _ kk ⟨4 * (3 : Fin 5).val + 1, by decide⟩ td (by rw [k0_off27_at k0_t1 v1320 k hk, hkk, htd]; rfl) s) (fun s => wd_apply arg8 X_arg8 _ _ kk ⟨4 * (3 : Fin 5).val + 2, by decide⟩ td (by rw [k0_off28_at k0_t1 v1320 k hk, hkk, htd]; rfl) s) (fun s => wd_apply arg9 X_arg9 _ _ kk ⟨4 * (3 : Fin 5).val + 2, by decide⟩ td (by rw [k0_off28_at k0_t1 v1320 k hk, hkk, htd]; rfl) s) (fun s => wd_apply arg8 X_arg8 _ _ kk ⟨4 * (3 : Fin 5).val + 3, by decide⟩ td (by rw [k0_off29_at k0_t1 v1320 k hk, hkk, htd]; rfl) s) (fun s => wd_apply arg9 X_arg9 _ _ kk ⟨4 * (3 : Fin 5).val + 3, by decide⟩ td (by rw [k0_off29_at k0_t1 v1320 k hk, hkk, htd]; rfl) s) col s) x
      · exact fun x => cnt_piece 2 arg12 f_arg12 _ d (k0_off25 i k0_t1) (k0_off25_inb i k0_t1) (by rw [k0_off25_eq, hrow]; rfl) _ _ _ (fun col s => hotM_group 2 (fun (r : Fin 20) (s : Fin 256) => arg8.view.read (Elt Ideal) X_arg8 (ix4 kk r td s)) (fun (r : Fin 20) (s : Fin 256) => arg9.view.read (Elt Ideal) X_arg9 (ix4 kk r td s)) _ _ _ _ _ _ _ _ (fun s => wd_apply arg8 X_arg8 _ _ kk ⟨4 * (2 : Fin 5).val + 0, by decide⟩ td (by rw [k0_off19_at k0_t1 v1320 k hk, hkk, htd]; rfl) s) (fun s => wd_apply arg9 X_arg9 _ _ kk ⟨4 * (2 : Fin 5).val + 0, by decide⟩ td (by rw [k0_off19_at k0_t1 v1320 k hk, hkk, htd]; rfl) s) (fun s => wd_apply arg8 X_arg8 _ _ kk ⟨4 * (2 : Fin 5).val + 1, by decide⟩ td (by rw [k0_off20_at k0_t1 v1320 k hk, hkk, htd]; rfl) s) (fun s => wd_apply arg9 X_arg9 _ _ kk ⟨4 * (2 : Fin 5).val + 1, by decide⟩ td (by rw [k0_off20_at k0_t1 v1320 k hk, hkk, htd]; rfl) s) (fun s => wd_apply arg8 X_arg8 _ _ kk ⟨4 * (2 : Fin 5).val + 2, by decide⟩ td (by rw [k0_off21_at k0_t1 v1320 k hk, hkk, htd]; rfl) s) (fun s => wd_apply arg9 X_arg9 _ _ kk ⟨4 * (2 : Fin 5).val + 2, by decide⟩ td (by rw [k0_off21_at k0_t1 v1320 k hk, hkk, htd]; rfl) s) (fun s => wd_apply arg8 X_arg8 _ _ kk ⟨4 * (2 : Fin 5).val + 3, by decide⟩ td (by rw [k0_off22_at k0_t1 v1320 k hk, hkk, htd]; rfl) s) (fun s => wd_apply arg9 X_arg9 _ _ kk ⟨4 * (2 : Fin 5).val + 3, by decide⟩ td (by rw [k0_off22_at k0_t1 v1320 k hk, hkk, htd]; rfl) s) col s) x
      · exact fun x => cnt_piece 1 arg12 f_arg12 _ d (k0_off18 i k0_t1) (k0_off18_inb i k0_t1) (by rw [k0_off18_eq, hrow]; rfl) _ _ _ (fun col s => hotM_group 1 (fun (r : Fin 20) (s : Fin 256) => arg8.view.read (Elt Ideal) X_arg8 (ix4 kk r td s)) (fun (r : Fin 20) (s : Fin 256) => arg9.view.read (Elt Ideal) X_arg9 (ix4 kk r td s)) _ _ _ _ _ _ _ _ (fun s => wd_apply arg8 X_arg8 _ _ kk ⟨4 * (1 : Fin 5).val + 0, by decide⟩ td (by rw [k0_off12_at k0_t1 v1320 k hk, hkk, htd]; rfl) s) (fun s => wd_apply arg9 X_arg9 _ _ kk ⟨4 * (1 : Fin 5).val + 0, by decide⟩ td (by rw [k0_off12_at k0_t1 v1320 k hk, hkk, htd]; rfl) s) (fun s => wd_apply arg8 X_arg8 _ _ kk ⟨4 * (1 : Fin 5).val + 1, by decide⟩ td (by rw [k0_off13_at k0_t1 v1320 k hk, hkk, htd]; rfl) s) (fun s => wd_apply arg9 X_arg9 _ _ kk ⟨4 * (1 : Fin 5).val + 1, by decide⟩ td (by rw [k0_off13_at k0_t1 v1320 k hk, hkk, htd]; rfl) s) (fun s => wd_apply arg8 X_arg8 _ _ kk ⟨4 * (1 : Fin 5).val + 2, by decide⟩ td (by rw [k0_off14_at k0_t1 v1320 k hk, hkk, htd]; rfl) s) (fun s => wd_apply arg9 X_arg9 _ _ kk ⟨4 * (1 : Fin 5).val + 2, by decide⟩ td (by rw [k0_off14_at k0_t1 v1320 k hk, hkk, htd]; rfl) s) (fun s => wd_apply arg8 X_arg8 _ _ kk ⟨4 * (1 : Fin 5).val + 3, by decide⟩ td (by rw [k0_off15_at k0_t1 v1320 k hk, hkk, htd]; rfl) s) (fun s => wd_apply arg9 X_arg9 _ _ kk ⟨4 * (1 : Fin 5).val + 3, by decide⟩ td (by rw [k0_off15_at k0_t1 v1320 k hk, hkk, htd]; rfl) s) col s) x
      · exact fun x => cnt_piece 0 arg12 f_arg12 _ d (k0_off11 i k0_t1) (k0_off11_inb i k0_t1) (by rw [k0_off11_eq, hrow]; rfl) _ _ _ (fun col s => hotM_group 0 (fun (r : Fin 20) (s : Fin 256) => arg8.view.read (Elt Ideal) X_arg8 (ix4 kk r td s)) (fun (r : Fin 20) (s : Fin 256) => arg9.view.read (Elt Ideal) X_arg9 (ix4 kk r td s)) _ _ _ _ _ _ _ _ (fun s => wd_apply arg8 X_arg8 _ _ kk ⟨4 * (0 : Fin 5).val + 0, by decide⟩ td (by rw [k0_off5_at k0_t1 v1320 k hk, hkk, htd]; rfl) s) (fun s => wd_apply arg9 X_arg9 _ _ kk ⟨4 * (0 : Fin 5).val + 0, by decide⟩ td (by rw [k0_off5_at k0_t1 v1320 k hk, hkk, htd]; rfl) s) (fun s => wd_apply arg8 X_arg8 _ _ kk ⟨4 * (0 : Fin 5).val + 1, by decide⟩ td (by rw [k0_off6_at k0_t1 v1320 k hk, hkk, htd]; rfl) s) (fun s => wd_apply arg9 X_arg9 _ _ kk ⟨4 * (0 : Fin 5).val + 1, by decide⟩ td (by rw [k0_off6_at k0_t1 v1320 k hk, hkk, htd]; rfl) s) (fun s => wd_apply arg8 X_arg8 _ _ kk ⟨4 * (0 : Fin 5).val + 2, by decide⟩ td (by rw [k0_off7_at k0_t1 v1320 k hk, hkk, htd]; rfl) s) (fun s => wd_apply arg9 X_arg9 _ _ kk ⟨4 * (0 : Fin 5).val + 2, by decide⟩ td (by rw [k0_off7_at k0_t1 v1320 k hk, hkk, htd]; rfl) s) (fun s => wd_apply arg8 X_arg8 _ _ kk ⟨4 * (0 : Fin 5).val + 3, by decide⟩ td (by rw [k0_off8_at k0_t1 v1320 k hk, hkk, htd]; rfl) s) (fun s => wd_apply arg9 X_arg9 _ _ kk ⟨4 * (0 : Fin 5).val + 3, by decide⟩ td (by rw [k0_off8_at k0_t1 v1320 k hk, hkk, htd]; rfl) s) col s) x
    · have hg : col.val / 256 = 0 ∨ col.val / 256 = 1 ∨ col.val / 256 = 2 ∨ col.val / 256 = 3 ∨ col.val / 256 = 4 := by omega
      rcases hg with hg | hg | hg | hg | hg
      · exact ⟨_, .tail _ (.tail _ (.tail _ (.tail _ (.head _)))), mem_cnt d 0 col (k0_off11 i k0_t1) (k0_off11_inb i k0_t1) (by rw [k0_off11_eq, hrow]; rfl) hg⟩
      · exact ⟨_, .tail _ (.tail _ (.tail _ (.head _))), mem_cnt d 1 col (k0_off18 i k0_t1) (k0_off18_inb i k0_t1) (by rw [k0_off18_eq, hrow]; rfl) hg⟩
      · exact ⟨_, .tail _ (.tail _ (.head _)), mem_cnt d 2 col (k0_off25 i k0_t1) (k0_off25_inb i k0_t1) (by rw [k0_off25_eq, hrow]; rfl) hg⟩
      · exact ⟨_, .tail _ (.head _), mem_cnt d 3 col (k0_off32 i k0_t1) (k0_off32_inb i k0_t1) (by rw [k0_off32_eq, hrow]; rfl) hg⟩
      · exact ⟨_, .head _, mem_cnt d 4 col (k0_off39 i k0_t1) (k0_off39_inb i k0_t1) (by rw [k0_off39_eq, hrow]; rfl) hg⟩
  · rename_i hd
    refine View.read_writes_apply_of_forall_not_mem (Val := Elt Ideal) arg12.view f_arg12 _ _ ?_
    simp only [List.forall_mem_cons, List.not_mem_nil, false_imp_iff, implies_true, and_true]
    refine ⟨?_, ?_, ?_, ?_, ?_⟩
    · exact miss_cnt d row 4 col (k0_off39 i k0_t1) (k0_off39_inb i k0_t1) (by rw [k0_off39_eq, hrow]; rfl) hd
    · exact miss_cnt d row 3 col (k0_off32 i k0_t1) (k0_off32_inb i k0_t1) (by rw [k0_off32_eq, hrow]; rfl) hd
    · exact miss_cnt d row 2 col (k0_off25 i k0_t1) (k0_off25_inb i k0_t1) (by rw [k0_off25_eq, hrow]; rfl) hd
    · exact miss_cnt d row 1 col (k0_off18 i k0_t1) (k0_off18_inb i k0_t1) (by rw [k0_off18_eq, hrow]; rfl) hd
    · exact miss_cnt d row 0 col (k0_off11 i k0_t1) (k0_off11_inb i k0_t1) (by rw [k0_off11_eq, hrow]; rfl) hd

end Cert.KernelIdeal.Hand
end
-- ==== Proof.KernelIdealDoc.lean ====
module

public import proofs.«01_k».proof.Proof.KernelIdealTripCnt
public import Idealize.ShloMosaic.Lib.Pointwise
public import Idealize.ShloMosaic.Lib.BitcastPair
public import Idealize.ShloMosaic.PureOps.Ideal.Laws

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic

/-- The projections of tile `k` of document `d`, of the arrays a grid step reads. -/
def projAt (X : S16x96x512.Idx → EReal) (pr : S320x96.Idx → EReal) (fac : S2x16x256.Idx → EReal) (k : Fin 2) (d : Fin 16) : FVec Ideal S320x256 .f32 := fun y =>
  (∑ m : Fin 96, pr (ix2 (y 0) m) * X (ix3 d m ⟨256 * k.val + (y 1).val, by have := (y 1).isLt; change (y 1).val < 256 at this; omega⟩)) * fac (ix3 k d (y 1))

/-- The words of tile `k` of document `d`. -/
def wordsOf (X : S2x20x16x256.Idx → BitVec 32) (k : Fin 2) (d : Fin 16) : Fin 20 → Fin 256 → BitVec 32 := fun r s => X (ix4 k r d s)

theorem projM_apply (x : FVec Ideal S1x96x256 .fp8e4m3) (pr : FVec Ideal S320x96 .fp8e4m3) (fac : FVec Ideal S1x1x256 .f32) (r : Fin 320) (s : Fin 256) :
    projM x pr fac (ix2 r s) = (∑ m : Fin 96, pr (ix2 r m) * x (ix3 0 m s)) * fac (ix3 0 0 s) := by
  pointwise [projM, k0_pay6]

theorem proj_read  (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (k0_t1 : Fin k0_t1_loop.trips) (arg13 : BitVec 32) (v1320 : Elt Ideal .i32) (k0_hw1 : k0_chk1 k0_t1 v1320) (X_arg2 : BufTy.Contents (Elt Ideal) arg2.view.ty) (X_arg5 : BufTy.Contents (Elt Ideal) arg5.view.ty) (X_arg8 : BufTy.Contents (Elt Ideal) arg8.view.ty) (X_arg9 : BufTy.Contents (Elt Ideal) arg9.view.ty) (X_arg10 : BufTy.Contents (Elt Ideal) arg10.view.ty) (k : Fin (k0_t2_loop v1320).trips) (td : Fin 16) (htd : td.val = k0_t1.val) (kk : Fin 2) (hkk : k.val = kk.val) :
    (projAt (arg2.view.read (Elt Ideal) X_arg2) (arg5.view.read (Elt Ideal) X_arg5) (arg10.view.read (Elt Ideal) X_arg10) kk td) = (projM (View.readAt (Elt Ideal) arg2.view (Rect.unit (s := S16x96x512) (k0_off3 k0_t1 v1320 k) S1x96x256.size (k0_off3_inb k0_t1 v1320 k0_hw1 k)).toLoadRect X_arg2) (View.readAt (Elt Ideal) arg5.view (Rect.unit (s := S320x96) ![0, 0] S320x96.size inb_S320x96_S320x96_0_0).toLoadRect X_arg5) (View.readAt (Elt Ideal) arg10.view (Rect.unit (s := S2x16x256) (k0_off4 k0_t1 v1320 k) S1x1x256.size (k0_off4_inb k0_t1 v1320 k0_hw1 k)).toLoadRect X_arg10)) := by
  have hk : k.val < 2 := by omega
  funext y
  rw [eq_ix2 y]
  refine Eq.trans ?_ (projM_apply _ _ _ (y 0) (y 1)).symm
  show (∑ m : Fin 96, _) * _ = _
  refine congrArg₂ (· * ·) (Finset.sum_congr rfl fun m _ => congrArg₂ (· * ·) ?_ ?_) ?_
  · show arg5.view.read (Elt Ideal) X_arg5 _ = arg5.view.read (Elt Ideal) X_arg5 _
    congr 1
    funext a; apply Fin.ext
    match a with
    | ⟨0, _⟩ => show (y 0).val = 0 + 1 * (y 0).val; omega
    | ⟨1, _⟩ => show m.val = 0 + 1 * m.val; omega
  · show arg2.view.read (Elt Ideal) X_arg2 _ = arg2.view.read (Elt Ideal) X_arg2 _
    congr 1
    have := k0_off3_at k0_t1 v1320 k hk
    funext a; apply Fin.ext
    match a with
    | ⟨0, _⟩ => show td.val = k0_off3 k0_t1 v1320 k 0 + 1 * 0; rw [this, htd]; rfl
    | ⟨1, _⟩ => show m.val = k0_off3 k0_t1 v1320 k 1 + 1 * m.val; rw [this]; show m.val = 0 + 1 * m.val; omega
    | ⟨2, _⟩ => show 256 * kk.val + (y 1).val = k0_off3 k0_t1 v1320 k 2 + 1 * (y 1).val; rw [this, ← hkk]; show _ = 256 * k.val + _; omega
  · show arg10.view.read (Elt Ideal) X_arg10 _ = arg10.view.read (Elt Ideal) X_arg10 _
    congr 1
    have := k0_off4_at k0_t1 v1320 k hk
    funext a; apply Fin.ext
    match a with
    | ⟨0, _⟩ => show kk.val = k0_off4 k0_t1 v1320 k 0 + 1 * 0; rw [this, hkk]; rfl
    | ⟨1, _⟩ => show td.val = k0_off4 k0_t1 v1320 k 1 + 1 * 0; rw [this, htd]; rfl
    | ⟨2, _⟩ => show (y 1).val = k0_off4 k0_t1 v1320 k 2 + 1 * (y 1).val; rw [this]; show _ = 0 + _; omega

theorem first_at (v : BitVec 32) (k : Fin (k0_t2_loop v).trips) (hk : k.val < 2) : trip2.sl.v1350 (F := Ideal) v k = if k.val = 0 then 1#1 else 0#1 := by
  unfold trip2.sl.v1350 trip2.sl.arg14
  generalize k.val = n at hk ⊢
  clear k v
  revert n
  decide +kernel

/-- What a document's tiles add up to in its sums: the first tile's, and the second's where the document reaches it. -/
def docSum (X : S16x96x512.Idx → EReal) (pr : S320x96.Idx → EReal) (fac : S2x16x256.Idx → EReal) (Wd Bt : S2x20x16x256.Idx → BitVec 32) (len : BitVec 32) (d : Fin 16) (u : Fin 10) (dp : Fin 16) (lane : Fin 128) : EReal :=
  if tiles len = 2 then tileSum (projAt X pr fac 1 d) (wordsOf Wd 1 d) (wordsOf Bt 1 d) u dp lane + tileSum (projAt X pr fac 0 d) (wordsOf Wd 0 d) (wordsOf Bt 0 d) u dp lane
  else tileSum (projAt X pr fac 0 d) (wordsOf Wd 0 d) (wordsOf Bt 0 d) u dp lane

/-- What a document's tiles add up to in its counts. -/
def docCnt (Wd Bt : S2x20x16x256.Idx → BitVec 32) (len : BitVec 32) (d : Fin 16) (col : Fin 1280) : EReal :=
  if tiles len = 2 then tileCnt (wordsOf Wd 1 d) (wordsOf Bt 1 d) col + tileCnt (wordsOf Wd 0 d) (wordsOf Bt 0 d) col
  else tileCnt (wordsOf Wd 0 d) (wordsOf Bt 0 d) col

/-- A document's loop over its tiles: its sums. -/
theorem st2_sums  (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (k0_t1 : Fin k0_t1_loop.trips) (arg13 : BitVec 32) (v1320 : Elt Ideal .i32) (k0_hw1 : k0_chk1 k0_t1 v1320) (X_arg2 : BufTy.Contents (Elt Ideal) arg2.view.ty) (X_arg5 : BufTy.Contents (Elt Ideal) arg5.view.ty) (X_arg8 : BufTy.Contents (Elt Ideal) arg8.view.ty) (X_arg9 : BufTy.Contents (Elt Ideal) arg9.view.ty) (X_arg10 : BufTy.Contents (Elt Ideal) arg10.view.ty) (g : BufTy.Contents (Elt Ideal) arg11.view.ty × BufTy.Contents (Elt Ideal) arg12.view.ty) (hv : v1320.toInt ≤ 512) (td : Fin 16) (htd : td.val = k0_t1.val)
    (hp : ∀ kk r s, (projAt (arg2.view.read (Elt Ideal) X_arg2) (arg5.view.read (Elt Ideal) X_arg5) (arg10.view.read (Elt Ideal) X_arg10) kk td) (ix2 r s) ≠ ⊥ ∧ (projAt (arg2.view.read (Elt Ideal) X_arg2) (arg5.view.read (Elt Ideal) X_arg5) (arg10.view.read (Elt Ideal) X_arg10) kk td) (ix2 r s) ≠ ⊤) (d : Fin 16) (u : Fin 10) (dp : Fin 16) (lane : Fin 128) :
    arg11.view.read (Elt Ideal) (st2 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) k0_t1 arg13 v1320 k0_hw1 X_arg2 X_arg5 X_arg8 X_arg9 X_arg10 g (k0_t2_loop v1320).trips).1 (ix4 d u dp lane)
      = if d = td then docSum (arg2.view.read (Elt Ideal) X_arg2) (arg5.view.read (Elt Ideal) X_arg5) (arg10.view.read (Elt Ideal) X_arg10) (arg8.view.read (Elt Ideal) X_arg8) (arg9.view.read (Elt Ideal) X_arg9) v1320 td u dp lane
        else arg11.view.read (Elt Ideal) g.1 (ix4 d u dp lane) := by
  have ht := t2_trips v1320 hv
  have step : ∀ (k : Fin (k0_t2_loop v1320).trips) (kk : Fin 2), k.val = kk.val → arg11.view.read (Elt Ideal) (st2 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) k0_t1 arg13 v1320 k0_hw1 X_arg2 X_arg5 X_arg8 X_arg9 X_arg10 g (k.val + 1)).1 (ix4 d u dp lane)
      = if d = td then sumG (if k.val = 0 then 1#1 else 0#1) (projAt (arg2.view.read (Elt Ideal) X_arg2) (arg5.view.read (Elt Ideal) X_arg5) (arg10.view.read (Elt Ideal) X_arg10) kk td) (wordsOf (arg8.view.read (Elt Ideal) X_arg8) kk td) (wordsOf (arg9.view.read (Elt Ideal) X_arg9) kk td) (arg11.view.read (Elt Ideal) (st2 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) k0_t1 arg13 v1320 k0_hw1 X_arg2 X_arg5 X_arg8 X_arg9 X_arg10 g k.val).1) (ix4 d u dp lane)
        else arg11.view.read (Elt Ideal) (st2 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) k0_t1 arg13 v1320 k0_hw1 X_arg2 X_arg5 X_arg8 X_arg9 X_arg10 g k.val).1 (ix4 d u dp lane) := fun k kk hkk => by
    rw [st2_succ]
    refine (trip2_sums_read 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 k0_t1 arg13 v1320 k0_hw1 X_arg2 X_arg5 X_arg8 X_arg9 X_arg10 k _ _ td htd kk hkk (projAt (arg2.view.read (Elt Ideal) X_arg2) (arg5.view.read (Elt Ideal) X_arg5) (arg10.view.read (Elt Ideal) X_arg10) kk td) (proj_read 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 k0_t1 arg13 v1320 k0_hw1 X_arg2 X_arg5 X_arg8 X_arg9 X_arg10 k td htd kk hkk) (hp kk) d u dp lane).trans ?_
    rw [first_at v1320 k (by omega)]
    rfl
  have h1 := tiles_pos v1320
  have h2 := tiles_le v1320
  have s0 := step ⟨0, by omega⟩ 0 rfl
  by_cases e : tiles v1320 = 2
  · have s1 := step ⟨1, by omega⟩ 1 rfl
    rw [ht, e]
    refine s1.trans ?_
    split
    · rename_i hd
      unfold docSum
      rw [if_pos e]
      show tileSum _ _ _ u dp lane + (if (if (1 : ℕ) = 0 then 1#1 else 0#1) = 1#1 then (0 : EReal) else _) = _
      rw [if_neg (show ¬ (1 : ℕ) = 0 by decide), if_neg (show ¬ (0#1 = 1#1) by decide)]
      refine congrArg₂ (· + ·) rfl (s0.trans ?_)
      rw [if_pos hd]
      exact add_zero _
    · rename_i hd
      refine s0.trans ?_
      rw [if_neg hd]
      rfl
  · have e1 : tiles v1320 = 1 := by omega
    rw [ht, e1]
    refine s0.trans ?_
    split
    · unfold docSum
      rw [if_neg e]
      exact add_zero _
    · rfl

/-- A document's loop over its tiles: its counts. -/
theorem st2_counts  (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (k0_t1 : Fin k0_t1_loop.trips) (arg13 : BitVec 32) (v1320 : Elt Ideal .i32) (k0_hw1 : k0_chk1 k0_t1 v1320) (X_arg2 : BufTy.Contents (Elt Ideal) arg2.view.ty) (X_arg5 : BufTy.Contents (Elt Ideal) arg5.view.ty) (X_arg8 : BufTy.Contents (Elt Ideal) arg8.view.ty) (X_arg9 : BufTy.Contents (Elt Ideal) arg9.view.ty) (X_arg10 : BufTy.Contents (Elt Ideal) arg10.view.ty) (g : BufTy.Contents (Elt Ideal) arg11.view.ty × BufTy.Contents (Elt Ideal) arg12.view.ty) (hv : v1320.toInt ≤ 512) (td : Fin 16) (htd : td.val = k0_t1.val) (row : Fin 128) (hrow : 16 * ((i 0).val % 8) + k0_t1.val = row.val) (d : Fin 128) (col : Fin 1280) :
    arg12.view.read (Elt Ideal) (st2 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) k0_t1 arg13 v1320 k0_hw1 X_arg2 X_arg5 X_arg8 X_arg9 X_arg10 g (k0_t2_loop v1320).trips).2 (ix2 d col)
      = if d = row then docCnt (arg8.view.read (Elt Ideal) X_arg8) (arg9.view.read (Elt Ideal) X_arg9) v1320 td col
        else arg12.view.read (Elt Ideal) g.2 (ix2 d col) := by
  have ht := t2_trips v1320 hv
  have step : ∀ (k : Fin (k0_t2_loop v1320).trips) (kk : Fin 2), k.val = kk.val → arg12.view.read (Elt Ideal) (st2 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) k0_t1 arg13 v1320 k0_hw1 X_arg2 X_arg5 X_arg8 X_arg9 X_arg10 g (k.val + 1)).2 (ix2 d col)
      = if d = row then cntG (if k.val = 0 then 1#1 else 0#1) (wordsOf (arg8.view.read (Elt Ideal) X_arg8) kk td) (wordsOf (arg9.view.read (Elt Ideal) X_arg9) kk td) (arg12.view.read (Elt Ideal) (st2 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) k0_t1 arg13 v1320 k0_hw1 X_arg2 X_arg5 X_arg8 X_arg9 X_arg10 g k.val).2) (ix2 d col)
        else arg12.view.read (Elt Ideal) (st2 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) k0_t1 arg13 v1320 k0_hw1 X_arg2 X_arg5 X_arg8 X_arg9 X_arg10 g k.val).2 (ix2 d col) := fun k kk hkk => by
    rw [st2_succ]
    refine (trip2_counts_read 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 k0_t1 arg13 v1320 k0_hw1 X_arg2 X_arg5 X_arg8 X_arg9 X_arg10 k _ _ td htd kk hkk row hrow d col).trans ?_
    rw [first_at v1320 k (by omega)]
    rfl
  have h1 := tiles_pos v1320
  have h2 := tiles_le v1320
  have s0 := step ⟨0, by omega⟩ 0 rfl
  by_cases e : tiles v1320 = 2
  · have s1 := step ⟨1, by omega⟩ 1 rfl
    rw [ht, e]
    refine s1.trans ?_
    split
    · rename_i hd
      unfold docCnt
      rw [if_pos e]
      show tileCnt _ _ col + (if (if (1 : ℕ) = 0 then 1#1 else 0#1) = 1#1 then (0 : EReal) else _) = _
      rw [if_neg (show ¬ (1 : ℕ) = 0 by decide), if_neg (show ¬ (0#1 = 1#1) by decide)]
      refine congrArg₂ (· + ·) rfl (s0.trans ?_)
      rw [if_pos hd]
      exact add_zero _
    · rename_i hd
      refine s0.trans ?_
      rw [if_neg hd]
      rfl
  · have e1 : tiles v1320 = 1 := by omega
    rw [ht, e1]
    refine s0.trans ?_
    split
    · unfold docCnt
      rw [if_neg e]
      exact add_zero _
    · rfl

end Cert.KernelIdeal.Hand
end
-- ==== Proof.KernelIdealDocs.lean ====
module

public import proofs.«01_k».proof.Proof.KernelIdealDoc
public import Idealize.ShloMosaic.Lib.Pointwise
public import Idealize.ShloMosaic.Lib.BitcastPair
public import Idealize.ShloMosaic.PureOps.Ideal.Laws

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic

theorem trip1_eq (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (X_arg1 : TbBuf0 (F := Ideal) c arg1) (hL : ∀ k, (lenAt (F := Ideal) c i arg1 X_arg1 k).toInt ≤ 512) (X_arg2 : BufTy.Contents (Elt Ideal) arg2.view.ty) (X_arg5 : BufTy.Contents (Elt Ideal) arg5.view.ty) (X_arg8 : BufTy.Contents (Elt Ideal) arg8.view.ty) (X_arg9 : BufTy.Contents (Elt Ideal) arg9.view.ty) (X_arg10 : BufTy.Contents (Elt Ideal) arg10.view.ty) (g : BufTy.Contents (Elt Ideal) arg11.view.ty × BufTy.Contents (Elt Ideal) arg12.view.ty) (k : Fin k0_t1_loop.trips) :
    ∃ a13, ((trip1 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) X_arg1 X_arg2 X_arg5 X_arg8 X_arg9 X_arg10 k (chk _ _ (hL k))).1 g.1 g.2, (trip1 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) X_arg1 X_arg2 X_arg5 X_arg8 X_arg9 X_arg10 k (chk _ _ (hL k))).2.1 g.1 g.2)
      = st2 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) k a13 (lenAt (F := Ideal) c i arg1 X_arg1 k) (chk _ _ (hL k)) X_arg2 X_arg5 X_arg8 X_arg9 X_arg10 g (k0_t2_loop (lenAt (F := Ideal) c i arg1 X_arg1 k)).trips := by
  refine ⟨?a, ?h⟩
  case h =>
    unfold trip1
    rfl

theorem t1_trips : k0_t1_loop.trips = 16 := by decide +kernel

/-- The length of document `d` of a grid step. -/
abbrev lenD (c : Dev nD) (i : grid0.Coords) (arg1 : Memref sig .tc .smem S1536 .i32) (X_arg1 : TbBuf0 (F := Ideal) c arg1) (d : Fin 16) : BitVec 32 :=
  lenAt (F := Ideal) c i arg1 X_arg1 (Fin.cast t1_trips.symm d)

/-- The loop over a grid step's documents: their sums. -/
theorem st1_sums (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (X_arg1 : TbBuf0 (F := Ideal) c arg1) (hL : ∀ k, (lenAt (F := Ideal) c i arg1 X_arg1 k).toInt ≤ 512) (X_arg2 : BufTy.Contents (Elt Ideal) arg2.view.ty) (X_arg5 : BufTy.Contents (Elt Ideal) arg5.view.ty) (X_arg8 : BufTy.Contents (Elt Ideal) arg8.view.ty) (X_arg9 : BufTy.Contents (Elt Ideal) arg9.view.ty) (X_arg10 : BufTy.Contents (Elt Ideal) arg10.view.ty) (g : BufTy.Contents (Elt Ideal) arg11.view.ty × BufTy.Contents (Elt Ideal) arg12.view.ty) (hp : ∀ kk td r s, (projAt (arg2.view.read (Elt Ideal) X_arg2) (arg5.view.read (Elt Ideal) X_arg5) (arg10.view.read (Elt Ideal) X_arg10) kk td) (ix2 r s) ≠ ⊥ ∧ (projAt (arg2.view.read (Elt Ideal) X_arg2) (arg5.view.read (Elt Ideal) X_arg5) (arg10.view.read (Elt Ideal) X_arg10) kk td) (ix2 r s) ≠ ⊤) (d : Fin 16) (u : Fin 10) (dp : Fin 16) (lane : Fin 128) (n : ℕ) (hn : n ≤ 16) :
    arg11.view.read (Elt Ideal) (st1 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) X_arg1 hL X_arg2 X_arg5 X_arg8 X_arg9 X_arg10 g n).1 (ix4 d u dp lane)
      = if d.val < n then docSum (arg2.view.read (Elt Ideal) X_arg2) (arg5.view.read (Elt Ideal) X_arg5) (arg10.view.read (Elt Ideal) X_arg10) (arg8.view.read (Elt Ideal) X_arg8) (arg9.view.read (Elt Ideal) X_arg9) (lenD c i arg1 X_arg1 d) d u dp lane else arg11.view.read (Elt Ideal) g.1 (ix4 d u dp lane) := by
  induction n with
  | zero => rfl
  | succ n ih =>
    have hk : n < k0_t1_loop.trips := by rw [t1_trips]; omega
    have e : (st1 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) X_arg1 hL X_arg2 X_arg5 X_arg8 X_arg9 X_arg10 g (n + 1)) = _ := st1_succ (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) X_arg1 hL X_arg2 X_arg5 X_arg8 X_arg9 X_arg10 g ⟨n, hk⟩
    rw [e]
    obtain ⟨a13, e13⟩ := trip1_eq 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 X_arg1 hL X_arg2 X_arg5 X_arg8 X_arg9 X_arg10 (st1 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) X_arg1 hL X_arg2 X_arg5 X_arg8 X_arg9 X_arg10 g n) ⟨n, hk⟩
    rw [e13]
    generalize hk' : (⟨n, hk⟩ : Fin k0_t1_loop.trips) = k
    have hkn : k.val = n := by rw [← hk']
    refine (st2_sums 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 k a13 (lenAt (F := Ideal) c i arg1 X_arg1 k) (chk _ _ (hL k)) X_arg2 X_arg5 X_arg8 X_arg9 X_arg10 (st1 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) X_arg1 hL X_arg2 X_arg5 X_arg8 X_arg9 X_arg10 g n) (hL k) ⟨n, by omega⟩ hkn.symm (fun kk r s => hp kk _ r s) d u dp lane).trans ?_
    rw [ih (by omega)]
    by_cases h : d = ⟨n, by omega⟩
    · subst h
      rw [if_pos rfl, if_pos (show n < n + 1 by omega)]
      subst hk'
      rfl
    · have hv : d.val ≠ n := fun hv => h (Fin.ext hv)
      rw [if_neg h]
      by_cases h' : d.val < n
      · rw [if_pos h', if_pos (by omega)]
      · rw [if_neg h', if_neg (by omega)]

/-- The loop over a grid step's documents: their counts. -/
theorem st1_counts (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (X_arg1 : TbBuf0 (F := Ideal) c arg1) (hL : ∀ k, (lenAt (F := Ideal) c i arg1 X_arg1 k).toInt ≤ 512) (X_arg2 : BufTy.Contents (Elt Ideal) arg2.view.ty) (X_arg5 : BufTy.Contents (Elt Ideal) arg5.view.ty) (X_arg8 : BufTy.Contents (Elt Ideal) arg8.view.ty) (X_arg9 : BufTy.Contents (Elt Ideal) arg9.view.ty) (X_arg10 : BufTy.Contents (Elt Ideal) arg10.view.ty) (g : BufTy.Contents (Elt Ideal) arg11.view.ty × BufTy.Contents (Elt Ideal) arg12.view.ty) (d : Fin 128) (col : Fin 1280) (n : ℕ) (hn : n ≤ 16) :
    arg12.view.read (Elt Ideal) (st1 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) X_arg1 hL X_arg2 X_arg5 X_arg8 X_arg9 X_arg10 g n).2 (ix2 d col)
      = if d.val / 16 = (i 0).val % 8 ∧ d.val % 16 < n then docCnt (arg8.view.read (Elt Ideal) X_arg8) (arg9.view.read (Elt Ideal) X_arg9) (lenD c i arg1 X_arg1 ⟨d.val % 16, by omega⟩) ⟨d.val % 16, by omega⟩ col else arg12.view.read (Elt Ideal) g.2 (ix2 d col) := by
  induction n with
  | zero => rw [if_neg (by omega)]; rfl
  | succ n ih =>
    have hk : n < k0_t1_loop.trips := by rw [t1_trips]; omega
    have e : (st1 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) X_arg1 hL X_arg2 X_arg5 X_arg8 X_arg9 X_arg10 g (n + 1)) = _ := st1_succ (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) X_arg1 hL X_arg2 X_arg5 X_arg8 X_arg9 X_arg10 g ⟨n, hk⟩
    rw [e]
    obtain ⟨a13, e13⟩ := trip1_eq 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 X_arg1 hL X_arg2 X_arg5 X_arg8 X_arg9 X_arg10 (st1 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) X_arg1 hL X_arg2 X_arg5 X_arg8 X_arg9 X_arg10 g n) ⟨n, hk⟩
    rw [e13]
    generalize hk' : (⟨n, hk⟩ : Fin k0_t1_loop.trips) = k
    have hkn : k.val = n := by rw [← hk']
    refine (st2_counts 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 k a13 (lenAt (F := Ideal) c i arg1 X_arg1 k) (chk _ _ (hL k)) X_arg2 X_arg5 X_arg8 X_arg9 X_arg10 (st1 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) X_arg1 hL X_arg2 X_arg5 X_arg8 X_arg9 X_arg10 g n) (hL k) ⟨n, by omega⟩ hkn.symm ⟨16 * ((i 0).val % 8) + n, by omega⟩ (by rw [hkn]) d col).trans ?_
    rw [ih (by omega)]
    by_cases h : d = ⟨16 * ((i 0).val % 8) + n, by omega⟩
    · have hd : d.val = 16 * ((i 0).val % 8) + n := by rw [h]
      have e : d.val % 16 = n := by omega
      rw [if_pos h, if_pos (show d.val / 16 = (i 0).val % 8 ∧ d.val % 16 < n + 1 by omega)]
      subst hk'
      simp only [e]
      rfl
    · have hv : d.val ≠ 16 * ((i 0).val % 8) + n := fun hv => h (Fin.ext hv)
      rw [if_neg h]
      by_cases h' : d.val / 16 = (i 0).val % 8 ∧ d.val % 16 < n
      · rw [if_pos h', if_pos (by omega)]
      · rw [if_neg h', if_neg (by omega)]

end Cert.KernelIdeal.Hand
end
-- ==== Proof.KernelIdealRelayout.lean ====
module

public import proofs.«01_k».proof.Proof.KernelIdealDocs
public import Idealize.ShloMosaic.Lib.Pointwise
public import Idealize.ShloMosaic.Lib.BitcastPair
public import Idealize.ShloMosaic.PureOps.Ideal.Laws

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic

/-- The lanes at which the given bit is clear. -/
def lowM (v : IVec S16x128 32) (b : BitVec 32) : IVec S16x128 1 := cmpi .eq (andi v (broadcast S16x128 b)) (broadcast S16x128 0#32)

/-- The first of an exchanged pair of blocks. -/
def exA (m : IVec S16x128 1) (n : BitVec 32) (a b : FVec Ideal S16x128 .bf16) : FVec Ideal S16x128 .bf16 := select m a (dynamicRotate 1 n none b rotates_S16x128_d1)
/-- The second of an exchanged pair of blocks. -/
def exB (m : IVec S16x128 1) (n : BitVec 32) (a b : FVec Ideal S16x128 .bf16) : FVec Ideal S16x128 .bf16 := select m (dynamicRotate 1 n none a rotates_S16x128_d1) b

/-- The exchange on the blocks whose numbers differ by 1. -/
def ex1 (v : IVec S16x128 32) (V : Fin 8 → FVec Ideal S16x128 .bf16) : Fin 8 → FVec Ideal S16x128 .bf16 :=
  ![exA (lowM v 1#32) 1#32 (V 0) (V 1), exB (lowM v 1#32) 127#32 (V 0) (V 1), exA (lowM v 1#32) 1#32 (V 2) (V 3), exB (lowM v 1#32) 127#32 (V 2) (V 3),
    exA (lowM v 1#32) 1#32 (V 4) (V 5), exB (lowM v 1#32) 127#32 (V 4) (V 5), exA (lowM v 1#32) 1#32 (V 6) (V 7), exB (lowM v 1#32) 127#32 (V 6) (V 7)]
/-- The exchange on the blocks whose numbers differ by 2. -/
def ex2 (v : IVec S16x128 32) (V : Fin 8 → FVec Ideal S16x128 .bf16) : Fin 8 → FVec Ideal S16x128 .bf16 :=
  ![exA (lowM v 2#32) 2#32 (V 0) (V 2), exA (lowM v 2#32) 2#32 (V 1) (V 3), exB (lowM v 2#32) 126#32 (V 0) (V 2), exB (lowM v 2#32) 126#32 (V 1) (V 3),
    exA (lowM v 2#32) 2#32 (V 4) (V 6), exA (lowM v 2#32) 2#32 (V 5) (V 7), exB (lowM v 2#32) 126#32 (V 4) (V 6), exB (lowM v 2#32) 126#32 (V 5) (V 7)]
/-- The exchange on the blocks whose numbers differ by 4. -/
def ex4 (v : IVec S16x128 32) (V : Fin 8 → FVec Ideal S16x128 .bf16) : Fin 8 → FVec Ideal S16x128 .bf16 :=
  ![exA (lowM v 4#32) 4#32 (V 0) (V 4), exA (lowM v 4#32) 4#32 (V 1) (V 5), exA (lowM v 4#32) 4#32 (V 2) (V 6), exA (lowM v 4#32) 4#32 (V 3) (V 7),
    exB (lowM v 4#32) 124#32 (V 0) (V 4), exB (lowM v 4#32) 124#32 (V 1) (V 5), exB (lowM v 4#32) 124#32 (V 2) (V 6), exB (lowM v 4#32) 124#32 (V 3) (V 7)]

/-- The eight blocks stacked and turned. -/
def turned (V : Fin 8 → FVec Ideal S16x128 .bf16) : FVec Ideal S128x128 .bf16 :=
  truncf .bf16 (transpose S128x128 [1, 0] (extf .f32 (concatenate S128x128 0 [⟨S16x128, V 0⟩, ⟨S16x128, V 1⟩, ⟨S16x128, V 2⟩, ⟨S16x128, V 3⟩, ⟨S16x128, V 4⟩, ⟨S16x128, V 5⟩, ⟨S16x128, V 6⟩, ⟨S16x128, V 7⟩] concatenates_S16x128_S16x128_S16x128_S16x128_S16x128_S16x128_S16x128_S16x128_S128x128_d0)) transposes_S128x128_p1_0_S128x128)

theorem turned_apply (V : Fin 8 → FVec Ideal S16x128 .bf16) (l col : Fin 128) : turned V (ix2 l col) = V ⟨col.val / 16, by omega⟩ (ix2 ⟨col.val % 16, by omega⟩ l) := by
  pointwise [turned]
  have key : ∀ (k : Fin 8) (r : Fin 16), col.val = 16 * k.val + r.val → V k (ix2 r l) = V ⟨col.val / 16, by omega⟩ (ix2 ⟨col.val % 16, by omega⟩ l) := by
    intro k r e
    exact congrArg₂ (fun a b => V a (ix2 b l)) (Fin.ext (by show k.val = col.val / 16; omega)) (Fin.ext (by show r.val = col.val % 16; omega))
  split
  · exact key 0 _ (by show col.val = 16 * 0 + col.val; omega)
  split
  · exact key 1 _ (by show col.val = 16 * 1 + (col.val - 16); omega)
  split
  · exact key 2 _ (by show col.val = 16 * 2 + (col.val - 16 - 16); omega)
  split
  · exact key 3 _ (by show col.val = 16 * 3 + (col.val - 16 - 16 - 16); omega)
  split
  · exact key 4 _ (by show col.val = 16 * 4 + (col.val - 16 - 16 - 16 - 16); omega)
  split
  · exact key 5 _ (by show col.val = 16 * 5 + (col.val - 16 - 16 - 16 - 16 - 16); omega)
  split
  · exact key 6 _ (by show col.val = 16 * 6 + (col.val - 16 - 16 - 16 - 16 - 16 - 16); omega)
  · exact key 7 _ (by show col.val = 16 * 7 + (col.val - 16 - 16 - 16 - 16 - 16 - 16 - 16); omega)

/-- The lanes' numbers. -/
abbrev laneI : IVec S16x128 32 := iota .tc S16x128 32 [1] iota_S16x128_d1_w32

theorem lowM_apply (b : BitVec 32) (dp : Fin 16) (l : Fin 128) : lowM laneI b (ix2 dp l) = BitVec.ofBool (BitVec.ofNat 32 l.val &&& b == 0#32) := by
  pointwise [lowM]
  rfl

theorem low_1 : ∀ l : Fin 128, (BitVec.ofNat 32 l.val &&& 1#32 == 0#32) = decide (l.val / 1 % 2 = 0) := by decide +kernel

theorem exA_1 (a b : FVec Ideal S16x128 .bf16) (dp : Fin 16) (l : Fin 128) :
    exA (lowM laneI 1#32) 1#32 a b (ix2 dp l) = if l.val / 1 % 2 = 0 then a (ix2 dp l) else b (ix2 dp ⟨(l.val + 128 - 1) % 128, by omega⟩) := by
  have e : exA (lowM laneI 1#32) 1#32 a b (ix2 dp l) = Scalar.select (lowM laneI 1#32 (ix2 dp l)) (a (ix2 dp l)) (b (ix2 dp ⟨(l.val + 128 - 1) % 128, by omega⟩)) := by
    pointwise [exA]
  rw [e, lowM_apply, low_1]
  by_cases h : l.val / 1 % 2 = 0
  · rw [if_pos h, decide_eq_true h]; rfl
  · rw [if_neg h, decide_eq_false h]; rfl

theorem exB_1 (a b : FVec Ideal S16x128 .bf16) (dp : Fin 16) (l : Fin 128) :
    exB (lowM laneI 1#32) 127#32 a b (ix2 dp l) = if l.val / 1 % 2 = 0 then a (ix2 dp ⟨(l.val + 128 - 127) % 128, by omega⟩) else b (ix2 dp l) := by
  have e : exB (lowM laneI 1#32) 127#32 a b (ix2 dp l) = Scalar.select (lowM laneI 1#32 (ix2 dp l)) (a (ix2 dp ⟨(l.val + 128 - 127) % 128, by omega⟩)) (b (ix2 dp l)) := by
    pointwise [exB]
  rw [e, lowM_apply, low_1]
  by_cases h : l.val / 1 % 2 = 0
  · rw [if_pos h, decide_eq_true h]; rfl
  · rw [if_neg h, decide_eq_false h]; rfl

theorem ex1_apply (V : Fin 8 → FVec Ideal S16x128 .bf16) (i : Fin 8) (dp : Fin 16) (l : Fin 128) :
    ex1 laneI V i (ix2 dp l) = V ⟨i.val - 1 * (i.val / 1 % 2) + 1 * (l.val / 1 % 2), by omega⟩ (ix2 dp ⟨l.val - 1 * (l.val / 1 % 2) + 1 * (i.val / 1 % 2), by omega⟩) := by
  have key : ∀ (k k' : Fin 8) (r r' : Fin 128), k.val = k'.val → r.val = r'.val → V k (ix2 dp r) = V k' (ix2 dp r') := fun k k' r r' e e' =>
    congrArg₂ (fun a b => V a (ix2 dp b)) (Fin.ext e) (Fin.ext e')
  match i with
  | ⟨0, _⟩ => exact (exA_1 (V 0) (V 1) dp l).trans (by split <;> exact key _ _ _ _ (by simp only []; omega) (by simp only []; omega))
  | ⟨1, _⟩ => exact (exB_1 (V 0) (V 1) dp l).trans (by split <;> exact key _ _ _ _ (by simp only []; omega) (by simp only []; omega))
  | ⟨2, _⟩ => exact (exA_1 (V 2) (V 3) dp l).trans (by split <;> exact key _ _ _ _ (by simp only []; omega) (by simp only []; omega))
  | ⟨3, _⟩ => exact (exB_1 (V 2) (V 3) dp l).trans (by split <;> exact key _ _ _ _ (by simp only []; omega) (by simp only []; omega))
  | ⟨4, _⟩ => exact (exA_1 (V 4) (V 5) dp l).trans (by split <;> exact key _ _ _ _ (by simp only []; omega) (by simp only []; omega))
  | ⟨5, _⟩ => exact (exB_1 (V 4) (V 5) dp l).trans (by split <;> exact key _ _ _ _ (by simp only []; omega) (by simp only []; omega))
  | ⟨6, _⟩ => exact (exA_1 (V 6) (V 7) dp l).trans (by split <;> exact key _ _ _ _ (by simp only []; omega) (by simp only []; omega))
  | ⟨7, _⟩ => exact (exB_1 (V 6) (V 7) dp l).trans (by split <;> exact key _ _ _ _ (by simp only []; omega) (by simp only []; omega))

theorem low_2 : ∀ l : Fin 128, (BitVec.ofNat 32 l.val &&& 2#32 == 0#32) = decide (l.val / 2 % 2 = 0) := by decide +kernel

theorem exA_2 (a b : FVec Ideal S16x128 .bf16) (dp : Fin 16) (l : Fin 128) :
    exA (lowM laneI 2#32) 2#32 a b (ix2 dp l) = if l.val / 2 % 2 = 0 then a (ix2 dp l) else b (ix2 dp ⟨(l.val + 128 - 2) % 128, by omega⟩) := by
  have e : exA (lowM laneI 2#32) 2#32 a b (ix2 dp l) = Scalar.select (lowM laneI 2#32 (ix2 dp l)) (a (ix2 dp l)) (b (ix2 dp ⟨(l.val + 128 - 2) % 128, by omega⟩)) := by
    pointwise [exA]
  rw [e, lowM_apply, low_2]
  by_cases h : l.val / 2 % 2 = 0
  · rw [if_pos h, decide_eq_true h]; rfl
  · rw [if_neg h, decide_eq_false h]; rfl

theorem exB_2 (a b : FVec Ideal S16x128 .bf16) (dp : Fin 16) (l : Fin 128) :
    exB (lowM laneI 2#32) 126#32 a b (ix2 dp l) = if l.val / 2 % 2 = 0 then a (ix2 dp ⟨(l.val + 128 - 126) % 128, by omega⟩) else b (ix2 dp l) := by
  have e : exB (lowM laneI 2#32) 126#32 a b (ix2 dp l) = Scalar.select (lowM laneI 2#32 (ix2 dp l)) (a (ix2 dp ⟨(l.val + 128 - 126) % 128, by omega⟩)) (b (ix2 dp l)) := by
    pointwise [exB]
  rw [e, lowM_apply, low_2]
  by_cases h : l.val / 2 % 2 = 0
  · rw [if_pos h, decide_eq_true h]; rfl
  · rw [if_neg h, decide_eq_false h]; rfl

theorem ex2_apply (V : Fin 8 → FVec Ideal S16x128 .bf16) (i : Fin 8) (dp : Fin 16) (l : Fin 128) :
    ex2 laneI V i (ix2 dp l) = V ⟨i.val - 2 * (i.val / 2 % 2) + 2 * (l.val / 2 % 2), by omega⟩ (ix2 dp ⟨l.val - 2 * (l.val / 2 % 2) + 2 * (i.val / 2 % 2), by omega⟩) := by
  have key : ∀ (k k' : Fin 8) (r r' : Fin 128), k.val = k'.val → r.val = r'.val → V k (ix2 dp r) = V k' (ix2 dp r') := fun k k' r r' e e' =>
    congrArg₂ (fun a b => V a (ix2 dp b)) (Fin.ext e) (Fin.ext e')
  match i with
  | ⟨0, _⟩ => exact (exA_2 (V 0) (V 2) dp l).trans (by split <;> exact key _ _ _ _ (by simp only []; omega) (by simp only []; omega))
  | ⟨1, _⟩ => exact (exA_2 (V 1) (V 3) dp l).trans (by split <;> exact key _ _ _ _ (by simp only []; omega) (by simp only []; omega))
  | ⟨2, _⟩ => exact (exB_2 (V 0) (V 2) dp l).trans (by split <;> exact key _ _ _ _ (by simp only []; omega) (by simp only []; omega))
  | ⟨3, _⟩ => exact (exB_2 (V 1) (V 3) dp l).trans (by split <;> exact key _ _ _ _ (by simp only []; omega) (by simp only []; omega))
  | ⟨4, _⟩ => exact (exA_2 (V 4) (V 6) dp l).trans (by split <;> exact key _ _ _ _ (by simp only []; omega) (by simp only []; omega))
  | ⟨5, _⟩ => exact (exA_2 (V 5) (V 7) dp l).trans (by split <;> exact key _ _ _ _ (by simp only []; omega) (by simp only []; omega))
  | ⟨6, _⟩ => exact (exB_2 (V 4) (V 6) dp l).trans (by split <;> exact key _ _ _ _ (by simp only []; omega) (by simp only []; omega))
  | ⟨7, _⟩ => exact (exB_2 (V 5) (V 7) dp l).trans (by split <;> exact key _ _ _ _ (by simp only []; omega) (by simp only []; omega))

theorem low_4 : ∀ l : Fin 128, (BitVec.ofNat 32 l.val &&& 4#32 == 0#32) = decide (l.val / 4 % 2 = 0) := by decide +kernel

theorem exA_4 (a b : FVec Ideal S16x128 .bf16) (dp : Fin 16) (l : Fin 128) :
    exA (lowM laneI 4#32) 4#32 a b (ix2 dp l) = if l.val / 4 % 2 = 0 then a (ix2 dp l) else b (ix2 dp ⟨(l.val + 128 - 4) % 128, by omega⟩) := by
  have e : exA (lowM laneI 4#32) 4#32 a b (ix2 dp l) = Scalar.select (lowM laneI 4#32 (ix2 dp l)) (a (ix2 dp l)) (b (ix2 dp ⟨(l.val + 128 - 4) % 128, by omega⟩)) := by
    pointwise [exA]
  rw [e, lowM_apply, low_4]
  by_cases h : l.val / 4 % 2 = 0
  · rw [if_pos h, decide_eq_true h]; rfl
  · rw [if_neg h, decide_eq_false h]; rfl

theorem exB_4 (a b : FVec Ideal S16x128 .bf16) (dp : Fin 16) (l : Fin 128) :
    exB (lowM laneI 4#32) 124#32 a b (ix2 dp l) = if l.val / 4 % 2 = 0 then a (ix2 dp ⟨(l.val + 128 - 124) % 128, by omega⟩) else b (ix2 dp l) := by
  have e : exB (lowM laneI 4#32) 124#32 a b (ix2 dp l) = Scalar.select (lowM laneI 4#32 (ix2 dp l)) (a (ix2 dp ⟨(l.val + 128 - 124) % 128, by omega⟩)) (b (ix2 dp l)) := by
    pointwise [exB]
  rw [e, lowM_apply, low_4]
  by_cases h : l.val / 4 % 2 = 0
  · rw [if_pos h, decide_eq_true h]; rfl
  · rw [if_neg h, decide_eq_false h]; rfl

theorem ex4_apply (V : Fin 8 → FVec Ideal S16x128 .bf16) (i : Fin 8) (dp : Fin 16) (l : Fin 128) :
    ex4 laneI V i (ix2 dp l) = V ⟨i.val - 4 * (i.val / 4 % 2) + 4 * (l.val / 4 % 2), by omega⟩ (ix2 dp ⟨l.val - 4 * (l.val / 4 % 2) + 4 * (i.val / 4 % 2), by omega⟩) := by
  have key : ∀ (k k' : Fin 8) (r r' : Fin 128), k.val = k'.val → r.val = r'.val → V k (ix2 dp r) = V k' (ix2 dp r') := fun k k' r r' e e' =>
    congrArg₂ (fun a b => V a (ix2 dp b)) (Fin.ext e) (Fin.ext e')
  match i with
  | ⟨0, _⟩ => exact (exA_4 (V 0) (V 4) dp l).trans (by split <;> exact key _ _ _ _ (by simp only []; omega) (by simp only []; omega))
  | ⟨1, _⟩ => exact (exA_4 (V 1) (V 5) dp l).trans (by split <;> exact key _ _ _ _ (by simp only []; omega) (by simp only []; omega))
  | ⟨2, _⟩ => exact (exA_4 (V 2) (V 6) dp l).trans (by split <;> exact key _ _ _ _ (by simp only []; omega) (by simp only []; omega))
  | ⟨3, _⟩ => exact (exA_4 (V 3) (V 7) dp l).trans (by split <;> exact key _ _ _ _ (by simp only []; omega) (by simp only []; omega))
  | ⟨4, _⟩ => exact (exB_4 (V 0) (V 4) dp l).trans (by split <;> exact key _ _ _ _ (by simp only []; omega) (by simp only []; omega))
  | ⟨5, _⟩ => exact (exB_4 (V 1) (V 5) dp l).trans (by split <;> exact key _ _ _ _ (by simp only []; omega) (by simp only []; omega))
  | ⟨6, _⟩ => exact (exB_4 (V 2) (V 6) dp l).trans (by split <;> exact key _ _ _ _ (by simp only []; omega) (by simp only []; omega))
  | ⟨7, _⟩ => exact (exB_4 (V 3) (V 7) dp l).trans (by split <;> exact key _ _ _ _ (by simp only []; omega) (by simp only []; omega))

theorem swap_all : ∀ (i : Fin 8) (l : Fin 128),
    let i4 := i.val - 4 * (i.val / 4 % 2) + 4 * (l.val / 4 % 2)
    let l4 := l.val - 4 * (l.val / 4 % 2) + 4 * (i.val / 4 % 2)
    let i2 := i4 - 2 * (i4 / 2 % 2) + 2 * (l4 / 2 % 2)
    let l2 := l4 - 2 * (l4 / 2 % 2) + 2 * (i4 / 2 % 2)
    i2 - 1 * (i2 / 1 % 2) + 1 * (l2 / 1 % 2) = l.val % 8 ∧ l2 - 1 * (l2 / 1 % 2) + 1 * (i2 / 1 % 2) = l.val - l.val % 8 + i.val := by decide +kernel

/-- The three exchanges trade a block's number for its lane's low bits. -/
theorem ex_all (V : Fin 8 → FVec Ideal S16x128 .bf16) (i : Fin 8) (dp : Fin 16) (l : Fin 128) :
    ex4 laneI (ex2 laneI (ex1 laneI V)) i (ix2 dp l) = V ⟨l.val % 8, by omega⟩ (ix2 dp ⟨l.val - l.val % 8 + i.val, by omega⟩) := by
  rw [ex4_apply, ex2_apply, ex1_apply]
  exact congrArg₂ (fun a b => V a (ix2 dp b)) (Fin.ext (swap_all i l).1) (Fin.ext (swap_all i l).2)

/-- Eight turned rows of both halves, row by row in turn. -/
def outP (o : Fin 2 → ℕ) (ho : Shape.Slices S128x128 o S8x128) (lo hi : FVec Ideal S128x128 .bf16) : FVec Ideal S16x128 .bf16 :=
  interleaveRows S16x128 (extractStridedSlice S8x128 o lo ho) (extractStridedSlice S8x128 o hi ho) bitcasts_S16x128_w16_S8x128_w32

theorem outP_apply (m : ℕ) (hm : m < 16) (ho : Shape.Slices S128x128 ![8 * m, 0] S8x128) (lo hi : FVec Ideal S128x128 .bf16) (q : Fin 16) (col : Fin 128) :
    outP ![8 * m, 0] ho lo hi (ix2 q col) = if q.val % 2 = 0 then lo (ix2 ⟨8 * m + q.val / 2, by omega⟩ col) else hi (ix2 ⟨8 * m + q.val / 2, by omega⟩ col) := by
  pointwise [outP]

/-- A document's sums as the relayout takes them in. -/
def docB (x : FVec Ideal S1x1x16x128 .f32) : FVec Ideal S16x128 .bf16 := truncf .bf16 (shapeCast S16x128 x shapeCasts_S1x1x16x128_S16x128)

theorem docB_apply (x : FVec Ideal S1x1x16x128 .f32) (dp : Fin 16) (l : Fin 128) : docB x (ix2 dp l) = x (ix4 0 0 dp l) := by
  pointwise [docB]

/-- Sixteen rows of the result: row `q`, column `16 i + dp` is document `q`'s sum at coordinate `dp` and lane `8 m + i`. -/
theorem outP_docs (x : Fin 16 → FVec Ideal S1x1x16x128 .f32) (m : ℕ) (hm : m < 16) (ho : Shape.Slices S128x128 ![8 * m, 0] S8x128) (q : Fin 16) (col : Fin 128) :
    outP ![8 * m, 0] ho (turned (ex4 laneI (ex2 laneI (ex1 laneI fun e => docB (x ⟨2 * e.val, by omega⟩))))) (turned (ex4 laneI (ex2 laneI (ex1 laneI fun e => docB (x ⟨2 * e.val + 1, by omega⟩))))) (ix2 q col)
      = x q (ix4 0 0 ⟨col.val % 16, by omega⟩ ⟨8 * m + col.val / 16, by omega⟩) := by
  rw [outP_apply m hm]
  have key : ∀ (k k' : Fin 16) (l l' : Fin 128), k.val = k'.val → l.val = l'.val → x k (ix4 0 0 ⟨col.val % 16, by omega⟩ l) = x k' (ix4 0 0 ⟨col.val % 16, by omega⟩ l') := fun k k' l l' e e' =>
    congrArg₂ (fun a b => x a (ix4 0 0 ⟨col.val % 16, by omega⟩ b)) (Fin.ext e) (Fin.ext e')
  split
  · rw [turned_apply, ex_all, docB_apply]
    exact key _ _ _ _ (by simp only []; omega) (by simp only []; omega)
  · rw [turned_apply, ex_all, docB_apply]
    exact key _ _ _ _ (by simp only []; omega) (by simp only []; omega)

/-- A document's block of sums, as a trip of the relayout loads it. -/
def docX (arg11 : Memref sig .tc .vmem S16x10x16x128 .f32) (X : BufTy.Contents (Elt Ideal) arg11.view.ty) (k : Fin k0_t4_loop.trips) : Fin 16 → FVec Ideal S1x1x16x128 .f32 :=
  ![View.readAt (Elt Ideal) arg11.view (Rect.unit (s := S16x10x16x128) (k0_off77 k) S1x1x16x128.size (k0_off77_inb k)).toLoadRect X,
    View.readAt (Elt Ideal) arg11.view (Rect.unit (s := S16x10x16x128) (k0_off78 k) S1x1x16x128.size (k0_off78_inb k)).toLoadRect X,
    View.readAt (Elt Ideal) arg11.view (Rect.unit (s := S16x10x16x128) (k0_off79 k) S1x1x16x128.size (k0_off79_inb k)).toLoadRect X,
    View.readAt (Elt Ideal) arg11.view (Rect.unit (s := S16x10x16x128) (k0_off80 k) S1x1x16x128.size (k0_off80_inb k)).toLoadRect X,
    View.readAt (Elt Ideal) arg11.view (Rect.unit (s := S16x10x16x128) (k0_off81 k) S1x1x16x128.size (k0_off81_inb k)).toLoadRect X,
    View.readAt (Elt Ideal) arg11.view (Rect.unit (s := S16x10x16x128) (k0_off82 k) S1x1x16x128.size (k0_off82_inb k)).toLoadRect X,
    View.readAt (Elt Ideal) arg11.view (Rect.unit (s := S16x10x16x128) (k0_off83 k) S1x1x16x128.size (k0_off83_inb k)).toLoadRect X,
    View.readAt (Elt Ideal) arg11.view (Rect.unit (s := S16x10x16x128) (k0_off84 k) S1x1x16x128.size (k0_off84_inb k)).toLoadRect X,
    View.readAt (Elt Ideal) arg11.view (Rect.unit (s := S16x10x16x128) (k0_off85 k) S1x1x16x128.size (k0_off85_inb k)).toLoadRect X,
    View.readAt (Elt Ideal) arg11.view (Rect.unit (s := S16x10x16x128) (k0_off86 k) S1x1x16x128.size (k0_off86_inb k)).toLoadRect X,
    View.readAt (Elt Ideal) arg11.view (Rect.unit (s := S16x10x16x128) (k0_off87 k) S1x1x16x128.size (k0_off87_inb k)).toLoadRect X,
    View.readAt (Elt Ideal) arg11.view (Rect.unit (s := S16x10x16x128) (k0_off88 k) S1x1x16x128.size (k0_off88_inb k)).toLoadRect X,
    View.readAt (Elt Ideal) arg11.view (Rect.unit (s := S16x10x16x128) (k0_off89 k) S1x1x16x128.size (k0_off89_inb k)).toLoadRect X,
    View.readAt (Elt Ideal) arg11.view (Rect.unit (s := S16x10x16x128) (k0_off90 k) S1x1x16x128.size (k0_off90_inb k)).toLoadRect X,
    View.readAt (Elt Ideal) arg11.view (Rect.unit (s := S16x10x16x128) (k0_off91 k) S1x1x16x128.size (k0_off91_inb k)).toLoadRect X,
    View.readAt (Elt Ideal) arg11.view (Rect.unit (s := S16x10x16x128) (k0_off92 k) S1x1x16x128.size (k0_off92_inb k)).toLoadRect X]

/-- The even documents' blocks, -/
def docE (arg11 : Memref sig .tc .vmem S16x10x16x128 .f32) (X : BufTy.Contents (Elt Ideal) arg11.view.ty) (k : Fin k0_t4_loop.trips) : Fin 8 → FVec Ideal S16x128 .bf16 := fun e => docB (docX arg11 X k ⟨2 * e.val, by omega⟩)
/-- and the odd documents'. -/
def docO (arg11 : Memref sig .tc .vmem S16x10x16x128 .f32) (X : BufTy.Contents (Elt Ideal) arg11.view.ty) (k : Fin k0_t4_loop.trips) : Fin 8 → FVec Ideal S16x128 .bf16 := fun e => docB (docX arg11 X k ⟨2 * e.val + 1, by omega⟩)

/-- The even documents' blocks after the exchanges, stacked and turned, -/
def loT (arg11 : Memref sig .tc .vmem S16x10x16x128 .f32) (X : BufTy.Contents (Elt Ideal) arg11.view.ty) (k : Fin k0_t4_loop.trips) : FVec Ideal S128x128 .bf16 := turned (ex4 laneI (ex2 laneI (ex1 laneI (docE arg11 X k))))
/-- and the odd documents'. -/
def hiT (arg11 : Memref sig .tc .vmem S16x10x16x128 .f32) (X : BufTy.Contents (Elt Ideal) arg11.view.ty) (k : Fin k0_t4_loop.trips) : FVec Ideal S128x128 .bf16 := turned (ex4 laneI (ex2 laneI (ex1 laneI (docO arg11 X k))))

theorem loD_0 (arg11 : Memref sig .tc .vmem S16x10x16x128 .f32) (X : BufTy.Contents (Elt Ideal) arg11.view.ty) (k : Fin k0_t4_loop.trips) : trip_k0_t4.sl.r (F := Ideal) arg11 X k = docE arg11 X k 0 := by exact rfl
theorem loD_1 (arg11 : Memref sig .tc .vmem S16x10x16x128 .f32) (X : BufTy.Contents (Elt Ideal) arg11.view.ty) (k : Fin k0_t4_loop.trips) : trip_k0_t4.sl.r_2 (F := Ideal) arg11 X k = docE arg11 X k 1 := by exact rfl
theorem loD_2 (arg11 : Memref sig .tc .vmem S16x10x16x128 .f32) (X : BufTy.Contents (Elt Ideal) arg11.view.ty) (k : Fin k0_t4_loop.trips) : trip_k0_t4.sl.r_4 (F := Ideal) arg11 X k = docE arg11 X k 2 := by exact rfl
theorem loD_3 (arg11 : Memref sig .tc .vmem S16x10x16x128 .f32) (X : BufTy.Contents (Elt Ideal) arg11.view.ty) (k : Fin k0_t4_loop.trips) : trip_k0_t4.sl.r_6 (F := Ideal) arg11 X k = docE arg11 X k 3 := by exact rfl
theorem loD_4 (arg11 : Memref sig .tc .vmem S16x10x16x128 .f32) (X : BufTy.Contents (Elt Ideal) arg11.view.ty) (k : Fin k0_t4_loop.trips) : trip_k0_t4.sl.r_8 (F := Ideal) arg11 X k = docE arg11 X k 4 := by exact rfl
theorem loD_5 (arg11 : Memref sig .tc .vmem S16x10x16x128 .f32) (X : BufTy.Contents (Elt Ideal) arg11.view.ty) (k : Fin k0_t4_loop.trips) : trip_k0_t4.sl.r_10 (F := Ideal) arg11 X k = docE arg11 X k 5 := by exact rfl
theorem loD_6 (arg11 : Memref sig .tc .vmem S16x10x16x128 .f32) (X : BufTy.Contents (Elt Ideal) arg11.view.ty) (k : Fin k0_t4_loop.trips) : trip_k0_t4.sl.r_12 (F := Ideal) arg11 X k = docE arg11 X k 6 := by exact rfl
theorem loD_7 (arg11 : Memref sig .tc .vmem S16x10x16x128 .f32) (X : BufTy.Contents (Elt Ideal) arg11.view.ty) (k : Fin k0_t4_loop.trips) : trip_k0_t4.sl.r_14 (F := Ideal) arg11 X k = docE arg11 X k 7 := by exact rfl
theorem lo1_0 (arg11 : Memref sig .tc .vmem S16x10x16x128 .f32) (X : BufTy.Contents (Elt Ideal) arg11.view.ty) (k : Fin k0_t4_loop.trips) : trip_k0_t4.sl.v1378_lo (F := Ideal) arg11 laneI X k = ex1 laneI (docE arg11 X k) 0 := by
  show exA (lowM laneI 1#32) 1#32 (trip_k0_t4.sl.r (F := Ideal) arg11 X k) (trip_k0_t4.sl.r_2 (F := Ideal) arg11 X k) = _
  rw [loD_0, loD_1]; exact rfl
theorem lo1_1 (arg11 : Memref sig .tc .vmem S16x10x16x128 .f32) (X : BufTy.Contents (Elt Ideal) arg11.view.ty) (k : Fin k0_t4_loop.trips) : trip_k0_t4.sl.v1380_lo (F := Ideal) arg11 laneI X k = ex1 laneI (docE arg11 X k) 1 := by
  show exB (lowM laneI 1#32) 127#32 (trip_k0_t4.sl.r (F := Ideal) arg11 X k) (trip_k0_t4.sl.r_2 (F := Ideal) arg11 X k) = _
  rw [loD_0, loD_1]; exact rfl
theorem lo1_2 (arg11 : Memref sig .tc .vmem S16x10x16x128 .f32) (X : BufTy.Contents (Elt Ideal) arg11.view.ty) (k : Fin k0_t4_loop.trips) : trip_k0_t4.sl.v1382_lo (F := Ideal) arg11 laneI X k = ex1 laneI (docE arg11 X k) 2 := by
  show exA (lowM laneI 1#32) 1#32 (trip_k0_t4.sl.r_4 (F := Ideal) arg11 X k) (trip_k0_t4.sl.r_6 (F := Ideal) arg11 X k) = _
  rw [loD_2, loD_3]; exact rfl
theorem lo1_3 (arg11 : Memref sig .tc .vmem S16x10x16x128 .f32) (X : BufTy.Contents (Elt Ideal) arg11.view.ty) (k : Fin k0_t4_loop.trips) : trip_k0_t4.sl.v1384_lo (F := Ideal) arg11 laneI X k = ex1 laneI (docE arg11 X k) 3 := by
  show exB (lowM laneI 1#32) 127#32 (trip_k0_t4.sl.r_4 (F := Ideal) arg11 X k) (trip_k0_t4.sl.r_6 (F := Ideal) arg11 X k) = _
  rw [loD_2, loD_3]; exact rfl
theorem lo1_4 (arg11 : Memref sig .tc .vmem S16x10x16x128 .f32) (X : BufTy.Contents (Elt Ideal) arg11.view.ty) (k : Fin k0_t4_loop.trips) : trip_k0_t4.sl.v1386_lo (F := Ideal) arg11 laneI X k = ex1 laneI (docE arg11 X k) 4 := by
  show exA (lowM laneI 1#32) 1#32 (trip_k0_t4.sl.r_8 (F := Ideal) arg11 X k) (trip_k0_t4.sl.r_10 (F := Ideal) arg11 X k) = _
  rw [loD_4, loD_5]; exact rfl
theorem lo1_5 (arg11 : Memref sig .tc .vmem S16x10x16x128 .f32) (X : BufTy.Contents (Elt Ideal) arg11.view.ty) (k : Fin k0_t4_loop.trips) : trip_k0_t4.sl.v1388_lo (F := Ideal) arg11 laneI X k = ex1 laneI (docE arg11 X k) 5 := by
  show exB (lowM laneI 1#32) 127#32 (trip_k0_t4.sl.r_8 (F := Ideal) arg11 X k) (trip_k0_t4.sl.r_10 (F := Ideal) arg11 X k) = _
  rw [loD_4, loD_5]; exact rfl
theorem lo1_6 (arg11 : Memref sig .tc .vmem S16x10x16x128 .f32) (X : BufTy.Contents (Elt Ideal) arg11.view.ty) (k : Fin k0_t4_loop.trips) : trip_k0_t4.sl.v1390_lo (F := Ideal) arg11 laneI X k = ex1 laneI (docE arg11 X k) 6 := by
  show exA (lowM laneI 1#32) 1#32 (trip_k0_t4.sl.r_12 (F := Ideal) arg11 X k) (trip_k0_t4.sl.r_14 (F := Ideal) arg11 X k) = _
  rw [loD_6, loD_7]; exact rfl
theorem lo1_7 (arg11 : Memref sig .tc .vmem S16x10x16x128 .f32) (X : BufTy.Contents (Elt Ideal) arg11.view.ty) (k : Fin k0_t4_loop.trips) : trip_k0_t4.sl.v1392_lo (F := Ideal) arg11 laneI X k = ex1 laneI (docE arg11 X k) 7 := by
  show exB (lowM laneI 1#32) 127#32 (trip_k0_t4.sl.r_12 (F := Ideal) arg11 X k) (trip_k0_t4.sl.r_14 (F := Ideal) arg11 X k) = _
  rw [loD_6, loD_7]; exact rfl
theorem lo2_0 (arg11 : Memref sig .tc .vmem S16x10x16x128 .f32) (X : BufTy.Contents (Elt Ideal) arg11.view.ty) (k : Fin k0_t4_loop.trips) : trip_k0_t4.sl.v1398_lo (F := Ideal) arg11 laneI X k = ex2 laneI (ex1 laneI (docE arg11 X k)) 0 := by
  show exA (lowM laneI 2#32) 2#32 (trip_k0_t4.sl.v1378_lo (F := Ideal) arg11 laneI X k) (trip_k0_t4.sl.v1382_lo (F := Ideal) arg11 laneI X k) = _
  rw [lo1_0, lo1_2]; exact rfl
theorem lo2_1 (arg11 : Memref sig .tc .vmem S16x10x16x128 .f32) (X : BufTy.Contents (Elt Ideal) arg11.view.ty) (k : Fin k0_t4_loop.trips) : trip_k0_t4.sl.v1402_lo (F := Ideal) arg11 laneI X k = ex2 laneI (ex1 laneI (docE arg11 X k)) 1 := by
  show exA (lowM laneI 2#32) 2#32 (trip_k0_t4.sl.v1380_lo (F := Ideal) arg11 laneI X k) (trip_k0_t4.sl.v1384_lo (F := Ideal) arg11 laneI X k) = _
  rw [lo1_1, lo1_3]; exact rfl
theorem lo2_2 (arg11 : Memref sig .tc .vmem S16x10x16x128 .f32) (X : BufTy.Contents (Elt Ideal) arg11.view.ty) (k : Fin k0_t4_loop.trips) : trip_k0_t4.sl.v1400_lo (F := Ideal) arg11 laneI X k = ex2 laneI (ex1 laneI (docE arg11 X k)) 2 := by
  show exB (lowM laneI 2#32) 126#32 (trip_k0_t4.sl.v1378_lo (F := Ideal) arg11 laneI X k) (trip_k0_t4.sl.v1382_lo (F := Ideal) arg11 laneI X k) = _
  rw [lo1_0, lo1_2]; exact rfl
theorem lo2_3 (arg11 : Memref sig .tc .vmem S16x10x16x128 .f32) (X : BufTy.Contents (Elt Ideal) arg11.view.ty) (k : Fin k0_t4_loop.trips) : trip_k0_t4.sl.v1404_lo (F := Ideal) arg11 laneI X k = ex2 laneI (ex1 laneI (docE arg11 X k)) 3 := by
  show exB (lowM laneI 2#32) 126#32 (trip_k0_t4.sl.v1380_lo (F := Ideal) arg11 laneI X k) (trip_k0_t4.sl.v1384_lo (F := Ideal) arg11 laneI X k) = _
  rw [lo1_1, lo1_3]; exact rfl
theorem lo2_4 (arg11 : Memref sig .tc .vmem S16x10x16x128 .f32) (X : BufTy.Contents (Elt Ideal) arg11.view.ty) (k : Fin k0_t4_loop.trips) : trip_k0_t4.sl.v1406_lo (F := Ideal) arg11 laneI X k = ex2 laneI (ex1 laneI (docE arg11 X k)) 4 := by
  show exA (lowM laneI 2#32) 2#32 (trip_k0_t4.sl.v1386_lo (F := Ideal) arg11 laneI X k) (trip_k0_t4.sl.v1390_lo (F := Ideal) arg11 laneI X k) = _
  rw [lo1_4, lo1_6]; exact rfl
theorem lo2_5 (arg11 : Memref sig .tc .vmem S16x10x16x128 .f32) (X : BufTy.Contents (Elt Ideal) arg11.view.ty) (k : Fin k0_t4_loop.trips) : trip_k0_t4.sl.v1410_lo (F := Ideal) arg11 laneI X k = ex2 laneI (ex1 laneI (docE arg11 X k)) 5 := by
  show exA (lowM laneI 2#32) 2#32 (trip_k0_t4.sl.v1388_lo (F := Ideal) arg11 laneI X k) (trip_k0_t4.sl.v1392_lo (F := Ideal) arg11 laneI X k) = _
  rw [lo1_5, lo1_7]; exact rfl
theorem lo2_6 (arg11 : Memref sig .tc .vmem S16x10x16x128 .f32) (X : BufTy.Contents (Elt Ideal) arg11.view.ty) (k : Fin k0_t4_loop.trips) : trip_k0_t4.sl.v1408_lo (F := Ideal) arg11 laneI X k = ex2 laneI (ex1 laneI (docE arg11 X k)) 6 := by
  show exB (lowM laneI 2#32) 126#32 (trip_k0_t4.sl.v1386_lo (F := Ideal) arg11 laneI X k) (trip_k0_t4.sl.v1390_lo (F := Ideal) arg11 laneI X k) = _
  rw [lo1_4, lo1_6]; exact rfl
theorem lo2_7 (arg11 : Memref sig .tc .vmem S16x10x16x128 .f32) (X : BufTy.Contents (Elt Ideal) arg11.view.ty) (k : Fin k0_t4_loop.trips) : trip_k0_t4.sl.v1412_lo (F := Ideal) arg11 laneI X k = ex2 laneI (ex1 laneI (docE arg11 X k)) 7 := by
  show exB (lowM laneI 2#32) 126#32 (trip_k0_t4.sl.v1388_lo (F := Ideal) arg11 laneI X k) (trip_k0_t4.sl.v1392_lo (F := Ideal) arg11 laneI X k) = _
  rw [lo1_5, lo1_7]; exact rfl
theorem lo_eq (arg11 : Memref sig .tc .vmem S16x10x16x128 .f32) (X : BufTy.Contents (Elt Ideal) arg11.view.ty) (k : Fin k0_t4_loop.trips) : trip_k0_t4.sl.r_16 (F := Ideal) arg11 laneI X k = loT arg11 X k := by
  show turned ![exA (lowM laneI 4#32) 4#32 (trip_k0_t4.sl.v1398_lo (F := Ideal) arg11 laneI X k) (trip_k0_t4.sl.v1406_lo (F := Ideal) arg11 laneI X k), exA (lowM laneI 4#32) 4#32 (trip_k0_t4.sl.v1402_lo (F := Ideal) arg11 laneI X k) (trip_k0_t4.sl.v1410_lo (F := Ideal) arg11 laneI X k), exA (lowM laneI 4#32) 4#32 (trip_k0_t4.sl.v1400_lo (F := Ideal) arg11 laneI X k) (trip_k0_t4.sl.v1408_lo (F := Ideal) arg11 laneI X k), exA (lowM laneI 4#32) 4#32 (trip_k0_t4.sl.v1404_lo (F := Ideal) arg11 laneI X k) (trip_k0_t4.sl.v1412_lo (F := Ideal) arg11 laneI X k),
    exB (lowM laneI 4#32) 124#32 (trip_k0_t4.sl.v1398_lo (F := Ideal) arg11 laneI X k) (trip_k0_t4.sl.v1406_lo (F := Ideal) arg11 laneI X k), exB (lowM laneI 4#32) 124#32 (trip_k0_t4.sl.v1402_lo (F := Ideal) arg11 laneI X k) (trip_k0_t4.sl.v1410_lo (F := Ideal) arg11 laneI X k), exB (lowM laneI 4#32) 124#32 (trip_k0_t4.sl.v1400_lo (F := Ideal) arg11 laneI X k) (trip_k0_t4.sl.v1408_lo (F := Ideal) arg11 laneI X k), exB (lowM laneI 4#32) 124#32 (trip_k0_t4.sl.v1404_lo (F := Ideal) arg11 laneI X k) (trip_k0_t4.sl.v1412_lo (F := Ideal) arg11 laneI X k)] = _
  rw [lo2_0, lo2_1, lo2_2, lo2_3, lo2_4, lo2_5, lo2_6, lo2_7]; exact rfl
theorem hiD_0 (arg11 : Memref sig .tc .vmem S16x10x16x128 .f32) (X : BufTy.Contents (Elt Ideal) arg11.view.ty) (k : Fin k0_t4_loop.trips) : trip_k0_t4.sl.r_1 (F := Ideal) arg11 X k = docO arg11 X k 0 := by exact rfl
theorem hiD_1 (arg11 : Memref sig .tc .vmem S16x10x16x128 .f32) (X : BufTy.Contents (Elt Ideal) arg11.view.ty) (k : Fin k0_t4_loop.trips) : trip_k0_t4.sl.r_3 (F := Ideal) arg11 X k = docO arg11 X k 1 := by exact rfl
theorem hiD_2 (arg11 : Memref sig .tc .vmem S16x10x16x128 .f32) (X : BufTy.Contents (Elt Ideal) arg11.view.ty) (k : Fin k0_t4_loop.trips) : trip_k0_t4.sl.r_5 (F := Ideal) arg11 X k = docO arg11 X k 2 := by exact rfl
theorem hiD_3 (arg11 : Memref sig .tc .vmem S16x10x16x128 .f32) (X : BufTy.Contents (Elt Ideal) arg11.view.ty) (k : Fin k0_t4_loop.trips) : trip_k0_t4.sl.r_7 (F := Ideal) arg11 X k = docO arg11 X k 3 := by exact rfl
theorem hiD_4 (arg11 : Memref sig .tc .vmem S16x10x16x128 .f32) (X : BufTy.Contents (Elt Ideal) arg11.view.ty) (k : Fin k0_t4_loop.trips) : trip_k0_t4.sl.r_9 (F := Ideal) arg11 X k = docO arg11 X k 4 := by exact rfl
theorem hiD_5 (arg11 : Memref sig .tc .vmem S16x10x16x128 .f32) (X : BufTy.Contents (Elt Ideal) arg11.view.ty) (k : Fin k0_t4_loop.trips) : trip_k0_t4.sl.r_11 (F := Ideal) arg11 X k = docO arg11 X k 5 := by exact rfl
theorem hiD_6 (arg11 : Memref sig .tc .vmem S16x10x16x128 .f32) (X : BufTy.Contents (Elt Ideal) arg11.view.ty) (k : Fin k0_t4_loop.trips) : trip_k0_t4.sl.r_13 (F := Ideal) arg11 X k = docO arg11 X k 6 := by exact rfl
theorem hiD_7 (arg11 : Memref sig .tc .vmem S16x10x16x128 .f32) (X : BufTy.Contents (Elt Ideal) arg11.view.ty) (k : Fin k0_t4_loop.trips) : trip_k0_t4.sl.r_15 (F := Ideal) arg11 X k = docO arg11 X k 7 := by exact rfl
theorem hi1_0 (arg11 : Memref sig .tc .vmem S16x10x16x128 .f32) (X : BufTy.Contents (Elt Ideal) arg11.view.ty) (k : Fin k0_t4_loop.trips) : trip_k0_t4.sl.v1378_hi (F := Ideal) arg11 laneI X k = ex1 laneI (docO arg11 X k) 0 := by
  show exA (lowM laneI 1#32) 1#32 (trip_k0_t4.sl.r_1 (F := Ideal) arg11 X k) (trip_k0_t4.sl.r_3 (F := Ideal) arg11 X k) = _
  rw [hiD_0, hiD_1]; exact rfl
theorem hi1_1 (arg11 : Memref sig .tc .vmem S16x10x16x128 .f32) (X : BufTy.Contents (Elt Ideal) arg11.view.ty) (k : Fin k0_t4_loop.trips) : trip_k0_t4.sl.v1380_hi (F := Ideal) arg11 laneI X k = ex1 laneI (docO arg11 X k) 1 := by
  show exB (lowM laneI 1#32) 127#32 (trip_k0_t4.sl.r_1 (F := Ideal) arg11 X k) (trip_k0_t4.sl.r_3 (F := Ideal) arg11 X k) = _
  rw [hiD_0, hiD_1]; exact rfl
theorem hi1_2 (arg11 : Memref sig .tc .vmem S16x10x16x128 .f32) (X : BufTy.Contents (Elt Ideal) arg11.view.ty) (k : Fin k0_t4_loop.trips) : trip_k0_t4.sl.v1382_hi (F := Ideal) arg11 laneI X k = ex1 laneI (docO arg11 X k) 2 := by
  show exA (lowM laneI 1#32) 1#32 (trip_k0_t4.sl.r_5 (F := Ideal) arg11 X k) (trip_k0_t4.sl.r_7 (F := Ideal) arg11 X k) = _
  rw [hiD_2, hiD_3]; exact rfl
theorem hi1_3 (arg11 : Memref sig .tc .vmem S16x10x16x128 .f32) (X : BufTy.Contents (Elt Ideal) arg11.view.ty) (k : Fin k0_t4_loop.trips) : trip_k0_t4.sl.v1384_hi (F := Ideal) arg11 laneI X k = ex1 laneI (docO arg11 X k) 3 := by
  show exB (lowM laneI 1#32) 127#32 (trip_k0_t4.sl.r_5 (F := Ideal) arg11 X k) (trip_k0_t4.sl.r_7 (F := Ideal) arg11 X k) = _
  rw [hiD_2, hiD_3]; exact rfl
theorem hi1_4 (arg11 : Memref sig .tc .vmem S16x10x16x128 .f32) (X : BufTy.Contents (Elt Ideal) arg11.view.ty) (k : Fin k0_t4_loop.trips) : trip_k0_t4.sl.v1386_hi (F := Ideal) arg11 laneI X k = ex1 laneI (docO arg11 X k) 4 := by
  show exA (lowM laneI 1#32) 1#32 (trip_k0_t4.sl.r_9 (F := Ideal) arg11 X k) (trip_k0_t4.sl.r_11 (F := Ideal) arg11 X k) = _
  rw [hiD_4, hiD_5]; exact rfl
theorem hi1_5 (arg11 : Memref sig .tc .vmem S16x10x16x128 .f32) (X : BufTy.Contents (Elt Ideal) arg11.view.ty) (k : Fin k0_t4_loop.trips) : trip_k0_t4.sl.v1388_hi (F := Ideal) arg11 laneI X k = ex1 laneI (docO arg11 X k) 5 := by
  show exB (lowM laneI 1#32) 127#32 (trip_k0_t4.sl.r_9 (F := Ideal) arg11 X k) (trip_k0_t4.sl.r_11 (F := Ideal) arg11 X k) = _
  rw [hiD_4, hiD_5]; exact rfl
theorem hi1_6 (arg11 : Memref sig .tc .vmem S16x10x16x128 .f32) (X : BufTy.Contents (Elt Ideal) arg11.view.ty) (k : Fin k0_t4_loop.trips) : trip_k0_t4.sl.v1390_hi (F := Ideal) arg11 laneI X k = ex1 laneI (docO arg11 X k) 6 := by
  show exA (lowM laneI 1#32) 1#32 (trip_k0_t4.sl.r_13 (F := Ideal) arg11 X k) (trip_k0_t4.sl.r_15 (F := Ideal) arg11 X k) = _
  rw [hiD_6, hiD_7]; exact rfl
theorem hi1_7 (arg11 : Memref sig .tc .vmem S16x10x16x128 .f32) (X : BufTy.Contents (Elt Ideal) arg11.view.ty) (k : Fin k0_t4_loop.trips) : trip_k0_t4.sl.v1392_hi (F := Ideal) arg11 laneI X k = ex1 laneI (docO arg11 X k) 7 := by
  show exB (lowM laneI 1#32) 127#32 (trip_k0_t4.sl.r_13 (F := Ideal) arg11 X k) (trip_k0_t4.sl.r_15 (F := Ideal) arg11 X k) = _
  rw [hiD_6, hiD_7]; exact rfl
theorem hi2_0 (arg11 : Memref sig .tc .vmem S16x10x16x128 .f32) (X : BufTy.Contents (Elt Ideal) arg11.view.ty) (k : Fin k0_t4_loop.trips) : trip_k0_t4.sl.v1398_hi (F := Ideal) arg11 laneI X k = ex2 laneI (ex1 laneI (docO arg11 X k)) 0 := by
  show exA (lowM laneI 2#32) 2#32 (trip_k0_t4.sl.v1378_hi (F := Ideal) arg11 laneI X k) (trip_k0_t4.sl.v1382_hi (F := Ideal) arg11 laneI X k) = _
  rw [hi1_0, hi1_2]; exact rfl
theorem hi2_1 (arg11 : Memref sig .tc .vmem S16x10x16x128 .f32) (X : BufTy.Contents (Elt Ideal) arg11.view.ty) (k : Fin k0_t4_loop.trips) : trip_k0_t4.sl.v1402_hi (F := Ideal) arg11 laneI X k = ex2 laneI (ex1 laneI (docO arg11 X k)) 1 := by
  show exA (lowM laneI 2#32) 2#32 (trip_k0_t4.sl.v1380_hi (F := Ideal) arg11 laneI X k) (trip_k0_t4.sl.v1384_hi (F := Ideal) arg11 laneI X k) = _
  rw [hi1_1, hi1_3]; exact rfl
theorem hi2_2 (arg11 : Memref sig .tc .vmem S16x10x16x128 .f32) (X : BufTy.Contents (Elt Ideal) arg11.view.ty) (k : Fin k0_t4_loop.trips) : trip_k0_t4.sl.v1400_hi (F := Ideal) arg11 laneI X k = ex2 laneI (ex1 laneI (docO arg11 X k)) 2 := by
  show exB (lowM laneI 2#32) 126#32 (trip_k0_t4.sl.v1378_hi (F := Ideal) arg11 laneI X k) (trip_k0_t4.sl.v1382_hi (F := Ideal) arg11 laneI X k) = _
  rw [hi1_0, hi1_2]; exact rfl
theorem hi2_3 (arg11 : Memref sig .tc .vmem S16x10x16x128 .f32) (X : BufTy.Contents (Elt Ideal) arg11.view.ty) (k : Fin k0_t4_loop.trips) : trip_k0_t4.sl.v1404_hi (F := Ideal) arg11 laneI X k = ex2 laneI (ex1 laneI (docO arg11 X k)) 3 := by
  show exB (lowM laneI 2#32) 126#32 (trip_k0_t4.sl.v1380_hi (F := Ideal) arg11 laneI X k) (trip_k0_t4.sl.v1384_hi (F := Ideal) arg11 laneI X k) = _
  rw [hi1_1, hi1_3]; exact rfl
theorem hi2_4 (arg11 : Memref sig .tc .vmem S16x10x16x128 .f32) (X : BufTy.Contents (Elt Ideal) arg11.view.ty) (k : Fin k0_t4_loop.trips) : trip_k0_t4.sl.v1406_hi (F := Ideal) arg11 laneI X k = ex2 laneI (ex1 laneI (docO arg11 X k)) 4 := by
  show exA (lowM laneI 2#32) 2#32 (trip_k0_t4.sl.v1386_hi (F := Ideal) arg11 laneI X k) (trip_k0_t4.sl.v1390_hi (F := Ideal) arg11 laneI X k) = _
  rw [hi1_4, hi1_6]; exact rfl
theorem hi2_5 (arg11 : Memref sig .tc .vmem S16x10x16x128 .f32) (X : BufTy.Contents (Elt Ideal) arg11.view.ty) (k : Fin k0_t4_loop.trips) : trip_k0_t4.sl.v1410_hi (F := Ideal) arg11 laneI X k = ex2 laneI (ex1 laneI (docO arg11 X k)) 5 := by
  show exA (lowM laneI 2#32) 2#32 (trip_k0_t4.sl.v1388_hi (F := Ideal) arg11 laneI X k) (trip_k0_t4.sl.v1392_hi (F := Ideal) arg11 laneI X k) = _
  rw [hi1_5, hi1_7]; exact rfl
theorem hi2_6 (arg11 : Memref sig .tc .vmem S16x10x16x128 .f32) (X : BufTy.Contents (Elt Ideal) arg11.view.ty) (k : Fin k0_t4_loop.trips) : trip_k0_t4.sl.v1408_hi (F := Ideal) arg11 laneI X k = ex2 laneI (ex1 laneI (docO arg11 X k)) 6 := by
  show exB (lowM laneI 2#32) 126#32 (trip_k0_t4.sl.v1386_hi (F := Ideal) arg11 laneI X k) (trip_k0_t4.sl.v1390_hi (F := Ideal) arg11 laneI X k) = _
  rw [hi1_4, hi1_6]; exact rfl
theorem hi2_7 (arg11 : Memref sig .tc .vmem S16x10x16x128 .f32) (X : BufTy.Contents (Elt Ideal) arg11.view.ty) (k : Fin k0_t4_loop.trips) : trip_k0_t4.sl.v1412_hi (F := Ideal) arg11 laneI X k = ex2 laneI (ex1 laneI (docO arg11 X k)) 7 := by
  show exB (lowM laneI 2#32) 126#32 (trip_k0_t4.sl.v1388_hi (F := Ideal) arg11 laneI X k) (trip_k0_t4.sl.v1392_hi (F := Ideal) arg11 laneI X k) = _
  rw [hi1_5, hi1_7]; exact rfl
theorem hi_eq (arg11 : Memref sig .tc .vmem S16x10x16x128 .f32) (X : BufTy.Contents (Elt Ideal) arg11.view.ty) (k : Fin k0_t4_loop.trips) : trip_k0_t4.sl.r_17 (F := Ideal) arg11 laneI X k = hiT arg11 X k := by
  show turned ![exA (lowM laneI 4#32) 4#32 (trip_k0_t4.sl.v1398_hi (F := Ideal) arg11 laneI X k) (trip_k0_t4.sl.v1406_hi (F := Ideal) arg11 laneI X k), exA (lowM laneI 4#32) 4#32 (trip_k0_t4.sl.v1402_hi (F := Ideal) arg11 laneI X k) (trip_k0_t4.sl.v1410_hi (F := Ideal) arg11 laneI X k), exA (lowM laneI 4#32) 4#32 (trip_k0_t4.sl.v1400_hi (F := Ideal) arg11 laneI X k) (trip_k0_t4.sl.v1408_hi (F := Ideal) arg11 laneI X k), exA (lowM laneI 4#32) 4#32 (trip_k0_t4.sl.v1404_hi (F := Ideal) arg11 laneI X k) (trip_k0_t4.sl.v1412_hi (F := Ideal) arg11 laneI X k),
    exB (lowM laneI 4#32) 124#32 (trip_k0_t4.sl.v1398_hi (F := Ideal) arg11 laneI X k) (trip_k0_t4.sl.v1406_hi (F := Ideal) arg11 laneI X k), exB (lowM laneI 4#32) 124#32 (trip_k0_t4.sl.v1402_hi (F := Ideal) arg11 laneI X k) (trip_k0_t4.sl.v1410_hi (F := Ideal) arg11 laneI X k), exB (lowM laneI 4#32) 124#32 (trip_k0_t4.sl.v1400_hi (F := Ideal) arg11 laneI X k) (trip_k0_t4.sl.v1408_hi (F := Ideal) arg11 laneI X k), exB (lowM laneI 4#32) 124#32 (trip_k0_t4.sl.v1404_hi (F := Ideal) arg11 laneI X k) (trip_k0_t4.sl.v1412_hi (F := Ideal) arg11 laneI X k)] = _
  rw [hi2_0, hi2_1, hi2_2, hi2_3, hi2_4, hi2_5, hi2_6, hi2_7]; exact rfl

theorem off_doc_0 : ∀ k : Fin k0_t4_loop.trips, k0_off77 k = ![0, k.val, 0, 0] := by decide +kernel
theorem off_doc_1 : ∀ k : Fin k0_t4_loop.trips, k0_off78 k = ![1, k.val, 0, 0] := by decide +kernel
theorem off_doc_2 : ∀ k : Fin k0_t4_loop.trips, k0_off79 k = ![2, k.val, 0, 0] := by decide +kernel
theorem off_doc_3 : ∀ k : Fin k0_t4_loop.trips, k0_off80 k = ![3, k.val, 0, 0] := by decide +kernel
theorem off_doc_4 : ∀ k : Fin k0_t4_loop.trips, k0_off81 k = ![4, k.val, 0, 0] := by decide +kernel
theorem off_doc_5 : ∀ k : Fin k0_t4_loop.trips, k0_off82 k = ![5, k.val, 0, 0] := by decide +kernel
theorem off_doc_6 : ∀ k : Fin k0_t4_loop.trips, k0_off83 k = ![6, k.val, 0, 0] := by decide +kernel
theorem off_doc_7 : ∀ k : Fin k0_t4_loop.trips, k0_off84 k = ![7, k.val, 0, 0] := by decide +kernel
theorem off_doc_8 : ∀ k : Fin k0_t4_loop.trips, k0_off85 k = ![8, k.val, 0, 0] := by decide +kernel
theorem off_doc_9 : ∀ k : Fin k0_t4_loop.trips, k0_off86 k = ![9, k.val, 0, 0] := by decide +kernel
theorem off_doc_10 : ∀ k : Fin k0_t4_loop.trips, k0_off87 k = ![10, k.val, 0, 0] := by decide +kernel
theorem off_doc_11 : ∀ k : Fin k0_t4_loop.trips, k0_off88 k = ![11, k.val, 0, 0] := by decide +kernel
theorem off_doc_12 : ∀ k : Fin k0_t4_loop.trips, k0_off89 k = ![12, k.val, 0, 0] := by decide +kernel
theorem off_doc_13 : ∀ k : Fin k0_t4_loop.trips, k0_off90 k = ![13, k.val, 0, 0] := by decide +kernel
theorem off_doc_14 : ∀ k : Fin k0_t4_loop.trips, k0_off91 k = ![14, k.val, 0, 0] := by decide +kernel
theorem off_doc_15 : ∀ k : Fin k0_t4_loop.trips, k0_off92 k = ![15, k.val, 0, 0] := by decide +kernel
theorem off_out_0 : ∀ k : Fin k0_t4_loop.trips, k0_off93 k 0#32 = ![0, 2048 * k.val + 128 * 0] := by decide +kernel
theorem off_out_1 : ∀ k : Fin k0_t4_loop.trips, k0_off93 k 1#32 = ![0, 2048 * k.val + 128 * 1] := by decide +kernel
theorem off_out_2 : ∀ k : Fin k0_t4_loop.trips, k0_off93 k 2#32 = ![0, 2048 * k.val + 128 * 2] := by decide +kernel
theorem off_out_3 : ∀ k : Fin k0_t4_loop.trips, k0_off93 k 3#32 = ![0, 2048 * k.val + 128 * 3] := by decide +kernel
theorem off_out_4 : ∀ k : Fin k0_t4_loop.trips, k0_off93 k 4#32 = ![0, 2048 * k.val + 128 * 4] := by decide +kernel
theorem off_out_5 : ∀ k : Fin k0_t4_loop.trips, k0_off93 k 5#32 = ![0, 2048 * k.val + 128 * 5] := by decide +kernel
theorem off_out_6 : ∀ k : Fin k0_t4_loop.trips, k0_off93 k 6#32 = ![0, 2048 * k.val + 128 * 6] := by decide +kernel
theorem off_out_7 : ∀ k : Fin k0_t4_loop.trips, k0_off93 k 7#32 = ![0, 2048 * k.val + 128 * 7] := by decide +kernel
theorem off_out_8 : ∀ k : Fin k0_t4_loop.trips, k0_off93 k 8#32 = ![0, 2048 * k.val + 128 * 8] := by decide +kernel
theorem off_out_9 : ∀ k : Fin k0_t4_loop.trips, k0_off93 k 9#32 = ![0, 2048 * k.val + 128 * 9] := by decide +kernel
theorem off_out_10 : ∀ k : Fin k0_t4_loop.trips, k0_off93 k 10#32 = ![0, 2048 * k.val + 128 * 10] := by decide +kernel
theorem off_out_11 : ∀ k : Fin k0_t4_loop.trips, k0_off93 k 11#32 = ![0, 2048 * k.val + 128 * 11] := by decide +kernel
theorem off_out_12 : ∀ k : Fin k0_t4_loop.trips, k0_off93 k 12#32 = ![0, 2048 * k.val + 128 * 12] := by decide +kernel
theorem off_out_13 : ∀ k : Fin k0_t4_loop.trips, k0_off93 k 13#32 = ![0, 2048 * k.val + 128 * 13] := by decide +kernel
theorem off_out_14 : ∀ k : Fin k0_t4_loop.trips, k0_off93 k 14#32 = ![0, 2048 * k.val + 128 * 14] := by decide +kernel
theorem off_out_15 : ∀ k : Fin k0_t4_loop.trips, k0_off93 k 15#32 = ![0, 2048 * k.val + 128 * 15] := by decide +kernel

theorem t4_trips : k0_t4_loop.trips = 10 := by decide +kernel

theorem docX_at (arg11 : Memref sig .tc .vmem S16x10x16x128 .f32) (X : BufTy.Contents (Elt Ideal) arg11.view.ty) (k : Fin k0_t4_loop.trips) (u : Fin 10) (hu : k.val = u.val) (d : Fin 16) (off : Fin 4 → ℕ) (b : ∀ a, off a + S1x1x16x128.size a ≤ S16x10x16x128.size a) (e : off = ![d.val, k.val, 0, 0]) (dp : Fin 16) (l : Fin 128) :
    View.readAt (Elt Ideal) arg11.view (Rect.unit (s := S16x10x16x128) off S1x1x16x128.size b).toLoadRect X (ix4 0 0 dp l) = arg11.view.read (Elt Ideal) X (ix4 d u dp l) := by
  subst e
  show arg11.view.read (Elt Ideal) X _ = _
  congr 1
  funext a; apply Fin.ext
  match a with
  | ⟨0, _⟩ => show d.val + 1 * 0 = d.val; omega
  | ⟨1, _⟩ => show k.val + 1 * 0 = u.val; omega
  | ⟨2, _⟩ => show 0 + 1 * dp.val = dp.val; omega
  | ⟨3, _⟩ => show 0 + 1 * l.val = l.val; omega

theorem docX_0 (arg11 : Memref sig .tc .vmem S16x10x16x128 .f32) (X : BufTy.Contents (Elt Ideal) arg11.view.ty) (k : Fin k0_t4_loop.trips) : docX arg11 X k ⟨0, by omega⟩ = View.readAt (Elt Ideal) arg11.view (Rect.unit (s := S16x10x16x128) (k0_off77 k) S1x1x16x128.size (k0_off77_inb k)).toLoadRect X := by exact rfl
theorem docX_1 (arg11 : Memref sig .tc .vmem S16x10x16x128 .f32) (X : BufTy.Contents (Elt Ideal) arg11.view.ty) (k : Fin k0_t4_loop.trips) : docX arg11 X k ⟨1, by omega⟩ = View.readAt (Elt Ideal) arg11.view (Rect.unit (s := S16x10x16x128) (k0_off78 k) S1x1x16x128.size (k0_off78_inb k)).toLoadRect X := by exact rfl
theorem docX_2 (arg11 : Memref sig .tc .vmem S16x10x16x128 .f32) (X : BufTy.Contents (Elt Ideal) arg11.view.ty) (k : Fin k0_t4_loop.trips) : docX arg11 X k ⟨2, by omega⟩ = View.readAt (Elt Ideal) arg11.view (Rect.unit (s := S16x10x16x128) (k0_off79 k) S1x1x16x128.size (k0_off79_inb k)).toLoadRect X := by exact rfl
theorem docX_3 (arg11 : Memref sig .tc .vmem S16x10x16x128 .f32) (X : BufTy.Contents (Elt Ideal) arg11.view.ty) (k : Fin k0_t4_loop.trips) : docX arg11 X k ⟨3, by omega⟩ = View.readAt (Elt Ideal) arg11.view (Rect.unit (s := S16x10x16x128) (k0_off80 k) S1x1x16x128.size (k0_off80_inb k)).toLoadRect X := by exact rfl
theorem docX_4 (arg11 : Memref sig .tc .vmem S16x10x16x128 .f32) (X : BufTy.Contents (Elt Ideal) arg11.view.ty) (k : Fin k0_t4_loop.trips) : docX arg11 X k ⟨4, by omega⟩ = View.readAt (Elt Ideal) arg11.view (Rect.unit (s := S16x10x16x128) (k0_off81 k) S1x1x16x128.size (k0_off81_inb k)).toLoadRect X := by exact rfl
theorem docX_5 (arg11 : Memref sig .tc .vmem S16x10x16x128 .f32) (X : BufTy.Contents (Elt Ideal) arg11.view.ty) (k : Fin k0_t4_loop.trips) : docX arg11 X k ⟨5, by omega⟩ = View.readAt (Elt Ideal) arg11.view (Rect.unit (s := S16x10x16x128) (k0_off82 k) S1x1x16x128.size (k0_off82_inb k)).toLoadRect X := by exact rfl
theorem docX_6 (arg11 : Memref sig .tc .vmem S16x10x16x128 .f32) (X : BufTy.Contents (Elt Ideal) arg11.view.ty) (k : Fin k0_t4_loop.trips) : docX arg11 X k ⟨6, by omega⟩ = View.readAt (Elt Ideal) arg11.view (Rect.unit (s := S16x10x16x128) (k0_off83 k) S1x1x16x128.size (k0_off83_inb k)).toLoadRect X := by exact rfl
theorem docX_7 (arg11 : Memref sig .tc .vmem S16x10x16x128 .f32) (X : BufTy.Contents (Elt Ideal) arg11.view.ty) (k : Fin k0_t4_loop.trips) : docX arg11 X k ⟨7, by omega⟩ = View.readAt (Elt Ideal) arg11.view (Rect.unit (s := S16x10x16x128) (k0_off84 k) S1x1x16x128.size (k0_off84_inb k)).toLoadRect X := by exact rfl
theorem docX_8 (arg11 : Memref sig .tc .vmem S16x10x16x128 .f32) (X : BufTy.Contents (Elt Ideal) arg11.view.ty) (k : Fin k0_t4_loop.trips) : docX arg11 X k ⟨8, by omega⟩ = View.readAt (Elt Ideal) arg11.view (Rect.unit (s := S16x10x16x128) (k0_off85 k) S1x1x16x128.size (k0_off85_inb k)).toLoadRect X := by exact rfl
theorem docX_9 (arg11 : Memref sig .tc .vmem S16x10x16x128 .f32) (X : BufTy.Contents (Elt Ideal) arg11.view.ty) (k : Fin k0_t4_loop.trips) : docX arg11 X k ⟨9, by omega⟩ = View.readAt (Elt Ideal) arg11.view (Rect.unit (s := S16x10x16x128) (k0_off86 k) S1x1x16x128.size (k0_off86_inb k)).toLoadRect X := by exact rfl
theorem docX_10 (arg11 : Memref sig .tc .vmem S16x10x16x128 .f32) (X : BufTy.Contents (Elt Ideal) arg11.view.ty) (k : Fin k0_t4_loop.trips) : docX arg11 X k ⟨10, by omega⟩ = View.readAt (Elt Ideal) arg11.view (Rect.unit (s := S16x10x16x128) (k0_off87 k) S1x1x16x128.size (k0_off87_inb k)).toLoadRect X := by exact rfl
theorem docX_11 (arg11 : Memref sig .tc .vmem S16x10x16x128 .f32) (X : BufTy.Contents (Elt Ideal) arg11.view.ty) (k : Fin k0_t4_loop.trips) : docX arg11 X k ⟨11, by omega⟩ = View.readAt (Elt Ideal) arg11.view (Rect.unit (s := S16x10x16x128) (k0_off88 k) S1x1x16x128.size (k0_off88_inb k)).toLoadRect X := by exact rfl
theorem docX_12 (arg11 : Memref sig .tc .vmem S16x10x16x128 .f32) (X : BufTy.Contents (Elt Ideal) arg11.view.ty) (k : Fin k0_t4_loop.trips) : docX arg11 X k ⟨12, by omega⟩ = View.readAt (Elt Ideal) arg11.view (Rect.unit (s := S16x10x16x128) (k0_off89 k) S1x1x16x128.size (k0_off89_inb k)).toLoadRect X := by exact rfl
theorem docX_13 (arg11 : Memref sig .tc .vmem S16x10x16x128 .f32) (X : BufTy.Contents (Elt Ideal) arg11.view.ty) (k : Fin k0_t4_loop.trips) : docX arg11 X k ⟨13, by omega⟩ = View.readAt (Elt Ideal) arg11.view (Rect.unit (s := S16x10x16x128) (k0_off90 k) S1x1x16x128.size (k0_off90_inb k)).toLoadRect X := by exact rfl
theorem docX_14 (arg11 : Memref sig .tc .vmem S16x10x16x128 .f32) (X : BufTy.Contents (Elt Ideal) arg11.view.ty) (k : Fin k0_t4_loop.trips) : docX arg11 X k ⟨14, by omega⟩ = View.readAt (Elt Ideal) arg11.view (Rect.unit (s := S16x10x16x128) (k0_off91 k) S1x1x16x128.size (k0_off91_inb k)).toLoadRect X := by exact rfl
theorem docX_15 (arg11 : Memref sig .tc .vmem S16x10x16x128 .f32) (X : BufTy.Contents (Elt Ideal) arg11.view.ty) (k : Fin k0_t4_loop.trips) : docX arg11 X k ⟨15, by omega⟩ = View.readAt (Elt Ideal) arg11.view (Rect.unit (s := S16x10x16x128) (k0_off92 k) S1x1x16x128.size (k0_off92_inb k)).toLoadRect X := by exact rfl

theorem docX_apply (arg11 : Memref sig .tc .vmem S16x10x16x128 .f32) (X : BufTy.Contents (Elt Ideal) arg11.view.ty) (k : Fin k0_t4_loop.trips) (u : Fin 10) (hu : k.val = u.val) (d : Fin 16) (dp : Fin 16) (l : Fin 128) :
    docX arg11 X k d (ix4 0 0 dp l) = arg11.view.read (Elt Ideal) X (ix4 d u dp l) := by
  match d with
  | ⟨0, _⟩ => rw [docX_0]; exact docX_at arg11 X k u hu ⟨0, by omega⟩ _ _ (off_doc_0 k) dp l
  | ⟨1, _⟩ => rw [docX_1]; exact docX_at arg11 X k u hu ⟨1, by omega⟩ _ _ (off_doc_1 k) dp l
  | ⟨2, _⟩ => rw [docX_2]; exact docX_at arg11 X k u hu ⟨2, by omega⟩ _ _ (off_doc_2 k) dp l
  | ⟨3, _⟩ => rw [docX_3]; exact docX_at arg11 X k u hu ⟨3, by omega⟩ _ _ (off_doc_3 k) dp l
  | ⟨4, _⟩ => rw [docX_4]; exact docX_at arg11 X k u hu ⟨4, by omega⟩ _ _ (off_doc_4 k) dp l
  | ⟨5, _⟩ => rw [docX_5]; exact docX_at arg11 X k u hu ⟨5, by omega⟩ _ _ (off_doc_5 k) dp l
  | ⟨6, _⟩ => rw [docX_6]; exact docX_at arg11 X k u hu ⟨6, by omega⟩ _ _ (off_doc_6 k) dp l
  | ⟨7, _⟩ => rw [docX_7]; exact docX_at arg11 X k u hu ⟨7, by omega⟩ _ _ (off_doc_7 k) dp l
  | ⟨8, _⟩ => rw [docX_8]; exact docX_at arg11 X k u hu ⟨8, by omega⟩ _ _ (off_doc_8 k) dp l
  | ⟨9, _⟩ => rw [docX_9]; exact docX_at arg11 X k u hu ⟨9, by omega⟩ _ _ (off_doc_9 k) dp l
  | ⟨10, _⟩ => rw [docX_10]; exact docX_at arg11 X k u hu ⟨10, by omega⟩ _ _ (off_doc_10 k) dp l
  | ⟨11, _⟩ => rw [docX_11]; exact docX_at arg11 X k u hu ⟨11, by omega⟩ _ _ (off_doc_11 k) dp l
  | ⟨12, _⟩ => rw [docX_12]; exact docX_at arg11 X k u hu ⟨12, by omega⟩ _ _ (off_doc_12 k) dp l
  | ⟨13, _⟩ => rw [docX_13]; exact docX_at arg11 X k u hu ⟨13, by omega⟩ _ _ (off_doc_13 k) dp l
  | ⟨14, _⟩ => rw [docX_14]; exact docX_at arg11 X k u hu ⟨14, by omega⟩ _ _ (off_doc_14 k) dp l
  | ⟨15, _⟩ => rw [docX_15]; exact docX_at arg11 X k u hu ⟨15, by omega⟩ _ _ (off_doc_15 k) dp l
  | ⟨n + 16, h20⟩ => exact absurd h20 (by omega)

/-- The result's row and column of a sum. -/
def relG (S : S16x10x16x128.Idx → EReal) (y : S16x20480.Idx) : EReal :=
  S (ix4 (y 0) ⟨(y 1).val / 2048, by have := (y 1).isLt; change (y 1).val < 20480 at this; omega⟩ ⟨(y 1).val % 16, by omega⟩ ⟨(y 1).val / 16 % 128, by omega⟩)

theorem out_piece (arg11 : Memref sig .tc .vmem S16x10x16x128 .f32) (X : BufTy.Contents (Elt Ideal) arg11.view.ty) (k : Fin k0_t4_loop.trips) (m : Fin 16) (ho : Shape.Slices S128x128 ![8 * m.val, 0] S8x128)
    (off : Fin 2 → ℕ) (b : ∀ a, off a + S16x128.size a ≤ S16x20480.size a) (e : off = ![0, 2048 * k.val + 128 * m.val]) (x : S16x128.Idx) :
    outP ![8 * m.val, 0] ho (loT arg11 X k) (hiT arg11 X k) x = relG (arg11.view.read (Elt Ideal) X) ((Rect.unit (s := S16x20480) off S16x128.size b).emb x) := by
  subst e
  have hk : k.val < 10 := lt_of_lt_of_eq k.isLt t4_trips
  obtain ⟨q, col, rfl⟩ : ∃ (q : Fin 16) (col : Fin 128), x = ix2 q col := ⟨x 0, x 1, eq_ix2 x⟩
  have hy : (Rect.unit (s := S16x20480) ![0, 2048 * k.val + 128 * m.val] S16x128.size b).emb (ix2 q col) = ix2 q ⟨2048 * k.val + 128 * m.val + col.val, by omega⟩ := by
    funext a; apply Fin.ext
    match a with
    | ⟨0, _⟩ => show 0 + 1 * q.val = q.val; omega
    | ⟨1, _⟩ => show 2048 * k.val + 128 * m.val + 1 * col.val = 2048 * k.val + 128 * m.val + col.val; omega
  refine (outP_docs (docX arg11 X k) m.val m.isLt ho q col).trans (Eq.trans ?_ (congrArg (relG (arg11.view.read (Elt Ideal) X)) hy.symm))
  rw [docX_apply arg11 X k ⟨k.val, hk⟩ rfl]
  have key : ∀ (u u' : Fin 10) (dp dp' : Fin 16) (l l' : Fin 128), u.val = u'.val → dp.val = dp'.val → l.val = l'.val → arg11.view.read (Elt Ideal) X (ix4 q u dp l) = arg11.view.read (Elt Ideal) X (ix4 q u' dp' l') := by
    intro u u' dp dp' l l' h1 h2 h3
    obtain rfl := Fin.ext h1; obtain rfl := Fin.ext h2; obtain rfl := Fin.ext h3; rfl
  exact key _ _ _ _ _ _ (by show k.val = (2048 * k.val + 128 * m.val + col.val) / 2048; omega) (by show col.val % 16 = (2048 * k.val + 128 * m.val + col.val) % 16; omega)
    (by show 8 * m.val + col.val / 16 = (2048 * k.val + 128 * m.val + col.val) / 16 % 128; omega)

theorem mem_out (k : Fin k0_t4_loop.trips) (m : Fin 16) (off : Fin 2 → ℕ) (b : ∀ a, off a + S16x128.size a ≤ S16x20480.size a) (e : off = ![0, 2048 * k.val + 128 * m.val]) (q : Fin 16) (col : Fin 20480) (h : col.val / 128 = 16 * k.val + m.val) :
    ix2 q col ∈ (Rect.unit (s := S16x20480) off S16x128.size b).set := by
  subst e
  rw [Rect.mem_set_unit]
  intro a
  match a with
  | ⟨0, _⟩ => show 0 ≤ q.val ∧ q.val < 0 + 16; omega
  | ⟨1, _⟩ => show 2048 * k.val + 128 * m.val ≤ col.val ∧ col.val < 2048 * k.val + 128 * m.val + 128; omega

/-- The writes of a trip into the result, from what each block of columns is. -/
def outL (P : Fin 16 → FVec Ideal S16x128 .bf16) (k : Fin k0_t4_loop.trips) : List (View.Piece (Elt Ideal) S16x20480 .bf16) :=
  [⟨Rect.unit (s := S16x20480) (k0_off93 k 15#32) S16x128.size (k0_off93_inb k 15), P ⟨15, by omega⟩⟩,
    ⟨Rect.unit (s := S16x20480) (k0_off93 k 14#32) S16x128.size (k0_off93_inb k 14), P ⟨14, by omega⟩⟩,
    ⟨Rect.unit (s := S16x20480) (k0_off93 k 13#32) S16x128.size (k0_off93_inb k 13), P ⟨13, by omega⟩⟩,
    ⟨Rect.unit (s := S16x20480) (k0_off93 k 12#32) S16x128.size (k0_off93_inb k 12), P ⟨12, by omega⟩⟩,
    ⟨Rect.unit (s := S16x20480) (k0_off93 k 11#32) S16x128.size (k0_off93_inb k 11), P ⟨11, by omega⟩⟩,
    ⟨Rect.unit (s := S16x20480) (k0_off93 k 10#32) S16x128.size (k0_off93_inb k 10), P ⟨10, by omega⟩⟩,
    ⟨Rect.unit (s := S16x20480) (k0_off93 k 9#32) S16x128.size (k0_off93_inb k 9), P ⟨9, by omega⟩⟩,
    ⟨Rect.unit (s := S16x20480) (k0_off93 k 8#32) S16x128.size (k0_off93_inb k 8), P ⟨8, by omega⟩⟩,
    ⟨Rect.unit (s := S16x20480) (k0_off93 k 7#32) S16x128.size (k0_off93_inb k 7), P ⟨7, by omega⟩⟩,
    ⟨Rect.unit (s := S16x20480) (k0_off93 k 6#32) S16x128.size (k0_off93_inb k 6), P ⟨6, by omega⟩⟩,
    ⟨Rect.unit (s := S16x20480) (k0_off93 k 5#32) S16x128.size (k0_off93_inb k 5), P ⟨5, by omega⟩⟩,
    ⟨Rect.unit (s := S16x20480) (k0_off93 k 4#32) S16x128.size (k0_off93_inb k 4), P ⟨4, by omega⟩⟩,
    ⟨Rect.unit (s := S16x20480) (k0_off93 k 3#32) S16x128.size (k0_off93_inb k 3), P ⟨3, by omega⟩⟩,
    ⟨Rect.unit (s := S16x20480) (k0_off93 k 2#32) S16x128.size (k0_off93_inb k 2), P ⟨2, by omega⟩⟩,
    ⟨Rect.unit (s := S16x20480) (k0_off93 k 1#32) S16x128.size (k0_off93_inb k 1), P ⟨1, by omega⟩⟩,
    ⟨Rect.unit (s := S16x20480) (k0_off93 k 0#32) S16x128.size (k0_off93_inb k 0), P ⟨0, by omega⟩⟩]

theorem slices_rows (m : Fin 16) : Shape.Slices S128x128 ![8 * m.val, 0] S8x128 :=
  ⟨rfl, fun a => by
    match a with
    | ⟨0, _⟩ => show 8 * m.val + 8 ≤ 128; omega
    | ⟨1, _⟩ => show 0 + 128 ≤ 128; omega⟩

/-- A trip's writes into the result. -/
abbrev relL (arg11 : Memref sig .tc .vmem S16x10x16x128 .f32) (X : BufTy.Contents (Elt Ideal) arg11.view.ty) (k : Fin k0_t4_loop.trips) : List (View.Piece (Elt Ideal) S16x20480 .bf16) :=
  outL (fun m => outP ![8 * m.val, 0] (slices_rows m) (loT arg11 X k) (hiT arg11 X k)) k

theorem trip4_list (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (c0 : BitVec 32) (X : BufTy.Contents (Elt Ideal) arg11.view.ty) (k : Fin k0_t4_loop.trips) :
    tripL_k0_t4 (F := Ideal) 𝒱 c bd i arg1 harg1 arg2 harg2 arg3 harg3 arg4 harg4 arg5 harg5 arg6 harg6 arg7 harg7 arg8 harg8 arg9 harg9 arg10 harg10 arg11 harg11 arg12 harg12 laneI c0 X k = relL arg11 X k := by
  unfold tripL_k0_t4 trip_k0_t4
  show outL (fun m => outP ![8 * m.val, 0] (slices_rows m) (trip_k0_t4.sl.r_16 (F := Ideal) arg11 laneI X k) (trip_k0_t4.sl.r_17 (F := Ideal) arg11 laneI X k)) k = _
  rw [lo_eq, hi_eq]

theorem outL_val (P : Fin 16 → FVec Ideal S16x128 .bf16) (k : Fin k0_t4_loop.trips) (G : S16x20480.Idx → EReal)
    (h : ∀ (m : Fin 16) (off : Fin 2 → ℕ) (b : ∀ a, off a + S16x128.size a ≤ S16x20480.size a) (e : off = ![0, 2048 * k.val + 128 * m.val]) (x : S16x128.Idx), P m x = G ((Rect.unit (s := S16x20480) off S16x128.size b).emb x)) :
    ∀ p ∈ outL P k, ∀ x, p.2 x = G (p.1.emb x) :=
  List.forall_mem_cons.2 ⟨h ⟨15, by omega⟩ (k0_off93 k 15#32) (k0_off93_inb k 15) (off_out_15 k), List.forall_mem_cons.2 ⟨h ⟨14, by omega⟩ (k0_off93 k 14#32) (k0_off93_inb k 14) (off_out_14 k), List.forall_mem_cons.2 ⟨h ⟨13, by omega⟩ (k0_off93 k 13#32) (k0_off93_inb k 13) (off_out_13 k), List.forall_mem_cons.2 ⟨h ⟨12, by omega⟩ (k0_off93 k 12#32) (k0_off93_inb k 12) (off_out_12 k), List.forall_mem_cons.2 ⟨h ⟨11, by omega⟩ (k0_off93 k 11#32) (k0_off93_inb k 11) (off_out_11 k), List.forall_mem_cons.2 ⟨h ⟨10, by omega⟩ (k0_off93 k 10#32) (k0_off93_inb k 10) (off_out_10 k), List.forall_mem_cons.2 ⟨h ⟨9, by omega⟩ (k0_off93 k 9#32) (k0_off93_inb k 9) (off_out_9 k), List.forall_mem_cons.2 ⟨h ⟨8, by omega⟩ (k0_off93 k 8#32) (k0_off93_inb k 8) (off_out_8 k), List.forall_mem_cons.2 ⟨h ⟨7, by omega⟩ (k0_off93 k 7#32) (k0_off93_inb k 7) (off_out_7 k), List.forall_mem_cons.2 ⟨h ⟨6, by omega⟩ (k0_off93 k 6#32) (k0_off93_inb k 6) (off_out_6 k), List.forall_mem_cons.2 ⟨h ⟨5, by omega⟩ (k0_off93 k 5#32) (k0_off93_inb k 5) (off_out_5 k), List.forall_mem_cons.2 ⟨h ⟨4, by omega⟩ (k0_off93 k 4#32) (k0_off93_inb k 4) (off_out_4 k), List.forall_mem_cons.2 ⟨h ⟨3, by omega⟩ (k0_off93 k 3#32) (k0_off93_inb k 3) (off_out_3 k), List.forall_mem_cons.2 ⟨h ⟨2, by omega⟩ (k0_off93 k 2#32) (k0_off93_inb k 2) (off_out_2 k), List.forall_mem_cons.2 ⟨h ⟨1, by omega⟩ (k0_off93 k 1#32) (k0_off93_inb k 1) (off_out_1 k), List.forall_mem_cons.2 ⟨h ⟨0, by omega⟩ (k0_off93 k 0#32) (k0_off93_inb k 0) (off_out_0 k), fun _ h => absurd h List.not_mem_nil⟩⟩⟩⟩⟩⟩⟩⟩⟩⟩⟩⟩⟩⟩⟩⟩

theorem relL_val (arg11 : Memref sig .tc .vmem S16x10x16x128 .f32) (X : BufTy.Contents (Elt Ideal) arg11.view.ty) (k : Fin k0_t4_loop.trips) :
    ∀ p ∈ relL arg11 X k, ∀ x, p.2 x = relG (arg11.view.read (Elt Ideal) X) (p.1.emb x) :=
  outL_val _ k _ fun m off b e x => out_piece arg11 X k m (slices_rows m) off b e x

theorem relL_cov (arg11 : Memref sig .tc .vmem S16x10x16x128 .f32) (X : BufTy.Contents (Elt Ideal) arg11.view.ty) (k : Fin k0_t4_loop.trips) (q : Fin 16) (col : Fin 20480) (h : col.val / 2048 = k.val) :
    ∃ p ∈ relL arg11 X k, ix2 q col ∈ p.1.set := by
  obtain ⟨m, hm⟩ : ∃ m : Fin 16, col.val / 128 = 16 * k.val + m.val := ⟨⟨col.val / 128 % 16, by omega⟩, by show _ = 16 * k.val + col.val / 128 % 16; omega⟩
  match m, hm with
  | ⟨0, _⟩, hm => exact ⟨_, List.getElem_mem (l := relL arg11 X k) (n := 15) (by show 15 < 16; omega), mem_out k ⟨0, by omega⟩ _ (k0_off93_inb k 0) (off_out_0 k) q col hm⟩
  | ⟨1, _⟩, hm => exact ⟨_, List.getElem_mem (l := relL arg11 X k) (n := 14) (by show 14 < 16; omega), mem_out k ⟨1, by omega⟩ _ (k0_off93_inb k 1) (off_out_1 k) q col hm⟩
  | ⟨2, _⟩, hm => exact ⟨_, List.getElem_mem (l := relL arg11 X k) (n := 13) (by show 13 < 16; omega), mem_out k ⟨2, by omega⟩ _ (k0_off93_inb k 2) (off_out_2 k) q col hm⟩
  | ⟨3, _⟩, hm => exact ⟨_, List.getElem_mem (l := relL arg11 X k) (n := 12) (by show 12 < 16; omega), mem_out k ⟨3, by omega⟩ _ (k0_off93_inb k 3) (off_out_3 k) q col hm⟩
  | ⟨4, _⟩, hm => exact ⟨_, List.getElem_mem (l := relL arg11 X k) (n := 11) (by show 11 < 16; omega), mem_out k ⟨4, by omega⟩ _ (k0_off93_inb k 4) (off_out_4 k) q col hm⟩
  | ⟨5, _⟩, hm => exact ⟨_, List.getElem_mem (l := relL arg11 X k) (n := 10) (by show 10 < 16; omega), mem_out k ⟨5, by omega⟩ _ (k0_off93_inb k 5) (off_out_5 k) q col hm⟩
  | ⟨6, _⟩, hm => exact ⟨_, List.getElem_mem (l := relL arg11 X k) (n := 9) (by show 9 < 16; omega), mem_out k ⟨6, by omega⟩ _ (k0_off93_inb k 6) (off_out_6 k) q col hm⟩
  | ⟨7, _⟩, hm => exact ⟨_, List.getElem_mem (l := relL arg11 X k) (n := 8) (by show 8 < 16; omega), mem_out k ⟨7, by omega⟩ _ (k0_off93_inb k 7) (off_out_7 k) q col hm⟩
  | ⟨8, _⟩, hm => exact ⟨_, List.getElem_mem (l := relL arg11 X k) (n := 7) (by show 7 < 16; omega), mem_out k ⟨8, by omega⟩ _ (k0_off93_inb k 8) (off_out_8 k) q col hm⟩
  | ⟨9, _⟩, hm => exact ⟨_, List.getElem_mem (l := relL arg11 X k) (n := 6) (by show 6 < 16; omega), mem_out k ⟨9, by omega⟩ _ (k0_off93_inb k 9) (off_out_9 k) q col hm⟩
  | ⟨10, _⟩, hm => exact ⟨_, List.getElem_mem (l := relL arg11 X k) (n := 5) (by show 5 < 16; omega), mem_out k ⟨10, by omega⟩ _ (k0_off93_inb k 10) (off_out_10 k) q col hm⟩
  | ⟨11, _⟩, hm => exact ⟨_, List.getElem_mem (l := relL arg11 X k) (n := 4) (by show 4 < 16; omega), mem_out k ⟨11, by omega⟩ _ (k0_off93_inb k 11) (off_out_11 k) q col hm⟩
  | ⟨12, _⟩, hm => exact ⟨_, List.getElem_mem (l := relL arg11 X k) (n := 3) (by show 3 < 16; omega), mem_out k ⟨12, by omega⟩ _ (k0_off93_inb k 12) (off_out_12 k) q col hm⟩
  | ⟨13, _⟩, hm => exact ⟨_, List.getElem_mem (l := relL arg11 X k) (n := 2) (by show 2 < 16; omega), mem_out k ⟨13, by omega⟩ _ (k0_off93_inb k 13) (off_out_13 k) q col hm⟩
  | ⟨14, _⟩, hm => exact ⟨_, List.getElem_mem (l := relL arg11 X k) (n := 1) (by show 1 < 16; omega), mem_out k ⟨14, by omega⟩ _ (k0_off93_inb k 14) (off_out_14 k) q col hm⟩
  | ⟨15, _⟩, hm => exact ⟨_, List.getElem_mem (l := relL arg11 X k) (n := 0) (by show 0 < 16; omega), mem_out k ⟨15, by omega⟩ _ (k0_off93_inb k 15) (off_out_15 k) q col hm⟩
  | ⟨n + 16, h20⟩, _ => exact absurd h20 (by omega)

theorem pb4_val (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (c0 : BitVec 32) (X : BufTy.Contents (Elt Ideal) arg11.view.ty) (n : ℕ) (hn : n ≤ 10) :
    ∀ p ∈ pb_k0_t4 (F := Ideal) 𝒱 c bd i arg1 harg1 arg2 harg2 arg3 harg3 arg4 harg4 arg5 harg5 arg6 harg6 arg7 harg7 arg8 harg8 arg9 harg9 arg10 harg10 arg11 harg11 arg12 harg12 laneI c0 X n, ∀ x, p.2 x = relG (arg11.view.read (Elt Ideal) X) (p.1.emb x) := by
  induction n with
  | zero => exact fun p h => absurd h List.not_mem_nil
  | succ n ih =>
    have hk : n < k0_t4_loop.trips := by rw [t4_trips]; omega
    have e := pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 laneI c0 X ⟨n, hk⟩
    intro p hp
    replace hp := (congrArg (p ∈ ·) e).mp hp
    rcases List.mem_append.mp hp with h | h
    · rw [trip4_list] at h
      exact relL_val arg11 X _ p h
    · exact ih (by omega) p h

theorem pb4_cov (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (c0 : BitVec 32) (X : BufTy.Contents (Elt Ideal) arg11.view.ty) (q : Fin 16) (col : Fin 20480) (n : ℕ) (hn : n ≤ 10) (h : col.val / 2048 < n) :
    ∃ p ∈ pb_k0_t4 (F := Ideal) 𝒱 c bd i arg1 harg1 arg2 harg2 arg3 harg3 arg4 harg4 arg5 harg5 arg6 harg6 arg7 harg7 arg8 harg8 arg9 harg9 arg10 harg10 arg11 harg11 arg12 harg12 laneI c0 X n, ix2 q col ∈ p.1.set := by
  induction n with
  | zero => omega
  | succ n ih =>
    have hk : n < k0_t4_loop.trips := by rw [t4_trips]; omega
    have e := pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 laneI c0 X ⟨n, hk⟩
    by_cases hc : col.val / 2048 = n
    · obtain ⟨p, hp, hy⟩ := relL_cov arg11 X ⟨n, hk⟩ q col hc
      refine ⟨p, (congrArg (p ∈ ·) e).mpr (List.mem_append.mpr (.inl ?_)), hy⟩
      rw [trip4_list]; exact hp
    · obtain ⟨p, hp, hy⟩ := ih (by omega) (by omega)
      exact ⟨p, (congrArg (p ∈ ·) e).mpr (List.mem_append.mpr (.inr hp)), hy⟩

/-- The loop of the relayout: the result's block holds the sums in the result's order. -/
theorem relayout_read (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (c0 : BitVec 32) (X : BufTy.Contents (Elt Ideal) arg11.view.ty) (f : BufTy.Contents (Elt Ideal) arg6.view.ty) :
    arg6.view.read (Elt Ideal) (arg6.view.writes (Elt Ideal) f (pb_k0_t4 (F := Ideal) 𝒱 c bd i arg1 harg1 arg2 harg2 arg3 harg3 arg4 harg4 arg5 harg5 arg6 harg6 arg7 harg7 arg8 harg8 arg9 harg9 arg10 harg10 arg11 harg11 arg12 harg12 laneI c0 X k0_t4_loop.trips)) = relG (arg11.view.read (Elt Ideal) X) := by
  funext y
  obtain ⟨q, col, rfl⟩ : ∃ (q : Fin 16) (col : Fin 20480), y = ix2 q col := ⟨y 0, y 1, eq_ix2 y⟩
  rw [t4_trips]
  exact View.read_writes_apply_of_pieces (Val := Elt Ideal) (e := .bf16) arg6.view f (relG (arg11.view.read (Elt Ideal) X)) _ (pb4_val 𝒱 c bd i arg1 harg1 arg2 harg2 arg3 harg3 arg4 harg4 arg5 harg5 arg6 harg6 arg7 harg7 arg8 harg8 arg9 harg9 arg10 harg10 arg11 harg11 arg12 harg12 c0 X 10 (Nat.le_refl _)) (ix2 q col) (pb4_cov 𝒱 c bd i arg1 harg1 arg2 harg2 arg3 harg3 arg4 harg4 arg5 harg5 arg6 harg6 arg7 harg7 arg8 harg8 arg9 harg9 arg10 harg10 arg11 harg11 arg12 harg12 c0 X q col 10 (Nat.le_refl _) (by omega))

end Cert.KernelIdeal.Hand
end
-- ==== Proof.KernelIdealPrologue.lean ====
module

public import proofs.«01_k».proof.Proof.KernelIdealDocs
public import Idealize.ShloMosaic.Lib.Pointwise
public import Idealize.ShloMosaic.Lib.BitcastPair
public import Idealize.ShloMosaic.PureOps.Ideal.Laws

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic

/-- The lengths of the eight documents of a half step, as the body reads them. -/
def lenH (c : Dev nD) (i : grid0.Coords) (arg1 : Memref sig .tc .smem S1536 .i32) (X_arg1 : TbBuf0 (F := Ideal) c arg1) (h : Fin 2) : Fin 8 → BitVec 32 := fun d => match h, d with
  | 0, 0 => View.readAt (Elt Ideal) arg1.view (Rect.unit (s := S1536) (k0_off1 i 0#32 0#32) S1.size (k0_off1_inb i 0 0)).toLoadRect X_arg1 (Shape.Idx.first (numel1_S1.symm ▸ Nat.one_pos))
  | 0, 1 => View.readAt (Elt Ideal) arg1.view (Rect.unit (s := S1536) (k0_off1 i 0#32 1#32) S1.size (k0_off1_inb i 0 1)).toLoadRect X_arg1 (Shape.Idx.first (numel1_S1.symm ▸ Nat.one_pos))
  | 0, 2 => View.readAt (Elt Ideal) arg1.view (Rect.unit (s := S1536) (k0_off1 i 0#32 2#32) S1.size (k0_off1_inb i 0 2)).toLoadRect X_arg1 (Shape.Idx.first (numel1_S1.symm ▸ Nat.one_pos))
  | 0, 3 => View.readAt (Elt Ideal) arg1.view (Rect.unit (s := S1536) (k0_off1 i 0#32 3#32) S1.size (k0_off1_inb i 0 3)).toLoadRect X_arg1 (Shape.Idx.first (numel1_S1.symm ▸ Nat.one_pos))
  | 0, 4 => View.readAt (Elt Ideal) arg1.view (Rect.unit (s := S1536) (k0_off1 i 0#32 4#32) S1.size (k0_off1_inb i 0 4)).toLoadRect X_arg1 (Shape.Idx.first (numel1_S1.symm ▸ Nat.one_pos))
  | 0, 5 => View.readAt (Elt Ideal) arg1.view (Rect.unit (s := S1536) (k0_off1 i 0#32 5#32) S1.size (k0_off1_inb i 0 5)).toLoadRect X_arg1 (Shape.Idx.first (numel1_S1.symm ▸ Nat.one_pos))
  | 0, 6 => View.readAt (Elt Ideal) arg1.view (Rect.unit (s := S1536) (k0_off1 i 0#32 6#32) S1.size (k0_off1_inb i 0 6)).toLoadRect X_arg1 (Shape.Idx.first (numel1_S1.symm ▸ Nat.one_pos))
  | 0, 7 => View.readAt (Elt Ideal) arg1.view (Rect.unit (s := S1536) (k0_off1 i 0#32 7#32) S1.size (k0_off1_inb i 0 7)).toLoadRect X_arg1 (Shape.Idx.first (numel1_S1.symm ▸ Nat.one_pos))
  | 1, 0 => View.readAt (Elt Ideal) arg1.view (Rect.unit (s := S1536) (k0_off1 i 8#32 0#32) S1.size (k0_off1_inb i 1 0)).toLoadRect X_arg1 (Shape.Idx.first (numel1_S1.symm ▸ Nat.one_pos))
  | 1, 1 => View.readAt (Elt Ideal) arg1.view (Rect.unit (s := S1536) (k0_off1 i 8#32 1#32) S1.size (k0_off1_inb i 1 1)).toLoadRect X_arg1 (Shape.Idx.first (numel1_S1.symm ▸ Nat.one_pos))
  | 1, 2 => View.readAt (Elt Ideal) arg1.view (Rect.unit (s := S1536) (k0_off1 i 8#32 2#32) S1.size (k0_off1_inb i 1 2)).toLoadRect X_arg1 (Shape.Idx.first (numel1_S1.symm ▸ Nat.one_pos))
  | 1, 3 => View.readAt (Elt Ideal) arg1.view (Rect.unit (s := S1536) (k0_off1 i 8#32 3#32) S1.size (k0_off1_inb i 1 3)).toLoadRect X_arg1 (Shape.Idx.first (numel1_S1.symm ▸ Nat.one_pos))
  | 1, 4 => View.readAt (Elt Ideal) arg1.view (Rect.unit (s := S1536) (k0_off1 i 8#32 4#32) S1.size (k0_off1_inb i 1 4)).toLoadRect X_arg1 (Shape.Idx.first (numel1_S1.symm ▸ Nat.one_pos))
  | 1, 5 => View.readAt (Elt Ideal) arg1.view (Rect.unit (s := S1536) (k0_off1 i 8#32 5#32) S1.size (k0_off1_inb i 1 5)).toLoadRect X_arg1 (Shape.Idx.first (numel1_S1.symm ▸ Nat.one_pos))
  | 1, 6 => View.readAt (Elt Ideal) arg1.view (Rect.unit (s := S1536) (k0_off1 i 8#32 6#32) S1.size (k0_off1_inb i 1 6)).toLoadRect X_arg1 (Shape.Idx.first (numel1_S1.symm ▸ Nat.one_pos))
  | 1, 7 => View.readAt (Elt Ideal) arg1.view (Rect.unit (s := S1536) (k0_off1 i 8#32 7#32) S1.size (k0_off1_inb i 1 7)).toLoadRect X_arg1 (Shape.Idx.first (numel1_S1.symm ▸ Nat.one_pos))

/-- Which tokens of a half step's documents are within their lengths. -/
def validP (l : Fin 8 → BitVec 32) : IVec S8x512 1 := cmpi .slt (iota .tc S8x512 32 [1] iota_S8x512_d1_w32) (select (cmpi .eq (iota .tc S8x512 32 [0] iota_S8x512_d0_w32) (broadcast S8x512 7#32)) (broadcast S8x512 (l 7)) (select (cmpi .eq (iota .tc S8x512 32 [0] iota_S8x512_d0_w32) (broadcast S8x512 6#32)) (broadcast S8x512 (l 6)) (select (cmpi .eq (iota .tc S8x512 32 [0] iota_S8x512_d0_w32) (broadcast S8x512 5#32)) (broadcast S8x512 (l 5)) (select (cmpi .eq (iota .tc S8x512 32 [0] iota_S8x512_d0_w32) (broadcast S8x512 4#32)) (broadcast S8x512 (l 4)) (select (cmpi .eq (iota .tc S8x512 32 [0] iota_S8x512_d0_w32) (broadcast S8x512 3#32)) (broadcast S8x512 (l 3)) (select (cmpi .eq (iota .tc S8x512 32 [0] iota_S8x512_d0_w32) (broadcast S8x512 2#32)) (broadcast S8x512 (l 2)) (select (cmpi .eq (iota .tc S8x512 32 [0] iota_S8x512_d0_w32) (broadcast S8x512 1#32)) (broadcast S8x512 (l 1)) (select (cmpi .eq (iota .tc S8x512 32 [0] iota_S8x512_d0_w32) (broadcast S8x512 0#32)) (broadcast S8x512 (l 0)) (broadcast S8x512 0#32)))))))))

/-- A tile of a repetition's words of a half step: the word numbers of the tokens within the lengths, -1 elsewhere. -/
def wordP (o : Fin 2 → ℕ) (ho : Shape.Slices S8x512 o S8x256) (v : IVec S8x512 1) (x : IVec S1x8x512 32) : IVec S1x1x8x256 32 :=
  shapeCast S1x1x8x256 (extractStridedSlice S8x256 o (select v (shrsi (shapeCast S8x512 x shapeCasts_S1x8x512_S8x512) (broadcast S8x512 2#32)) (broadcast S8x512 4294967295#32)) ho) shapeCasts_S8x256_S1x1x8x256

/-- A tile of a repetition's byte words of a half step. -/
def byteP (o : Fin 2 → ℕ) (ho : Shape.Slices S8x512 o S8x256) (x : IVec S1x8x512 32) : IVec S1x1x8x256 32 :=
  shapeCast S1x1x8x256 (extractStridedSlice S8x256 o (shli (broadcast S8x512 56#32) (shli (andi (shapeCast S8x512 x shapeCasts_S1x8x512_S8x512) (broadcast S8x512 3#32)) (broadcast S8x512 3#32))) ho) shapeCasts_S8x256_S1x1x8x256

/-- A tile of the factors of a half step. -/
def facP (o : Fin 2 → ℕ) (ho : Shape.Slices S8x512 o S8x256) (v : IVec S8x512 1) (x : FVec Ideal S8x512 .f32) : FVec Ideal S1x8x256 .f32 :=
  shapeCast S1x8x256 (extractStridedSlice S8x256 o (select v (mulf x (broadcast S8x512 (Scalar.ofBits .f32 0x3E800000#32))) (broadcast S8x512 (Scalar.ofBits .f32 0x00000000#32))) ho) shapeCasts_S8x256_S1x8x256

/-- The writes of the body's first part into a block of words, newest first: tile after tile of a repetition, repetition after repetition of a half step. -/
def proL (P : Fin 2 → Fin 20 → Fin 2 → IVec S1x1x8x256 32) : List (View.Piece (Elt Ideal) S2x20x16x256 .i32) :=
  [⟨Rect.unit (s := S2x20x16x256) ![1, 19, 8, 0] S1x1x8x256.size inb_S2x20x16x256_S1x1x8x256_1_19_8_0, P ⟨1, by omega⟩ ⟨19, by omega⟩ ⟨1, by omega⟩⟩,
    ⟨Rect.unit (s := S2x20x16x256) ![0, 19, 8, 0] S1x1x8x256.size inb_S2x20x16x256_S1x1x8x256_0_19_8_0, P ⟨0, by omega⟩ ⟨19, by omega⟩ ⟨1, by omega⟩⟩,
    ⟨Rect.unit (s := S2x20x16x256) ![1, 18, 8, 0] S1x1x8x256.size inb_S2x20x16x256_S1x1x8x256_1_18_8_0, P ⟨1, by omega⟩ ⟨18, by omega⟩ ⟨1, by omega⟩⟩,
    ⟨Rect.unit (s := S2x20x16x256) ![0, 18, 8, 0] S1x1x8x256.size inb_S2x20x16x256_S1x1x8x256_0_18_8_0, P ⟨0, by omega⟩ ⟨18, by omega⟩ ⟨1, by omega⟩⟩,
    ⟨Rect.unit (s := S2x20x16x256) ![1, 17, 8, 0] S1x1x8x256.size inb_S2x20x16x256_S1x1x8x256_1_17_8_0, P ⟨1, by omega⟩ ⟨17, by omega⟩ ⟨1, by omega⟩⟩,
    ⟨Rect.unit (s := S2x20x16x256) ![0, 17, 8, 0] S1x1x8x256.size inb_S2x20x16x256_S1x1x8x256_0_17_8_0, P ⟨0, by omega⟩ ⟨17, by omega⟩ ⟨1, by omega⟩⟩,
    ⟨Rect.unit (s := S2x20x16x256) ![1, 16, 8, 0] S1x1x8x256.size inb_S2x20x16x256_S1x1x8x256_1_16_8_0, P ⟨1, by omega⟩ ⟨16, by omega⟩ ⟨1, by omega⟩⟩,
    ⟨Rect.unit (s := S2x20x16x256) ![0, 16, 8, 0] S1x1x8x256.size inb_S2x20x16x256_S1x1x8x256_0_16_8_0, P ⟨0, by omega⟩ ⟨16, by omega⟩ ⟨1, by omega⟩⟩,
    ⟨Rect.unit (s := S2x20x16x256) ![1, 15, 8, 0] S1x1x8x256.size inb_S2x20x16x256_S1x1x8x256_1_15_8_0, P ⟨1, by omega⟩ ⟨15, by omega⟩ ⟨1, by omega⟩⟩,
    ⟨Rect.unit (s := S2x20x16x256) ![0, 15, 8, 0] S1x1x8x256.size inb_S2x20x16x256_S1x1x8x256_0_15_8_0, P ⟨0, by omega⟩ ⟨15, by omega⟩ ⟨1, by omega⟩⟩,
    ⟨Rect.unit (s := S2x20x16x256) ![1, 14, 8, 0] S1x1x8x256.size inb_S2x20x16x256_S1x1x8x256_1_14_8_0, P ⟨1, by omega⟩ ⟨14, by omega⟩ ⟨1, by omega⟩⟩,
    ⟨Rect.unit (s := S2x20x16x256) ![0, 14, 8, 0] S1x1x8x256.size inb_S2x20x16x256_S1x1x8x256_0_14_8_0, P ⟨0, by omega⟩ ⟨14, by omega⟩ ⟨1, by omega⟩⟩,
    ⟨Rect.unit (s := S2x20x16x256) ![1, 13, 8, 0] S1x1x8x256.size inb_S2x20x16x256_S1x1x8x256_1_13_8_0, P ⟨1, by omega⟩ ⟨13, by omega⟩ ⟨1, by omega⟩⟩,
    ⟨Rect.unit (s := S2x20x16x256) ![0, 13, 8, 0] S1x1x8x256.size inb_S2x20x16x256_S1x1x8x256_0_13_8_0, P ⟨0, by omega⟩ ⟨13, by omega⟩ ⟨1, by omega⟩⟩,
    ⟨Rect.unit (s := S2x20x16x256) ![1, 12, 8, 0] S1x1x8x256.size inb_S2x20x16x256_S1x1x8x256_1_12_8_0, P ⟨1, by omega⟩ ⟨12, by omega⟩ ⟨1, by omega⟩⟩,
    ⟨Rect.unit (s := S2x20x16x256) ![0, 12, 8, 0] S1x1x8x256.size inb_S2x20x16x256_S1x1x8x256_0_12_8_0, P ⟨0, by omega⟩ ⟨12, by omega⟩ ⟨1, by omega⟩⟩,
    ⟨Rect.unit (s := S2x20x16x256) ![1, 11, 8, 0] S1x1x8x256.size inb_S2x20x16x256_S1x1x8x256_1_11_8_0, P ⟨1, by omega⟩ ⟨11, by omega⟩ ⟨1, by omega⟩⟩,
    ⟨Rect.unit (s := S2x20x16x256) ![0, 11, 8, 0] S1x1x8x256.size inb_S2x20x16x256_S1x1x8x256_0_11_8_0, P ⟨0, by omega⟩ ⟨11, by omega⟩ ⟨1, by omega⟩⟩,
    ⟨Rect.unit (s := S2x20x16x256) ![1, 10, 8, 0] S1x1x8x256.size inb_S2x20x16x256_S1x1x8x256_1_10_8_0, P ⟨1, by omega⟩ ⟨10, by omega⟩ ⟨1, by omega⟩⟩,
    ⟨Rect.unit (s := S2x20x16x256) ![0, 10, 8, 0] S1x1x8x256.size inb_S2x20x16x256_S1x1x8x256_0_10_8_0, P ⟨0, by omega⟩ ⟨10, by omega⟩ ⟨1, by omega⟩⟩,
    ⟨Rect.unit (s := S2x20x16x256) ![1, 9, 8, 0] S1x1x8x256.size inb_S2x20x16x256_S1x1x8x256_1_9_8_0, P ⟨1, by omega⟩ ⟨9, by omega⟩ ⟨1, by omega⟩⟩,
    ⟨Rect.unit (s := S2x20x16x256) ![0, 9, 8, 0] S1x1x8x256.size inb_S2x20x16x256_S1x1x8x256_0_9_8_0, P ⟨0, by omega⟩ ⟨9, by omega⟩ ⟨1, by omega⟩⟩,
    ⟨Rect.unit (s := S2x20x16x256) ![1, 8, 8, 0] S1x1x8x256.size inb_S2x20x16x256_S1x1x8x256_1_8_8_0, P ⟨1, by omega⟩ ⟨8, by omega⟩ ⟨1, by omega⟩⟩,
    ⟨Rect.unit (s := S2x20x16x256) ![0, 8, 8, 0] S1x1x8x256.size inb_S2x20x16x256_S1x1x8x256_0_8_8_0, P ⟨0, by omega⟩ ⟨8, by omega⟩ ⟨1, by omega⟩⟩,
    ⟨Rect.unit (s := S2x20x16x256) ![1, 7, 8, 0] S1x1x8x256.size inb_S2x20x16x256_S1x1x8x256_1_7_8_0, P ⟨1, by omega⟩ ⟨7, by omega⟩ ⟨1, by omega⟩⟩,
    ⟨Rect.unit (s := S2x20x16x256) ![0, 7, 8, 0] S1x1x8x256.size inb_S2x20x16x256_S1x1x8x256_0_7_8_0, P ⟨0, by omega⟩ ⟨7, by omega⟩ ⟨1, by omega⟩⟩,
    ⟨Rect.unit (s := S2x20x16x256) ![1, 6, 8, 0] S1x1x8x256.size inb_S2x20x16x256_S1x1x8x256_1_6_8_0, P ⟨1, by omega⟩ ⟨6, by omega⟩ ⟨1, by omega⟩⟩,
    ⟨Rect.unit (s := S2x20x16x256) ![0, 6, 8, 0] S1x1x8x256.size inb_S2x20x16x256_S1x1x8x256_0_6_8_0, P ⟨0, by omega⟩ ⟨6, by omega⟩ ⟨1, by omega⟩⟩,
    ⟨Rect.unit (s := S2x20x16x256) ![1, 5, 8, 0] S1x1x8x256.size inb_S2x20x16x256_S1x1x8x256_1_5_8_0, P ⟨1, by omega⟩ ⟨5, by omega⟩ ⟨1, by omega⟩⟩,
    ⟨Rect.unit (s := S2x20x16x256) ![0, 5, 8, 0] S1x1x8x256.size inb_S2x20x16x256_S1x1x8x256_0_5_8_0, P ⟨0, by omega⟩ ⟨5, by omega⟩ ⟨1, by omega⟩⟩,
    ⟨Rect.unit (s := S2x20x16x256) ![1, 4, 8, 0] S1x1x8x256.size inb_S2x20x16x256_S1x1x8x256_1_4_8_0, P ⟨1, by omega⟩ ⟨4, by omega⟩ ⟨1, by omega⟩⟩,
    ⟨Rect.unit (s := S2x20x16x256) ![0, 4, 8, 0] S1x1x8x256.size inb_S2x20x16x256_S1x1x8x256_0_4_8_0, P ⟨0, by omega⟩ ⟨4, by omega⟩ ⟨1, by omega⟩⟩,
    ⟨Rect.unit (s := S2x20x16x256) ![1, 3, 8, 0] S1x1x8x256.size inb_S2x20x16x256_S1x1x8x256_1_3_8_0, P ⟨1, by omega⟩ ⟨3, by omega⟩ ⟨1, by omega⟩⟩,
    ⟨Rect.unit (s := S2x20x16x256) ![0, 3, 8, 0] S1x1x8x256.size inb_S2x20x16x256_S1x1x8x256_0_3_8_0, P ⟨0, by omega⟩ ⟨3, by omega⟩ ⟨1, by omega⟩⟩,
    ⟨Rect.unit (s := S2x20x16x256) ![1, 2, 8, 0] S1x1x8x256.size inb_S2x20x16x256_S1x1x8x256_1_2_8_0, P ⟨1, by omega⟩ ⟨2, by omega⟩ ⟨1, by omega⟩⟩,
    ⟨Rect.unit (s := S2x20x16x256) ![0, 2, 8, 0] S1x1x8x256.size inb_S2x20x16x256_S1x1x8x256_0_2_8_0, P ⟨0, by omega⟩ ⟨2, by omega⟩ ⟨1, by omega⟩⟩,
    ⟨Rect.unit (s := S2x20x16x256) ![1, 1, 8, 0] S1x1x8x256.size inb_S2x20x16x256_S1x1x8x256_1_1_8_0, P ⟨1, by omega⟩ ⟨1, by omega⟩ ⟨1, by omega⟩⟩,
    ⟨Rect.unit (s := S2x20x16x256) ![0, 1, 8, 0] S1x1x8x256.size inb_S2x20x16x256_S1x1x8x256_0_1_8_0, P ⟨0, by omega⟩ ⟨1, by omega⟩ ⟨1, by omega⟩⟩,
    ⟨Rect.unit (s := S2x20x16x256) ![1, 0, 8, 0] S1x1x8x256.size inb_S2x20x16x256_S1x1x8x256_1_0_8_0, P ⟨1, by omega⟩ ⟨0, by omega⟩ ⟨1, by omega⟩⟩,
    ⟨Rect.unit (s := S2x20x16x256) ![0, 0, 8, 0] S1x1x8x256.size inb_S2x20x16x256_S1x1x8x256_0_0_8_0, P ⟨0, by omega⟩ ⟨0, by omega⟩ ⟨1, by omega⟩⟩,
    ⟨Rect.unit (s := S2x20x16x256) ![1, 19, 0, 0] S1x1x8x256.size inb_S2x20x16x256_S1x1x8x256_1_19_0_0, P ⟨1, by omega⟩ ⟨19, by omega⟩ ⟨0, by omega⟩⟩,
    ⟨Rect.unit (s := S2x20x16x256) ![0, 19, 0, 0] S1x1x8x256.size inb_S2x20x16x256_S1x1x8x256_0_19_0_0, P ⟨0, by omega⟩ ⟨19, by omega⟩ ⟨0, by omega⟩⟩,
    ⟨Rect.unit (s := S2x20x16x256) ![1, 18, 0, 0] S1x1x8x256.size inb_S2x20x16x256_S1x1x8x256_1_18_0_0, P ⟨1, by omega⟩ ⟨18, by omega⟩ ⟨0, by omega⟩⟩,
    ⟨Rect.unit (s := S2x20x16x256) ![0, 18, 0, 0] S1x1x8x256.size inb_S2x20x16x256_S1x1x8x256_0_18_0_0, P ⟨0, by omega⟩ ⟨18, by omega⟩ ⟨0, by omega⟩⟩,
    ⟨Rect.unit (s := S2x20x16x256) ![1, 17, 0, 0] S1x1x8x256.size inb_S2x20x16x256_S1x1x8x256_1_17_0_0, P ⟨1, by omega⟩ ⟨17, by omega⟩ ⟨0, by omega⟩⟩,
    ⟨Rect.unit (s := S2x20x16x256) ![0, 17, 0, 0] S1x1x8x256.size inb_S2x20x16x256_S1x1x8x256_0_17_0_0, P ⟨0, by omega⟩ ⟨17, by omega⟩ ⟨0, by omega⟩⟩,
    ⟨Rect.unit (s := S2x20x16x256) ![1, 16, 0, 0] S1x1x8x256.size inb_S2x20x16x256_S1x1x8x256_1_16_0_0, P ⟨1, by omega⟩ ⟨16, by omega⟩ ⟨0, by omega⟩⟩,
    ⟨Rect.unit (s := S2x20x16x256) ![0, 16, 0, 0] S1x1x8x256.size inb_S2x20x16x256_S1x1x8x256_0_16_0_0, P ⟨0, by omega⟩ ⟨16, by omega⟩ ⟨0, by omega⟩⟩,
    ⟨Rect.unit (s := S2x20x16x256) ![1, 15, 0, 0] S1x1x8x256.size inb_S2x20x16x256_S1x1x8x256_1_15_0_0, P ⟨1, by omega⟩ ⟨15, by omega⟩ ⟨0, by omega⟩⟩,
    ⟨Rect.unit (s := S2x20x16x256) ![0, 15, 0, 0] S1x1x8x256.size inb_S2x20x16x256_S1x1x8x256_0_15_0_0, P ⟨0, by omega⟩ ⟨15, by omega⟩ ⟨0, by omega⟩⟩,
    ⟨Rect.unit (s := S2x20x16x256) ![1, 14, 0, 0] S1x1x8x256.size inb_S2x20x16x256_S1x1x8x256_1_14_0_0, P ⟨1, by omega⟩ ⟨14, by omega⟩ ⟨0, by omega⟩⟩,
    ⟨Rect.unit (s := S2x20x16x256) ![0, 14, 0, 0] S1x1x8x256.size inb_S2x20x16x256_S1x1x8x256_0_14_0_0, P ⟨0, by omega⟩ ⟨14, by omega⟩ ⟨0, by omega⟩⟩,
    ⟨Rect.unit (s := S2x20x16x256) ![1, 13, 0, 0] S1x1x8x256.size inb_S2x20x16x256_S1x1x8x256_1_13_0_0, P ⟨1, by omega⟩ ⟨13, by omega⟩ ⟨0, by omega⟩⟩,
    ⟨Rect.unit (s := S2x20x16x256) ![0, 13, 0, 0] S1x1x8x256.size inb_S2x20x16x256_S1x1x8x256_0_13_0_0, P ⟨0, by omega⟩ ⟨13, by omega⟩ ⟨0, by omega⟩⟩,
    ⟨Rect.unit (s := S2x20x16x256) ![1, 12, 0, 0] S1x1x8x256.size inb_S2x20x16x256_S1x1x8x256_1_12_0_0, P ⟨1, by omega⟩ ⟨12, by omega⟩ ⟨0, by omega⟩⟩,
    ⟨Rect.unit (s := S2x20x16x256) ![0, 12, 0, 0] S1x1x8x256.size inb_S2x20x16x256_S1x1x8x256_0_12_0_0, P ⟨0, by omega⟩ ⟨12, by omega⟩ ⟨0, by omega⟩⟩,
    ⟨Rect.unit (s := S2x20x16x256) ![1, 11, 0, 0] S1x1x8x256.size inb_S2x20x16x256_S1x1x8x256_1_11_0_0, P ⟨1, by omega⟩ ⟨11, by omega⟩ ⟨0, by omega⟩⟩,
    ⟨Rect.unit (s := S2x20x16x256) ![0, 11, 0, 0] S1x1x8x256.size inb_S2x20x16x256_S1x1x8x256_0_11_0_0, P ⟨0, by omega⟩ ⟨11, by omega⟩ ⟨0, by omega⟩⟩,
    ⟨Rect.unit (s := S2x20x16x256) ![1, 10, 0, 0] S1x1x8x256.size inb_S2x20x16x256_S1x1x8x256_1_10_0_0, P ⟨1, by omega⟩ ⟨10, by omega⟩ ⟨0, by omega⟩⟩,
    ⟨Rect.unit (s := S2x20x16x256) ![0, 10, 0, 0] S1x1x8x256.size inb_S2x20x16x256_S1x1x8x256_0_10_0_0, P ⟨0, by omega⟩ ⟨10, by omega⟩ ⟨0, by omega⟩⟩,
    ⟨Rect.unit (s := S2x20x16x256) ![1, 9, 0, 0] S1x1x8x256.size inb_S2x20x16x256_S1x1x8x256_1_9_0_0, P ⟨1, by omega⟩ ⟨9, by omega⟩ ⟨0, by omega⟩⟩,
    ⟨Rect.unit (s := S2x20x16x256) ![0, 9, 0, 0] S1x1x8x256.size inb_S2x20x16x256_S1x1x8x256_0_9_0_0, P ⟨0, by omega⟩ ⟨9, by omega⟩ ⟨0, by omega⟩⟩,
    ⟨Rect.unit (s := S2x20x16x256) ![1, 8, 0, 0] S1x1x8x256.size inb_S2x20x16x256_S1x1x8x256_1_8_0_0, P ⟨1, by omega⟩ ⟨8, by omega⟩ ⟨0, by omega⟩⟩,
    ⟨Rect.unit (s := S2x20x16x256) ![0, 8, 0, 0] S1x1x8x256.size inb_S2x20x16x256_S1x1x8x256_0_8_0_0, P ⟨0, by omega⟩ ⟨8, by omega⟩ ⟨0, by omega⟩⟩,
    ⟨Rect.unit (s := S2x20x16x256) ![1, 7, 0, 0] S1x1x8x256.size inb_S2x20x16x256_S1x1x8x256_1_7_0_0, P ⟨1, by omega⟩ ⟨7, by omega⟩ ⟨0, by omega⟩⟩,
    ⟨Rect.unit (s := S2x20x16x256) ![0, 7, 0, 0] S1x1x8x256.size inb_S2x20x16x256_S1x1x8x256_0_7_0_0, P ⟨0, by omega⟩ ⟨7, by omega⟩ ⟨0, by omega⟩⟩,
    ⟨Rect.unit (s := S2x20x16x256) ![1, 6, 0, 0] S1x1x8x256.size inb_S2x20x16x256_S1x1x8x256_1_6_0_0, P ⟨1, by omega⟩ ⟨6, by omega⟩ ⟨0, by omega⟩⟩,
    ⟨Rect.unit (s := S2x20x16x256) ![0, 6, 0, 0] S1x1x8x256.size inb_S2x20x16x256_S1x1x8x256_0_6_0_0, P ⟨0, by omega⟩ ⟨6, by omega⟩ ⟨0, by omega⟩⟩,
    ⟨Rect.unit (s := S2x20x16x256) ![1, 5, 0, 0] S1x1x8x256.size inb_S2x20x16x256_S1x1x8x256_1_5_0_0, P ⟨1, by omega⟩ ⟨5, by omega⟩ ⟨0, by omega⟩⟩,
    ⟨Rect.unit (s := S2x20x16x256) ![0, 5, 0, 0] S1x1x8x256.size inb_S2x20x16x256_S1x1x8x256_0_5_0_0, P ⟨0, by omega⟩ ⟨5, by omega⟩ ⟨0, by omega⟩⟩,
    ⟨Rect.unit (s := S2x20x16x256) ![1, 4, 0, 0] S1x1x8x256.size inb_S2x20x16x256_S1x1x8x256_1_4_0_0, P ⟨1, by omega⟩ ⟨4, by omega⟩ ⟨0, by omega⟩⟩,
    ⟨Rect.unit (s := S2x20x16x256) ![0, 4, 0, 0] S1x1x8x256.size inb_S2x20x16x256_S1x1x8x256_0_4_0_0, P ⟨0, by omega⟩ ⟨4, by omega⟩ ⟨0, by omega⟩⟩,
    ⟨Rect.unit (s := S2x20x16x256) ![1, 3, 0, 0] S1x1x8x256.size inb_S2x20x16x256_S1x1x8x256_1_3_0_0, P ⟨1, by omega⟩ ⟨3, by omega⟩ ⟨0, by omega⟩⟩,
    ⟨Rect.unit (s := S2x20x16x256) ![0, 3, 0, 0] S1x1x8x256.size inb_S2x20x16x256_S1x1x8x256_0_3_0_0, P ⟨0, by omega⟩ ⟨3, by omega⟩ ⟨0, by omega⟩⟩,
    ⟨Rect.unit (s := S2x20x16x256) ![1, 2, 0, 0] S1x1x8x256.size inb_S2x20x16x256_S1x1x8x256_1_2_0_0, P ⟨1, by omega⟩ ⟨2, by omega⟩ ⟨0, by omega⟩⟩,
    ⟨Rect.unit (s := S2x20x16x256) ![0, 2, 0, 0] S1x1x8x256.size inb_S2x20x16x256_S1x1x8x256_0_2_0_0, P ⟨0, by omega⟩ ⟨2, by omega⟩ ⟨0, by omega⟩⟩,
    ⟨Rect.unit (s := S2x20x16x256) ![1, 1, 0, 0] S1x1x8x256.size inb_S2x20x16x256_S1x1x8x256_1_1_0_0, P ⟨1, by omega⟩ ⟨1, by omega⟩ ⟨0, by omega⟩⟩,
    ⟨Rect.unit (s := S2x20x16x256) ![0, 1, 0, 0] S1x1x8x256.size inb_S2x20x16x256_S1x1x8x256_0_1_0_0, P ⟨0, by omega⟩ ⟨1, by omega⟩ ⟨0, by omega⟩⟩,
    ⟨Rect.unit (s := S2x20x16x256) ![1, 0, 0, 0] S1x1x8x256.size inb_S2x20x16x256_S1x1x8x256_1_0_0_0, P ⟨1, by omega⟩ ⟨0, by omega⟩ ⟨0, by omega⟩⟩,
    ⟨Rect.unit (s := S2x20x16x256) ![0, 0, 0, 0] S1x1x8x256.size inb_S2x20x16x256_S1x1x8x256_0_0_0_0, P ⟨0, by omega⟩ ⟨0, by omega⟩ ⟨0, by omega⟩⟩]

theorem slices_tile (t : Fin 2) : Shape.Slices S8x512 ![0, 256 * t.val] S8x256 := by
  match t with
  | ⟨0, _⟩ => exact slices_S8x512_o0_0_S8x256
  | ⟨1, _⟩ => exact slices_S8x512_o0_256_S8x256

theorem inb_codes (r : Fin 20) (h : Fin 2) : ∀ a, ![r.val, 8 * h.val, 0] a + S1x8x512.size a ≤ S20x16x512.size a := by
  intro a
  match a with
  | ⟨0, _⟩ => show r.val + 1 ≤ 20; omega
  | ⟨1, _⟩ => show 8 * h.val + 8 ≤ 16; omega
  | ⟨2, _⟩ => show 0 + 512 ≤ 512; omega

/-- The writes of the byte words. -/
abbrev bytesL (arg4 : Memref sig .tc .vmem S20x16x512 .i32) (X_arg4 : BufTy.Contents (Elt Ideal) arg4.view.ty) : List (View.Piece (Elt Ideal) S2x20x16x256 .i32) :=
  proL fun t r h => byteP ![0, 256 * t.val] (slices_tile t) (View.readAt (Elt Ideal) arg4.view (Rect.unit (s := S20x16x512) ![r.val, 8 * h.val, 0] S1x8x512.size (inb_codes r h)).toLoadRect X_arg4)

/-- The writes of the words. -/
abbrev wordsL (c : Dev nD) (i : grid0.Coords) (arg1 : Memref sig .tc .smem S1536 .i32) (arg4 : Memref sig .tc .vmem S20x16x512 .i32) (X_arg1 : TbBuf0 (F := Ideal) c arg1) (X_arg4 : BufTy.Contents (Elt Ideal) arg4.view.ty) : List (View.Piece (Elt Ideal) S2x20x16x256 .i32) :=
  proL fun t r h => wordP ![0, 256 * t.val] (slices_tile t) (validP (lenH c i arg1 X_arg1 h)) (View.readAt (Elt Ideal) arg4.view (Rect.unit (s := S20x16x512) ![r.val, 8 * h.val, 0] S1x8x512.size (inb_codes r h)).toLoadRect X_arg4)

/-- The writes of the factors from what each tile of a half step is. -/
def proF (P : Fin 2 → Fin 2 → FVec Ideal S1x8x256 .f32) : List (View.Piece (Elt Ideal) S2x16x256 .f32) :=
  [⟨Rect.unit (s := S2x16x256) ![1, 8, 0] S1x8x256.size inb_S2x16x256_S1x8x256_1_8_0, P ⟨1, by omega⟩ ⟨1, by omega⟩⟩,
    ⟨Rect.unit (s := S2x16x256) ![0, 8, 0] S1x8x256.size inb_S2x16x256_S1x8x256_0_8_0, P ⟨0, by omega⟩ ⟨1, by omega⟩⟩,
    ⟨Rect.unit (s := S2x16x256) ![1, 0, 0] S1x8x256.size inb_S2x16x256_S1x8x256_1_0_0, P ⟨1, by omega⟩ ⟨0, by omega⟩⟩,
    ⟨Rect.unit (s := S2x16x256) ![0, 0, 0] S1x8x256.size inb_S2x16x256_S1x8x256_0_0_0, P ⟨0, by omega⟩ ⟨0, by omega⟩⟩]

theorem inb_scale (h : Fin 2) : ∀ a, ![8 * h.val, 0] a + S8x512.size a ≤ S16x512.size a := by
  intro a
  match a with
  | ⟨0, _⟩ => show 8 * h.val + 8 ≤ 16; omega
  | ⟨1, _⟩ => show 0 + 512 ≤ 512; omega

/-- The writes of the factors. -/
abbrev facL (c : Dev nD) (i : grid0.Coords) (arg1 : Memref sig .tc .smem S1536 .i32) (arg3 : Memref sig .tc .vmem S16x512 .f32) (X_arg1 : TbBuf0 (F := Ideal) c arg1) (X_arg3 : BufTy.Contents (Elt Ideal) arg3.view.ty) : List (View.Piece (Elt Ideal) S2x16x256 .f32) :=
  proF fun t h => facP ![0, 256 * t.val] (slices_tile t) (validP (lenH c i arg1 X_arg1 h)) (View.readAt (Elt Ideal) arg3.view (Rect.unit (s := S16x512) ![8 * h.val, 0] S8x512.size (inb_scale h)).toLoadRect X_arg3)

theorem keep_bytes (c : Dev nD) (i : grid0.Coords) (arg1 : Memref sig .tc .smem S1536 .i32) (arg3 : Memref sig .tc .vmem S16x512 .f32) (arg4 : Memref sig .tc .vmem S20x16x512 .i32) (X_arg1 : TbBuf0 (F := Ideal) c arg1) (X_arg3 : BufTy.Contents (Elt Ideal) arg3.view.ty) (X_arg4 : BufTy.Contents (Elt Ideal) arg4.view.ty) : stepKeep.sl.H9_80 (F := Ideal) arg4 X_arg4 = bytesL arg4 X_arg4 := rfl
theorem flush_bytes (c : Dev nD) (i : grid0.Coords) (arg1 : Memref sig .tc .smem S1536 .i32) (arg3 : Memref sig .tc .vmem S16x512 .f32) (arg4 : Memref sig .tc .vmem S20x16x512 .i32) (X_arg1 : TbBuf0 (F := Ideal) c arg1) (X_arg3 : BufTy.Contents (Elt Ideal) arg3.view.ty) (X_arg4 : BufTy.Contents (Elt Ideal) arg4.view.ty) : stepFlush.sl.H9_80 (F := Ideal) arg4 X_arg4 = bytesL arg4 X_arg4 := rfl
theorem keep_words (c : Dev nD) (i : grid0.Coords) (arg1 : Memref sig .tc .smem S1536 .i32) (arg3 : Memref sig .tc .vmem S16x512 .f32) (arg4 : Memref sig .tc .vmem S20x16x512 .i32) (X_arg1 : TbBuf0 (F := Ideal) c arg1) (X_arg3 : BufTy.Contents (Elt Ideal) arg3.view.ty) (X_arg4 : BufTy.Contents (Elt Ideal) arg4.view.ty) : stepKeep.sl.H8_80 (F := Ideal) c i arg1 arg4 X_arg1 X_arg4 = wordsL c i arg1 arg4 X_arg1 X_arg4 := rfl
theorem flush_words (c : Dev nD) (i : grid0.Coords) (arg1 : Memref sig .tc .smem S1536 .i32) (arg3 : Memref sig .tc .vmem S16x512 .f32) (arg4 : Memref sig .tc .vmem S20x16x512 .i32) (X_arg1 : TbBuf0 (F := Ideal) c arg1) (X_arg3 : BufTy.Contents (Elt Ideal) arg3.view.ty) (X_arg4 : BufTy.Contents (Elt Ideal) arg4.view.ty) : stepFlush.sl.H8_80 (F := Ideal) c i arg1 arg4 X_arg1 X_arg4 = wordsL c i arg1 arg4 X_arg1 X_arg4 := rfl
theorem keep_facs (c : Dev nD) (i : grid0.Coords) (arg1 : Memref sig .tc .smem S1536 .i32) (arg3 : Memref sig .tc .vmem S16x512 .f32) (arg4 : Memref sig .tc .vmem S20x16x512 .i32) (X_arg1 : TbBuf0 (F := Ideal) c arg1) (X_arg3 : BufTy.Contents (Elt Ideal) arg3.view.ty) (X_arg4 : BufTy.Contents (Elt Ideal) arg4.view.ty) : stepKeep.sl.H10_4 (F := Ideal) c i arg1 arg3 X_arg1 X_arg3 = facL c i arg1 arg3 X_arg1 X_arg3 := rfl
theorem flush_facs (c : Dev nD) (i : grid0.Coords) (arg1 : Memref sig .tc .smem S1536 .i32) (arg3 : Memref sig .tc .vmem S16x512 .f32) (arg4 : Memref sig .tc .vmem S20x16x512 .i32) (X_arg1 : TbBuf0 (F := Ideal) c arg1) (X_arg3 : BufTy.Contents (Elt Ideal) arg3.view.ty) (X_arg4 : BufTy.Contents (Elt Ideal) arg4.view.ty) : stepFlush.sl.H10_4 (F := Ideal) c i arg1 arg3 X_arg1 X_arg3 = facL c i arg1 arg3 X_arg1 X_arg3 := rfl

/-- The lanes' numbers against a length. -/
def okAt (l : BitVec 32) (s : ℕ) : Bool := (BitVec.ofNat 32 s).slt l

/-- The word of a token: its word number when it is within its document's length, -1 elsewhere. -/
def wordG (len : Fin 16 → BitVec 32) (X : S20x16x512.Idx → BitVec 32) (y : S2x20x16x256.Idx) : BitVec 32 :=
  if okAt (len (y 2)) (256 * (y 0).val + (y 3).val) then IntOp.shrsi ArithUnit.vector (X (ix3 (y 1) (y 2) ⟨256 * (y 0).val + (y 3).val, by have := (y 0).isLt; have := (y 3).isLt; change (y 0).val < 2 at *; change (y 3).val < 256 at *; omega⟩)) 2#32 else 4294967295#32

/-- The byte word of a token: the byte 0x38 at the place of its bucket. -/
def byteG (X : S20x16x512.Idx → BitVec 32) (y : S2x20x16x256.Idx) : BitVec 32 :=
  IntOp.shli ArithUnit.vector 56#32 (IntOp.shli ArithUnit.vector (X (ix3 (y 1) (y 2) ⟨256 * (y 0).val + (y 3).val, by have := (y 0).isLt; have := (y 3).isLt; change (y 0).val < 2 at *; change (y 3).val < 256 at *; omega⟩) &&& 3#32) 3#32)

/-- The factor of a token: a quarter of its scale when it is within its document's length, zero elsewhere. -/
def facG (len : Fin 16 → BitVec 32) (X : S16x512.Idx → EReal) (y : S2x16x256.Idx) : EReal :=
  if okAt (len (y 1)) (256 * (y 0).val + (y 2).val) then X (ix2 (y 1) ⟨256 * (y 0).val + (y 2).val, by have := (y 0).isLt; have := (y 2).isLt; change (y 0).val < 2 at *; change (y 2).val < 256 at *; omega⟩) * Ideal.ofBits .f32 0x3E800000#32 else Ideal.ofBits .f32 0x00000000#32

theorem validP_apply (l : Fin 8 → BitVec 32) (a : Fin 8) (s : Fin 512) : validP l (ix2 a s) = BitVec.ofBool ((BitVec.ofNat 32 s.val).slt (l a)) := by
  match a with
  | ⟨0, _⟩ => pointwise [validP]; rfl
  | ⟨1, _⟩ => pointwise [validP]; rfl
  | ⟨2, _⟩ => pointwise [validP]; rfl
  | ⟨3, _⟩ => pointwise [validP]; rfl
  | ⟨4, _⟩ => pointwise [validP]; rfl
  | ⟨5, _⟩ => pointwise [validP]; rfl
  | ⟨6, _⟩ => pointwise [validP]; rfl
  | ⟨7, _⟩ => pointwise [validP]; rfl

theorem wordP_apply (T : Fin 2) (ho : Shape.Slices S8x512 ![0, 256 * T.val] S8x256) (v : IVec S8x512 1) (x : IVec S1x8x512 32) (a : Fin 8) (s : Fin 256) :
    wordP ![0, 256 * T.val] ho v x (ix4 0 0 a s) = Scalar.select (v (ix2 a ⟨256 * T.val + s.val, by omega⟩)) (IntOp.shrsi ArithUnit.vector (x (ix3 0 a ⟨256 * T.val + s.val, by omega⟩)) 2#32) 4294967295#32 := by
  pointwise [wordP]

theorem byteP_apply (T : Fin 2) (ho : Shape.Slices S8x512 ![0, 256 * T.val] S8x256) (x : IVec S1x8x512 32) (a : Fin 8) (s : Fin 256) :
    byteP ![0, 256 * T.val] ho x (ix4 0 0 a s) = IntOp.shli ArithUnit.vector 56#32 (IntOp.shli ArithUnit.vector (x (ix3 0 a ⟨256 * T.val + s.val, by omega⟩) &&& 3#32) 3#32) := by
  pointwise [byteP]
  rfl

theorem facP_apply (T : Fin 2) (ho : Shape.Slices S8x512 ![0, 256 * T.val] S8x256) (v : IVec S8x512 1) (x : FVec Ideal S8x512 .f32) (a : Fin 8) (s : Fin 256) :
    facP ![0, 256 * T.val] ho v x (ix3 0 a s) = Scalar.select (v (ix2 a ⟨256 * T.val + s.val, by omega⟩)) (x (ix2 a ⟨256 * T.val + s.val, by omega⟩) * Ideal.ofBits .f32 0x3E800000#32) (Ideal.ofBits .f32 0x00000000#32) := by
  pointwise [facP]

theorem off_0_0 : ∀ i : grid0.Coords, k0_off1 i 0#32 0#32 = k0_off2 i ⟨0, by rw [t1_trips]; omega⟩ := by decide +kernel
theorem off_0_1 : ∀ i : grid0.Coords, k0_off1 i 0#32 1#32 = k0_off2 i ⟨1, by rw [t1_trips]; omega⟩ := by decide +kernel
theorem off_0_2 : ∀ i : grid0.Coords, k0_off1 i 0#32 2#32 = k0_off2 i ⟨2, by rw [t1_trips]; omega⟩ := by decide +kernel
theorem off_0_3 : ∀ i : grid0.Coords, k0_off1 i 0#32 3#32 = k0_off2 i ⟨3, by rw [t1_trips]; omega⟩ := by decide +kernel
theorem off_0_4 : ∀ i : grid0.Coords, k0_off1 i 0#32 4#32 = k0_off2 i ⟨4, by rw [t1_trips]; omega⟩ := by decide +kernel
theorem off_0_5 : ∀ i : grid0.Coords, k0_off1 i 0#32 5#32 = k0_off2 i ⟨5, by rw [t1_trips]; omega⟩ := by decide +kernel
theorem off_0_6 : ∀ i : grid0.Coords, k0_off1 i 0#32 6#32 = k0_off2 i ⟨6, by rw [t1_trips]; omega⟩ := by decide +kernel
theorem off_0_7 : ∀ i : grid0.Coords, k0_off1 i 0#32 7#32 = k0_off2 i ⟨7, by rw [t1_trips]; omega⟩ := by decide +kernel
theorem off_1_0 : ∀ i : grid0.Coords, k0_off1 i 8#32 0#32 = k0_off2 i ⟨8, by rw [t1_trips]; omega⟩ := by decide +kernel
theorem off_1_1 : ∀ i : grid0.Coords, k0_off1 i 8#32 1#32 = k0_off2 i ⟨9, by rw [t1_trips]; omega⟩ := by decide +kernel
theorem off_1_2 : ∀ i : grid0.Coords, k0_off1 i 8#32 2#32 = k0_off2 i ⟨10, by rw [t1_trips]; omega⟩ := by decide +kernel
theorem off_1_3 : ∀ i : grid0.Coords, k0_off1 i 8#32 3#32 = k0_off2 i ⟨11, by rw [t1_trips]; omega⟩ := by decide +kernel
theorem off_1_4 : ∀ i : grid0.Coords, k0_off1 i 8#32 4#32 = k0_off2 i ⟨12, by rw [t1_trips]; omega⟩ := by decide +kernel
theorem off_1_5 : ∀ i : grid0.Coords, k0_off1 i 8#32 5#32 = k0_off2 i ⟨13, by rw [t1_trips]; omega⟩ := by decide +kernel
theorem off_1_6 : ∀ i : grid0.Coords, k0_off1 i 8#32 6#32 = k0_off2 i ⟨14, by rw [t1_trips]; omega⟩ := by decide +kernel
theorem off_1_7 : ∀ i : grid0.Coords, k0_off1 i 8#32 7#32 = k0_off2 i ⟨15, by rw [t1_trips]; omega⟩ := by decide +kernel

theorem len_key (c : Dev nD) (arg1 : Memref sig .tc .smem S1536 .i32) (X_arg1 : TbBuf0 (F := Ideal) c arg1) (o o' : Fin 1 → ℕ) (b : ∀ a, o a + S1.size a ≤ S1536.size a) (b' : ∀ a, o' a + S1.size a ≤ S1536.size a) (x : S1.Idx) (e : o = o') :
    View.readAt (Elt Ideal) arg1.view (Rect.unit (s := S1536) o S1.size b).toLoadRect X_arg1 x = View.readAt (Elt Ideal) arg1.view (Rect.unit (s := S1536) o' S1.size b').toLoadRect X_arg1 x := by
  subst e; rfl

theorem len_0_0 (c : Dev nD) (i : grid0.Coords) (arg1 : Memref sig .tc .smem S1536 .i32) (X_arg1 : TbBuf0 (F := Ideal) c arg1) :
    View.readAt (Elt Ideal) arg1.view (Rect.unit (s := S1536) (k0_off1 i 0#32 0#32) S1.size (k0_off1_inb i 0 0)).toLoadRect X_arg1 (Shape.Idx.first (numel1_S1.symm ▸ Nat.one_pos)) = lenAt (F := Ideal) c i arg1 X_arg1 ⟨0, by rw [t1_trips]; omega⟩ :=
  len_key c arg1 X_arg1 _ _ (k0_off1_inb i 0 0) (k0_off2_inb i ⟨0, by rw [t1_trips]; omega⟩) (Shape.Idx.first (numel1_S1.symm ▸ Nat.one_pos)) (off_0_0 i)

theorem len_0_1 (c : Dev nD) (i : grid0.Coords) (arg1 : Memref sig .tc .smem S1536 .i32) (X_arg1 : TbBuf0 (F := Ideal) c arg1) :
    View.readAt (Elt Ideal) arg1.view (Rect.unit (s := S1536) (k0_off1 i 0#32 1#32) S1.size (k0_off1_inb i 0 1)).toLoadRect X_arg1 (Shape.Idx.first (numel1_S1.symm ▸ Nat.one_pos)) = lenAt (F := Ideal) c i arg1 X_arg1 ⟨1, by rw [t1_trips]; omega⟩ :=
  len_key c arg1 X_arg1 _ _ (k0_off1_inb i 0 1) (k0_off2_inb i ⟨1, by rw [t1_trips]; omega⟩) (Shape.Idx.first (numel1_S1.symm ▸ Nat.one_pos)) (off_0_1 i)

theorem len_0_2 (c : Dev nD) (i : grid0.Coords) (arg1 : Memref sig .tc .smem S1536 .i32) (X_arg1 : TbBuf0 (F := Ideal) c arg1) :
    View.readAt (Elt Ideal) arg1.view (Rect.unit (s := S1536) (k0_off1 i 0#32 2#32) S1.size (k0_off1_inb i 0 2)).toLoadRect X_arg1 (Shape.Idx.first (numel1_S1.symm ▸ Nat.one_pos)) = lenAt (F := Ideal) c i arg1 X_arg1 ⟨2, by rw [t1_trips]; omega⟩ :=
  len_key c arg1 X_arg1 _ _ (k0_off1_inb i 0 2) (k0_off2_inb i ⟨2, by rw [t1_trips]; omega⟩) (Shape.Idx.first (numel1_S1.symm ▸ Nat.one_pos)) (off_0_2 i)

theorem len_0_3 (c : Dev nD) (i : grid0.Coords) (arg1 : Memref sig .tc .smem S1536 .i32) (X_arg1 : TbBuf0 (F := Ideal) c arg1) :
    View.readAt (Elt Ideal) arg1.view (Rect.unit (s := S1536) (k0_off1 i 0#32 3#32) S1.size (k0_off1_inb i 0 3)).toLoadRect X_arg1 (Shape.Idx.first (numel1_S1.symm ▸ Nat.one_pos)) = lenAt (F := Ideal) c i arg1 X_arg1 ⟨3, by rw [t1_trips]; omega⟩ :=
  len_key c arg1 X_arg1 _ _ (k0_off1_inb i 0 3) (k0_off2_inb i ⟨3, by rw [t1_trips]; omega⟩) (Shape.Idx.first (numel1_S1.symm ▸ Nat.one_pos)) (off_0_3 i)

theorem len_0_4 (c : Dev nD) (i : grid0.Coords) (arg1 : Memref sig .tc .smem S1536 .i32) (X_arg1 : TbBuf0 (F := Ideal) c arg1) :
    View.readAt (Elt Ideal) arg1.view (Rect.unit (s := S1536) (k0_off1 i 0#32 4#32) S1.size (k0_off1_inb i 0 4)).toLoadRect X_arg1 (Shape.Idx.first (numel1_S1.symm ▸ Nat.one_pos)) = lenAt (F := Ideal) c i arg1 X_arg1 ⟨4, by rw [t1_trips]; omega⟩ :=
  len_key c arg1 X_arg1 _ _ (k0_off1_inb i 0 4) (k0_off2_inb i ⟨4, by rw [t1_trips]; omega⟩) (Shape.Idx.first (numel1_S1.symm ▸ Nat.one_pos)) (off_0_4 i)

theorem len_0_5 (c : Dev nD) (i : grid0.Coords) (arg1 : Memref sig .tc .smem S1536 .i32) (X_arg1 : TbBuf0 (F := Ideal) c arg1) :
    View.readAt (Elt Ideal) arg1.view (Rect.unit (s := S1536) (k0_off1 i 0#32 5#32) S1.size (k0_off1_inb i 0 5)).toLoadRect X_arg1 (Shape.Idx.first (numel1_S1.symm ▸ Nat.one_pos)) = lenAt (F := Ideal) c i arg1 X_arg1 ⟨5, by rw [t1_trips]; omega⟩ :=
  len_key c arg1 X_arg1 _ _ (k0_off1_inb i 0 5) (k0_off2_inb i ⟨5, by rw [t1_trips]; omega⟩) (Shape.Idx.first (numel1_S1.symm ▸ Nat.one_pos)) (off_0_5 i)

theorem len_0_6 (c : Dev nD) (i : grid0.Coords) (arg1 : Memref sig .tc .smem S1536 .i32) (X_arg1 : TbBuf0 (F := Ideal) c arg1) :
    View.readAt (Elt Ideal) arg1.view (Rect.unit (s := S1536) (k0_off1 i 0#32 6#32) S1.size (k0_off1_inb i 0 6)).toLoadRect X_arg1 (Shape.Idx.first (numel1_S1.symm ▸ Nat.one_pos)) = lenAt (F := Ideal) c i arg1 X_arg1 ⟨6, by rw [t1_trips]; omega⟩ :=
  len_key c arg1 X_arg1 _ _ (k0_off1_inb i 0 6) (k0_off2_inb i ⟨6, by rw [t1_trips]; omega⟩) (Shape.Idx.first (numel1_S1.symm ▸ Nat.one_pos)) (off_0_6 i)

theorem len_0_7 (c : Dev nD) (i : grid0.Coords) (arg1 : Memref sig .tc .smem S1536 .i32) (X_arg1 : TbBuf0 (F := Ideal) c arg1) :
    View.readAt (Elt Ideal) arg1.view (Rect.unit (s := S1536) (k0_off1 i 0#32 7#32) S1.size (k0_off1_inb i 0 7)).toLoadRect X_arg1 (Shape.Idx.first (numel1_S1.symm ▸ Nat.one_pos)) = lenAt (F := Ideal) c i arg1 X_arg1 ⟨7, by rw [t1_trips]; omega⟩ :=
  len_key c arg1 X_arg1 _ _ (k0_off1_inb i 0 7) (k0_off2_inb i ⟨7, by rw [t1_trips]; omega⟩) (Shape.Idx.first (numel1_S1.symm ▸ Nat.one_pos)) (off_0_7 i)

theorem len_1_0 (c : Dev nD) (i : grid0.Coords) (arg1 : Memref sig .tc .smem S1536 .i32) (X_arg1 : TbBuf0 (F := Ideal) c arg1) :
    View.readAt (Elt Ideal) arg1.view (Rect.unit (s := S1536) (k0_off1 i 8#32 0#32) S1.size (k0_off1_inb i 1 0)).toLoadRect X_arg1 (Shape.Idx.first (numel1_S1.symm ▸ Nat.one_pos)) = lenAt (F := Ideal) c i arg1 X_arg1 ⟨8, by rw [t1_trips]; omega⟩ :=
  len_key c arg1 X_arg1 _ _ (k0_off1_inb i 1 0) (k0_off2_inb i ⟨8, by rw [t1_trips]; omega⟩) (Shape.Idx.first (numel1_S1.symm ▸ Nat.one_pos)) (off_1_0 i)

theorem len_1_1 (c : Dev nD) (i : grid0.Coords) (arg1 : Memref sig .tc .smem S1536 .i32) (X_arg1 : TbBuf0 (F := Ideal) c arg1) :
    View.readAt (Elt Ideal) arg1.view (Rect.unit (s := S1536) (k0_off1 i 8#32 1#32) S1.size (k0_off1_inb i 1 1)).toLoadRect X_arg1 (Shape.Idx.first (numel1_S1.symm ▸ Nat.one_pos)) = lenAt (F := Ideal) c i arg1 X_arg1 ⟨9, by rw [t1_trips]; omega⟩ :=
  len_key c arg1 X_arg1 _ _ (k0_off1_inb i 1 1) (k0_off2_inb i ⟨9, by rw [t1_trips]; omega⟩) (Shape.Idx.first (numel1_S1.symm ▸ Nat.one_pos)) (off_1_1 i)

theorem len_1_2 (c : Dev nD) (i : grid0.Coords) (arg1 : Memref sig .tc .smem S1536 .i32) (X_arg1 : TbBuf0 (F := Ideal) c arg1) :
    View.readAt (Elt Ideal) arg1.view (Rect.unit (s := S1536) (k0_off1 i 8#32 2#32) S1.size (k0_off1_inb i 1 2)).toLoadRect X_arg1 (Shape.Idx.first (numel1_S1.symm ▸ Nat.one_pos)) = lenAt (F := Ideal) c i arg1 X_arg1 ⟨10, by rw [t1_trips]; omega⟩ :=
  len_key c arg1 X_arg1 _ _ (k0_off1_inb i 1 2) (k0_off2_inb i ⟨10, by rw [t1_trips]; omega⟩) (Shape.Idx.first (numel1_S1.symm ▸ Nat.one_pos)) (off_1_2 i)

theorem len_1_3 (c : Dev nD) (i : grid0.Coords) (arg1 : Memref sig .tc .smem S1536 .i32) (X_arg1 : TbBuf0 (F := Ideal) c arg1) :
    View.readAt (Elt Ideal) arg1.view (Rect.unit (s := S1536) (k0_off1 i 8#32 3#32) S1.size (k0_off1_inb i 1 3)).toLoadRect X_arg1 (Shape.Idx.first (numel1_S1.symm ▸ Nat.one_pos)) = lenAt (F := Ideal) c i arg1 X_arg1 ⟨11, by rw [t1_trips]; omega⟩ :=
  len_key c arg1 X_arg1 _ _ (k0_off1_inb i 1 3) (k0_off2_inb i ⟨11, by rw [t1_trips]; omega⟩) (Shape.Idx.first (numel1_S1.symm ▸ Nat.one_pos)) (off_1_3 i)

theorem len_1_4 (c : Dev nD) (i : grid0.Coords) (arg1 : Memref sig .tc .smem S1536 .i32) (X_arg1 : TbBuf0 (F := Ideal) c arg1) :
    View.readAt (Elt Ideal) arg1.view (Rect.unit (s := S1536) (k0_off1 i 8#32 4#32) S1.size (k0_off1_inb i 1 4)).toLoadRect X_arg1 (Shape.Idx.first (numel1_S1.symm ▸ Nat.one_pos)) = lenAt (F := Ideal) c i arg1 X_arg1 ⟨12, by rw [t1_trips]; omega⟩ :=
  len_key c arg1 X_arg1 _ _ (k0_off1_inb i 1 4) (k0_off2_inb i ⟨12, by rw [t1_trips]; omega⟩) (Shape.Idx.first (numel1_S1.symm ▸ Nat.one_pos)) (off_1_4 i)

theorem len_1_5 (c : Dev nD) (i : grid0.Coords) (arg1 : Memref sig .tc .smem S1536 .i32) (X_arg1 : TbBuf0 (F := Ideal) c arg1) :
    View.readAt (Elt Ideal) arg1.view (Rect.unit (s := S1536) (k0_off1 i 8#32 5#32) S1.size (k0_off1_inb i 1 5)).toLoadRect X_arg1 (Shape.Idx.first (numel1_S1.symm ▸ Nat.one_pos)) = lenAt (F := Ideal) c i arg1 X_arg1 ⟨13, by rw [t1_trips]; omega⟩ :=
  len_key c arg1 X_arg1 _ _ (k0_off1_inb i 1 5) (k0_off2_inb i ⟨13, by rw [t1_trips]; omega⟩) (Shape.Idx.first (numel1_S1.symm ▸ Nat.one_pos)) (off_1_5 i)

theorem len_1_6 (c : Dev nD) (i : grid0.Coords) (arg1 : Memref sig .tc .smem S1536 .i32) (X_arg1 : TbBuf0 (F := Ideal) c arg1) :
    View.readAt (Elt Ideal) arg1.view (Rect.unit (s := S1536) (k0_off1 i 8#32 6#32) S1.size (k0_off1_inb i 1 6)).toLoadRect X_arg1 (Shape.Idx.first (numel1_S1.symm ▸ Nat.one_pos)) = lenAt (F := Ideal) c i arg1 X_arg1 ⟨14, by rw [t1_trips]; omega⟩ :=
  len_key c arg1 X_arg1 _ _ (k0_off1_inb i 1 6) (k0_off2_inb i ⟨14, by rw [t1_trips]; omega⟩) (Shape.Idx.first (numel1_S1.symm ▸ Nat.one_pos)) (off_1_6 i)

theorem len_1_7 (c : Dev nD) (i : grid0.Coords) (arg1 : Memref sig .tc .smem S1536 .i32) (X_arg1 : TbBuf0 (F := Ideal) c arg1) :
    View.readAt (Elt Ideal) arg1.view (Rect.unit (s := S1536) (k0_off1 i 8#32 7#32) S1.size (k0_off1_inb i 1 7)).toLoadRect X_arg1 (Shape.Idx.first (numel1_S1.symm ▸ Nat.one_pos)) = lenAt (F := Ideal) c i arg1 X_arg1 ⟨15, by rw [t1_trips]; omega⟩ :=
  len_key c arg1 X_arg1 _ _ (k0_off1_inb i 1 7) (k0_off2_inb i ⟨15, by rw [t1_trips]; omega⟩) (Shape.Idx.first (numel1_S1.symm ▸ Nat.one_pos)) (off_1_7 i)

theorem lenH_eq (c : Dev nD) (i : grid0.Coords) (arg1 : Memref sig .tc .smem S1536 .i32) (X_arg1 : TbBuf0 (F := Ideal) c arg1) (h : Fin 2) (d : Fin 8) :
    lenH c i arg1 X_arg1 h d = lenD c i arg1 X_arg1 ⟨8 * h.val + d.val, by omega⟩ := by
  match h with
  | ⟨0, _⟩ =>
    match d with
    | ⟨0, _⟩ => exact len_0_0 c i arg1 X_arg1
    | ⟨1, _⟩ => exact len_0_1 c i arg1 X_arg1
    | ⟨2, _⟩ => exact len_0_2 c i arg1 X_arg1
    | ⟨3, _⟩ => exact len_0_3 c i arg1 X_arg1
    | ⟨4, _⟩ => exact len_0_4 c i arg1 X_arg1
    | ⟨5, _⟩ => exact len_0_5 c i arg1 X_arg1
    | ⟨6, _⟩ => exact len_0_6 c i arg1 X_arg1
    | ⟨7, _⟩ => exact len_0_7 c i arg1 X_arg1
  | ⟨1, _⟩ =>
    match d with
    | ⟨0, _⟩ => exact len_1_0 c i arg1 X_arg1
    | ⟨1, _⟩ => exact len_1_1 c i arg1 X_arg1
    | ⟨2, _⟩ => exact len_1_2 c i arg1 X_arg1
    | ⟨3, _⟩ => exact len_1_3 c i arg1 X_arg1
    | ⟨4, _⟩ => exact len_1_4 c i arg1 X_arg1
    | ⟨5, _⟩ => exact len_1_5 c i arg1 X_arg1
    | ⟨6, _⟩ => exact len_1_6 c i arg1 X_arg1
    | ⟨7, _⟩ => exact len_1_7 c i arg1 X_arg1

/-- A piece of the words. -/
theorem word_piece (T : Fin 2) (R : Fin 20) (H : Fin 2) (c : Dev nD) (i : grid0.Coords) (arg1 : Memref sig .tc .smem S1536 .i32) (arg4 : Memref sig .tc .vmem S20x16x512 .i32) (X_arg1 : TbBuf0 (F := Ideal) c arg1) (X_arg4 : BufTy.Contents (Elt Ideal) arg4.view.ty)
    (ho : Shape.Slices S8x512 ![0, 256 * T.val] S8x256) (b : ∀ a, ![T.val, R.val, 8 * H.val, 0] a + S1x1x8x256.size a ≤ S2x20x16x256.size a) (b' : ∀ a, ![R.val, 8 * H.val, 0] a + S1x8x512.size a ≤ S20x16x512.size a) (x : S1x1x8x256.Idx) :
    wordP ![0, 256 * T.val] ho (validP (lenH c i arg1 X_arg1 H)) (View.readAt (Elt Ideal) arg4.view (Rect.unit (s := S20x16x512) ![R.val, 8 * H.val, 0] S1x8x512.size b').toLoadRect X_arg4) x
      = wordG (lenD c i arg1 X_arg1) (arg4.view.read (Elt Ideal) X_arg4) ((Rect.unit (s := S2x20x16x256) ![T.val, R.val, 8 * H.val, 0] S1x1x8x256.size b).emb x) := by
  obtain ⟨a, s, rfl⟩ : ∃ (a : Fin 8) (s : Fin 256), x = ix4 0 0 a s := ⟨x 2, x 3, by
    funext k; apply Fin.ext
    match k with
    | ⟨0, _⟩ => have := (x 0).isLt; show (x 0).val = 0; change (x 0).val < 1 at this; omega
    | ⟨1, _⟩ => have := (x 1).isLt; show (x 1).val = 0; change (x 1).val < 1 at this; omega
    | ⟨2, _⟩ => rfl
    | ⟨3, _⟩ => rfl⟩
  have hy : (Rect.unit (s := S2x20x16x256) ![T.val, R.val, 8 * H.val, 0] S1x1x8x256.size b).emb (ix4 0 0 a s) = ix4 T R ⟨8 * H.val + a.val, by omega⟩ s := by
    funext k; apply Fin.ext
    match k with
    | ⟨0, _⟩ => rfl
    | ⟨1, _⟩ => rfl
    | ⟨2, _⟩ => show 8 * H.val + 1 * a.val = 8 * H.val + a.val; omega
    | ⟨3, _⟩ => show 0 + 1 * s.val = s.val; omega
  refine (wordP_apply T ho _ _ a s).trans (Eq.trans ?_ (congrArg (wordG (lenD c i arg1 X_arg1) (arg4.view.read (Elt Ideal) X_arg4)) hy.symm))
  rw [validP_apply, lenH_eq]
  have hr : View.readAt (Elt Ideal) arg4.view (Rect.unit (s := S20x16x512) ![R.val, 8 * H.val, 0] S1x8x512.size b').toLoadRect X_arg4 (ix3 0 a ⟨256 * T.val + s.val, by omega⟩)
      = arg4.view.read (Elt Ideal) X_arg4 (ix3 R ⟨8 * H.val + a.val, by omega⟩ ⟨256 * T.val + s.val, by omega⟩) := by
    show arg4.view.read (Elt Ideal) X_arg4 _ = _
    congr 1
    funext k; apply Fin.ext
    match k with
    | ⟨0, _⟩ => rfl
    | ⟨1, _⟩ => show 8 * H.val + 1 * a.val = 8 * H.val + a.val; omega
    | ⟨2, _⟩ => show 0 + 1 * (256 * T.val + s.val) = 256 * T.val + s.val; omega
  rw [hr]
  show _ = if okAt (lenD c i arg1 X_arg1 ⟨8 * H.val + a.val, _⟩) (256 * T.val + s.val) then IntOp.shrsi ArithUnit.vector (arg4.view.read (Elt Ideal) X_arg4 (ix3 R ⟨8 * H.val + a.val, _⟩ ⟨256 * T.val + s.val, _⟩)) 2#32 else 4294967295#32
  unfold okAt Scalar.select
  cases hb : (BitVec.ofNat 32 (256 * T.val + s.val)).slt (lenD c i arg1 X_arg1 ⟨8 * H.val + a.val, by omega⟩) <;> simp

/-- A piece of the byte words. -/
theorem byte_piece (T : Fin 2) (R : Fin 20) (H : Fin 2) (arg4 : Memref sig .tc .vmem S20x16x512 .i32) (X_arg4 : BufTy.Contents (Elt Ideal) arg4.view.ty)
    (ho : Shape.Slices S8x512 ![0, 256 * T.val] S8x256) (b : ∀ a, ![T.val, R.val, 8 * H.val, 0] a + S1x1x8x256.size a ≤ S2x20x16x256.size a) (b' : ∀ a, ![R.val, 8 * H.val, 0] a + S1x8x512.size a ≤ S20x16x512.size a) (x : S1x1x8x256.Idx) :
    byteP ![0, 256 * T.val] ho (View.readAt (Elt Ideal) arg4.view (Rect.unit (s := S20x16x512) ![R.val, 8 * H.val, 0] S1x8x512.size b').toLoadRect X_arg4) x
      = byteG (arg4.view.read (Elt Ideal) X_arg4) ((Rect.unit (s := S2x20x16x256) ![T.val, R.val, 8 * H.val, 0] S1x1x8x256.size b).emb x) := by
  obtain ⟨a, s, rfl⟩ : ∃ (a : Fin 8) (s : Fin 256), x = ix4 0 0 a s := ⟨x 2, x 3, by
    funext k; apply Fin.ext
    match k with
    | ⟨0, _⟩ => have := (x 0).isLt; show (x 0).val = 0; change (x 0).val < 1 at this; omega
    | ⟨1, _⟩ => have := (x 1).isLt; show (x 1).val = 0; change (x 1).val < 1 at this; omega
    | ⟨2, _⟩ => rfl
    | ⟨3, _⟩ => rfl⟩
  have hy : (Rect.unit (s := S2x20x16x256) ![T.val, R.val, 8 * H.val, 0] S1x1x8x256.size b).emb (ix4 0 0 a s) = ix4 T R ⟨8 * H.val + a.val, by omega⟩ s := by
    funext k; apply Fin.ext
    match k with
    | ⟨0, _⟩ => rfl
    | ⟨1, _⟩ => rfl
    | ⟨2, _⟩ => show 8 * H.val + 1 * a.val = 8 * H.val + a.val; omega
    | ⟨3, _⟩ => show 0 + 1 * s.val = s.val; omega
  refine (byteP_apply T ho _ a s).trans (Eq.trans ?_ (congrArg (byteG (arg4.view.read (Elt Ideal) X_arg4)) hy.symm))
  have hr : View.readAt (Elt Ideal) arg4.view (Rect.unit (s := S20x16x512) ![R.val, 8 * H.val, 0] S1x8x512.size b').toLoadRect X_arg4 (ix3 0 a ⟨256 * T.val + s.val, by omega⟩)
      = arg4.view.read (Elt Ideal) X_arg4 (ix3 R ⟨8 * H.val + a.val, by omega⟩ ⟨256 * T.val + s.val, by omega⟩) := by
    show arg4.view.read (Elt Ideal) X_arg4 _ = _
    congr 1
    funext k; apply Fin.ext
    match k with
    | ⟨0, _⟩ => rfl
    | ⟨1, _⟩ => show 8 * H.val + 1 * a.val = 8 * H.val + a.val; omega
    | ⟨2, _⟩ => show 0 + 1 * (256 * T.val + s.val) = 256 * T.val + s.val; omega
  rw [hr]
  rfl

/-- A piece of the factors. -/
theorem fac_piece (T : Fin 2) (H : Fin 2) (c : Dev nD) (i : grid0.Coords) (arg1 : Memref sig .tc .smem S1536 .i32) (arg3 : Memref sig .tc .vmem S16x512 .f32) (X_arg1 : TbBuf0 (F := Ideal) c arg1) (X_arg3 : BufTy.Contents (Elt Ideal) arg3.view.ty)
    (ho : Shape.Slices S8x512 ![0, 256 * T.val] S8x256) (b : ∀ a, ![T.val, 8 * H.val, 0] a + S1x8x256.size a ≤ S2x16x256.size a) (b' : ∀ a, ![8 * H.val, 0] a + S8x512.size a ≤ S16x512.size a) (x : S1x8x256.Idx) :
    facP ![0, 256 * T.val] ho (validP (lenH c i arg1 X_arg1 H)) (View.readAt (Elt Ideal) arg3.view (Rect.unit (s := S16x512) ![8 * H.val, 0] S8x512.size b').toLoadRect X_arg3) x
      = facG (lenD c i arg1 X_arg1) (arg3.view.read (Elt Ideal) X_arg3) ((Rect.unit (s := S2x16x256) ![T.val, 8 * H.val, 0] S1x8x256.size b).emb x) := by
  obtain ⟨a, s, rfl⟩ : ∃ (a : Fin 8) (s : Fin 256), x = ix3 0 a s := ⟨x 1, x 2, by
    funext k; apply Fin.ext
    match k with
    | ⟨0, _⟩ => have := (x 0).isLt; show (x 0).val = 0; change (x 0).val < 1 at this; omega
    | ⟨1, _⟩ => rfl
    | ⟨2, _⟩ => rfl⟩
  have hy : (Rect.unit (s := S2x16x256) ![T.val, 8 * H.val, 0] S1x8x256.size b).emb (ix3 0 a s) = ix3 T ⟨8 * H.val + a.val, by omega⟩ s := by
    funext k; apply Fin.ext
    match k with
    | ⟨0, _⟩ => rfl
    | ⟨1, _⟩ => show 8 * H.val + 1 * a.val = 8 * H.val + a.val; omega
    | ⟨2, _⟩ => show 0 + 1 * s.val = s.val; omega
  refine (facP_apply T ho _ _ a s).trans (Eq.trans ?_ (congrArg (facG (lenD c i arg1 X_arg1) (arg3.view.read (Elt Ideal) X_arg3)) hy.symm))
  rw [validP_apply, lenH_eq]
  have hr : View.readAt (Elt Ideal) arg3.view (Rect.unit (s := S16x512) ![8 * H.val, 0] S8x512.size b').toLoadRect X_arg3 (ix2 a ⟨256 * T.val + s.val, by omega⟩)
      = arg3.view.read (Elt Ideal) X_arg3 (ix2 ⟨8 * H.val + a.val, by omega⟩ ⟨256 * T.val + s.val, by omega⟩) := by
    show arg3.view.read (Elt Ideal) X_arg3 _ = _
    congr 1
    funext k; apply Fin.ext
    match k with
    | ⟨0, _⟩ => show 8 * H.val + 1 * a.val = 8 * H.val + a.val; omega
    | ⟨1, _⟩ => show 0 + 1 * (256 * T.val + s.val) = 256 * T.val + s.val; omega
  rw [hr]
  show _ = if okAt (lenD c i arg1 X_arg1 ⟨8 * H.val + a.val, _⟩) (256 * T.val + s.val) then arg3.view.read (Elt Ideal) X_arg3 (ix2 ⟨8 * H.val + a.val, _⟩ ⟨256 * T.val + s.val, _⟩) * Ideal.ofBits .f32 0x3E800000#32 else Ideal.ofBits .f32 0x00000000#32
  unfold okAt Scalar.select
  cases hb : (BitVec.ofNat 32 (256 * T.val + s.val)).slt (lenD c i arg1 X_arg1 ⟨8 * H.val + a.val, by omega⟩) <;> simp

theorem mem_pro4 (t : Fin 2) (r : Fin 20) (h : Fin 2) (off : Fin 4 → ℕ) (e : off = ![t.val, r.val, 8 * h.val, 0]) (b : ∀ a, off a + S1x1x8x256.size a ≤ S2x20x16x256.size a) (d : Fin 16) (s : Fin 256) (hd : d.val / 8 = h.val) :
    ix4 t r d s ∈ (Rect.unit (s := S2x20x16x256) off S1x1x8x256.size b).set := by
  subst e
  rw [Rect.mem_set_unit]
  intro a
  match a with
  | ⟨0, _⟩ => show t.val ≤ t.val ∧ t.val < t.val + 1; omega
  | ⟨1, _⟩ => show r.val ≤ r.val ∧ r.val < r.val + 1; omega
  | ⟨2, _⟩ => show 8 * h.val ≤ d.val ∧ d.val < 8 * h.val + 8; omega
  | ⟨3, _⟩ => show 0 ≤ s.val ∧ s.val < 0 + 256; omega

theorem mem_pro3 (t : Fin 2) (h : Fin 2) (off : Fin 3 → ℕ) (e : off = ![t.val, 8 * h.val, 0]) (b : ∀ a, off a + S1x8x256.size a ≤ S2x16x256.size a) (d : Fin 16) (s : Fin 256) (hd : d.val / 8 = h.val) :
    ix3 t d s ∈ (Rect.unit (s := S2x16x256) off S1x8x256.size b).set := by
  subst e
  rw [Rect.mem_set_unit]
  intro a
  match a with
  | ⟨0, _⟩ => show t.val ≤ t.val ∧ t.val < t.val + 1; omega
  | ⟨1, _⟩ => show 8 * h.val ≤ d.val ∧ d.val < 8 * h.val + 8; omega
  | ⟨2, _⟩ => show 0 ≤ s.val ∧ s.val < 0 + 256; omega

/-- A block of words after the body's first part, from what each write's tile is. -/
theorem proL_read (P : Fin 2 → Fin 20 → Fin 2 → IVec S1x1x8x256 32) (G : S2x20x16x256.Idx → BitVec 32) (m : Memref sig .tc .vmem S2x20x16x256 .i32) (f : BufTy.Contents (Elt Ideal) m.view.ty)
    (h : ∀ (t : Fin 2) (r : Fin 20) (h : Fin 2) (b : ∀ a, ![t.val, r.val, 8 * h.val, 0] a + S1x1x8x256.size a ≤ S2x20x16x256.size a) (x : S1x1x8x256.Idx), P t r h x = G ((Rect.unit (s := S2x20x16x256) ![t.val, r.val, 8 * h.val, 0] S1x1x8x256.size b).emb x)) :
    m.view.read (Elt Ideal) (m.view.writes (Elt Ideal) f (proL P)) = G := by
  funext y
  obtain ⟨t, r, d, s, rfl⟩ : ∃ (t : Fin 2) (r : Fin 20) (d : Fin 16) (s : Fin 256), y = ix4 t r d s := ⟨y 0, y 1, y 2, y 3, eq_ix4 y⟩
  refine View.read_writes_apply_of_pieces (Val := Elt Ideal) (e := .i32) m.view f G (proL P) ?_ (ix4 t r d s) ?_
  · exact List.forall_mem_cons.2 ⟨h ⟨1, by omega⟩ ⟨19, by omega⟩ ⟨1, by omega⟩ inb_S2x20x16x256_S1x1x8x256_1_19_8_0, List.forall_mem_cons.2 ⟨h ⟨0, by omega⟩ ⟨19, by omega⟩ ⟨1, by omega⟩ inb_S2x20x16x256_S1x1x8x256_0_19_8_0, List.forall_mem_cons.2 ⟨h ⟨1, by omega⟩ ⟨18, by omega⟩ ⟨1, by omega⟩ inb_S2x20x16x256_S1x1x8x256_1_18_8_0, List.forall_mem_cons.2 ⟨h ⟨0, by omega⟩ ⟨18, by omega⟩ ⟨1, by omega⟩ inb_S2x20x16x256_S1x1x8x256_0_18_8_0, List.forall_mem_cons.2 ⟨h ⟨1, by omega⟩ ⟨17, by omega⟩ ⟨1, by omega⟩ inb_S2x20x16x256_S1x1x8x256_1_17_8_0, List.forall_mem_cons.2 ⟨h ⟨0, by omega⟩ ⟨17, by omega⟩ ⟨1, by omega⟩ inb_S2x20x16x256_S1x1x8x256_0_17_8_0, List.forall_mem_cons.2 ⟨h ⟨1, by omega⟩ ⟨16, by omega⟩ ⟨1, by omega⟩ inb_S2x20x16x256_S1x1x8x256_1_16_8_0, List.forall_mem_cons.2 ⟨h ⟨0, by omega⟩ ⟨16, by omega⟩ ⟨1, by omega⟩ inb_S2x20x16x256_S1x1x8x256_0_16_8_0, List.forall_mem_cons.2 ⟨h ⟨1, by omega⟩ ⟨15, by omega⟩ ⟨1, by omega⟩ inb_S2x20x16x256_S1x1x8x256_1_15_8_0, List.forall_mem_cons.2 ⟨h ⟨0, by omega⟩ ⟨15, by omega⟩ ⟨1, by omega⟩ inb_S2x20x16x256_S1x1x8x256_0_15_8_0, List.forall_mem_cons.2 ⟨h ⟨1, by omega⟩ ⟨14, by omega⟩ ⟨1, by omega⟩ inb_S2x20x16x256_S1x1x8x256_1_14_8_0, List.forall_mem_cons.2 ⟨h ⟨0, by omega⟩ ⟨14, by omega⟩ ⟨1, by omega⟩ inb_S2x20x16x256_S1x1x8x256_0_14_8_0, List.forall_mem_cons.2 ⟨h ⟨1, by omega⟩ ⟨13, by omega⟩ ⟨1, by omega⟩ inb_S2x20x16x256_S1x1x8x256_1_13_8_0, List.forall_mem_cons.2 ⟨h ⟨0, by omega⟩ ⟨13, by omega⟩ ⟨1, by omega⟩ inb_S2x20x16x256_S1x1x8x256_0_13_8_0, List.forall_mem_cons.2 ⟨h ⟨1, by omega⟩ ⟨12, by omega⟩ ⟨1, by omega⟩ inb_S2x20x16x256_S1x1x8x256_1_12_8_0, List.forall_mem_cons.2 ⟨h ⟨0, by omega⟩ ⟨12, by omega⟩ ⟨1, by omega⟩ inb_S2x20x16x256_S1x1x8x256_0_12_8_0, List.forall_mem_cons.2 ⟨h ⟨1, by omega⟩ ⟨11, by omega⟩ ⟨1, by omega⟩ inb_S2x20x16x256_S1x1x8x256_1_11_8_0, List.forall_mem_cons.2 ⟨h ⟨0, by omega⟩ ⟨11, by omega⟩ ⟨1, by omega⟩ inb_S2x20x16x256_S1x1x8x256_0_11_8_0, List.forall_mem_cons.2 ⟨h ⟨1, by omega⟩ ⟨10, by omega⟩ ⟨1, by omega⟩ inb_S2x20x16x256_S1x1x8x256_1_10_8_0, List.forall_mem_cons.2 ⟨h ⟨0, by omega⟩ ⟨10, by omega⟩ ⟨1, by omega⟩ inb_S2x20x16x256_S1x1x8x256_0_10_8_0, List.forall_mem_cons.2 ⟨h ⟨1, by omega⟩ ⟨9, by omega⟩ ⟨1, by omega⟩ inb_S2x20x16x256_S1x1x8x256_1_9_8_0, List.forall_mem_cons.2 ⟨h ⟨0, by omega⟩ ⟨9, by omega⟩ ⟨1, by omega⟩ inb_S2x20x16x256_S1x1x8x256_0_9_8_0, List.forall_mem_cons.2 ⟨h ⟨1, by omega⟩ ⟨8, by omega⟩ ⟨1, by omega⟩ inb_S2x20x16x256_S1x1x8x256_1_8_8_0, List.forall_mem_cons.2 ⟨h ⟨0, by omega⟩ ⟨8, by omega⟩ ⟨1, by omega⟩ inb_S2x20x16x256_S1x1x8x256_0_8_8_0, List.forall_mem_cons.2 ⟨h ⟨1, by omega⟩ ⟨7, by omega⟩ ⟨1, by omega⟩ inb_S2x20x16x256_S1x1x8x256_1_7_8_0, List.forall_mem_cons.2 ⟨h ⟨0, by omega⟩ ⟨7, by omega⟩ ⟨1, by omega⟩ inb_S2x20x16x256_S1x1x8x256_0_7_8_0, List.forall_mem_cons.2 ⟨h ⟨1, by omega⟩ ⟨6, by omega⟩ ⟨1, by omega⟩ inb_S2x20x16x256_S1x1x8x256_1_6_8_0, List.forall_mem_cons.2 ⟨h ⟨0, by omega⟩ ⟨6, by omega⟩ ⟨1, by omega⟩ inb_S2x20x16x256_S1x1x8x256_0_6_8_0, List.forall_mem_cons.2 ⟨h ⟨1, by omega⟩ ⟨5, by omega⟩ ⟨1, by omega⟩ inb_S2x20x16x256_S1x1x8x256_1_5_8_0, List.forall_mem_cons.2 ⟨h ⟨0, by omega⟩ ⟨5, by omega⟩ ⟨1, by omega⟩ inb_S2x20x16x256_S1x1x8x256_0_5_8_0, List.forall_mem_cons.2 ⟨h ⟨1, by omega⟩ ⟨4, by omega⟩ ⟨1, by omega⟩ inb_S2x20x16x256_S1x1x8x256_1_4_8_0, List.forall_mem_cons.2 ⟨h ⟨0, by omega⟩ ⟨4, by omega⟩ ⟨1, by omega⟩ inb_S2x20x16x256_S1x1x8x256_0_4_8_0, List.forall_mem_cons.2 ⟨h ⟨1, by omega⟩ ⟨3, by omega⟩ ⟨1, by omega⟩ inb_S2x20x16x256_S1x1x8x256_1_3_8_0, List.forall_mem_cons.2 ⟨h ⟨0, by omega⟩ ⟨3, by omega⟩ ⟨1, by omega⟩ inb_S2x20x16x256_S1x1x8x256_0_3_8_0, List.forall_mem_cons.2 ⟨h ⟨1, by omega⟩ ⟨2, by omega⟩ ⟨1, by omega⟩ inb_S2x20x16x256_S1x1x8x256_1_2_8_0, List.forall_mem_cons.2 ⟨h ⟨0, by omega⟩ ⟨2, by omega⟩ ⟨1, by omega⟩ inb_S2x20x16x256_S1x1x8x256_0_2_8_0, List.forall_mem_cons.2 ⟨h ⟨1, by omega⟩ ⟨1, by omega⟩ ⟨1, by omega⟩ inb_S2x20x16x256_S1x1x8x256_1_1_8_0, List.forall_mem_cons.2 ⟨h ⟨0, by omega⟩ ⟨1, by omega⟩ ⟨1, by omega⟩ inb_S2x20x16x256_S1x1x8x256_0_1_8_0, List.forall_mem_cons.2 ⟨h ⟨1, by omega⟩ ⟨0, by omega⟩ ⟨1, by omega⟩ inb_S2x20x16x256_S1x1x8x256_1_0_8_0, List.forall_mem_cons.2 ⟨h ⟨0, by omega⟩ ⟨0, by omega⟩ ⟨1, by omega⟩ inb_S2x20x16x256_S1x1x8x256_0_0_8_0, List.forall_mem_cons.2 ⟨h ⟨1, by omega⟩ ⟨19, by omega⟩ ⟨0, by omega⟩ inb_S2x20x16x256_S1x1x8x256_1_19_0_0, List.forall_mem_cons.2 ⟨h ⟨0, by omega⟩ ⟨19, by omega⟩ ⟨0, by omega⟩ inb_S2x20x16x256_S1x1x8x256_0_19_0_0, List.forall_mem_cons.2 ⟨h ⟨1, by omega⟩ ⟨18, by omega⟩ ⟨0, by omega⟩ inb_S2x20x16x256_S1x1x8x256_1_18_0_0, List.forall_mem_cons.2 ⟨h ⟨0, by omega⟩ ⟨18, by omega⟩ ⟨0, by omega⟩ inb_S2x20x16x256_S1x1x8x256_0_18_0_0, List.forall_mem_cons.2 ⟨h ⟨1, by omega⟩ ⟨17, by omega⟩ ⟨0, by omega⟩ inb_S2x20x16x256_S1x1x8x256_1_17_0_0, List.forall_mem_cons.2 ⟨h ⟨0, by omega⟩ ⟨17, by omega⟩ ⟨0, by omega⟩ inb_S2x20x16x256_S1x1x8x256_0_17_0_0, List.forall_mem_cons.2 ⟨h ⟨1, by omega⟩ ⟨16, by omega⟩ ⟨0, by omega⟩ inb_S2x20x16x256_S1x1x8x256_1_16_0_0, List.forall_mem_cons.2 ⟨h ⟨0, by omega⟩ ⟨16, by omega⟩ ⟨0, by omega⟩ inb_S2x20x16x256_S1x1x8x256_0_16_0_0, List.forall_mem_cons.2 ⟨h ⟨1, by omega⟩ ⟨15, by omega⟩ ⟨0, by omega⟩ inb_S2x20x16x256_S1x1x8x256_1_15_0_0, List.forall_mem_cons.2 ⟨h ⟨0, by omega⟩ ⟨15, by omega⟩ ⟨0, by omega⟩ inb_S2x20x16x256_S1x1x8x256_0_15_0_0, List.forall_mem_cons.2 ⟨h ⟨1, by omega⟩ ⟨14, by omega⟩ ⟨0, by omega⟩ inb_S2x20x16x256_S1x1x8x256_1_14_0_0, List.forall_mem_cons.2 ⟨h ⟨0, by omega⟩ ⟨14, by omega⟩ ⟨0, by omega⟩ inb_S2x20x16x256_S1x1x8x256_0_14_0_0, List.forall_mem_cons.2 ⟨h ⟨1, by omega⟩ ⟨13, by omega⟩ ⟨0, by omega⟩ inb_S2x20x16x256_S1x1x8x256_1_13_0_0, List.forall_mem_cons.2 ⟨h ⟨0, by omega⟩ ⟨13, by omega⟩ ⟨0, by omega⟩ inb_S2x20x16x256_S1x1x8x256_0_13_0_0, List.forall_mem_cons.2 ⟨h ⟨1, by omega⟩ ⟨12, by omega⟩ ⟨0, by omega⟩ inb_S2x20x16x256_S1x1x8x256_1_12_0_0, List.forall_mem_cons.2 ⟨h ⟨0, by omega⟩ ⟨12, by omega⟩ ⟨0, by omega⟩ inb_S2x20x16x256_S1x1x8x256_0_12_0_0, List.forall_mem_cons.2 ⟨h ⟨1, by omega⟩ ⟨11, by omega⟩ ⟨0, by omega⟩ inb_S2x20x16x256_S1x1x8x256_1_11_0_0, List.forall_mem_cons.2 ⟨h ⟨0, by omega⟩ ⟨11, by omega⟩ ⟨0, by omega⟩ inb_S2x20x16x256_S1x1x8x256_0_11_0_0, List.forall_mem_cons.2 ⟨h ⟨1, by omega⟩ ⟨10, by omega⟩ ⟨0, by omega⟩ inb_S2x20x16x256_S1x1x8x256_1_10_0_0, List.forall_mem_cons.2 ⟨h ⟨0, by omega⟩ ⟨10, by omega⟩ ⟨0, by omega⟩ inb_S2x20x16x256_S1x1x8x256_0_10_0_0, List.forall_mem_cons.2 ⟨h ⟨1, by omega⟩ ⟨9, by omega⟩ ⟨0, by omega⟩ inb_S2x20x16x256_S1x1x8x256_1_9_0_0, List.forall_mem_cons.2 ⟨h ⟨0, by omega⟩ ⟨9, by omega⟩ ⟨0, by omega⟩ inb_S2x20x16x256_S1x1x8x256_0_9_0_0, List.forall_mem_cons.2 ⟨h ⟨1, by omega⟩ ⟨8, by omega⟩ ⟨0, by omega⟩ inb_S2x20x16x256_S1x1x8x256_1_8_0_0, List.forall_mem_cons.2 ⟨h ⟨0, by omega⟩ ⟨8, by omega⟩ ⟨0, by omega⟩ inb_S2x20x16x256_S1x1x8x256_0_8_0_0, List.forall_mem_cons.2 ⟨h ⟨1, by omega⟩ ⟨7, by omega⟩ ⟨0, by omega⟩ inb_S2x20x16x256_S1x1x8x256_1_7_0_0, List.forall_mem_cons.2 ⟨h ⟨0, by omega⟩ ⟨7, by omega⟩ ⟨0, by omega⟩ inb_S2x20x16x256_S1x1x8x256_0_7_0_0, List.forall_mem_cons.2 ⟨h ⟨1, by omega⟩ ⟨6, by omega⟩ ⟨0, by omega⟩ inb_S2x20x16x256_S1x1x8x256_1_6_0_0, List.forall_mem_cons.2 ⟨h ⟨0, by omega⟩ ⟨6, by omega⟩ ⟨0, by omega⟩ inb_S2x20x16x256_S1x1x8x256_0_6_0_0, List.forall_mem_cons.2 ⟨h ⟨1, by omega⟩ ⟨5, by omega⟩ ⟨0, by omega⟩ inb_S2x20x16x256_S1x1x8x256_1_5_0_0, List.forall_mem_cons.2 ⟨h ⟨0, by omega⟩ ⟨5, by omega⟩ ⟨0, by omega⟩ inb_S2x20x16x256_S1x1x8x256_0_5_0_0, List.forall_mem_cons.2 ⟨h ⟨1, by omega⟩ ⟨4, by omega⟩ ⟨0, by omega⟩ inb_S2x20x16x256_S1x1x8x256_1_4_0_0, List.forall_mem_cons.2 ⟨h ⟨0, by omega⟩ ⟨4, by omega⟩ ⟨0, by omega⟩ inb_S2x20x16x256_S1x1x8x256_0_4_0_0, List.forall_mem_cons.2 ⟨h ⟨1, by omega⟩ ⟨3, by omega⟩ ⟨0, by omega⟩ inb_S2x20x16x256_S1x1x8x256_1_3_0_0, List.forall_mem_cons.2 ⟨h ⟨0, by omega⟩ ⟨3, by omega⟩ ⟨0, by omega⟩ inb_S2x20x16x256_S1x1x8x256_0_3_0_0, List.forall_mem_cons.2 ⟨h ⟨1, by omega⟩ ⟨2, by omega⟩ ⟨0, by omega⟩ inb_S2x20x16x256_S1x1x8x256_1_2_0_0, List.forall_mem_cons.2 ⟨h ⟨0, by omega⟩ ⟨2, by omega⟩ ⟨0, by omega⟩ inb_S2x20x16x256_S1x1x8x256_0_2_0_0, List.forall_mem_cons.2 ⟨h ⟨1, by omega⟩ ⟨1, by omega⟩ ⟨0, by omega⟩ inb_S2x20x16x256_S1x1x8x256_1_1_0_0, List.forall_mem_cons.2 ⟨h ⟨0, by omega⟩ ⟨1, by omega⟩ ⟨0, by omega⟩ inb_S2x20x16x256_S1x1x8x256_0_1_0_0, List.forall_mem_cons.2 ⟨h ⟨1, by omega⟩ ⟨0, by omega⟩ ⟨0, by omega⟩ inb_S2x20x16x256_S1x1x8x256_1_0_0_0, List.forall_mem_cons.2 ⟨h ⟨0, by omega⟩ ⟨0, by omega⟩ ⟨0, by omega⟩ inb_S2x20x16x256_S1x1x8x256_0_0_0_0, fun _ h => absurd h List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩
  · obtain ⟨h, hh⟩ : ∃ h : Fin 2, d.val / 8 = h.val := ⟨⟨d.val / 8, by omega⟩, rfl⟩
    match t with
    | ⟨0, _⟩ =>
      match h, hh with
      | ⟨0, _⟩, hh =>
        match r with
        | ⟨0, _⟩ => exact ⟨_, List.getElem_mem (l := proL P) (n := 79) (by show 79 < 80; omega), mem_pro4 (⟨0, by omega⟩ : Fin 2) (⟨0, by omega⟩ : Fin 20) (⟨0, by omega⟩ : Fin 2) _ rfl inb_S2x20x16x256_S1x1x8x256_0_0_0_0 d s hh⟩
        | ⟨1, _⟩ => exact ⟨_, List.getElem_mem (l := proL P) (n := 77) (by show 77 < 80; omega), mem_pro4 (⟨0, by omega⟩ : Fin 2) (⟨1, by omega⟩ : Fin 20) (⟨0, by omega⟩ : Fin 2) _ rfl inb_S2x20x16x256_S1x1x8x256_0_1_0_0 d s hh⟩
        | ⟨2, _⟩ => exact ⟨_, List.getElem_mem (l := proL P) (n := 75) (by show 75 < 80; omega), mem_pro4 (⟨0, by omega⟩ : Fin 2) (⟨2, by omega⟩ : Fin 20) (⟨0, by omega⟩ : Fin 2) _ rfl inb_S2x20x16x256_S1x1x8x256_0_2_0_0 d s hh⟩
        | ⟨3, _⟩ => exact ⟨_, List.getElem_mem (l := proL P) (n := 73) (by show 73 < 80; omega), mem_pro4 (⟨0, by omega⟩ : Fin 2) (⟨3, by omega⟩ : Fin 20) (⟨0, by omega⟩ : Fin 2) _ rfl inb_S2x20x16x256_S1x1x8x256_0_3_0_0 d s hh⟩
        | ⟨4, _⟩ => exact ⟨_, List.getElem_mem (l := proL P) (n := 71) (by show 71 < 80; omega), mem_pro4 (⟨0, by omega⟩ : Fin 2) (⟨4, by omega⟩ : Fin 20) (⟨0, by omega⟩ : Fin 2) _ rfl inb_S2x20x16x256_S1x1x8x256_0_4_0_0 d s hh⟩
        | ⟨5, _⟩ => exact ⟨_, List.getElem_mem (l := proL P) (n := 69) (by show 69 < 80; omega), mem_pro4 (⟨0, by omega⟩ : Fin 2) (⟨5, by omega⟩ : Fin 20) (⟨0, by omega⟩ : Fin 2) _ rfl inb_S2x20x16x256_S1x1x8x256_0_5_0_0 d s hh⟩
        | ⟨6, _⟩ => exact ⟨_, List.getElem_mem (l := proL P) (n := 67) (by show 67 < 80; omega), mem_pro4 (⟨0, by omega⟩ : Fin 2) (⟨6, by omega⟩ : Fin 20) (⟨0, by omega⟩ : Fin 2) _ rfl inb_S2x20x16x256_S1x1x8x256_0_6_0_0 d s hh⟩
        | ⟨7, _⟩ => exact ⟨_, List.getElem_mem (l := proL P) (n := 65) (by show 65 < 80; omega), mem_pro4 (⟨0, by omega⟩ : Fin 2) (⟨7, by omega⟩ : Fin 20) (⟨0, by omega⟩ : Fin 2) _ rfl inb_S2x20x16x256_S1x1x8x256_0_7_0_0 d s hh⟩
        | ⟨8, _⟩ => exact ⟨_, List.getElem_mem (l := proL P) (n := 63) (by show 63 < 80; omega), mem_pro4 (⟨0, by omega⟩ : Fin 2) (⟨8, by omega⟩ : Fin 20) (⟨0, by omega⟩ : Fin 2) _ rfl inb_S2x20x16x256_S1x1x8x256_0_8_0_0 d s hh⟩
        | ⟨9, _⟩ => exact ⟨_, List.getElem_mem (l := proL P) (n := 61) (by show 61 < 80; omega), mem_pro4 (⟨0, by omega⟩ : Fin 2) (⟨9, by omega⟩ : Fin 20) (⟨0, by omega⟩ : Fin 2) _ rfl inb_S2x20x16x256_S1x1x8x256_0_9_0_0 d s hh⟩
        | ⟨10, _⟩ => exact ⟨_, List.getElem_mem (l := proL P) (n := 59) (by show 59 < 80; omega), mem_pro4 (⟨0, by omega⟩ : Fin 2) (⟨10, by omega⟩ : Fin 20) (⟨0, by omega⟩ : Fin 2) _ rfl inb_S2x20x16x256_S1x1x8x256_0_10_0_0 d s hh⟩
        | ⟨11, _⟩ => exact ⟨_, List.getElem_mem (l := proL P) (n := 57) (by show 57 < 80; omega), mem_pro4 (⟨0, by omega⟩ : Fin 2) (⟨11, by omega⟩ : Fin 20) (⟨0, by omega⟩ : Fin 2) _ rfl inb_S2x20x16x256_S1x1x8x256_0_11_0_0 d s hh⟩
        | ⟨12, _⟩ => exact ⟨_, List.getElem_mem (l := proL P) (n := 55) (by show 55 < 80; omega), mem_pro4 (⟨0, by omega⟩ : Fin 2) (⟨12, by omega⟩ : Fin 20) (⟨0, by omega⟩ : Fin 2) _ rfl inb_S2x20x16x256_S1x1x8x256_0_12_0_0 d s hh⟩
        | ⟨13, _⟩ => exact ⟨_, List.getElem_mem (l := proL P) (n := 53) (by show 53 < 80; omega), mem_pro4 (⟨0, by omega⟩ : Fin 2) (⟨13, by omega⟩ : Fin 20) (⟨0, by omega⟩ : Fin 2) _ rfl inb_S2x20x16x256_S1x1x8x256_0_13_0_0 d s hh⟩
        | ⟨14, _⟩ => exact ⟨_, List.getElem_mem (l := proL P) (n := 51) (by show 51 < 80; omega), mem_pro4 (⟨0, by omega⟩ : Fin 2) (⟨14, by omega⟩ : Fin 20) (⟨0, by omega⟩ : Fin 2) _ rfl inb_S2x20x16x256_S1x1x8x256_0_14_0_0 d s hh⟩
        | ⟨15, _⟩ => exact ⟨_, List.getElem_mem (l := proL P) (n := 49) (by show 49 < 80; omega), mem_pro4 (⟨0, by omega⟩ : Fin 2) (⟨15, by omega⟩ : Fin 20) (⟨0, by omega⟩ : Fin 2) _ rfl inb_S2x20x16x256_S1x1x8x256_0_15_0_0 d s hh⟩
        | ⟨16, _⟩ => exact ⟨_, List.getElem_mem (l := proL P) (n := 47) (by show 47 < 80; omega), mem_pro4 (⟨0, by omega⟩ : Fin 2) (⟨16, by omega⟩ : Fin 20) (⟨0, by omega⟩ : Fin 2) _ rfl inb_S2x20x16x256_S1x1x8x256_0_16_0_0 d s hh⟩
        | ⟨17, _⟩ => exact ⟨_, List.getElem_mem (l := proL P) (n := 45) (by show 45 < 80; omega), mem_pro4 (⟨0, by omega⟩ : Fin 2) (⟨17, by omega⟩ : Fin 20) (⟨0, by omega⟩ : Fin 2) _ rfl inb_S2x20x16x256_S1x1x8x256_0_17_0_0 d s hh⟩
        | ⟨18, _⟩ => exact ⟨_, List.getElem_mem (l := proL P) (n := 43) (by show 43 < 80; omega), mem_pro4 (⟨0, by omega⟩ : Fin 2) (⟨18, by omega⟩ : Fin 20) (⟨0, by omega⟩ : Fin 2) _ rfl inb_S2x20x16x256_S1x1x8x256_0_18_0_0 d s hh⟩
        | ⟨19, _⟩ => exact ⟨_, List.getElem_mem (l := proL P) (n := 41) (by show 41 < 80; omega), mem_pro4 (⟨0, by omega⟩ : Fin 2) (⟨19, by omega⟩ : Fin 20) (⟨0, by omega⟩ : Fin 2) _ rfl inb_S2x20x16x256_S1x1x8x256_0_19_0_0 d s hh⟩
        | ⟨n + 20, h20⟩ => exact absurd h20 (by omega)
      | ⟨1, _⟩, hh =>
        match r with
        | ⟨0, _⟩ => exact ⟨_, List.getElem_mem (l := proL P) (n := 39) (by show 39 < 80; omega), mem_pro4 (⟨0, by omega⟩ : Fin 2) (⟨0, by omega⟩ : Fin 20) (⟨1, by omega⟩ : Fin 2) _ rfl inb_S2x20x16x256_S1x1x8x256_0_0_8_0 d s hh⟩
        | ⟨1, _⟩ => exact ⟨_, List.getElem_mem (l := proL P) (n := 37) (by show 37 < 80; omega), mem_pro4 (⟨0, by omega⟩ : Fin 2) (⟨1, by omega⟩ : Fin 20) (⟨1, by omega⟩ : Fin 2) _ rfl inb_S2x20x16x256_S1x1x8x256_0_1_8_0 d s hh⟩
        | ⟨2, _⟩ => exact ⟨_, List.getElem_mem (l := proL P) (n := 35) (by show 35 < 80; omega), mem_pro4 (⟨0, by omega⟩ : Fin 2) (⟨2, by omega⟩ : Fin 20) (⟨1, by omega⟩ : Fin 2) _ rfl inb_S2x20x16x256_S1x1x8x256_0_2_8_0 d s hh⟩
        | ⟨3, _⟩ => exact ⟨_, List.getElem_mem (l := proL P) (n := 33) (by show 33 < 80; omega), mem_pro4 (⟨0, by omega⟩ : Fin 2) (⟨3, by omega⟩ : Fin 20) (⟨1, by omega⟩ : Fin 2) _ rfl inb_S2x20x16x256_S1x1x8x256_0_3_8_0 d s hh⟩
        | ⟨4, _⟩ => exact ⟨_, List.getElem_mem (l := proL P) (n := 31) (by show 31 < 80; omega), mem_pro4 (⟨0, by omega⟩ : Fin 2) (⟨4, by omega⟩ : Fin 20) (⟨1, by omega⟩ : Fin 2) _ rfl inb_S2x20x16x256_S1x1x8x256_0_4_8_0 d s hh⟩
        | ⟨5, _⟩ => exact ⟨_, List.getElem_mem (l := proL P) (n := 29) (by show 29 < 80; omega), mem_pro4 (⟨0, by omega⟩ : Fin 2) (⟨5, by omega⟩ : Fin 20) (⟨1, by omega⟩ : Fin 2) _ rfl inb_S2x20x16x256_S1x1x8x256_0_5_8_0 d s hh⟩
        | ⟨6, _⟩ => exact ⟨_, List.getElem_mem (l := proL P) (n := 27) (by show 27 < 80; omega), mem_pro4 (⟨0, by omega⟩ : Fin 2) (⟨6, by omega⟩ : Fin 20) (⟨1, by omega⟩ : Fin 2) _ rfl inb_S2x20x16x256_S1x1x8x256_0_6_8_0 d s hh⟩
        | ⟨7, _⟩ => exact ⟨_, List.getElem_mem (l := proL P) (n := 25) (by show 25 < 80; omega), mem_pro4 (⟨0, by omega⟩ : Fin 2) (⟨7, by omega⟩ : Fin 20) (⟨1, by omega⟩ : Fin 2) _ rfl inb_S2x20x16x256_S1x1x8x256_0_7_8_0 d s hh⟩
        | ⟨8, _⟩ => exact ⟨_, List.getElem_mem (l := proL P) (n := 23) (by show 23 < 80; omega), mem_pro4 (⟨0, by omega⟩ : Fin 2) (⟨8, by omega⟩ : Fin 20) (⟨1, by omega⟩ : Fin 2) _ rfl inb_S2x20x16x256_S1x1x8x256_0_8_8_0 d s hh⟩
        | ⟨9, _⟩ => exact ⟨_, List.getElem_mem (l := proL P) (n := 21) (by show 21 < 80; omega), mem_pro4 (⟨0, by omega⟩ : Fin 2) (⟨9, by omega⟩ : Fin 20) (⟨1, by omega⟩ : Fin 2) _ rfl inb_S2x20x16x256_S1x1x8x256_0_9_8_0 d s hh⟩
        | ⟨10, _⟩ => exact ⟨_, List.getElem_mem (l := proL P) (n := 19) (by show 19 < 80; omega), mem_pro4 (⟨0, by omega⟩ : Fin 2) (⟨10, by omega⟩ : Fin 20) (⟨1, by omega⟩ : Fin 2) _ rfl inb_S2x20x16x256_S1x1x8x256_0_10_8_0 d s hh⟩
        | ⟨11, _⟩ => exact ⟨_, List.getElem_mem (l := proL P) (n := 17) (by show 17 < 80; omega), mem_pro4 (⟨0, by omega⟩ : Fin 2) (⟨11, by omega⟩ : Fin 20) (⟨1, by omega⟩ : Fin 2) _ rfl inb_S2x20x16x256_S1x1x8x256_0_11_8_0 d s hh⟩
        | ⟨12, _⟩ => exact ⟨_, List.getElem_mem (l := proL P) (n := 15) (by show 15 < 80; omega), mem_pro4 (⟨0, by omega⟩ : Fin 2) (⟨12, by omega⟩ : Fin 20) (⟨1, by omega⟩ : Fin 2) _ rfl inb_S2x20x16x256_S1x1x8x256_0_12_8_0 d s hh⟩
        | ⟨13, _⟩ => exact ⟨_, List.getElem_mem (l := proL P) (n := 13) (by show 13 < 80; omega), mem_pro4 (⟨0, by omega⟩ : Fin 2) (⟨13, by omega⟩ : Fin 20) (⟨1, by omega⟩ : Fin 2) _ rfl inb_S2x20x16x256_S1x1x8x256_0_13_8_0 d s hh⟩
        | ⟨14, _⟩ => exact ⟨_, List.getElem_mem (l := proL P) (n := 11) (by show 11 < 80; omega), mem_pro4 (⟨0, by omega⟩ : Fin 2) (⟨14, by omega⟩ : Fin 20) (⟨1, by omega⟩ : Fin 2) _ rfl inb_S2x20x16x256_S1x1x8x256_0_14_8_0 d s hh⟩
        | ⟨15, _⟩ => exact ⟨_, List.getElem_mem (l := proL P) (n := 9) (by show 9 < 80; omega), mem_pro4 (⟨0, by omega⟩ : Fin 2) (⟨15, by omega⟩ : Fin 20) (⟨1, by omega⟩ : Fin 2) _ rfl inb_S2x20x16x256_S1x1x8x256_0_15_8_0 d s hh⟩
        | ⟨16, _⟩ => exact ⟨_, List.getElem_mem (l := proL P) (n := 7) (by show 7 < 80; omega), mem_pro4 (⟨0, by omega⟩ : Fin 2) (⟨16, by omega⟩ : Fin 20) (⟨1, by omega⟩ : Fin 2) _ rfl inb_S2x20x16x256_S1x1x8x256_0_16_8_0 d s hh⟩
        | ⟨17, _⟩ => exact ⟨_, List.getElem_mem (l := proL P) (n := 5) (by show 5 < 80; omega), mem_pro4 (⟨0, by omega⟩ : Fin 2) (⟨17, by omega⟩ : Fin 20) (⟨1, by omega⟩ : Fin 2) _ rfl inb_S2x20x16x256_S1x1x8x256_0_17_8_0 d s hh⟩
        | ⟨18, _⟩ => exact ⟨_, List.getElem_mem (l := proL P) (n := 3) (by show 3 < 80; omega), mem_pro4 (⟨0, by omega⟩ : Fin 2) (⟨18, by omega⟩ : Fin 20) (⟨1, by omega⟩ : Fin 2) _ rfl inb_S2x20x16x256_S1x1x8x256_0_18_8_0 d s hh⟩
        | ⟨19, _⟩ => exact ⟨_, List.getElem_mem (l := proL P) (n := 1) (by show 1 < 80; omega), mem_pro4 (⟨0, by omega⟩ : Fin 2) (⟨19, by omega⟩ : Fin 20) (⟨1, by omega⟩ : Fin 2) _ rfl inb_S2x20x16x256_S1x1x8x256_0_19_8_0 d s hh⟩
        | ⟨n + 20, h20⟩ => exact absurd h20 (by omega)
    | ⟨1, _⟩ =>
      match h, hh with
      | ⟨0, _⟩, hh =>
        match r with
        | ⟨0, _⟩ => exact ⟨_, List.getElem_mem (l := proL P) (n := 78) (by show 78 < 80; omega), mem_pro4 (⟨1, by omega⟩ : Fin 2) (⟨0, by omega⟩ : Fin 20) (⟨0, by omega⟩ : Fin 2) _ rfl inb_S2x20x16x256_S1x1x8x256_1_0_0_0 d s hh⟩
        | ⟨1, _⟩ => exact ⟨_, List.getElem_mem (l := proL P) (n := 76) (by show 76 < 80; omega), mem_pro4 (⟨1, by omega⟩ : Fin 2) (⟨1, by omega⟩ : Fin 20) (⟨0, by omega⟩ : Fin 2) _ rfl inb_S2x20x16x256_S1x1x8x256_1_1_0_0 d s hh⟩
        | ⟨2, _⟩ => exact ⟨_, List.getElem_mem (l := proL P) (n := 74) (by show 74 < 80; omega), mem_pro4 (⟨1, by omega⟩ : Fin 2) (⟨2, by omega⟩ : Fin 20) (⟨0, by omega⟩ : Fin 2) _ rfl inb_S2x20x16x256_S1x1x8x256_1_2_0_0 d s hh⟩
        | ⟨3, _⟩ => exact ⟨_, List.getElem_mem (l := proL P) (n := 72) (by show 72 < 80; omega), mem_pro4 (⟨1, by omega⟩ : Fin 2) (⟨3, by omega⟩ : Fin 20) (⟨0, by omega⟩ : Fin 2) _ rfl inb_S2x20x16x256_S1x1x8x256_1_3_0_0 d s hh⟩
        | ⟨4, _⟩ => exact ⟨_, List.getElem_mem (l := proL P) (n := 70) (by show 70 < 80; omega), mem_pro4 (⟨1, by omega⟩ : Fin 2) (⟨4, by omega⟩ : Fin 20) (⟨0, by omega⟩ : Fin 2) _ rfl inb_S2x20x16x256_S1x1x8x256_1_4_0_0 d s hh⟩
        | ⟨5, _⟩ => exact ⟨_, List.getElem_mem (l := proL P) (n := 68) (by show 68 < 80; omega), mem_pro4 (⟨1, by omega⟩ : Fin 2) (⟨5, by omega⟩ : Fin 20) (⟨0, by omega⟩ : Fin 2) _ rfl inb_S2x20x16x256_S1x1x8x256_1_5_0_0 d s hh⟩
        | ⟨6, _⟩ => exact ⟨_, List.getElem_mem (l := proL P) (n := 66) (by show 66 < 80; omega), mem_pro4 (⟨1, by omega⟩ : Fin 2) (⟨6, by omega⟩ : Fin 20) (⟨0, by omega⟩ : Fin 2) _ rfl inb_S2x20x16x256_S1x1x8x256_1_6_0_0 d s hh⟩
        | ⟨7, _⟩ => exact ⟨_, List.getElem_mem (l := proL P) (n := 64) (by show 64 < 80; omega), mem_pro4 (⟨1, by omega⟩ : Fin 2) (⟨7, by omega⟩ : Fin 20) (⟨0, by omega⟩ : Fin 2) _ rfl inb_S2x20x16x256_S1x1x8x256_1_7_0_0 d s hh⟩
        | ⟨8, _⟩ => exact ⟨_, List.getElem_mem (l := proL P) (n := 62) (by show 62 < 80; omega), mem_pro4 (⟨1, by omega⟩ : Fin 2) (⟨8, by omega⟩ : Fin 20) (⟨0, by omega⟩ : Fin 2) _ rfl inb_S2x20x16x256_S1x1x8x256_1_8_0_0 d s hh⟩
        | ⟨9, _⟩ => exact ⟨_, List.getElem_mem (l := proL P) (n := 60) (by show 60 < 80; omega), mem_pro4 (⟨1, by omega⟩ : Fin 2) (⟨9, by omega⟩ : Fin 20) (⟨0, by omega⟩ : Fin 2) _ rfl inb_S2x20x16x256_S1x1x8x256_1_9_0_0 d s hh⟩
        | ⟨10, _⟩ => exact ⟨_, List.getElem_mem (l := proL P) (n := 58) (by show 58 < 80; omega), mem_pro4 (⟨1, by omega⟩ : Fin 2) (⟨10, by omega⟩ : Fin 20) (⟨0, by omega⟩ : Fin 2) _ rfl inb_S2x20x16x256_S1x1x8x256_1_10_0_0 d s hh⟩
        | ⟨11, _⟩ => exact ⟨_, List.getElem_mem (l := proL P) (n := 56) (by show 56 < 80; omega), mem_pro4 (⟨1, by omega⟩ : Fin 2) (⟨11, by omega⟩ : Fin 20) (⟨0, by omega⟩ : Fin 2) _ rfl inb_S2x20x16x256_S1x1x8x256_1_11_0_0 d s hh⟩
        | ⟨12, _⟩ => exact ⟨_, List.getElem_mem (l := proL P) (n := 54) (by show 54 < 80; omega), mem_pro4 (⟨1, by omega⟩ : Fin 2) (⟨12, by omega⟩ : Fin 20) (⟨0, by omega⟩ : Fin 2) _ rfl inb_S2x20x16x256_S1x1x8x256_1_12_0_0 d s hh⟩
        | ⟨13, _⟩ => exact ⟨_, List.getElem_mem (l := proL P) (n := 52) (by show 52 < 80; omega), mem_pro4 (⟨1, by omega⟩ : Fin 2) (⟨13, by omega⟩ : Fin 20) (⟨0, by omega⟩ : Fin 2) _ rfl inb_S2x20x16x256_S1x1x8x256_1_13_0_0 d s hh⟩
        | ⟨14, _⟩ => exact ⟨_, List.getElem_mem (l := proL P) (n := 50) (by show 50 < 80; omega), mem_pro4 (⟨1, by omega⟩ : Fin 2) (⟨14, by omega⟩ : Fin 20) (⟨0, by omega⟩ : Fin 2) _ rfl inb_S2x20x16x256_S1x1x8x256_1_14_0_0 d s hh⟩
        | ⟨15, _⟩ => exact ⟨_, List.getElem_mem (l := proL P) (n := 48) (by show 48 < 80; omega), mem_pro4 (⟨1, by omega⟩ : Fin 2) (⟨15, by omega⟩ : Fin 20) (⟨0, by omega⟩ : Fin 2) _ rfl inb_S2x20x16x256_S1x1x8x256_1_15_0_0 d s hh⟩
        | ⟨16, _⟩ => exact ⟨_, List.getElem_mem (l := proL P) (n := 46) (by show 46 < 80; omega), mem_pro4 (⟨1, by omega⟩ : Fin 2) (⟨16, by omega⟩ : Fin 20) (⟨0, by omega⟩ : Fin 2) _ rfl inb_S2x20x16x256_S1x1x8x256_1_16_0_0 d s hh⟩
        | ⟨17, _⟩ => exact ⟨_, List.getElem_mem (l := proL P) (n := 44) (by show 44 < 80; omega), mem_pro4 (⟨1, by omega⟩ : Fin 2) (⟨17, by omega⟩ : Fin 20) (⟨0, by omega⟩ : Fin 2) _ rfl inb_S2x20x16x256_S1x1x8x256_1_17_0_0 d s hh⟩
        | ⟨18, _⟩ => exact ⟨_, List.getElem_mem (l := proL P) (n := 42) (by show 42 < 80; omega), mem_pro4 (⟨1, by omega⟩ : Fin 2) (⟨18, by omega⟩ : Fin 20) (⟨0, by omega⟩ : Fin 2) _ rfl inb_S2x20x16x256_S1x1x8x256_1_18_0_0 d s hh⟩
        | ⟨19, _⟩ => exact ⟨_, List.getElem_mem (l := proL P) (n := 40) (by show 40 < 80; omega), mem_pro4 (⟨1, by omega⟩ : Fin 2) (⟨19, by omega⟩ : Fin 20) (⟨0, by omega⟩ : Fin 2) _ rfl inb_S2x20x16x256_S1x1x8x256_1_19_0_0 d s hh⟩
        | ⟨n + 20, h20⟩ => exact absurd h20 (by omega)
      | ⟨1, _⟩, hh =>
        match r with
        | ⟨0, _⟩ => exact ⟨_, List.getElem_mem (l := proL P) (n := 38) (by show 38 < 80; omega), mem_pro4 (⟨1, by omega⟩ : Fin 2) (⟨0, by omega⟩ : Fin 20) (⟨1, by omega⟩ : Fin 2) _ rfl inb_S2x20x16x256_S1x1x8x256_1_0_8_0 d s hh⟩
        | ⟨1, _⟩ => exact ⟨_, List.getElem_mem (l := proL P) (n := 36) (by show 36 < 80; omega), mem_pro4 (⟨1, by omega⟩ : Fin 2) (⟨1, by omega⟩ : Fin 20) (⟨1, by omega⟩ : Fin 2) _ rfl inb_S2x20x16x256_S1x1x8x256_1_1_8_0 d s hh⟩
        | ⟨2, _⟩ => exact ⟨_, List.getElem_mem (l := proL P) (n := 34) (by show 34 < 80; omega), mem_pro4 (⟨1, by omega⟩ : Fin 2) (⟨2, by omega⟩ : Fin 20) (⟨1, by omega⟩ : Fin 2) _ rfl inb_S2x20x16x256_S1x1x8x256_1_2_8_0 d s hh⟩
        | ⟨3, _⟩ => exact ⟨_, List.getElem_mem (l := proL P) (n := 32) (by show 32 < 80; omega), mem_pro4 (⟨1, by omega⟩ : Fin 2) (⟨3, by omega⟩ : Fin 20) (⟨1, by omega⟩ : Fin 2) _ rfl inb_S2x20x16x256_S1x1x8x256_1_3_8_0 d s hh⟩
        | ⟨4, _⟩ => exact ⟨_, List.getElem_mem (l := proL P) (n := 30) (by show 30 < 80; omega), mem_pro4 (⟨1, by omega⟩ : Fin 2) (⟨4, by omega⟩ : Fin 20) (⟨1, by omega⟩ : Fin 2) _ rfl inb_S2x20x16x256_S1x1x8x256_1_4_8_0 d s hh⟩
        | ⟨5, _⟩ => exact ⟨_, List.getElem_mem (l := proL P) (n := 28) (by show 28 < 80; omega), mem_pro4 (⟨1, by omega⟩ : Fin 2) (⟨5, by omega⟩ : Fin 20) (⟨1, by omega⟩ : Fin 2) _ rfl inb_S2x20x16x256_S1x1x8x256_1_5_8_0 d s hh⟩
        | ⟨6, _⟩ => exact ⟨_, List.getElem_mem (l := proL P) (n := 26) (by show 26 < 80; omega), mem_pro4 (⟨1, by omega⟩ : Fin 2) (⟨6, by omega⟩ : Fin 20) (⟨1, by omega⟩ : Fin 2) _ rfl inb_S2x20x16x256_S1x1x8x256_1_6_8_0 d s hh⟩
        | ⟨7, _⟩ => exact ⟨_, List.getElem_mem (l := proL P) (n := 24) (by show 24 < 80; omega), mem_pro4 (⟨1, by omega⟩ : Fin 2) (⟨7, by omega⟩ : Fin 20) (⟨1, by omega⟩ : Fin 2) _ rfl inb_S2x20x16x256_S1x1x8x256_1_7_8_0 d s hh⟩
        | ⟨8, _⟩ => exact ⟨_, List.getElem_mem (l := proL P) (n := 22) (by show 22 < 80; omega), mem_pro4 (⟨1, by omega⟩ : Fin 2) (⟨8, by omega⟩ : Fin 20) (⟨1, by omega⟩ : Fin 2) _ rfl inb_S2x20x16x256_S1x1x8x256_1_8_8_0 d s hh⟩
        | ⟨9, _⟩ => exact ⟨_, List.getElem_mem (l := proL P) (n := 20) (by show 20 < 80; omega), mem_pro4 (⟨1, by omega⟩ : Fin 2) (⟨9, by omega⟩ : Fin 20) (⟨1, by omega⟩ : Fin 2) _ rfl inb_S2x20x16x256_S1x1x8x256_1_9_8_0 d s hh⟩
        | ⟨10, _⟩ => exact ⟨_, List.getElem_mem (l := proL P) (n := 18) (by show 18 < 80; omega), mem_pro4 (⟨1, by omega⟩ : Fin 2) (⟨10, by omega⟩ : Fin 20) (⟨1, by omega⟩ : Fin 2) _ rfl inb_S2x20x16x256_S1x1x8x256_1_10_8_0 d s hh⟩
        | ⟨11, _⟩ => exact ⟨_, List.getElem_mem (l := proL P) (n := 16) (by show 16 < 80; omega), mem_pro4 (⟨1, by omega⟩ : Fin 2) (⟨11, by omega⟩ : Fin 20) (⟨1, by omega⟩ : Fin 2) _ rfl inb_S2x20x16x256_S1x1x8x256_1_11_8_0 d s hh⟩
        | ⟨12, _⟩ => exact ⟨_, List.getElem_mem (l := proL P) (n := 14) (by show 14 < 80; omega), mem_pro4 (⟨1, by omega⟩ : Fin 2) (⟨12, by omega⟩ : Fin 20) (⟨1, by omega⟩ : Fin 2) _ rfl inb_S2x20x16x256_S1x1x8x256_1_12_8_0 d s hh⟩
        | ⟨13, _⟩ => exact ⟨_, List.getElem_mem (l := proL P) (n := 12) (by show 12 < 80; omega), mem_pro4 (⟨1, by omega⟩ : Fin 2) (⟨13, by omega⟩ : Fin 20) (⟨1, by omega⟩ : Fin 2) _ rfl inb_S2x20x16x256_S1x1x8x256_1_13_8_0 d s hh⟩
        | ⟨14, _⟩ => exact ⟨_, List.getElem_mem (l := proL P) (n := 10) (by show 10 < 80; omega), mem_pro4 (⟨1, by omega⟩ : Fin 2) (⟨14, by omega⟩ : Fin 20) (⟨1, by omega⟩ : Fin 2) _ rfl inb_S2x20x16x256_S1x1x8x256_1_14_8_0 d s hh⟩
        | ⟨15, _⟩ => exact ⟨_, List.getElem_mem (l := proL P) (n := 8) (by show 8 < 80; omega), mem_pro4 (⟨1, by omega⟩ : Fin 2) (⟨15, by omega⟩ : Fin 20) (⟨1, by omega⟩ : Fin 2) _ rfl inb_S2x20x16x256_S1x1x8x256_1_15_8_0 d s hh⟩
        | ⟨16, _⟩ => exact ⟨_, List.getElem_mem (l := proL P) (n := 6) (by show 6 < 80; omega), mem_pro4 (⟨1, by omega⟩ : Fin 2) (⟨16, by omega⟩ : Fin 20) (⟨1, by omega⟩ : Fin 2) _ rfl inb_S2x20x16x256_S1x1x8x256_1_16_8_0 d s hh⟩
        | ⟨17, _⟩ => exact ⟨_, List.getElem_mem (l := proL P) (n := 4) (by show 4 < 80; omega), mem_pro4 (⟨1, by omega⟩ : Fin 2) (⟨17, by omega⟩ : Fin 20) (⟨1, by omega⟩ : Fin 2) _ rfl inb_S2x20x16x256_S1x1x8x256_1_17_8_0 d s hh⟩
        | ⟨18, _⟩ => exact ⟨_, List.getElem_mem (l := proL P) (n := 2) (by show 2 < 80; omega), mem_pro4 (⟨1, by omega⟩ : Fin 2) (⟨18, by omega⟩ : Fin 20) (⟨1, by omega⟩ : Fin 2) _ rfl inb_S2x20x16x256_S1x1x8x256_1_18_8_0 d s hh⟩
        | ⟨19, _⟩ => exact ⟨_, List.getElem_mem (l := proL P) (n := 0) (by show 0 < 80; omega), mem_pro4 (⟨1, by omega⟩ : Fin 2) (⟨19, by omega⟩ : Fin 20) (⟨1, by omega⟩ : Fin 2) _ rfl inb_S2x20x16x256_S1x1x8x256_1_19_8_0 d s hh⟩
        | ⟨n + 20, h20⟩ => exact absurd h20 (by omega)

/-- The words after the body's first part. -/
theorem words_read (c : Dev nD) (i : grid0.Coords) (arg1 : Memref sig .tc .smem S1536 .i32) (arg4 : Memref sig .tc .vmem S20x16x512 .i32) (arg8 : Memref sig .tc .vmem S2x20x16x256 .i32) (X_arg1 : TbBuf0 (F := Ideal) c arg1) (X_arg4 : BufTy.Contents (Elt Ideal) arg4.view.ty) (f : BufTy.Contents (Elt Ideal) arg8.view.ty) :
    arg8.view.read (Elt Ideal) (arg8.view.writes (Elt Ideal) f (wordsL c i arg1 arg4 X_arg1 X_arg4)) = wordG (lenD c i arg1 X_arg1) (arg4.view.read (Elt Ideal) X_arg4) :=
  proL_read _ _ arg8 f fun t r h b x => word_piece t r h c i arg1 arg4 X_arg1 X_arg4 (slices_tile t) b (inb_codes r h) x

/-- The byte words after the body's first part. -/
theorem bytes_read (arg4 : Memref sig .tc .vmem S20x16x512 .i32) (arg9 : Memref sig .tc .vmem S2x20x16x256 .i32) (X_arg4 : BufTy.Contents (Elt Ideal) arg4.view.ty) (f : BufTy.Contents (Elt Ideal) arg9.view.ty) :
    arg9.view.read (Elt Ideal) (arg9.view.writes (Elt Ideal) f (bytesL arg4 X_arg4)) = byteG (arg4.view.read (Elt Ideal) X_arg4) :=
  proL_read _ _ arg9 f fun t r h b x => byte_piece t r h arg4 X_arg4 (slices_tile t) b (inb_codes r h) x

theorem proF_read (P : Fin 2 → Fin 2 → FVec Ideal S1x8x256 .f32) (G : S2x16x256.Idx → EReal) (m : Memref sig .tc .vmem S2x16x256 .f32) (f : BufTy.Contents (Elt Ideal) m.view.ty)
    (h : ∀ (t : Fin 2) (h : Fin 2) (b : ∀ a, ![t.val, 8 * h.val, 0] a + S1x8x256.size a ≤ S2x16x256.size a) (x : S1x8x256.Idx), P t h x = G ((Rect.unit (s := S2x16x256) ![t.val, 8 * h.val, 0] S1x8x256.size b).emb x)) :
    m.view.read (Elt Ideal) (m.view.writes (Elt Ideal) f (proF P)) = G := by
  funext y
  obtain ⟨t, d, s, rfl⟩ : ∃ (t : Fin 2) (d : Fin 16) (s : Fin 256), y = ix3 t d s := ⟨y 0, y 1, y 2, eq_ix3 y⟩
  refine View.read_writes_apply_of_pieces (Val := Elt Ideal) (e := .f32) m.view f G (proF P) ?_ (ix3 t d s) ?_
  · exact List.forall_mem_cons.2 ⟨h (⟨1, by omega⟩ : Fin 2) (⟨1, by omega⟩ : Fin 2) inb_S2x16x256_S1x8x256_1_8_0, List.forall_mem_cons.2 ⟨h (⟨0, by omega⟩ : Fin 2) (⟨1, by omega⟩ : Fin 2) inb_S2x16x256_S1x8x256_0_8_0, List.forall_mem_cons.2 ⟨h (⟨1, by omega⟩ : Fin 2) (⟨0, by omega⟩ : Fin 2) inb_S2x16x256_S1x8x256_1_0_0, List.forall_mem_cons.2 ⟨h (⟨0, by omega⟩ : Fin 2) (⟨0, by omega⟩ : Fin 2) inb_S2x16x256_S1x8x256_0_0_0, fun _ h => absurd h List.not_mem_nil⟩⟩⟩⟩
  · obtain ⟨h, hh⟩ : ∃ h : Fin 2, d.val / 8 = h.val := ⟨⟨d.val / 8, by omega⟩, rfl⟩
    match t, h with
    | ⟨0, _⟩, ⟨0, _⟩ => exact ⟨_, List.getElem_mem (l := proF P) (n := 3) (by show 3 < 4; omega), mem_pro3 (⟨0, by omega⟩ : Fin 2) (⟨0, by omega⟩ : Fin 2) _ rfl inb_S2x16x256_S1x8x256_0_0_0 d s hh⟩
    | ⟨1, _⟩, ⟨0, _⟩ => exact ⟨_, List.getElem_mem (l := proF P) (n := 2) (by show 2 < 4; omega), mem_pro3 (⟨1, by omega⟩ : Fin 2) (⟨0, by omega⟩ : Fin 2) _ rfl inb_S2x16x256_S1x8x256_1_0_0 d s hh⟩
    | ⟨0, _⟩, ⟨1, _⟩ => exact ⟨_, List.getElem_mem (l := proF P) (n := 1) (by show 1 < 4; omega), mem_pro3 (⟨0, by omega⟩ : Fin 2) (⟨1, by omega⟩ : Fin 2) _ rfl inb_S2x16x256_S1x8x256_0_8_0 d s hh⟩
    | ⟨1, _⟩, ⟨1, _⟩ => exact ⟨_, List.getElem_mem (l := proF P) (n := 0) (by show 0 < 4; omega), mem_pro3 (⟨1, by omega⟩ : Fin 2) (⟨1, by omega⟩ : Fin 2) _ rfl inb_S2x16x256_S1x8x256_1_8_0 d s hh⟩

/-- The factors after the body's first part. -/
theorem facs_read (c : Dev nD) (i : grid0.Coords) (arg1 : Memref sig .tc .smem S1536 .i32) (arg3 : Memref sig .tc .vmem S16x512 .f32) (arg10 : Memref sig .tc .vmem S2x16x256 .f32) (X_arg1 : TbBuf0 (F := Ideal) c arg1) (X_arg3 : BufTy.Contents (Elt Ideal) arg3.view.ty) (f : BufTy.Contents (Elt Ideal) arg10.view.ty) :
    arg10.view.read (Elt Ideal) (arg10.view.writes (Elt Ideal) f (facL c i arg1 arg3 X_arg1 X_arg3)) = facG (lenD c i arg1 X_arg1) (arg3.view.read (Elt Ideal) X_arg3) :=
  proF_read _ _ arg10 f fun t h b x => fac_piece t h c i arg1 arg3 X_arg1 X_arg3 (slices_tile t) b (inb_scale h) x

end Cert.KernelIdeal.Hand
end
-- ==== Proof.KernelIdealDocValue.lean ====
/- What a document's sums are, of the arrays a grid step reads: a sum over its tokens. -/
module

public import proofs.«01_k».proof.Proof.KernelIdealPrologue
public import Idealize.ShloMosaic.Lib.Pointwise
public import Idealize.ShloMosaic.Lib.BitcastPair
public import Idealize.ShloMosaic.PureOps.Ideal.Laws

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic

theorem one8 : Ideal.ofBits .fp8e4m3 0x38#8 = 1 := by
  have h8 : (8 : ℝ) * ((2 : ℝ) ^ 3)⁻¹ = 1 := by
    have e : ((2 : ℝ) ^ 3) = 8 := by exact_mod_cast (by decide : (2 : ℕ) ^ 3 = 8)
    rw [e]; exact mul_inv_cancel₀ (by exact_mod_cast (by decide : (8 : ℕ) ≠ 0))
  simp [Ideal.ofBits, Ideal.e4m3fn, Ideal.ieee]
  exact_mod_cast h8

theorem zero8 : Ideal.ofBits .fp8e4m3 0x00#8 = 0 := by
  simp [Ideal.ofBits, Ideal.e4m3fn, Ideal.ieee]

theorem zero32 : Ideal.ofBits .f32 0x00000000#32 = 0 := Ideal.ofBits_zero_f32

theorem hot_bits : ∀ (c b : Fin 64), (pick (IntOp.shrsi ArithUnit.vector (BitVec.ofNat 32 c.val) 2#32) (BitVec.ofNat 32 (b.val / 4))
      (IntOp.shli ArithUnit.vector 56#32 (IntOp.shli ArithUnit.vector (BitVec.ofNat 32 c.val &&& 3#32) 3#32))).extractLsb' (8 * (b.val % 4)) 8
    = if c = b then 0x38#8 else 0x00#8 := by decide +kernel

theorem hot_none : ∀ (c b : Fin 64), (pick 4294967295#32 (BitVec.ofNat 32 (b.val / 4)) (IntOp.shli ArithUnit.vector 56#32 (IntOp.shli ArithUnit.vector (BitVec.ofNat 32 c.val &&& 3#32) 3#32))).extractLsb' (8 * (b.val % 4)) 8 = 0x00#8 := by
  decide +kernel

/-- The quarter by which each sum is scaled. -/
abbrev quarter : EReal := Ideal.ofBits .f32 0x3E800000#32

/-- A sum of one document: over its tokens that are within its length and of the bucket. -/
def fdeOf (len : BitVec 32) (p : Fin 320 → Fin 512 → EReal) (sc : Fin 512 → EReal) (co : Fin 20 → Fin 512 → BitVec 32) (r : Fin 20) (dp : Fin 16) (b : ℕ) : EReal :=
  ∑ s : Fin 512, if okAt len s.val = true ∧ (co r s).toNat = b then p ⟨r.val * 16 + dp.val, by omega⟩ s * (sc s * quarter) else 0

theorem hot_value (len : Fin 16 → BitVec 32) (co : S20x16x512.Idx → BitVec 32) (d : Fin 16) (hc : ∀ r s, (co (ix3 r d s)).toNat < 64) (k : Fin 2) (r : Fin 20) (b : ℕ) (hb : b < 64) (s : Fin 256) (t : Fin 512) (ht : t.val = 256 * k.val + s.val) :
    hotAt (wordsOf (wordG len co) k d) (wordsOf (byteG co) k d) r b s = if okAt (len d) t.val = true ∧ (co (ix3 r d t)).toNat = b then 1 else 0 := by
  have htt : 256 * k.val + s.val < 512 := by omega
  obtain rfl : t = ⟨256 * k.val + s.val, htt⟩ := Fin.ext ht
  generalize hC : co (ix3 r d ⟨256 * k.val + s.val, by omega⟩) = C
  have h64 : C.toNat < 64 := by rw [← hC]; exact hc r _
  have hofN : C = BitVec.ofNat 32 C.toNat := by simp
  have e : hotAt (wordsOf (wordG len co) k d) (wordsOf (byteG co) k d) r b s
      = Ideal.ofBits .fp8e4m3 ((pick (if okAt (len d) (256 * k.val + s.val) then IntOp.shrsi ArithUnit.vector C 2#32 else 4294967295#32) (BitVec.ofNat 32 (b / 4)) (IntOp.shli ArithUnit.vector 56#32 (IntOp.shli ArithUnit.vector (C &&& 3#32) 3#32))).extractLsb' (8 * (b % 4)) 8) := by
    rw [← hC]; rfl
  rw [e]
  by_cases ho : okAt (len d) (256 * k.val + s.val) = true
  · rw [if_pos ho]
    have hb' := hot_bits ⟨C.toNat, h64⟩ ⟨b, hb⟩
    simp only [] at hb'
    rw [← hofN] at hb'
    rw [hb']
    by_cases hq : C.toNat = b
    · rw [if_pos (Fin.ext hq), if_pos ⟨ho, hq⟩, one8]
    · rw [if_neg (fun h => hq (congrArg Fin.val h)), if_neg (fun h => hq h.2), zero8]
  · rw [if_neg ho, if_neg (fun h => ho h.1)]
    have hb' := hot_none ⟨C.toNat, h64⟩ ⟨b, hb⟩
    simp only [] at hb'
    rw [← hofN] at hb'
    rw [hb', zero8]

/-- What one token adds to a sum of its document. -/
def tokV (len : Fin 16 → BitVec 32) (X : S16x96x512.Idx → EReal) (pr : S320x96.Idx → EReal) (sc : S16x512.Idx → EReal) (co : S20x16x512.Idx → BitVec 32) (d : Fin 16) (u : Fin 10) (dp : Fin 16) (lane : Fin 128) (t : Fin 512) : EReal :=
  if okAt (len d) t.val = true ∧ (co (ix3 ⟨2 * u.val + lane.val / 64, by omega⟩ d t)).toNat = lane.val % 64 then (∑ m : Fin 96, pr (ix2 ⟨(2 * u.val + lane.val / 64) * 16 + dp.val, by omega⟩ m) * X (ix3 d m t)) * (sc (ix2 d t) * quarter) else 0

theorem tile_value (len : Fin 16 → BitVec 32) (X : S16x96x512.Idx → EReal) (pr : S320x96.Idx → EReal) (sc : S16x512.Idx → EReal) (co : S20x16x512.Idx → BitVec 32) (d : Fin 16) (hc : ∀ r s, (co (ix3 r d s)).toNat < 64) (k : Fin 2) (u : Fin 10) (dp : Fin 16) (lane : Fin 128) :
    tileSum (projAt X pr (facG len sc) k d) (wordsOf (wordG len co) k d) (wordsOf (byteG co) k d) u dp lane
      = ∑ s : Fin 256, tokV len X pr sc co d u dp lane ⟨256 * k.val + s.val, by omega⟩ := by
  unfold tileSum
  refine Finset.sum_congr rfl fun s _ => ?_
  rw [hot_value len co d hc k _ (lane.val % 64) (by omega) s ⟨256 * k.val + s.val, by omega⟩ rfl]
  unfold tokV
  simp only []
  split
  · rename_i h
    rw [mul_one]
    show (∑ m : Fin 96, pr (ix2 ⟨(2 * u.val + lane.val / 64) * 16 + dp.val, by omega⟩ m) * X (ix3 d m ⟨256 * k.val + s.val, by omega⟩)) * (if okAt (len d) (256 * k.val + s.val) then sc (ix2 d ⟨256 * k.val + s.val, by omega⟩) * Ideal.ofBits .f32 0x3E800000#32 else Ideal.ofBits .f32 0x00000000#32) = _
    rw [if_pos h.1]
  · exact mul_zero _

theorem okAt_false (l : BitVec 32) (s : ℕ) (hs : s < 512) (h : l.toInt ≤ s) : okAt l s = false := by
  unfold okAt
  rw [BitVec.slt_eq_decide, decide_eq_false_iff_not]
  have : (BitVec.ofNat 32 s).toInt = s := by
    have hn : (BitVec.ofNat 32 s).toNat = s := by rw [BitVec.toNat_ofNat]; exact Nat.mod_eq_of_lt (by omega)
    rw [BitVec.toInt_eq_toNat_of_lt (by rw [hn]; omega), hn]
  rw [this]; omega

theorem docSum_value (len : Fin 16 → BitVec 32) (X : S16x96x512.Idx → EReal) (pr : S320x96.Idx → EReal) (sc : S16x512.Idx → EReal) (co : S20x16x512.Idx → BitVec 32) (d : Fin 16) (hc : ∀ r s, (co (ix3 r d s)).toNat < 64) (u : Fin 10) (dp : Fin 16) (lane : Fin 128) :
    docSum X pr (facG len sc) (wordG len co) (byteG co) (len d) d u dp lane
      = fdeOf (len d) (fun j t => ∑ m : Fin 96, pr (ix2 j m) * X (ix3 d m t)) (fun t => sc (ix2 d t)) (fun r t => co (ix3 r d t)) ⟨2 * u.val + lane.val / 64, by omega⟩ dp (lane.val % 64) := by
  unfold docSum fdeOf
  rw [Fin.sum_univ_two_halves 256 256 rfl]
  rw [tile_value len X pr sc co d hc 1, tile_value len X pr sc co d hc 0]
  have e0 : (∑ s : Fin 256, tokV len X pr sc co d u dp lane ⟨256 * (0 : Fin 2).val + s.val, by have := s.isLt; show 256 * 0 + s.val < 512; omega⟩) = ∑ s : Fin 256, tokV len X pr sc co d u dp lane ⟨s.val, by omega⟩ :=
    Finset.sum_congr rfl fun s _ => congrArg (tokV len X pr sc co d u dp lane) (Fin.ext (by show 256 * 0 + s.val = s.val; omega))
  have e1 : (∑ s : Fin 256, tokV len X pr sc co d u dp lane ⟨256 * (1 : Fin 2).val + s.val, by have := s.isLt; show 256 * 1 + s.val < 512; omega⟩) = ∑ s : Fin 256, tokV len X pr sc co d u dp lane ⟨256 + s.val, by omega⟩ :=
    Finset.sum_congr rfl fun s _ => congrArg (tokV len X pr sc co d u dp lane) (Fin.ext (by show 256 * 1 + s.val = 256 + s.val; omega))
  rw [e0, e1]
  split
  · exact add_comm _ _
  · rename_i ht
    have hl : (len d).toInt ≤ 256 := by
      by_contra h
      exact ht (by unfold tiles; rw [if_neg h])
    refine (add_zero _).symm.trans (congrArg₂ (· + ·) rfl (Eq.symm ?_))
    refine Finset.sum_eq_zero fun s _ => ?_
    have := okAt_false (len d) (256 + s.val) (by omega) (by omega)
    exact if_neg fun h => absurd (this.symm.trans h.1) (by decide)

end Cert.KernelIdeal.Hand
end
-- ==== Proof.KernelIdealStep.lean ====
module

public import proofs.«01_k».proof.Proof.KernelIdealRelayout
public import proofs.«01_k».proof.Proof.KernelIdealDocValue
public import Idealize.ShloMosaic.Lib.Pointwise
public import Idealize.ShloMosaic.Lib.BitcastPair
public import Idealize.ShloMosaic.PureOps.Ideal.Laws

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic

/-- The result's block after the documents' loop and the relayout. -/
theorem block_read (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (arg0 : BitVec 32) (v722 : IVec S8x512 1) (v1269 : IVec S8x512 32) (v1271 : IVec S8x512 32) (c_m1_i32_993 : BitVec 32) (c0 : BitVec 32) (X_arg1 : TbBuf0 (F := Ideal) c arg1) (hL : ∀ k, (lenAt (F := Ideal) c i arg1 X_arg1 k).toInt ≤ 512) (X_arg2 : BufTy.Contents (Elt Ideal) arg2.view.ty) (X_arg5 : BufTy.Contents (Elt Ideal) arg5.view.ty) (X_arg8 : BufTy.Contents (Elt Ideal) arg8.view.ty) (X_arg9 : BufTy.Contents (Elt Ideal) arg9.view.ty) (X_arg10 : BufTy.Contents (Elt Ideal) arg10.view.ty) (f : BufTy.Contents (Elt Ideal) arg6.view.ty) (g : BufTy.Contents (Elt Ideal) arg11.view.ty × BufTy.Contents (Elt Ideal) arg12.view.ty) (hp : ∀ kk td r s, (projAt (arg2.view.read (Elt Ideal) X_arg2) (arg5.view.read (Elt Ideal) X_arg5) (arg10.view.read (Elt Ideal) X_arg10) kk td) (ix2 r s) ≠ ⊥ ∧ (projAt (arg2.view.read (Elt Ideal) X_arg2) (arg5.view.read (Elt Ideal) X_arg5) (arg10.view.read (Elt Ideal) X_arg10) kk td) (ix2 r s) ≠ ⊤) (q : Fin 16) (col : Fin 20480) :
    arg6.view.read (Elt Ideal) (arg6.view.writes (Elt Ideal) f (pb_k0_t4 (F := Ideal) 𝒱 c bd i arg1 harg1 arg2 harg2 arg3 harg3 arg4 harg4 arg5 harg5 arg6 harg6 arg7 harg7 arg8 harg8 arg9 harg9 arg10 harg10 arg11 harg11 arg12 harg12 laneI c0 (st1 (F := Ideal) 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 (iota .tc S8x256 32 [0] iota_S8x256_d0_w32) (iota .tc S16x128 32 [1] iota_S16x128_d1_w32) X_arg1 hL X_arg2 X_arg5 X_arg8 X_arg9 X_arg10 g k0_t1_loop.trips).1 k0_t4_loop.trips)) (ix2 q col)
      = docSum (arg2.view.read (Elt Ideal) X_arg2) (arg5.view.read (Elt Ideal) X_arg5) (arg10.view.read (Elt Ideal) X_arg10) (arg8.view.read (Elt Ideal) X_arg8) (arg9.view.read (Elt Ideal) X_arg9) (lenD c i arg1 X_arg1 q) q ⟨col.val / 2048, by omega⟩ ⟨col.val % 16, by omega⟩ ⟨col.val / 16 % 128, by omega⟩ := by
  rw [relayout_read]
  show arg11.view.read (Elt Ideal) _ (ix4 q ⟨col.val / 2048, _⟩ ⟨col.val % 16, _⟩ ⟨col.val / 16 % 128, _⟩) = _
  refine (st1_sums 𝒱 c bd i arg1 harg1 arg2 harg2 arg3 harg3 arg4 harg4 arg5 harg5 arg6 harg6 arg7 harg7 arg8 harg8 arg9 harg9 arg10 harg10 arg11 harg11 arg12 harg12 arg0 v722 v1269 v1271 c_m1_i32_993 X_arg1 hL X_arg2 X_arg5 X_arg8 X_arg9 X_arg10 g hp q _ _ _ k0_t1_loop.trips (le_of_eq t1_trips)).trans ?_
  rw [if_pos (lt_of_lt_of_eq q.isLt t1_trips.symm)]

theorem keep_value (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (X_arg1 : TbBuf0 (F := Ideal) c arg1) (hL : ∀ k, (lenAt (F := Ideal) c i arg1 X_arg1 k).toInt ≤ 512) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (hc : ¬ k0_cond1 i = 1#1) (f_arg6 : BufTy.Contents (Elt Ideal) arg6.view.ty) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (hp : ∀ kk td r s, (projAt (arg2.view.read (Elt Ideal) X_arg2) (arg5.view.read (Elt Ideal) X_arg5) (facG (lenD c i arg1 X_arg1) (arg3.view.read (Elt Ideal) X_arg3)) kk td) (ix2 r s) ≠ ⊥ ∧ (projAt (arg2.view.read (Elt Ideal) X_arg2) (arg5.view.read (Elt Ideal) X_arg5) (facG (lenD c i arg1 X_arg1) (arg3.view.read (Elt Ideal) X_arg3)) kk td) (ix2 r s) ≠ ⊤) (q : Fin 16) (col : Fin 20480) :
    arg6.view.read (Elt Ideal) ((stepKeep (F := Ideal) 𝒱 c bd i arg1 harg1 arg2 harg2 arg3 harg3 arg4 harg4 arg5 harg5 arg6 harg6 arg7 harg7 arg8 harg8 arg9 harg9 arg10 harg10 arg11 harg11 arg12 harg12 X_arg1 hL X_arg2 X_arg3 X_arg4 X_arg5 hc).1 f_arg6 f_arg7 f_arg8 f_arg9 f_arg10 f_arg11 f_arg12) (ix2 q col)
      = docSum (arg2.view.read (Elt Ideal) X_arg2) (arg5.view.read (Elt Ideal) X_arg5) (facG (lenD c i arg1 X_arg1) (arg3.view.read (Elt Ideal) X_arg3)) (wordG (lenD c i arg1 X_arg1) (arg4.view.read (Elt Ideal) X_arg4)) (byteG (arg4.view.read (Elt Ideal) X_arg4)) (lenD c i arg1 X_arg1 q) q ⟨col.val / 2048, by omega⟩ ⟨col.val % 16, by omega⟩ ⟨col.val / 16 % 128, by omega⟩ := by
  have h8 : arg8.view.read (Elt Ideal) (arg8.view.writes (Elt Ideal) arg8.view.junk (stepKeep.sl.H8_80 (F := Ideal) c i arg1 arg4 X_arg1 X_arg4)) = wordG (lenD c i arg1 X_arg1) (arg4.view.read (Elt Ideal) X_arg4) := by
    rw [keep_words c i arg1 arg3 arg4 X_arg1 X_arg3 X_arg4]; exact words_read c i arg1 arg4 arg8 X_arg1 X_arg4 _
  have h9 : arg9.view.read (Elt Ideal) (arg9.view.writes (Elt Ideal) arg9.view.junk (stepKeep.sl.H9_80 (F := Ideal) arg4 X_arg4)) = byteG (arg4.view.read (Elt Ideal) X_arg4) := by
    rw [keep_bytes c i arg1 arg3 arg4 X_arg1 X_arg3 X_arg4]; exact bytes_read arg4 arg9 X_arg4 _
  have h10 : arg10.view.read (Elt Ideal) (arg10.view.writes (Elt Ideal) arg10.view.junk (stepKeep.sl.H10_4 (F := Ideal) c i arg1 arg3 X_arg1 X_arg3)) = facG (lenD c i arg1 X_arg1) (arg3.view.read (Elt Ideal) X_arg3) := by
    rw [keep_facs c i arg1 arg3 arg4 X_arg1 X_arg3 X_arg4]; exact facs_read c i arg1 arg3 arg10 X_arg1 X_arg3 _
  unfold stepKeep
  refine (block_read 𝒱 c bd i arg1 harg1 arg2 harg2 arg3 harg3 arg4 harg4 arg5 harg5 arg6 harg6 arg7 harg7 arg8 harg8 arg9 harg9 arg10 harg10 arg11 harg11 arg12 harg12 _ _ _ _ _ _ X_arg1 hL X_arg2 X_arg5 (arg8.view.writes (Elt Ideal) arg8.view.junk (stepKeep.sl.H8_80 (F := Ideal) c i arg1 arg4 X_arg1 X_arg4)) (arg9.view.writes (Elt Ideal) arg9.view.junk (stepKeep.sl.H9_80 (F := Ideal) arg4 X_arg4)) (arg10.view.writes (Elt Ideal) arg10.view.junk (stepKeep.sl.H10_4 (F := Ideal) c i arg1 arg3 X_arg1 X_arg3)) f_arg6 (f_arg11, f_arg12) (by rw [h10]; exact hp) q col).trans ?_
  rw [h8, h9, h10]

theorem flush_value (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (X_arg1 : TbBuf0 (F := Ideal) c arg1) (hL : ∀ k, (lenAt (F := Ideal) c i arg1 X_arg1 k).toInt ≤ 512) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (hc : k0_cond1 i = 1#1) (f_arg6 : BufTy.Contents (Elt Ideal) arg6.view.ty) (f_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (hp : ∀ kk td r s, (projAt (arg2.view.read (Elt Ideal) X_arg2) (arg5.view.read (Elt Ideal) X_arg5) (facG (lenD c i arg1 X_arg1) (arg3.view.read (Elt Ideal) X_arg3)) kk td) (ix2 r s) ≠ ⊥ ∧ (projAt (arg2.view.read (Elt Ideal) X_arg2) (arg5.view.read (Elt Ideal) X_arg5) (facG (lenD c i arg1 X_arg1) (arg3.view.read (Elt Ideal) X_arg3)) kk td) (ix2 r s) ≠ ⊤) (q : Fin 16) (col : Fin 20480) :
    arg6.view.read (Elt Ideal) ((stepFlush (F := Ideal) 𝒱 c bd i arg1 harg1 arg2 harg2 arg3 harg3 arg4 harg4 arg5 harg5 arg6 harg6 arg7 harg7 arg8 harg8 arg9 harg9 arg10 harg10 arg11 harg11 arg12 harg12 X_arg1 hL X_arg2 X_arg3 X_arg4 X_arg5 hc).1 f_arg6 f_arg7 f_arg8 f_arg9 f_arg10 f_arg11 f_arg12) (ix2 q col)
      = docSum (arg2.view.read (Elt Ideal) X_arg2) (arg5.view.read (Elt Ideal) X_arg5) (facG (lenD c i arg1 X_arg1) (arg3.view.read (Elt Ideal) X_arg3)) (wordG (lenD c i arg1 X_arg1) (arg4.view.read (Elt Ideal) X_arg4)) (byteG (arg4.view.read (Elt Ideal) X_arg4)) (lenD c i arg1 X_arg1 q) q ⟨col.val / 2048, by omega⟩ ⟨col.val % 16, by omega⟩ ⟨col.val / 16 % 128, by omega⟩ := by
  have h8 : arg8.view.read (Elt Ideal) (arg8.view.writes (Elt Ideal) arg8.view.junk (stepFlush.sl.H8_80 (F := Ideal) c i arg1 arg4 X_arg1 X_arg4)) = wordG (lenD c i arg1 X_arg1) (arg4.view.read (Elt Ideal) X_arg4) := by
    rw [flush_words c i arg1 arg3 arg4 X_arg1 X_arg3 X_arg4]; exact words_read c i arg1 arg4 arg8 X_arg1 X_arg4 _
  have h9 : arg9.view.read (Elt Ideal) (arg9.view.writes (Elt Ideal) arg9.view.junk (stepFlush.sl.H9_80 (F := Ideal) arg4 X_arg4)) = byteG (arg4.view.read (Elt Ideal) X_arg4) := by
    rw [flush_bytes c i arg1 arg3 arg4 X_arg1 X_arg3 X_arg4]; exact bytes_read arg4 arg9 X_arg4 _
  have h10 : arg10.view.read (Elt Ideal) (arg10.view.writes (Elt Ideal) arg10.view.junk (stepFlush.sl.H10_4 (F := Ideal) c i arg1 arg3 X_arg1 X_arg3)) = facG (lenD c i arg1 X_arg1) (arg3.view.read (Elt Ideal) X_arg3) := by
    rw [flush_facs c i arg1 arg3 arg4 X_arg1 X_arg3 X_arg4]; exact facs_read c i arg1 arg3 arg10 X_arg1 X_arg3 _
  unfold stepFlush
  refine (block_read 𝒱 c bd i arg1 harg1 arg2 harg2 arg3 harg3 arg4 harg4 arg5 harg5 arg6 harg6 arg7 harg7 arg8 harg8 arg9 harg9 arg10 harg10 arg11 harg11 arg12 harg12 _ _ _ _ _ _ X_arg1 hL X_arg2 X_arg5 (arg8.view.writes (Elt Ideal) arg8.view.junk (stepFlush.sl.H8_80 (F := Ideal) c i arg1 arg4 X_arg1 X_arg4)) (arg9.view.writes (Elt Ideal) arg9.view.junk (stepFlush.sl.H9_80 (F := Ideal) arg4 X_arg4)) (arg10.view.writes (Elt Ideal) arg10.view.junk (stepFlush.sl.H10_4 (F := Ideal) c i arg1 arg3 X_arg1 X_arg3)) f_arg6 (f_arg11, f_arg12) (by rw [h10]; exact hp) q col).trans ?_
  rw [h8, h9, h10]

end Cert.KernelIdeal.Hand
end
-- ==== Proof.KernelIdealBlocks.lean ====
/- Which rows of the arrays the blocks of a grid step hold, and the table of lengths. -/
module

public import proofs.«01_k».proof.Proof.KernelIdealStep
public import proofs.«01_k».proof.Proof.KernelIdealWeak
public import Idealize.ShloMosaic.Lib.Routing.OpsSet
public import Idealize.ShloMosaic.Lib.Routing.OpsPair
public import Idealize.ShloMosaic.Lib.Pipeline.ClipFacts
public import Idealize.ShloMosaic.Lib.Pipeline.Covers
public import Idealize.ShloMosaic.Lib.Pointwise

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat RDat)

/-! ## Where the blocks of the windows lie -/

theorem ix_0 : ∀ t : Fin grid0.N, cc0_transform_0 (grid0.coords t) = ![t.val, 0, 0] := by decide +kernel
theorem ix_1 : ∀ t : Fin grid0.N, cc0_transform_1 (grid0.coords t) = ![t.val, 0] := by decide +kernel
theorem ix_2 : ∀ t : Fin grid0.N, cc0_transform_2 (grid0.coords t) = ![0, t.val, 0] := by decide +kernel
theorem ix_4 : ∀ t : Fin grid0.N, cc0_transform_4 (grid0.coords t) = ![t.val, 0] := by decide +kernel
theorem off_len : ∀ (t : Fin grid0.N) (k : Fin k0_t1_loop.trips), k0_off2 (grid0.coords t) k 0 = 16 * t.val + k.val := by decide +kernel
theorem points : grid0.N = 94 := by decide +kernel

/-- A cut moves exactly the coordinates whose place is inside the array. -/
theorem mem_clip (ix k d j : ℕ) (hj : j < k) (h : ix * k + j < d) : (Pipeline.Clip.of ix k d).mem j = true := by
  unfold Pipeline.Clip.of
  split
  · rfl
  · show decide (j < _) = true
    rw [decide_eq_true_iff]; omega

theorem lt_of_mem_clip (ix k d j : ℕ) (hj : j < (Pipeline.Clip.of ix k d).extent k) : ix * k + j < d := by
  unfold Pipeline.Clip.of at hj
  split at hj
  · next h => rw [Nat.succ_mul] at h; change j < k at hj; omega
  · change j < d - ix * k at hj; omega

variable (m : (ℓ : Loc nD τ sig) → Buf (Elt Ideal) ℓ)

/-- The arrays the grid steps read. -/
abbrev xT (c : Dev nD) : S1500x96x512.Idx → EReal := V m c main_v2
abbrev scT (c : Dev nD) : S1500x512.Idx → EReal := V m c main_arg1
abbrev coT (c : Dev nD) : S20x1500x512.Idx → BitVec 32 := V m c main_v3
abbrev prT (c : Dev nD) : S320x96.Idx → EReal := V m c main_v5

theorem row_0 (hO : Ok m) (c : Dev nD) (t : Fin (cfgM m hO).N) (d) (q : Fin 16) (k : Fin 96) (s : Fin 512) (h : 16 * t.val + q.val < 1500) :
    ((cfgM m hO).win 0).fill ((cfgM m hO).grid.coords t) d (iblk m hO c 0 t) (ix3 q k s) = xT m c (ix3 ⟨16 * t.val + q.val, h⟩ k s) := by
  have e := ix_0 t
  have hm : ((cfgM m hO).win 0).moved ((cfgM m hO).grid.coords t) (ix3 q k s) = true := by
    refine (Pipeline.allAxes_eq_true_iff ..).2 ?_
    intro a
    refine mem_clip _ _ _ _ (ix3 q k s a).isLt ?_
    show cc0_transform_0 (grid0.coords t) a * S16x96x512.size a + (ix3 q k s a).val < S1500x96x512.size a
    rw [e]
    match a with
    | ⟨0, _⟩ => show t.val * 16 + q.val < 1500; omega
    | ⟨1, _⟩ => show 0 * 96 + k.val < 96; omega
    | ⟨2, _⟩ => show 0 * 512 + s.val < 512; omega
  unfold Pipeline.Window.fill
  rw [dif_pos hm]
  unfold iblk
  refine congrArg (V m c main_v2) (funext fun a => Fin.ext ?_)
  show cc0_transform_0 (grid0.coords t) a * S16x96x512.size a + 1 * (ix3 q k s a).val = (ix3 (⟨16 * t.val + q.val, h⟩ : Fin 1500) k s a).val
  rw [e]
  match a with
  | ⟨0, _⟩ => show t.val * 16 + 1 * q.val = 16 * t.val + q.val; omega
  | ⟨1, _⟩ => show 0 * 96 + 1 * k.val = k.val; omega
  | ⟨2, _⟩ => show 0 * 512 + 1 * s.val = s.val; omega

theorem row_1 (hO : Ok m) (c : Dev nD) (t : Fin (cfgM m hO).N) (d) (q : Fin 16) (s : Fin 512) (h : 16 * t.val + q.val < 1500) :
    ((cfgM m hO).win 1).fill ((cfgM m hO).grid.coords t) d (iblk m hO c 1 t) (ix2 q s) = scT m c (ix2 ⟨16 * t.val + q.val, h⟩ s) := by
  have e := ix_1 t
  have hm : ((cfgM m hO).win 1).moved ((cfgM m hO).grid.coords t) (ix2 q s) = true := by
    refine (Pipeline.allAxes_eq_true_iff ..).2 ?_
    intro a
    refine mem_clip _ _ _ _ (ix2 q s a).isLt ?_
    show cc0_transform_1 (grid0.coords t) a * S16x512.size a + (ix2 q s a).val < S1500x512.size a
    rw [e]
    match a with
    | ⟨0, _⟩ => show t.val * 16 + q.val < 1500; omega
    | ⟨1, _⟩ => show 0 * 512 + s.val < 512; omega
  unfold Pipeline.Window.fill
  rw [dif_pos hm]
  unfold iblk
  refine congrArg (V m c main_arg1) (funext fun a => Fin.ext ?_)
  show cc0_transform_1 (grid0.coords t) a * S16x512.size a + 1 * (ix2 q s a).val = (ix2 (⟨16 * t.val + q.val, h⟩ : Fin 1500) s a).val
  rw [e]
  match a with
  | ⟨0, _⟩ => show t.val * 16 + 1 * q.val = 16 * t.val + q.val; omega
  | ⟨1, _⟩ => show 0 * 512 + 1 * s.val = s.val; omega

theorem row_2 (hO : Ok m) (c : Dev nD) (t : Fin (cfgM m hO).N) (d) (r : Fin 20) (q : Fin 16) (s : Fin 512) (h : 16 * t.val + q.val < 1500) :
    ((cfgM m hO).win 2).fill ((cfgM m hO).grid.coords t) d (iblk m hO c 2 t) (ix3 r q s) = coT m c (ix3 r ⟨16 * t.val + q.val, h⟩ s) := by
  have e := ix_2 t
  have hm : ((cfgM m hO).win 2).moved ((cfgM m hO).grid.coords t) (ix3 r q s) = true := by
    refine (Pipeline.allAxes_eq_true_iff ..).2 ?_
    intro a
    refine mem_clip _ _ _ _ (ix3 r q s a).isLt ?_
    show cc0_transform_2 (grid0.coords t) a * S20x16x512.size a + (ix3 r q s a).val < S20x1500x512.size a
    rw [e]
    match a with
    | ⟨0, _⟩ => show 0 * 20 + r.val < 20; omega
    | ⟨1, _⟩ => show t.val * 16 + q.val < 1500; omega
    | ⟨2, _⟩ => show 0 * 512 + s.val < 512; omega
  unfold Pipeline.Window.fill
  rw [dif_pos hm]
  unfold iblk
  refine congrArg (V m c main_v3) (funext fun a => Fin.ext ?_)
  show cc0_transform_2 (grid0.coords t) a * S20x16x512.size a + 1 * (ix3 r q s a).val = (ix3 r (⟨16 * t.val + q.val, h⟩ : Fin 1500) s a).val
  rw [e]
  match a with
  | ⟨0, _⟩ => show 0 * 20 + 1 * r.val = r.val; omega
  | ⟨1, _⟩ => show t.val * 16 + 1 * q.val = 16 * t.val + q.val; omega
  | ⟨2, _⟩ => show 0 * 512 + 1 * s.val = s.val; omega

theorem block_3 (hO : Ok m) (c : Dev nD) (t : Fin (cfgM m hO).N) (j : Fin 320) (k : Fin 96) : iblk m hO c 3 t (ix2 j k) = prT m c (ix2 j k) := by
  unfold iblk
  refine congrArg (V m c main_v5) (funext fun a => Fin.ext ?_)
  match a with
  | ⟨0, _⟩ => show 0 * 320 + 1 * j.val = j.val; omega
  | ⟨1, _⟩ => show 0 * 96 + 1 * k.val = k.val; omega

/-! ## The table of lengths -/

/-- Document `j`'s length, zero past the last document. -/
def lenJ (j : ℕ) : BitVec 32 := if h : j < 1500 then (m (((0 : Dev nD) : Thread nD τ).loc main_arg2) : S1500.Idx → BitVec 32) (ix1 ⟨j, h⟩) else 0#32

theorem lands (k : S1500.Idx) (e : Fin 1536) :
    scatter_S1536_S1_S1500_0_n_0_0.resultIdx? k (broadcastInDim S1 ![] bcast_S_S1 (constantI S_ 32 0#32)) = some (ix1 e) ↔ (k 0).val = e.val := by
  refine (Routing.resultIdx?_ix1 (N := 1536) _ k _ e).trans ?_
  have h0 : scatter_S1536_S1_S1500_0_n_0_0.start k (broadcastInDim S1 ![] bcast_S_S1 (constantI S_ 32 0#32)) 0 = 0 := by rfl
  have h1 : scatter_S1536_S1_S1500_0_n_0_0.window k 0 = (k 0).val := by rfl
  rw [h0, h1]
  omega

theorem tbl_val (j : Fin 1536) : (tbl m 0 : S1536.Idx → BitVec 32) (ix1 j) = lenJ m j.val := by
  rw [tbl_eq]
  unfold lenJ
  split
  · next h =>
    refine Routing.scatter_set_hit _ _ _ _ (ix1 j) _ (fun k hk => ?_) (ix1 ⟨j.val, h⟩) ((lands _ _).2 rfl)
    have := (lands _ _).1 hk
    congr 1
    rw [eq_ix1 k]
    exact congrArg ix1 (Fin.ext this)
  · next h =>
    rw [Routing.scatter_set_miss _ _ _ _ (ix1 j) (fun k hk => h (by have := (lands _ _).1 hk; have hk := (k 0).isLt; change (k 0).val < 1500 at hk; omega))]
    rfl

theorem len_val (c : Dev nD) (t : Fin grid0.N) (q : Fin 16) : lenD c (grid0.coords t) tbM0_0 (tbl m 0) q = lenJ m (16 * t.val + q.val) := by
  have hb : 16 * t.val + q.val < 1536 := by have h1 := t.isLt; have h2 := points; omega
  refine Eq.trans ?_ (tbl_val m ⟨16 * t.val + q.val, hb⟩)
  unfold lenD
  refine congrArg (tbl m 0 : S1536.Idx → BitVec 32) (funext fun a => Fin.ext ?_)
  match a with
  | ⟨0, _⟩ => show k0_off2 (grid0.coords t) (Fin.cast t1_trips.symm q) 0 + 1 * 0 = 16 * t.val + q.val; rw [off_len]; rfl

end Cert.KernelIdeal.Hand

end
-- ==== Proof.KernelIdealStepSums.lean ====
/- One grid step of `KernelIdeal` as a triple that says what it leaves of the first result. -/
module

public import proofs.«01_k».proof.Proof.KernelIdealStep
public import proofs.«01_k».proof.Proof.KernelIdealBlocks
public import Idealize.ShloMosaic.Lib.Routing.OpsSet
public import Idealize.ShloMosaic.Lib.Routing.OpsPair
public import Idealize.ShloMosaic.Lib.Pipeline.ClipFacts
public import Idealize.ShloMosaic.Lib.Pipeline.Covers
public import Idealize.ShloMosaic.Lib.Pointwise

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationLoose)

variable {F : FTy → Type} [FloatOps F]

/-- The resource algebra of the run: the pipeline library's. -/
local notation "𝕄" => MT nD τ sig Unit (Elt F) ℕ (UR sig nD τ) ℕ

/-- One grid step's resources: the blocks read at given contents, the first result's block at contents of which `P` holds, the rest at whatever it holds. -/
abbrev Held (c : Dev nD) (arg1 : Memref sig .tc .smem S1536 .i32) (arg2 : Memref sig .tc .vmem S16x96x512 .fp8e4m3) (arg3 : Memref sig .tc .vmem S16x512 .f32) (arg4 : Memref sig .tc .vmem S20x16x512 .i32) (arg5 : Memref sig .tc .vmem S320x96 .fp8e4m3) (arg6 : Memref sig .tc .vmem S16x20480 .bf16) (arg7 : Memref sig .tc .vmem S20x64x128 .i32) (arg8 : Memref sig .tc .vmem S2x20x16x256 .i32) (arg9 : Memref sig .tc .vmem S2x20x16x256 .i32) (arg10 : Memref sig .tc .vmem S2x16x256 .f32) (arg11 : Memref sig .tc .vmem S16x10x16x128 .f32) (arg12 : Memref sig .tc .vmem S128x1280 .f32) (X_arg1 : TbBuf0 (F := F) c arg1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (P : (S16x20480.Idx → Elt F .bf16) → Prop) : sProp 𝕄 :=
  iprop((tbPt0 (F := F) c arg1 X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (∃ f : BufTy.Contents (Elt F) arg6.view.ty, ⌜P (arg6.view.read (Elt F) f)⌝ ∗ (arg6.view.loc (c : Thread nD τ) ↦[arg6.view.set]{fullShare} f)) ∗ (∃ f : BufTy.Contents (Elt F) arg7.view.ty, arg7.view.loc (c : Thread nD τ) ↦[arg7.view.set]{fullShare} f) ∗ (∃ f : BufTy.Contents (Elt F) arg8.view.ty, arg8.view.loc (c : Thread nD τ) ↦[arg8.view.set]{fullShare} f) ∗ (∃ f : BufTy.Contents (Elt F) arg9.view.ty, arg9.view.loc (c : Thread nD τ) ↦[arg9.view.set]{fullShare} f) ∗ (∃ f : BufTy.Contents (Elt F) arg10.view.ty, arg10.view.loc (c : Thread nD τ) ↦[arg10.view.set]{fullShare} f) ∗ (∃ f : BufTy.Contents (Elt F) arg11.view.ty, arg11.view.loc (c : Thread nD τ) ↦[arg11.view.set]{fullShare} f) ∗ (∃ f : BufTy.Contents (Elt F) arg12.view.ty, arg12.view.loc (c : Thread nD τ) ↦[arg12.view.set]{fullShare} f))

/-- The body on any grid step: the blocks read are left as found, the first result's block holds the documents' sums. -/
theorem step_sums (𝒱 : Variants) (c : Dev nD) (bd : Option 𝒱.V) (i : grid0.Coords) (arg1 : Memref sig .tc .smem S1536 .i32) (harg1 : arg1.IsWhole) (arg2 : Memref sig .tc .vmem S16x96x512 .fp8e4m3) (harg2 : arg2.IsWhole) (arg3 : Memref sig .tc .vmem S16x512 .f32) (harg3 : arg3.IsWhole) (arg4 : Memref sig .tc .vmem S20x16x512 .i32) (harg4 : arg4.IsWhole) (arg5 : Memref sig .tc .vmem S320x96 .fp8e4m3) (harg5 : arg5.IsWhole) (arg6 : Memref sig .tc .vmem S16x20480 .bf16) (harg6 : arg6.IsWhole) (arg7 : Memref sig .tc .vmem S20x64x128 .i32) (harg7 : arg7.IsWhole) (arg8 : Memref sig .tc .vmem S2x20x16x256 .i32) (harg8 : arg8.IsWhole) (arg9 : Memref sig .tc .vmem S2x20x16x256 .i32) (harg9 : arg9.IsWhole) (arg10 : Memref sig .tc .vmem S2x16x256 .f32) (harg10 : arg10.IsWhole) (arg11 : Memref sig .tc .vmem S16x10x16x128 .f32) (harg11 : arg11.IsWhole) (arg12 : Memref sig .tc .vmem S128x1280 .f32) (harg12 : arg12.IsWhole) (X_arg1 : TbBuf0 (F := Ideal) c arg1) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (hL : ∀ k, (lenAt (F := Ideal) c i arg1 X_arg1 k).toInt ≤ 512) (hp : ∀ kk td r s, (projAt (arg2.view.read (Elt Ideal) X_arg2) (arg5.view.read (Elt Ideal) X_arg5) (facG (lenD c i arg1 X_arg1) (arg3.view.read (Elt Ideal) X_arg3)) kk td) (ix2 r s) ≠ ⊥ ∧ (projAt (arg2.view.read (Elt Ideal) X_arg2) (arg5.view.read (Elt Ideal) X_arg5) (facG (lenD c i arg1 X_arg1) (arg3.view.read (Elt Ideal) X_arg3)) kk td) (ix2 r s) ≠ ⊤) (E : Set ℕ) :
    Held (F := Ideal) c arg1 arg2 arg3 arg4 arg5 arg6 arg7 arg8 arg9 arg10 arg11 arg12 X_arg1 X_arg2 X_arg3 X_arg4 X_arg5 (fun _ => True)
    ⊢ wp frame (wpE (defs₀ (F := Ideal)) 𝒱 (c : Thread nD τ) bd) E (cc0__body (F := Ideal) i arg1 harg1 arg2 harg2 arg3 harg3 arg4 harg4 arg5 harg5 arg6 harg6 arg7 harg7 arg8 harg8 arg9 harg9 arg10 harg10 arg11 harg11 arg12 harg12) (fun _ => Held (F := Ideal) c arg1 arg2 arg3 arg4 arg5 arg6 arg7 arg8 arg9 arg10 arg11 arg12 X_arg1 X_arg2 X_arg3 X_arg4 X_arg5 (fun Z => ∀ q col, Z (ix2 q col) = docSum (arg2.view.read (Elt Ideal) X_arg2) (arg5.view.read (Elt Ideal) X_arg5) (facG (lenD c i arg1 X_arg1) (arg3.view.read (Elt Ideal) X_arg3)) (wordG (lenD c i arg1 X_arg1) (arg4.view.read (Elt Ideal) X_arg4)) (byteG (arg4.view.read (Elt Ideal) X_arg4)) (lenD c i arg1 X_arg1 q) q ⟨col.val / 2048, by omega⟩ ⟨col.val % 16, by omega⟩ ⟨col.val / 16 % 128, by omega⟩)) := by
  iintro ⟨H1, H_arg2, H_arg3, H_arg4, H_arg5, ⟨%f_arg6, -, H_arg6⟩, ⟨%f_arg7, H_arg7⟩, ⟨%f_arg8, H_arg8⟩, ⟨%f_arg9, H_arg9⟩, ⟨%f_arg10, H_arg10⟩, ⟨%f_arg11, H_arg11⟩, ⟨%f_arg12, H_arg12⟩⟩
  by_cases hc : k0_cond1 i = 1#1
  · iapply (wp_wand_r Idealize.ShloMosaic.frame (wpE (defs₀ (F := Ideal)) 𝒱 (c : Thread nD τ) bd) E)
    isplitl [H1 H_arg2 H_arg3 H_arg4 H_arg5 H_arg6 H_arg7 H_arg8 H_arg9 H_arg10 H_arg11 H_arg12]
    · iapply (stepFlush (F := Ideal) 𝒱 c bd i arg1 harg1 arg2 harg2 arg3 harg3 arg4 harg4 arg5 harg5 arg6 harg6 arg7 harg7 arg8 harg8 arg9 harg9 arg10 harg10 arg11 harg11 arg12 harg12 X_arg1 hL X_arg2 X_arg3 X_arg4 X_arg5 hc).2.2.2.2.2.2.2 E f_arg6 f_arg7 f_arg8 f_arg9 f_arg10 f_arg11 f_arg12
      isplitl [H1]; · iexact H1
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexact H_arg7
      isplitl [H_arg8]; · iexact H_arg8
      isplitl [H_arg9]; · iexact H_arg9
      isplitl [H_arg10]; · iexact H_arg10
      isplitl [H_arg11]; · iexact H_arg11
      iexact H_arg12
    · iintro %_ ⟨H1, H_arg2, H_arg3, H_arg4, H_arg5, H_arg6, H_arg7, H_arg8, H_arg9, H_arg10, H_arg11, H_arg12⟩
      isplitl [H1]; · iexact H1
      isplitl [H_arg2]; · iexact H_arg2
      isplitl [H_arg3]; · iexact H_arg3
      isplitl [H_arg4]; · iexact H_arg4
      isplitl [H_arg5]; · iexact H_arg5
      isplitl [H_arg6]
      · iexists _; isplitr
        swap; · iexact H_arg6
        ipureintro; exact fun q col => flush_value 𝒱 c bd i arg1 harg1 arg2 harg2 arg3 harg3 arg4 harg4 arg5 harg5 arg6 harg6 arg7 harg7 arg8 harg8 arg9 harg9 arg10 harg10 arg11 harg11 arg12 harg12 X_arg1 hL X_arg2 X_arg3 X_arg4 X_arg5 hc f_arg6 f_arg7 f_arg8 f_arg9 f_arg10 f_arg11 f_arg12 hp q col
      isplitl [H_arg7]; · iexists _; iexact H_arg7
      isplitl [H_arg8]; · iexists _; iexact H_arg8
      isplitl [H_arg9]; · iexists _; iexact H_arg9
      isplitl [H_arg10]; · iexists _; iexact H_arg10
      isplitl [H_arg11]; · iexists _; iexact H_arg11
      iexists _; iexact H_arg12
  · iapply (wp_wand_r Idealize.ShloMosaic.frame (wpE (defs₀ (F := Ideal)) 𝒱 (c : Thread nD τ) bd) E)
    isplitl [H1 H_arg2 H_arg3 H_arg4 H_arg5 H_arg6 H_arg7 H_arg8 H_arg9 H_arg10 H_arg11 H_arg12]
    · iapply (stepKeep (F := Ideal) 𝒱 c bd i arg1 harg1 arg2 harg2 arg3 harg3 arg4 harg4 arg5 harg5 arg6 harg6 arg7 harg7 arg8 harg8 arg9 harg9 arg10 harg10 arg11 harg11 arg12 harg12 X_arg1 hL X_arg2 X_arg3 X_arg4 X_arg5 hc).2.2.2.2.2.2 E f_arg6 f_arg7 f_arg8 f_arg9 f_arg10 f_arg11 f_arg12
      isplitl [H1]; · iexact H1
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexact H_arg7
      isplitl [H_arg8]; · iexact H_arg8
      isplitl [H_arg9]; · iexact H_arg9
      isplitl [H_arg10]; · iexact H_arg10
      isplitl [H_arg11]; · iexact H_arg11
      iexact H_arg12
    · iintro %_ ⟨H1, H_arg2, H_arg3, H_arg4, H_arg5, H_arg6, H_arg7, H_arg8, H_arg9, H_arg10, H_arg11, H_arg12⟩
      isplitl [H1]; · iexact H1
      isplitl [H_arg2]; · iexact H_arg2
      isplitl [H_arg3]; · iexact H_arg3
      isplitl [H_arg4]; · iexact H_arg4
      isplitl [H_arg5]; · iexact H_arg5
      isplitl [H_arg6]
      · iexists _; isplitr
        swap; · iexact H_arg6
        ipureintro; exact fun q col => keep_value 𝒱 c bd i arg1 harg1 arg2 harg2 arg3 harg3 arg4 harg4 arg5 harg5 arg6 harg6 arg7 harg7 arg8 harg8 arg9 harg9 arg10 harg10 arg11 harg11 arg12 harg12 X_arg1 hL X_arg2 X_arg3 X_arg4 X_arg5 hc f_arg6 f_arg7 f_arg8 f_arg9 f_arg10 f_arg11 f_arg12 hp q col
      isplitl [H_arg7]; · iexists _; iexact H_arg7
      isplitl [H_arg8]; · iexists _; iexact H_arg8
      isplitl [H_arg9]; · iexists _; iexact H_arg9
      isplitl [H_arg10]; · iexists _; iexact H_arg10
      isplitl [H_arg11]; · iexists _; iexact H_arg11
      iexists _; iexact H_arg12

end Cert.KernelIdeal.Hand

end
-- ==== Proof.KernelIdealBlockValue.lean ====
/- What a grid step computes of the rows it holds, and that its values are numbers. -/
module

public import proofs.«01_k».proof.Proof.KernelIdealBlocks

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic

/-! ## Finite values -/

/-- A value that is a real number. -/
abbrev Fin' (a : EReal) : Prop := a ≠ ⊥ ∧ a ≠ ⊤

theorem fin_mul {a b : EReal} (ha : Fin' a) (hb : Fin' b) : Fin' (a * b) := by
  rw [← EReal.coe_toReal ha.2 ha.1, ← EReal.coe_toReal hb.2 hb.1, ← EReal.coe_mul]
  exact ⟨EReal.coe_ne_bot _, EReal.coe_ne_top _⟩

theorem fin_add {a b : EReal} (ha : Fin' a) (hb : Fin' b) : Fin' (a + b) := by
  rw [← EReal.coe_toReal ha.2 ha.1, ← EReal.coe_toReal hb.2 hb.1, ← EReal.coe_add]
  exact ⟨EReal.coe_ne_bot _, EReal.coe_ne_top _⟩

theorem fin_sum {n : ℕ} (f : Fin n → EReal) (h : ∀ i, Fin' (f i)) : Fin' (∑ i, f i) :=
  Finset.sum_induction f Fin' (fun _ _ => fin_add) ⟨EReal.zero_ne_bot, EReal.zero_ne_top⟩ fun i _ => h i

theorem fin_quarter : Fin' (Ideal.ofBits .f32 0x3E800000#32) := by
  simp [Ideal.ofBits, Ideal.ieee, Fin']
  refine ⟨?_, ?_⟩
  · first | exact EReal.coe_ne_bot _ | exact fun h => nomatch h
  · first | exact EReal.coe_ne_top _ | exact fun h => nomatch h

variable (m : (ℓ : Loc nD τ sig) → Buf (Elt Ideal) ℓ)

/-- What the launch memory is asked for: numbers, not infinities, and bucket codes below sixty-four. -/
structure Good (c : Dev nD) : Prop where
  x : ∀ i, Fin' (xT m c i)
  sc : ∀ i, Fin' (scT m c i)
  pr : ∀ i, Fin' (prT m c i)
  co : ∀ i, (coT m c i).toNat < 64

/-- The first result: of each document, the sums of its tokens by repetition, bucket and coordinate. -/
def fdeA (c : Dev nD) : S1500x20480.Idx → EReal := fun y =>
  fdeOf (lenJ m (y 0).val) (fun j s => ∑ k : Fin 96, prT m c (ix2 j k) * xT m c (ix3 (y 0) k s)) (fun s => scT m c (ix2 (y 0) s))
    (fun r s => coT m c (ix3 r (y 0) s)) ⟨(y 1).val / 1024, by have := (y 1).isLt; change (y 1).val < 20480 at this; omega⟩ ⟨(y 1).val % 16, by omega⟩ ((y 1).val / 16 % 64)

theorem block_value (c : Dev nD) (hg : Good m c) (t : Fin grid0.N) (C2 : S16x96x512.Idx → EReal) (C3 : S16x512.Idx → EReal) (C4 : S20x16x512.Idx → BitVec 32) (C5 : S320x96.Idx → EReal)
    (h2 : ∀ (q : Fin 16) k s (h : 16 * t.val + q.val < 1500), C2 (ix3 q k s) = xT m c (ix3 ⟨16 * t.val + q.val, h⟩ k s))
    (h3 : ∀ (q : Fin 16) s (h : 16 * t.val + q.val < 1500), C3 (ix2 q s) = scT m c (ix2 ⟨16 * t.val + q.val, h⟩ s))
    (h4 : ∀ r (q : Fin 16) s (h : 16 * t.val + q.val < 1500), C4 (ix3 r q s) = coT m c (ix3 r ⟨16 * t.val + q.val, h⟩ s))
    (h5 : ∀ j k, C5 (ix2 j k) = prT m c (ix2 j k)) (q : Fin 16) (col : Fin 20480) (h : 16 * t.val + q.val < 1500) :
    docSum C2 C5 (facG (lenD c (grid0.coords t) tbM0_0 (tbl m 0)) C3) (wordG (lenD c (grid0.coords t) tbM0_0 (tbl m 0)) C4) (byteG C4) (lenD c (grid0.coords t) tbM0_0 (tbl m 0) q) q
      ⟨col.val / 2048, by omega⟩ ⟨col.val % 16, by omega⟩ ⟨col.val / 16 % 128, by omega⟩ = fdeA m c (ix2 ⟨16 * t.val + q.val, h⟩ col) := by
  rw [docSum_value _ C2 C5 C3 C4 q (fun r s => by rw [h4 r q s h]; exact hg.co _)]
  unfold fdeA
  rw [len_val]
  have e2 : (fun j s => ∑ k : Fin 96, C5 (ix2 j k) * C2 (ix3 q k s)) = fun j s => ∑ k : Fin 96, prT m c (ix2 j k) * xT m c (ix3 ⟨16 * t.val + q.val, h⟩ k s) :=
    funext fun j => funext fun s => Finset.sum_congr rfl fun k _ => by rw [h5, h2 q k s h]
  have e3 : (fun s => C3 (ix2 q s)) = fun s => scT m c (ix2 ⟨16 * t.val + q.val, h⟩ s) := funext fun s => h3 q s h
  have e4 : (fun r s => C4 (ix3 r q s)) = fun r s => coT m c (ix3 r ⟨16 * t.val + q.val, h⟩ s) := funext fun r => funext fun s => h4 r q s h
  rw [e2, e3, e4]
  have er : (⟨2 * (col.val / 2048) + col.val / 16 % 128 / 64, by omega⟩ : Fin 20) = ⟨col.val / 1024, by omega⟩ := Fin.ext (by show 2 * (col.val / 2048) + col.val / 16 % 128 / 64 = col.val / 1024; omega)
  have eb : col.val / 16 % 128 % 64 = col.val / 16 % 64 := by omega
  show fdeOf _ _ _ _ ⟨2 * (col.val / 2048) + col.val / 16 % 128 / 64, _⟩ _ (col.val / 16 % 128 % 64) = _
  rw [er, eb]
  rfl

theorem block_fin (c : Dev nD) (hg : Good m c) (t : Fin grid0.N) (C2 : S16x96x512.Idx → EReal) (C3 : S16x512.Idx → EReal) (C5 : S320x96.Idx → EReal)
    (h2 : ∀ (q : Fin 16) k s (h : 16 * t.val + q.val < 1500), C2 (ix3 q k s) = xT m c (ix3 ⟨16 * t.val + q.val, h⟩ k s))
    (h3 : ∀ (q : Fin 16) s (h : 16 * t.val + q.val < 1500), C3 (ix2 q s) = scT m c (ix2 ⟨16 * t.val + q.val, h⟩ s))
    (h5 : ∀ j k, C5 (ix2 j k) = prT m c (ix2 j k)) (kk : Fin 2) (q : Fin 16) (r : Fin 320) (s : Fin 256) :
    projAt C2 C5 (facG (lenD c (grid0.coords t) tbM0_0 (tbl m 0)) C3) kk q (ix2 r s) ≠ ⊥ ∧ projAt C2 C5 (facG (lenD c (grid0.coords t) tbM0_0 (tbl m 0)) C3) kk q (ix2 r s) ≠ ⊤ := by
  unfold projAt
  by_cases h : 16 * t.val + q.val < 1500
  · refine fin_mul (fin_sum _ fun k => fin_mul ?_ ?_) ?_
    · show Fin' (C5 (ix2 r k)); rw [h5 r k]; exact hg.pr _
    · rw [h2 q k _ h]; exact hg.x _
    · unfold facG
      split
      · refine fin_mul ?_ fin_quarter
        show Fin' (C3 (ix2 q _))
        rw [h3 q _ h]; exact hg.sc _
      · rw [zero32]; exact ⟨EReal.zero_ne_bot, EReal.zero_ne_top⟩
  · have hz : facG (lenD c (grid0.coords t) tbM0_0 (tbl m 0)) C3 (ix3 kk q s) = 0 := by
      unfold facG
      rw [if_neg, zero32]
      show ¬ okAt (lenD c (grid0.coords t) tbM0_0 (tbl m 0) q) _ = true
      rw [len_val, show lenJ m (16 * t.val + q.val) = 0#32 from dif_neg h, okAt_false _ _ (by have := kk.isLt; show 256 * kk.val + s.val < 512; omega) (by show (0#32).toInt ≤ _; simp; omega)]
      exact fun h => nomatch h
    show Fin' (_ * facG (lenD c (grid0.coords t) tbM0_0 (tbl m 0)) C3 (ix3 kk q s))
    rw [hz, mul_zero]; exact ⟨EReal.zero_ne_bot, EReal.zero_ne_top⟩

end Cert.KernelIdeal.Hand

end
-- ==== Proof.KernelIdealDat.lean ====
/- The pipeline data of `KernelIdeal` that names the first result's blocks. -/
module

public import proofs.«01_k».proof.Proof.KernelIdealStepSums
public import proofs.«01_k».proof.Proof.KernelIdealBlockValue
public import Idealize.ShloMosaic.Lib.Routing.OpsSet
public import Idealize.ShloMosaic.Lib.Routing.OpsPair
public import Idealize.ShloMosaic.Lib.Pipeline.ClipFacts
public import Idealize.ShloMosaic.Lib.Pipeline.Covers
public import Idealize.ShloMosaic.Lib.Pointwise

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationLoose)

/-- The resource algebra of the run: the pipeline library's. -/
local notation "𝕄" => MT nD τ sig Unit (Elt Ideal) ℕ (UR sig nD τ) ℕ

variable (m : (ℓ : Loc nD τ sig) → Buf (Elt Ideal) ℓ) (ρ : Dev nD → PrngReg)

/-- The first result's block at grid step `t`; zero past the last document. -/
def fdeB (c : Dev nD) (t : ℕ) : S16x20480.Idx → EReal := fun y =>
  if h : 16 * t + (y 0).val < 1500 then fdeA m c (ix2 ⟨16 * t + (y 0).val, h⟩ (y 1)) else 0

/-- The pipeline's proof data: the blocks read, the first result's block, the second result's block not named. -/
def datV (hO : Ok m) : (p : Fin 1) → (c : Dev nD) → Dat τ (Elt Ideal) Unit ℕ (UR sig nD τ) ℕ ((Pipeline.pin pcfgs fun _ => adm m hO) p) c := fun _ c =>
  { A := fun w => V m c (Pipeline.arrRef spec0 w)
    after := fun w t => match w with
      | ⟨0, _⟩ => ((cfgM m hO).win 0).fill ((cfgM m hO).grid.coords t) (Dat.unnamed (cfg := cfgM m hO) 0 t) (iblk m hO c 0 t)
      | ⟨1, _⟩ => ((cfgM m hO).win 1).fill ((cfgM m hO).grid.coords t) (Dat.unnamed (cfg := cfgM m hO) 1 t) (iblk m hO c 1 t)
      | ⟨2, _⟩ => ((cfgM m hO).win 2).fill ((cfgM m hO).grid.coords t) (Dat.unnamed (cfg := cfgM m hO) 2 t) (iblk m hO c 2 t)
      | ⟨3, _⟩ => iblk m hO c 3 t
      | ⟨4, _⟩ => fdeB m c t.val
      | ⟨5, _⟩ => Dat.unnamed (cfg := cfgM m hO) 5 t
    Φ := fun _ => iprop(Pipeline.ΦA spec0 c ∗ Pipeline.ΦT pre0 (tbl m) c)
    q := fun _ => fullShare
    owed := fun _ => 0 }

theorem datV_A (hO : Ok m) (c : Dev nD) (w) : (datV m hO 0 c).A w = V m c (Pipeline.arrRef spec0 w) := by dsimp only [datV]
theorem aft_0 (hO : Ok m) (c : Dev nD) (t) : (datV m hO 0 c).after 0 t = ((cfgM m hO).win 0).fill ((cfgM m hO).grid.coords t) (Dat.unnamed (cfg := cfgM m hO) 0 t) (iblk m hO c 0 t) := by dsimp only [datV]; rfl
theorem aft_1 (hO : Ok m) (c : Dev nD) (t) : (datV m hO 0 c).after 1 t = ((cfgM m hO).win 1).fill ((cfgM m hO).grid.coords t) (Dat.unnamed (cfg := cfgM m hO) 1 t) (iblk m hO c 1 t) := by dsimp only [datV]; rfl
theorem aft_2 (hO : Ok m) (c : Dev nD) (t) : (datV m hO 0 c).after 2 t = ((cfgM m hO).win 2).fill ((cfgM m hO).grid.coords t) (Dat.unnamed (cfg := cfgM m hO) 2 t) (iblk m hO c 2 t) := by dsimp only [datV]; rfl
theorem aft_3 (hO : Ok m) (c : Dev nD) (t) : (datV m hO 0 c).after 3 t = iblk m hO c 3 t := by dsimp only [datV]; rfl
theorem aft_4 (hO : Ok m) (c : Dev nD) (t) : (datV m hO 0 c).after 4 t = fdeB m c t.val := by dsimp only [datV]; rfl

theorem bef_0 (hO : Ok m) (c : Dev nD) (t : Fin (cfgM m hO).N) (d) : (datV m hO 0 c).before 0 t d = ((cfgM m hO).win 0).fill ((cfgM m hO).grid.coords t) d (iblk m hO c 0 t) := by
  rw [(datV m hO 0 c).before_in_eq_fetched 0 rfl (fun _ => rfl) ?_ (fun t => by rw [aft_0, Pipeline.Window.cut_fill]; unfold Dat.blockOf iblk; rw [datV_A])]
  · unfold Dat.fetched Dat.blockOf iblk; rw [datV_A]
  · intro t t' h
    funext a
    show Pipeline.Clip.of (((cfgM m hO).win 0).index t a) _ _ = Pipeline.Clip.of (((cfgM m hO).win 0).index t' a) _ _
    rw [h]
theorem bef_1 (hO : Ok m) (c : Dev nD) (t : Fin (cfgM m hO).N) (d) : (datV m hO 0 c).before 1 t d = ((cfgM m hO).win 1).fill ((cfgM m hO).grid.coords t) d (iblk m hO c 1 t) := by
  rw [(datV m hO 0 c).before_in_eq_fetched 1 rfl (fun _ => rfl) ?_ (fun t => by rw [aft_1, Pipeline.Window.cut_fill]; unfold Dat.blockOf iblk; rw [datV_A])]
  · unfold Dat.fetched Dat.blockOf iblk; rw [datV_A]
  · intro t t' h
    funext a
    show Pipeline.Clip.of (((cfgM m hO).win 1).index t a) _ _ = Pipeline.Clip.of (((cfgM m hO).win 1).index t' a) _ _
    rw [h]
theorem bef_2 (hO : Ok m) (c : Dev nD) (t : Fin (cfgM m hO).N) (d) : (datV m hO 0 c).before 2 t d = ((cfgM m hO).win 2).fill ((cfgM m hO).grid.coords t) d (iblk m hO c 2 t) := by
  rw [(datV m hO 0 c).before_in_eq_fetched 2 rfl (fun _ => rfl) ?_ (fun t => by rw [aft_2, Pipeline.Window.cut_fill]; unfold Dat.blockOf iblk; rw [datV_A])]
  · unfold Dat.fetched Dat.blockOf iblk; rw [datV_A]
  · intro t t' h
    funext a
    show Pipeline.Clip.of (((cfgM m hO).win 2).index t a) _ _ = Pipeline.Clip.of (((cfgM m hO).win 2).index t' a) _ _
    rw [h]
theorem bef_3 (hO : Ok m) (c : Dev nD) (t : Fin (cfgM m hO).N) (d) : (datV m hO 0 c).before 3 t d = iblk m hO c 3 t :=
  before0_3_of m hO (datV m hO 0 c) (datV_A m hO c 3) (aft_3 m hO c) t d

/-- A block whose rows of documents hold the documents' sums is, where it is written back, the block named. -/
theorem cut_4 (hO : Ok m) (c : Dev nD) (t : Fin (cfgM m hO).N) (Z : S16x20480.Idx → EReal)
    (hZ : ∀ (q : Fin 16) (col : Fin 20480) (h : 16 * t.val + q.val < 1500), Z (ix2 q col) = fdeA m c (ix2 ⟨16 * t.val + q.val, h⟩ col)) :
    ((cfgM m hO).win 4).cut ((cfgM m hO).grid.coords t) Z = ((cfgM m hO).win 4).cut ((cfgM m hO).grid.coords t) ((datV m hO 0 c).after 4 t) := by
  rw [aft_4]
  funext j
  have h : 16 * t.val + (j (0 : Fin 2)).val < 1500 := by
    have := lt_of_mem_clip (cc0_transform_4 (grid0.coords t) 0) 16 1500 (j (0 : Fin 2)).val (j (0 : Fin 2)).isLt
    rw [ix_4 t] at this
    change t.val * 16 + (j (0 : Fin 2)).val < 1500 at this
    omega
  show Z (((cfgM m hO).win 4).xinj ((cfgM m hO).grid.coords t) j) = fdeB m c t.val (((cfgM m hO).win 4).xinj ((cfgM m hO).grid.coords t) j)
  unfold fdeB
  refine Eq.trans ?_ (dif_pos h).symm
  refine Eq.trans (congrArg Z (eq_ix2 _)) (hZ _ _ h)

/-- The mask of the window nothing is said of. -/
abbrev fg : Fin 6 → Bool := fun | 0 => false | 1 => false | 2 => false | 3 => false | 4 => false | 5 => true | ⟨_ + 6, h⟩ => absurd h (Nat.not_lt.2 (Nat.le_add_left _ _))

end Cert.KernelIdeal.Hand

end
-- ==== Proof.KernelIdealLaunchValue.lean ====
module

public import proofs.«01_k».proof.Proof.KernelIdealDat
public import Idealize.ShloMosaic.Lib.Routing.OpsSet
public import Idealize.ShloMosaic.Lib.Routing.OpsPair
public import Idealize.ShloMosaic.Lib.Pipeline.ClipFacts
public import Idealize.ShloMosaic.Lib.Pipeline.Covers
public import Idealize.ShloMosaic.Lib.Pointwise

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationLoose)

/-- The resource algebra of the run: the pipeline library's. -/
local notation "𝕄" => MT nD τ sig Unit (Elt Ideal) ℕ (UR sig nD τ) ℕ

variable (m : (ℓ : Loc nD τ sig) → Buf (Elt Ideal) ℓ) (ρ : Dev nD → PrngReg)

/-- A window's current staging buffer as a grid step finds it. -/
abbrev befS (hO : Ok m) (c : Dev nD) (w : Fin (cfgM m hO).W) (t : Fin (cfgM m hO).N) : sProp 𝕄 :=
  iprop(∃ d, owns (c : Thread nD τ) (((cfgM m hO).win w).stage ((cfgM m hO).slots t w)) fullShare ((datV m hO 0 c).before w t d))

/-- A window's current staging buffer as a grid step leaves it, on the part a transfer moves. -/
abbrev aftS (hO : Ok m) (c : Dev nD) (w : Fin (cfgM m hO).W) (t : Fin (cfgM m hO).N) : sProp 𝕄 :=
  iprop(∃ d, owns (c : Thread nD τ) (((cfgM m hO).win w).stage ((cfgM m hO).slots t w)) fullShare (((cfgM m hO).win w).fill ((cfgM m hO).grid.coords t) d (((cfgM m hO).win w).cut ((cfgM m hO).grid.coords t) ((datV m hO 0 c).after w t))))

/-- A window's current staging buffer left at exactly what the proof data names. -/
abbrev finS (hO : Ok m) (c : Dev nD) (w : Fin (cfgM m hO).W) (t : Fin (cfgM m hO).N) : sProp 𝕄 :=
  owns (c : Thread nD τ) (((cfgM m hO).win w).stage ((cfgM m hO).slots t w)) fullShare ((datV m hO 0 c).after w t)

theorem obl_val (hO : Ok m) (hlen : ∀ j, ((tbl m 0 : S1536.Idx → BitVec 32) j).toInt ≤ 512) (c : Dev nD) (hg : Good m c) (t : Fin (cfgM m hO).N) :
    iprop((datV m hO 0 c).Φ t.castSucc ∗ (datV m hO 0 c).owesAt () t.castSucc ∗ (befS m hO c 0 t ∗ befS m hO c 1 t ∗ befS m hO c 2 t ∗ befS m hO c 3 t ∗ befS m hO c 4 t ∗ stg m hO c 5 t))
    ⊢ wp frame (wpE (defs₀ (F := Ideal)) Variants.none c none) Set.univ (bodyAt0 (adm m hO) t) (fun _ =>
      iprop((datV m hO 0 c).Φ t.succ ∗ (datV m hO 0 c).owesAt () t.succ ∗ (aftS m hO c 0 t ∗ aftS m hO c 1 t ∗ aftS m hO c 2 t ∗ finS m hO c 3 t ∗ aftS m hO c 4 t ∗ stg m hO c 5 t))) := by
  rw [show (datV m hO 0 c).Φ t.succ = iprop(Pipeline.ΦA spec0 c ∗ Pipeline.ΦT pre0 (tbl m) c) from rfl,
    show (datV m hO 0 c).Φ t.castSucc = iprop(Pipeline.ΦA spec0 c ∗ Pipeline.ΦT pre0 (tbl m) c) from rfl, PhiT0_eq]
  unfold Pipeline.ΦA
  rw [scopedRest0_eq]
  simp only [← owns_whole]
  unfold befS aftS finS stg bodyAt0 Dat.owesAt Pipeline.owesWithin owns
  rw [show (datV m hO 0 c).owed t.castSucc = 0 from rfl, show (datV m hO 0 c).owed t.succ = 0 from rfl]
  iintro ⟨⟨⟨⟨⟨%d8, %f8, -, S8⟩, ⟨%d9, %f9, -, S9⟩, ⟨%d10, %f10, -, S10⟩, ⟨%d11, %f11, -, S11⟩, ⟨%d12, %f12, -, S12⟩⟩, Hg⟩, HT⟩, ⟨%W, %hW, HW⟩, ⟨%d2, %f2, %h2, S2⟩, ⟨%d3, %f3, %h3, S3⟩, ⟨%d4, %f4, %h4, S4⟩, ⟨%d5, %f5, %h5, S5⟩, ⟨%d6, %f6, -, S6⟩, ⟨%d7, %f7, -, S7⟩⟩
  rw [bef_0] at h2
  rw [bef_1] at h3
  rw [bef_2] at h4
  rw [bef_3] at h5
  have r2 : ∀ (q : Fin 16) k s (h : 16 * t.val + q.val < 1500), (((cfgM m hO).win 0).stage ((cfgM m hO).slots t 0)).view.read (Elt Ideal) f2 (ix3 q k s) = xT m c (ix3 ⟨16 * t.val + q.val, h⟩ k s) :=
    fun q k s h => (congrFun h2 _).trans (row_0 m hO c t d2 q k s h)
  have r3 : ∀ (q : Fin 16) s (h : 16 * t.val + q.val < 1500), (((cfgM m hO).win 1).stage ((cfgM m hO).slots t 1)).view.read (Elt Ideal) f3 (ix2 q s) = scT m c (ix2 ⟨16 * t.val + q.val, h⟩ s) :=
    fun q s h => (congrFun h3 _).trans (row_1 m hO c t d3 q s h)
  have r4 : ∀ r (q : Fin 16) s (h : 16 * t.val + q.val < 1500), (((cfgM m hO).win 2).stage ((cfgM m hO).slots t 2)).view.read (Elt Ideal) f4 (ix3 r q s) = coT m c (ix3 r ⟨16 * t.val + q.val, h⟩ s) :=
    fun r q s h => (congrFun h4 _).trans (row_2 m hO c t d4 r q s h)
  have r5 : ∀ j k, (((cfgM m hO).win 3).stage ((cfgM m hO).slots t 3)).view.read (Elt Ideal) f5 (ix2 j k) = prT m c (ix2 j k) :=
    fun j k => (congrFun h5 _).trans (block_3 m hO c t j k)
  iapply (wp_wand_r Idealize.ShloMosaic.frame (wpE (defs₀ (F := Ideal)) Variants.none (c : Thread nD τ) none) Set.univ)
  isplitl [HT S2 S3 S4 S5 S6 S7 S8 S9 S10 S11 S12]
  · iapply (step_sums Variants.none c none (grid0.coords t) tbM0_0 _ (((cfgM m hO).win 0).stage ((cfgM m hO).slots t 0)) _ (((cfgM m hO).win 1).stage ((cfgM m hO).slots t 1)) _ (((cfgM m hO).win 2).stage ((cfgM m hO).slots t 2)) _ (((cfgM m hO).win 3).stage ((cfgM m hO).slots t 3)) _ (((cfgM m hO).win 4).stage ((cfgM m hO).slots t 4)) _ (((cfgM m hO).win 5).stage ((cfgM m hO).slots t 5)) _ _ _ _ _ _ _ _ _ _ _ (tbl m 0) f2 f3 f4 f5 (fun k => by obtain ⟨j, hj⟩ := lenAt_mem (F := Ideal) c (grid0.coords t) (tbl m 0) k; rw [hj]; exact hlen j)
      (fun kk q r s => block_fin m c hg t _ _ _ r2 r3 r5 kk q r s) Set.univ)
    isplitl [HT]; · iexact HT
    isplitl [S2]; · iexact S2
    isplitl [S3]; · iexact S3
    isplitl [S4]; · iexact S4
    isplitl [S5]; · iexact S5
    isplitl [S6]
    · iexists _; isplitr
      swap; · iexact S6
      ipureintro; exact trivial
    isplitl [S7]; · iexists _; iexact S7
    isplitl [S8]; · iexists _; iexact S8
    isplitl [S9]; · iexists _; iexact S9
    isplitl [S10]; · iexists _; iexact S10
    isplitl [S11]; · iexists _; iexact S11
    iexists _; iexact S12
  · iintro %_ ⟨HT, S2, S3, S4, S5, ⟨%g6, %hZ, S6⟩, ⟨%g7, S7⟩, ⟨%g8, S8⟩, ⟨%g9, S9⟩, ⟨%g10, S10⟩, ⟨%g11, S11⟩, ⟨%g12, S12⟩⟩
    isplitl [HT Hg S8 S9 S10 S11 S12]
    · isplitl [Hg S8 S9 S10 S11 S12]
      · isplitl [S8 S9 S10 S11 S12]
        · isplitl [S8]
          · iexists _; iexists _; isplitr
            swap; · iexact S8
            ipureintro; rfl
          isplitl [S9]
          · iexists _; iexists _; isplitr
            swap; · iexact S9
            ipureintro; rfl
          isplitl [S10]
          · iexists _; iexists _; isplitr
            swap; · iexact S10
            ipureintro; rfl
          isplitl [S11]
          · iexists _; iexists _; isplitr
            swap; · iexact S11
            ipureintro; rfl
          iexists _; iexists _; isplitr
          swap; · iexact S12
          ipureintro; rfl
        iexact Hg
      iexact HT
    isplitl [HW]
    · iexists W; isplitr
      · ipureintro; exact fun _ _ => Or.inl trivial
      iexact HW
    isplitl [S2]
    · iexists d2; iexists f2; isplitr
      swap; · iexact S2
      ipureintro; rw [h2, aft_0, Pipeline.Window.cut_fill]
    isplitl [S3]
    · iexists d3; iexists f3; isplitr
      swap; · iexact S3
      ipureintro; rw [h3, aft_1, Pipeline.Window.cut_fill]
    isplitl [S4]
    · iexists d4; iexists f4; isplitr
      swap; · iexact S4
      ipureintro; rw [h4, aft_2, Pipeline.Window.cut_fill]
    isplitl [S5]
    · iexists f5; isplitr
      swap; · iexact S5
      ipureintro; rw [h5, aft_3]
    isplitl [S6]
    · iexists ((((cfgM m hO).win 4).stage ((cfgM m hO).slots t 4)).view.read (Elt Ideal) g6); iexists g6; isplitr
      swap; · iexact S6
      ipureintro
      exact (((cfgM m hO).win 4).fill_congr_cut _ (cut_4 m hO c t _ fun q col h => (hZ q col).trans (block_value m c hg t _ _ _ _ r2 r3 r4 r5 q col h))).symm
    iexists _; iexists _; isplitr
    swap; · iexact S7
    ipureintro; rfl

theorem bodyV (hO : Ok m) (hlen : ∀ j, ((tbl m 0 : S1536.Idx → BitVec 32) j).toInt ≤ 512) (c : Dev nD) (hg : Good m c) :
    BodyObligationLoose (datV m hO 0 c) (defs₀ (F := Ideal)) Variants.none () Set.univ fg := fun t => by
  rw [bigSep_W0]
  exact triple_restated (obl_val m hO hlen c hg t) (congrArg (fun b => wp Idealize.ShloMosaic.frame (wpE (defs₀ (F := Ideal)) Variants.none (c : Thread nD τ) none) Set.univ b) (defs₀_row (adm m hO) t).symm) .rfl fun _ => by rw [bigSep_W0]; exact .rfl

/-- The first result after the last grid step: every document's row was written back. -/
theorem arr_4 (hO : Ok m) (c : Dev nD) : (datV m hO 0 c).arrAt 4 (cfgM m hO).N = fdeA m c := by
  refine (datV m hO 0 c).arrAt_eq_of_covers 4 (fdeA m c) ?_ fun t hf y => ?_
  · refine Pipeline.Window.covers_of_index_surj _ rfl (fun a => ?_) fun β => ?_
    · match a with
      | ⟨0, _⟩ => exact (by decide : 0 < 16)
      | ⟨1, _⟩ => exact (by decide : 0 < 20480)
    · have h0 : (β (0 : Fin 2)).val < 94 := lt_of_lt_of_eq (β (0 : Fin 2)).isLt (show (S1500x20480.size 0 + S16x20480.size 0 - 1) / S16x20480.size 0 = 94 by decide)
      have h1 : (β (1 : Fin 2)).val < 1 := lt_of_lt_of_eq (β (1 : Fin 2)).isLt (show (S1500x20480.size 1 + S16x20480.size 1 - 1) / S16x20480.size 1 = 1 by decide)
      refine ⟨⟨(β (0 : Fin 2)).val, lt_of_lt_of_eq h0 points.symm⟩, fun a => ?_⟩
      show cc0_transform_4 (grid0.coords ⟨(β (0 : Fin 2)).val, _⟩) a = (β a).val
      rw [ix_4]
      match a with
      | ⟨0, _⟩ => rfl
      | ⟨1, _⟩ => show 0 = (β (1 : Fin 2)).val; omega
  · rw [aft_4]
    have h : 16 * t.val + (y (0 : Fin 2)).val < 1500 := by
      have := lt_of_mem_clip (cc0_transform_4 (grid0.coords t) 0) 16 1500 (y (0 : Fin 2)).val (y (0 : Fin 2)).isLt
      rw [ix_4 t] at this
      change t.val * 16 + (y (0 : Fin 2)).val < 1500 at this
      omega
    refine Eq.trans (b := fdeB m c t.val (((cfgM m hO).win 4).xinj ((cfgM m hO).grid.coords t) y)) rfl ?_
    unfold fdeB
    refine (dif_pos h).trans (congrArg (fdeA m c) (funext fun a => Fin.ext ?_))
    have go : ∀ (v : Fin 20480) (hv : v.val = (y (1 : Fin 2)).val) (a : Fin 2), (ix2 (⟨16 * t.val + (y (0 : Fin 2)).val, h⟩ : Fin 1500) v a).val = cc0_transform_4 (grid0.coords t) a * S16x20480.size a + 1 * (y a).val := by
      intro v hv
      rw [ix_4 t]
      have two : ∀ f g : Fin 2 → ℕ, f 0 = g 0 → f 1 = g 1 → ∀ a, f a = g a := fun f g h0 h1 a => by
        match a with
        | ⟨0, _⟩ => exact h0
        | ⟨1, _⟩ => exact h1
      refine two (fun a => (ix2 (⟨16 * t.val + (y (0 : Fin 2)).val, h⟩ : Fin 1500) v a).val) (fun a => (![t.val, 0] : Fin 2 → ℕ) a * S16x20480.size a + 1 * (y a).val) ?_ ?_
      · show 16 * t.val + (y (0 : Fin 2)).val = t.val * 16 + 1 * (y (0 : Fin 2)).val; omega
      · show v.val = 0 * S16x20480.size 1 + 1 * (y (1 : Fin 2)).val
        rw [Nat.zero_mul, Nat.one_mul, Nat.zero_add]; exact hv
    exact go (((cfgM m hO).win 4).xinj ((cfgM m hO).grid.coords t) y (1 : Fin 2)) rfl a

set_option backward.isDefEq.respectTransparency.types false in
/-- The program runs from a table of lengths within the window, leaves its arguments and leaves the documents' sums in its first result. -/
theorem fde_run (hO : Ok m) (hlen : ∀ j, ((tbl m 0 : S1536.Idx → BitVec 32) j).toInt ≤ 512) (hg : ∀ c, Good m c) :
    θ_run defs (onTc (τ := τ) (main (F := Ideal))) ⟨m, fun _ => 0, ρ⟩ (fun r => (∀ c : Dev nD,
      r.2.mem ((c.tc : Thread nD τ).loc main_v9_0) = fdeA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frameP_around_T_forget pcfgs (fun _ => adm m hO) (datV m hO) 0 launch0 defs₀ Variants.none fg ∅ m ρ main
    (fun c => bodyV m hO hlen c (hg c)) (fun c => (datV m hO 0 c).share_full fun _ => rfl) (fun _ _ => rfl) (V0 m) []
    sfx_sub sfx_fresh sfx_keeps sfx_T (hmain m Variants.none) (datV_A m hO) (V_pre m) (fun _ _ => rfl) _
    (fun r h => ⟨fun c => ⟨((Dat.toRForget_arrAt_iff (dat := datV m hO 0 c) (fgt := fg) (w := 4) rfl _ _).1 ((h.1 c).1 4)).trans (arr_4 m hO c),
      ((h.1 c).2 main_arg0 (by decide : main_arg0 ∈ Pipeline.restRefs sig spec0 \ ∅)).trans (V_main_arg0 m c),
      (by have := (h.1 c).1 1; rw [RDat.ArrAt_in _ 1 rfl] at this; exact this.trans (V_main_arg1 m c)),
      ((h.1 c).2 main_arg2 (by decide : main_arg2 ∈ Pipeline.restRefs sig spec0 \ ∅)).trans (V_main_arg2 m c),
      ((h.1 c).2 main_arg3 (by decide : main_arg3 ∈ Pipeline.restRefs sig spec0 \ ∅)).trans (V_main_arg3 m c),
      ((h.1 c).2 main_arg4 (by decide : main_arg4 ∈ Pipeline.restRefs sig spec0 \ ∅)).trans (V_main_arg4 m c)⟩, h.2⟩)

end Cert.KernelIdeal.Hand

end
-- ==== Proof.ReferenceIdealSums.lean ====
/- What the reference computes: each bucket's entry is the sum over the tokens that fall in it. -/
module

public import proofs.«01_k».proof.Proof.Gen.ReferenceIdeal.Frame
public import Idealize.ShloMosaic.Lib.IdealHost
public import Idealize.ShloMosaic.Lib.Pointwise
public import Idealize.ShloMosaic.Lib.Routing.OpsPair
public import Idealize.ShloMosaic.Lib.ValueIdx
public import Idealize.ShloMosaic.Lib.Pipeline.Value

@[expose] public section

set_option maxRecDepth 16384

noncomputable section

namespace Cert.ReferenceIdeal.Hand

open Idealize.ShloMosaic Idealize.ShloMosaic.TcCoe Idealize.ShloMosaic.Tactic Idealize.SL.Sem
open Cert.ReferenceIdeal.Gen

/-- Rows added at the rows that the index words name: each entry gets the entries of its column whose word names its row. -/
theorem scatter_rows {R C N : ℕ} (d : ScatterDims (⟨2, ![R, C]⟩ : Shape) (⟨2, ![N, 1]⟩ : Shape) (⟨2, ![N, C]⟩ : Shape))
    (huw : d.updateWindowDims = [1]) (hiw : d.insertedWindowDims = [0]) (hsd : d.scatterDimsToOperandDims = [0]) (hiv : d.indexVectorDim = 1)
    (x : (⟨2, ![R, C]⟩ : Shape).Idx → EReal) (idx : IVec (⟨2, ![N, 1]⟩ : Shape) 32) (upd : (⟨2, ![N, C]⟩ : Shape).Idx → EReal) (r : Fin R) (c : Fin C) :
    Ideal.hostScatterAdd d x idx upd (ix2 r c) = x (ix2 r c) + ∑ n : Fin N, if (idx (ix2 n (0 : Fin 1))).toInt = (r.val : ℤ) then upd (ix2 n c) else 0 := by
  have hm : (0 : Fin 2) ∈ d.scatterDimsToOperandDims := by rw [hsd]; exact List.mem_singleton.2 rfl
  have hkept : d.sKept = [1] := by
    show (⟨2, ![R, C]⟩ : Shape).kept d.insertedWindowDims = _
    rw [hiw]; rfl
  have hwin0 : ∀ j, d.window j 0 = 0 := fun j => by
    unfold ScatterDims.window
    rw [dif_neg fun h => absurd (List.mem_singleton.1 (hkept ▸ h)) (by decide : (0 : Fin 2) ≠ 1)]
  have hwin1 : ∀ (n : Fin N) (c' : Fin C), d.window (ix2 n c') 1 = c'.val := fun n c' => by
    unfold ScatterDims.window
    rw [dif_pos (by rw [hkept]; exact List.mem_singleton.2 rfl)]
    have q : ∀ X : Fin 2, X = 1 → (ix2 n c' X).val = c'.val := fun X h => by subst h; rfl
    refine q _ ?_
    have : ∀ (l : List (Fin 2)) (i : ℕ) (h : i < l.length), l = [1] → l[i] = 1 := fun l i h e => by
      subst e; obtain rfl : i = 0 := by simpa using h
      rfl
    exact this _ _ _ huw
  have hstart1 : ∀ j, d.start j idx 1 = 0 := fun j => by
    unfold ScatterDims.start
    rw [dif_neg fun h => absurd (List.mem_singleton.1 (hsd ▸ h)) (by decide : (1 : Fin 2) ≠ 0)]
  have hstart0 : ∀ (n : Fin N) (c' : Fin C), d.start (ix2 n c') idx 0 = (idx (ix2 n (0 : Fin 1))).toInt := fun n c' => by
    unfold ScatterDims.start
    rw [dif_pos hm]
    have hsi : d.siIdx (ix2 n c') ⟨d.scatterDimsToOperandDims.idxOf 0, List.idxOf_lt_length_iff.2 hm⟩ = ix2 n (0 : Fin 1) := by
      funext b'
      match b' with
      | ⟨0, h0⟩ =>
        refine Fin.ext ?_
        unfold ScatterDims.siIdx
        rw [dif_neg (by rw [hiv]; exact Nat.zero_ne_one)]
        unfold ScatterDims.siCoord
        have hu : d.uScatter = [0] := by
          show (⟨2, ![N, C]⟩ : Shape).kept d.updateWindowDims = _
          rw [huw]; rfl
        have q : ∀ X : Fin 2, X = 0 → (ix2 n c' X).val = n.val := fun X h => by subst h; rfl
        have g : ∀ (l : List (Fin 2)) (i : ℕ) (h : i < l.length), l = [0] → l[i] = 0 := fun l i h e => by
          subst e; obtain rfl : i = 0 := by simpa using h
          rfl
        exact q _ (g _ _ _ hu)
      | ⟨1, _⟩ => exact Subsingleton.elim (α := Fin 1) _ _
    rw [hsi]
  have lands : ∀ (n : Fin N) (c' : Fin C), d.resultIdx? (ix2 n c') idx = some (ix2 r c) ↔ (idx (ix2 n (0 : Fin 1))).toInt = (r.val : ℤ) ∧ c' = c := fun n c' => by
    refine (Routing.resultIdx?_ix2 (R := R) (C := C) d _ _ r c).trans ?_
    rw [hstart0, hwin0, hstart1, hwin1, Fin.ext_iff]
    omega
  unfold Ideal.hostScatterAdd
  refine congrArg (x (ix2 r c) + ·) ?_
  rw [Finset.sum_filter]
  refine (Fintype.sum_of_injective (fun n : Fin N => (ix2 n c : (⟨2, ![N, C]⟩ : Shape).Idx)) (fun a b h => by exact (congrFun h 0 : (ix2 a c : (⟨2, ![N, C]⟩ : Shape).Idx) 0 = _)) _ _ (fun j hj => ?_) (fun n => ?_)).symm
  · rw [if_neg]
    intro h
    rw [eq_ix2 j] at h
    exact hj ⟨j 0, by rw [← ((lands _ _).1 h).2]; exact (eq_ix2 j).symm⟩
  · by_cases h : (idx (ix2 n (0 : Fin 1))).toInt = (r.val : ℤ)
    · rw [if_pos h, if_pos ((lands n c).2 ⟨h, rfl⟩)]
    · rw [if_neg h, if_neg fun e => h ((lands n c).1 e).1]

/-- The same into zeros, the index words named. -/
theorem scatter_rows' {R C N : ℕ} (d : ScatterDims (⟨2, ![R, C]⟩ : Shape) (⟨2, ![N, 1]⟩ : Shape) (⟨2, ![N, C]⟩ : Shape))
    (huw : d.updateWindowDims = [1]) (hiw : d.insertedWindowDims = [0]) (hsd : d.scatterDimsToOperandDims = [0]) (hiv : d.indexVectorDim = 1)
    (x : (⟨2, ![R, C]⟩ : Shape).Idx → EReal) (idx : IVec (⟨2, ![N, 1]⟩ : Shape) 32) (upd : (⟨2, ![N, C]⟩ : Shape).Idx → EReal) (r : Fin R) (c : Fin C)
    (hx : x (ix2 r c) = 0) (w : Fin N → BitVec 32) (hw : ∀ n, idx (ix2 n (0 : Fin 1)) = w n) :
    Ideal.hostScatterAdd d x idx upd (ix2 r c) = ∑ n : Fin N, if (w n).toInt = (r.val : ℤ) then upd (ix2 n c) else 0 := by
  rw [scatter_rows d huw hiw hsd hiv, hx, zero_add]
  exact Finset.sum_congr rfl fun n _ => by rw [hw]

/-- The row each token's vector is added at, as the program lays it out. -/
def seg (ln : IVec S1500 32) (cd : IVec S1500x512x20 32) : IVec S1500x512x20 32 :=
  select (broadcastInDim S1500x512x20 ![0, 1, 2] bcast_S1500x512x1_S1500x512x20_0_1_2
      (broadcastInDim S1500x512x1 ![0, 1] bcast_S1500x512_S1500x512x1_0_1
        (cmpi .slt (broadcastInDim S1500x512 ![0, 1] bcast_S1x512_S1500x512_0_1 (broadcastInDim S1x512 ![1] bcast_S512_S1x512_1 (iotaInDim S512 32 0)))
          (broadcastInDim S1500x512 ![0, 1] bcast_S1500x1_S1500x512_0_1 (broadcastInDim S1500x1 ![0] bcast_S1500_S1500x1_0 ln)))))
    (addi (broadcastInDim S1500x512x20 ![0, 1, 2] bcast_S1500x1x20_S1500x512x20_0_1_2
        (muli (addi
            (broadcastInDim S1500x1x20 ![0, 1, 2] bcast_S1500x1x1_S1500x1x20_0_1_2
              (muli (broadcastInDim S1500x1x1 ![0] bcast_S1500_S1500x1x1_0 (iotaInDim S1500 32 0)) (broadcastInDim S1500x1x1 ![] bcast_S_S1500x1x1 (constantI S_ 32 20#32))))
            (broadcastInDim S1500x1x20 ![0, 1, 2] bcast_S1x1x20_S1500x1x20_0_1_2 (broadcastInDim S1x1x20 ![2] bcast_S20_S1x1x20_2 (iotaInDim S20 32 0))))
          (broadcastInDim S1500x1x20 ![] bcast_S_S1500x1x20 (constantI S_ 32 64#32)))) cd)
    (broadcastInDim S1500x512x20 ![] bcast_S_S1500x512x20 (constantI S_ 32 1920000#32))

/-- Each token's projected vector, scaled. -/
def scaled (acc : FVec Ideal S1500x512x20x16 .f32) (sc : FVec Ideal S1500x512 .f32) : FVec Ideal S1500x512x20x16 .f32 :=
  mulf (mulf acc (broadcastInDim S1500x512x20x16 ![0, 1, 2, 3] bcast_S1500x512x1x1_S1500x512x20x16_0_1_2_3 (broadcastInDim S1500x512x1x1 ![0, 1] bcast_S1500x512_S1500x512x1x1_0_1 sc)))
    (broadcastInDim S1500x512x20x16 ![] bcast_S_S1500x512x20x16 (constant S_ .f32 0x3E800000#32))

theorem seg_val (ln : IVec S1500 32) (cd : IVec S1500x512x20 32) (b : Fin 1500) (s : Fin 512) (r : Fin 20) :
    seg ln cd (ix3 b s r) = if (BitVec.ofNat 32 s.val).slt (ln (ix1 b)) then (BitVec.ofNat 32 b.val * 20#32 + BitVec.ofNat 32 r.val) * 64#32 + cd (ix3 b s r) else 1920000#32 := by
  pointwise [seg]
  show Scalar.select (BitVec.ofBool ((BitVec.ofNat 32 s.val).slt (ln (ix1 b)))) ((BitVec.ofNat 32 b.val * 20#32 + BitVec.ofNat 32 r.val) * 64#32 + cd (ix3 b s r)) 1920000#32 = _
  cases (BitVec.ofNat 32 s.val).slt (ln (ix1 b)) <;> rfl

theorem scaled_val (acc : FVec Ideal S1500x512x20x16 .f32) (sc : FVec Ideal S1500x512 .f32) (b : Fin 1500) (s : Fin 512) (r : Fin 20) (q : Fin 16) :
    (scaled acc sc (ix4 b s r q) : EReal) = (acc (ix4 b s r q) : EReal) * (sc (ix2 b s) : EReal) * Ideal.ofBits .f32 0x3E800000#32 := by
  pointwise [scaled]

theorem acc_val (x : FVec Ideal S1500x512x96 .fp8e4m3) (p : FVec Ideal S20x96x16 .fp8e4m3) (b : Fin 1500) (s : Fin 512) (r : Fin 20) (q : Fin 16) :
    (k0_pay1 (F := Ideal) x p (ix4 b s r q) : EReal) = ∑ k : Fin 96, (x (ix3 b s k) : EReal) * (p (ix3 r k q) : EReal) := by
  pointwise [k0_pay1]

/-- The words of `seg`, one token's twenty after the other's. -/
def segFlat (ln : IVec S1500 32) (cd : IVec S1500x512x20 32) : IVec S15360000 32 := shapeCast S15360000 (seg ln cd) shapeCasts_S1500x512x20_S15360000

/-- The scaled vectors in the same order. -/
def scaledFlat (acc : FVec Ideal S1500x512x20x16 .f32) (sc : FVec Ideal S1500x512 .f32) : FVec Ideal S15360000x16 .f32 :=
  shapeCast S15360000x16 (scaled acc sc) shapeCasts_S1500x512x20x16_S15360000x16

theorem segFlat_val (ln : IVec S1500 32) (cd : IVec S1500x512x20 32) (n : Fin 15360000) (b : Fin 1500) (s : Fin 512) (r : Fin 20)
    (h : n.val = (b.val * 512 + s.val) * 20 + r.val) : segFlat ln cd (ix1 n) = seg ln cd (ix3 b s r) := by
  unfold segFlat
  refine shapeCast_apply _ _ _ _ ?_
  rw [rowMajor_val3 _ 10240 20 rfl rfl, rowMajor_val1]
  show b.val * 10240 + s.val * 20 + r.val = n.val
  omega

theorem scaledFlat_val (acc : FVec Ideal S1500x512x20x16 .f32) (sc : FVec Ideal S1500x512 .f32) (n : Fin 15360000) (q : Fin 16) (b : Fin 1500) (s : Fin 512) (r : Fin 20)
    (h : n.val = (b.val * 512 + s.val) * 20 + r.val) : scaledFlat acc sc (ix2 n q) = scaled acc sc (ix4 b s r q) := by
  unfold scaledFlat
  refine shapeCast_apply _ _ _ _ ?_
  rw [rowMajor_val4 _ 163840 320 16 rfl rfl rfl, rowMajor_val2 _ 16 rfl]
  show b.val * 163840 + s.val * 320 + r.val * 16 + q.val = n.val * 16 + q.val
  omega

/-- The sums, row by row. -/
def sums (acc : FVec Ideal S1500x512x20x16 .f32) (sc : FVec Ideal S1500x512 .f32) (ln : IVec S1500 32) (cd : IVec S1500x512x20 32) : FVec Ideal S1920001x16 .f32 :=
  Host.scatterAdd scatter_S1920001x16_S15360000x1_S15360000x16_1_0_0_1 (broadcastInDim S1920001x16 ![] bcast_S_S1920001x16 (constant S_ .f32 0#32))
    (broadcastInDim S15360000x1 ![0] bcast_S15360000_S15360000x1_0 (segFlat ln cd)) (scaledFlat acc sc)

/-- The result as the program lays it out. -/
def refOut (acc : FVec Ideal S1500x512x20x16 .f32) (sc : FVec Ideal S1500x512 .f32) (ln : IVec S1500 32) (cd : IVec S1500x512x20 32) : FVec Ideal S1500x20480 .bf16 :=
  truncf .bf16 (shapeCast S1500x20480 (extractStridedSlice S1920000x16 ![0, 0] (sums acc sc ln cd) slices_S1920001x16_S1920000x16_0_0) shapeCasts_S1920000x16_S1500x20480) bitsLt_bf16_f32

theorem idx_val (ln : IVec S1500 32) (cd : IVec S1500x512x20 32) (n : Fin 15360000) :
    broadcastInDim S15360000x1 ![0] bcast_S15360000_S15360000x1_0 (segFlat ln cd) (ix2 n (0 : Fin 1)) = segFlat ln cd (ix1 n) := by
  refine broadcastInDim_apply _ _ _ _ _ fun a => ?_
  match a with
  | ⟨0, _⟩ => rfl

/-- A sum over the numbers that satisfy `P`, all of them named by `e`. -/
theorem sum_pick {N : ℕ} (e : Fin 512 → Fin N) (he : Function.Injective e) (P : Fin N → Prop) [DecidablePred P] (f : Fin N → EReal)
    (Q : Fin 512 → Prop) [DecidablePred Q] (g : Fin 512 → EReal) (hP : ∀ n, P n → ∃ s, e s = n) (hQ : ∀ s, P (e s) ↔ Q s) (hg : ∀ s, f (e s) = g s) :
    (∑ n : Fin N, if P n then f n else 0) = ∑ s : Fin 512, if Q s then g s else 0 :=
  (Fintype.sum_of_injective e he _ _ (fun n hn => if_neg fun h => hn (hP n h)) (fun s => by
    by_cases h : Q s
    · rw [if_pos h, if_pos ((hQ s).2 h), hg]
    · rw [if_neg h, if_neg fun x => h ((hQ s).1 x)])).symm

theorem word_val (b' r' c : ℕ) (w : BitVec 32) (hb : b' < 1500) (hr : r' < 20) (hw : w.toNat = c) (hc : c < 64) :
    ((BitVec.ofNat 32 b' * 20#32 + BitVec.ofNat 32 r') * 64#32 + w).toInt = (((b' * 20 + r') * 64 + c : ℕ) : ℤ) := by
  have e : ((BitVec.ofNat 32 b' * 20#32 + BitVec.ofNat 32 r') * 64#32 + w).toNat = (b' * 20 + r') * 64 + c := by
    simp only [BitVec.toNat_add, BitVec.toNat_mul, BitVec.toNat_ofNat]
    omega
  rw [BitVec.toInt_eq_toNat_of_lt (by rw [e]; omega), e]

theorem none_val : (1920000#32).toInt = ((1920000 : ℕ) : ℤ) := by
  rw [BitVec.toInt_eq_toNat_of_lt (by decide)]; rfl

/-- Which words name the row of document `b`, repetition `r`, bucket `k`. -/
theorem seg_row (ln : IVec S1500 32) (cd : IVec S1500x512x20 32) (hcd : ∀ j, (cd j).toNat < 64) (b : Fin 1500) (r : Fin 20) (k : ℕ) (hk : k < 64)
    (row : ℕ) (hrow : row = (b.val * 20 + r.val) * 64 + k) (b' : Fin 1500) (s' : Fin 512) (r' : Fin 20) :
    (seg ln cd (ix3 b' s' r')).toInt = (row : ℤ) ↔
      (BitVec.ofNat 32 s'.val).slt (ln (ix1 b')) = true ∧ b' = b ∧ r' = r ∧ (cd (ix3 b' s' r')).toNat = k := by
  have hc := hcd (ix3 b' s' r')
  have hb' := b'.isLt
  have hr' := r'.isLt
  have hb := b.isLt
  have hr := r.isLt
  rw [seg_val]
  by_cases hv : (BitVec.ofNat 32 s'.val).slt (ln (ix1 b')) = true
  · rw [if_pos hv, word_val b'.val r'.val _ _ hb' hr' rfl hc, hrow, Nat.cast_inj]
    constructor
    · intro h
      exact ⟨hv, Fin.ext (by omega), Fin.ext (by omega), by omega⟩
    · rintro ⟨-, rfl, rfl, h⟩
      rw [h]
  · rw [if_neg hv, none_val, Nat.cast_inj]
    refine ⟨fun h => ?_, fun h => absurd h.1 hv⟩
    omega

theorem base_val (row : Fin 1920001) (q : Fin 16) :
    (broadcastInDim S1920001x16 ![] bcast_S_S1920001x16 (constant S_ .f32 0#32 : FVec Ideal S_ .f32) (ix2 row q) : EReal) = 0 := Ideal.ofBits_zero_f32

/-- The sums as one sum over all words. -/
theorem sums_all (acc : FVec Ideal S1500x512x20x16 .f32) (sc : FVec Ideal S1500x512 .f32) (ln : IVec S1500 32) (cd : IVec S1500x512x20 32) (row : Fin 1920001) (q : Fin 16) :
    (sums acc sc ln cd (ix2 row q) : EReal) = ∑ n : Fin 15360000, if (segFlat ln cd (ix1 n)).toInt = (row.val : ℤ) then (scaledFlat acc sc (ix2 n q) : EReal) else 0 := by
  have e : sums acc sc ln cd = Ideal.hostScatterAdd scatter_S1920001x16_S15360000x1_S15360000x16_1_0_0_1 (broadcastInDim S1920001x16 ![] bcast_S_S1920001x16 (constant S_ .f32 0#32 : FVec Ideal S_ .f32))
      (broadcastInDim S15360000x1 ![0] bcast_S15360000_S15360000x1_0 (segFlat ln cd)) (scaledFlat acc sc) := rfl
  rw [e]
  have hx := base_val row q
  have hw := idx_val ln cd
  generalize (broadcastInDim S1920001x16 ![] bcast_S_S1920001x16 (constant S_ .f32 0#32 : FVec Ideal S_ .f32)) = X at hx ⊢
  generalize (broadcastInDim S15360000x1 ![0] bcast_S15360000_S15360000x1_0 (segFlat ln cd)) = I at hw ⊢
  generalize segFlat ln cd = W at hw ⊢
  generalize scaledFlat acc sc = U
  have e2 := scatter_rows' (R := 1920001) (C := 16) (N := 15360000) scatter_S1920001x16_S15360000x1_S15360000x16_1_0_0_1 rfl rfl rfl rfl X I U row q
  have e3 := e2 hx
  have e4 := e3 (fun n => W (ix1 n)) hw
  exact e4

theorem sums_val (acc : FVec Ideal S1500x512x20x16 .f32) (sc : FVec Ideal S1500x512 .f32) (ln : IVec S1500 32) (cd : IVec S1500x512x20 32)
    (hcd : ∀ j, (cd j).toNat < 64) (b : Fin 1500) (r : Fin 20) (k : ℕ) (hk : k < 64) (q : Fin 16) (row : Fin 1920001) (hrow : row.val = (b.val * 20 + r.val) * 64 + k) :
    (sums acc sc ln cd (ix2 row q) : EReal) = ∑ s : Fin 512, if (BitVec.ofNat 32 s.val).slt (ln (ix1 b)) = true ∧ (cd (ix3 b s r)).toNat = k
      then (acc (ix4 b s r q) : EReal) * (sc (ix2 b s) : EReal) * Ideal.ofBits .f32 0x3E800000#32 else 0 := by
  have split : ∀ n : Fin 15360000, ∃ (b' : Fin 1500) (s' : Fin 512) (r' : Fin 20), n.val = (b'.val * 512 + s'.val) * 20 + r'.val := fun n =>
    ⟨⟨n.val / 10240, by have := n.isLt; omega⟩, ⟨n.val / 20 % 512, by omega⟩, ⟨n.val % 20, by omega⟩, by show n.val = (n.val / 10240 * 512 + n.val / 20 % 512) * 20 + n.val % 20; omega⟩
  have lt : ∀ s : Fin 512, (b.val * 512 + s.val) * 20 + r.val < 15360000 := fun s => by have := b.isLt; have := s.isLt; have := r.isLt; omega
  rw [sums_all]
  refine sum_pick (fun s => ⟨(b.val * 512 + s.val) * 20 + r.val, lt s⟩) (fun s s' h => ?_) (fun n => (segFlat ln cd (ix1 n)).toInt = (row.val : ℤ)) _ _ _ (fun n h => ?_) (fun s => ?_) (fun s => ?_)
  · have h : (b.val * 512 + s.val) * 20 + r.val = (b.val * 512 + s'.val) * 20 + r.val := congrArg Fin.val h
    exact Fin.ext (by omega)
  · obtain ⟨b', s', r', e⟩ := split n
    rw [segFlat_val ln cd n b' s' r' e, seg_row ln cd hcd b r k hk row.val hrow] at h
    obtain ⟨-, rfl, rfl, -⟩ := h
    exact ⟨s', Fin.ext e.symm⟩
  · show (segFlat ln cd (ix1 (⟨(b.val * 512 + s.val) * 20 + r.val, lt s⟩ : Fin 15360000))).toInt = (row.val : ℤ) ↔ _
    rw [segFlat_val ln cd _ b s r rfl, seg_row ln cd hcd b r k hk row.val hrow]
    exact ⟨fun h => ⟨h.1, h.2.2.2⟩, fun h => ⟨h.1, rfl, rfl, h.2⟩⟩
  · show (scaledFlat acc sc (ix2 (⟨(b.val * 512 + s.val) * 20 + r.val, lt s⟩ : Fin 15360000) q) : EReal) = _
    rw [scaledFlat_val acc sc _ q b s r rfl]
    exact scaled_val acc sc b s r q

theorem refOut_val (acc : FVec Ideal S1500x512x20x16 .f32) (sc : FVec Ideal S1500x512 .f32) (ln : IVec S1500 32) (cd : IVec S1500x512x20 32)
    (hcd : ∀ j, (cd j).toNat < 64) (b : Fin 1500) (r : Fin 20) (k : ℕ) (hk : k < 64) (q : Fin 16) (col : Fin 20480) (hcol : col.val = (r.val * 64 + k) * 16 + q.val) :
    (refOut acc sc ln cd (ix2 b col) : EReal) = ∑ s : Fin 512, if (BitVec.ofNat 32 s.val).slt (ln (ix1 b)) = true ∧ (cd (ix3 b s r)).toNat = k
      then (acc (ix4 b s r q) : EReal) * (sc (ix2 b s) : EReal) * Ideal.ofBits .f32 0x3E800000#32 else 0 := by
  have hrow : (b.val * 20 + r.val) * 64 + k < 1920000 := by have := b.isLt; have := r.isLt; omega
  refine Eq.trans ?_ (sums_val acc sc ln cd hcd b r k hk q ⟨(b.val * 20 + r.val) * 64 + k, by omega⟩ rfl)
  show shapeCast S1500x20480 (extractStridedSlice S1920000x16 ![0, 0] (sums acc sc ln cd) slices_S1920001x16_S1920000x16_0_0) shapeCasts_S1920000x16_S1500x20480 (ix2 b col) = _
  refine (shapeCast_apply _ _ _ (ix2 (⟨(b.val * 20 + r.val) * 64 + k, hrow⟩ : Fin 1920000) q) ?_).trans ?_
  · rw [rowMajor_val2 _ 16 rfl, rowMajor_val2 _ 20480 rfl]
    show ((b.val * 20 + r.val) * 64 + k) * 16 + q.val = b.val * 20480 + col.val
    omega
  · pointwise []

end Cert.ReferenceIdeal.Hand

end
-- ==== Proof.ReferenceIdealValue.lean ====
/- The reference's run: its result as one function of its arguments. -/
module

public import proofs.«01_k».proof.Proof.ReferenceIdealSums
public import Idealize.ShloMosaic.Lib.Pipeline.ValueKit

@[expose] public section

set_option maxRecDepth 16384

noncomputable section

namespace Cert.ReferenceIdeal.Hand

open Idealize.ShloMosaic Idealize.ShloMosaic.TcCoe Idealize.ShloMosaic.Tactic Idealize.SL.Sem
open Cert.ReferenceIdeal.Gen

set_option maxHeartbeats 2000000 in
/-- The lines after the region, from any contents. -/
theorem out_eq (W : Valuation τ sig (Elt Ideal)) :
    StableHlo.after (List.flatten [hostOps1, hostOps1_1, hostOps1_2]) W (Proc.devRef .tc main_v36)
      = refOut (W (Proc.devRef .tc main_v2)) (W (Proc.devRef .tc main_arg1)) (W (Proc.devRef .tc main_arg2)) (W (Proc.devRef .tc main_arg3)) := by
  unfold hostOps1 hostOps1_1 hostOps1_2
  simp only [List.flatten_cons, List.flatten_nil, List.append_nil, List.cons_append, List.nil_append]
  after_results_simp
  unfold refOut sums segFlat scaledFlat seg scaled
  rfl

variable (m : (ℓ : Loc nD τ sig) → Buf (Elt Ideal) ℓ) (ρ : Dev nD → PrngReg)

theorem V_v0 (c : Dev nD) : V m c main_v0 = bitcastToFloat (F := Ideal) .fp8e4m3 (m ((c : Thread nD τ).loc main_arg0)) := by
  show StableHlo.after hostOps0 _ (Proc.devRef .tc main_v0) = _
  unfold hostOps0; after_results_simp

theorem V_v1 (c : Dev nD) : V m c main_v1 = bitcastToFloat (F := Ideal) .fp8e4m3 (m ((c : Thread nD τ).loc main_arg4)) := by
  show StableHlo.after hostOps0 _ (Proc.devRef .tc main_v1) = _
  unfold hostOps0; after_results_simp

theorem idx (t : Fin cfg0.N) : win0_0.index t = ![0, 0, 0] ∧ win0_1.index t = ![0, 0, 0] :=
  (by decide +kernel : ∀ t : Fin grid0.N, win0_0.index t = ![0, 0, 0] ∧ win0_1.index t = ![0, 0, 0]) t

theorem iblk_0 (c : Dev nD) : iblk m c 0 t0_0 = V m c main_v0 := by
  funext j
  blk_ext [iblk, idx t0_0]

theorem iblk_1 (c : Dev nD) : iblk m c 1 t0_0 = V m c main_v1 := by
  funext j
  blk_ext [iblk, idx t0_0]

/-- The products of the one kernel call. -/
theorem arr_2 (c : Dev nD) : (dats m 0 c).arrAt 2 cfg0.N = k0_pay1 (F := Ideal) (V m c main_v0) (V m c main_v1) := by
  refine (dats m 0 c).arrAt_eq_of_after_last 2 t0_0 (by decide +kernel) _ fun j => ?_
  blk_simp
  rw [after0_2]
  frame_out
  rw [iblk_0, iblk_1]

/-- The result as a function of the arguments. -/
def refFde (c : Dev nD) : FVec Ideal S1500x20480 .bf16 :=
  refOut (k0_pay1 (F := Ideal) (V m c main_v0) (V m c main_v1)) (m ((c : Thread nD τ).loc main_arg1)) (m ((c : Thread nD τ).loc main_arg2)) (m ((c : Thread nD τ).loc main_arg3))

theorem tail_v36 (c : Dev nD) : Pipeline.afterTail₀ cfgs (dats m) 0 (V0 m) [hostOps1, hostOps1_1, hostOps1_2] c main_v36 = refFde m c := by
  unfold Pipeline.afterTail₀
  refine (out_eq _).trans ?_
  have e2 := (Pipeline.withArrays_arr spec0 launch0.win.arr_inj c (V0 m c) (fun w => (dats m 0 c).arrAt w cfg0.N) 2).trans (arr_2 m c)
  have h1 := (Pipeline.withArrays_of_ne spec0 c (V0 m c) (fun w => (dats m 0 c).arrAt w cfg0.N) main_arg1 (by exact (by decide : ∀ w, Pipeline.arrRef spec0 w ≠ main_arg1))).trans (V_main_arg1 m c)
  have h2 := (Pipeline.withArrays_of_ne spec0 c (V0 m c) (fun w => (dats m 0 c).arrAt w cfg0.N) main_arg2 (by exact (by decide : ∀ w, Pipeline.arrRef spec0 w ≠ main_arg2))).trans (V_main_arg2 m c)
  have h3 := (Pipeline.withArrays_of_ne spec0 c (V0 m c) (fun w => (dats m 0 c).arrAt w cfg0.N) main_arg3 (by exact (by decide : ∀ w, Pipeline.arrRef spec0 w ≠ main_arg3))).trans (V_main_arg3 m c)
  unfold refFde
  exact congr (congr (congr (congrArg refOut e2) h1) h2) h3

/-- The reference runs, leaves its arguments and leaves the sums in its result. -/
theorem ref_run : θ_run defs (onTc (τ := τ) (main (F := Ideal))) ⟨m, fun _ => 0, ρ⟩ (fun r => ∀ c : Dev nD,
      r.2.mem ((c.tc : Thread nD τ).loc main_v36) = refFde m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).2 main_v36 (Pipeline.mem_restRefs_of main_v36 (by decide) (by decide))).trans (tail_v36 m c), h.2 c⟩)
    (θ_run_and (run_main m ρ) (unchanged m ρ))

end Cert.ReferenceIdeal.Hand

end
-- ==== Proof.Results.lean ====
/- Both programs' results are one function of the arguments. -/
module

public import proofs.«01_k».proof.Proof.KernelIdealLaunchValue
public import proofs.«01_k».proof.Proof.ReferenceIdealValue
public import proofs.«01_k».proof.Proof.PreTame

@[expose] public section

set_option maxRecDepth 16384

noncomputable section

open Idealize.ShloMosaic Idealize.ShloMosaic.TcCoe Idealize.ShloMosaic.Tactic Idealize.SL.Sem

namespace Cert.KernelIdeal.Hand

open Cert.KernelIdeal.Gen

/-- A byte whose seven low bits are not all ones names a number. -/
theorem byte_finite (b : BitVec 8) (h : (b.signExtend 32) &&& 127#32 ≠ 127#32) : Fin' (Ideal.ofBits .fp8e4m3 b) := by
  have hn : ¬ ((b.extractLsb' 3 4).toNat = 15 ∧ (b.extractLsb' 0 3).toNat = 7) := by
    revert h; revert b; decide +kernel
  show Fin' (Ideal.e4m3fn b)
  unfold Ideal.e4m3fn
  simp only [if_neg hn]
  split
  · exact ⟨EReal.coe_ne_bot _, EReal.coe_ne_top _⟩
  · exact ⟨EReal.coe_ne_bot _, EReal.coe_ne_top _⟩

/-- A word from 0 to 63 as a count. -/
theorem code_lt (w : BitVec 32) (h : 0 ≤ w.toInt ∧ w.toInt < 64) : w.toNat < 64 := by
  have := BitVec.toInt_eq_toNat_cond w
  have := w.isLt
  split at * <;> omega

variable (m : (ℓ : Loc nD τ sig) → Buf (Elt Ideal) ℓ) (ρ : Dev nD → PrngReg)

/-- The bytes, the scales, the lengths, the bucket codes and the projection's bytes, as launched. -/
abbrev A0 (c : Dev nD) : IVec S1500x512x96 8 := m ((c : Thread nD τ).loc main_arg0)
abbrev A1 (c : Dev nD) : FVec Ideal S1500x512 .f32 := m ((c : Thread nD τ).loc main_arg1)
abbrev A2 (c : Dev nD) : IVec S1500 32 := m ((c : Thread nD τ).loc main_arg2)
abbrev A3 (c : Dev nD) : IVec S1500x512x20 32 := m ((c : Thread nD τ).loc main_arg3)
abbrev A4 (c : Dev nD) : IVec S20x96x16 8 := m ((c : Thread nD τ).loc main_arg4)

theorem V_v2 (c : Dev nD) : V m c main_v2 = transpose S1500x96x512 [0, 2, 1] (bitcastToFloat (F := Ideal) .fp8e4m3 (A0 m c)) transposes_S1500x512x96_S1500x96x512_0_2_1 := by
  show StableHlo.after hostOps0 _ (Proc.devRef .tc main_v2) = _
  unfold hostOps0; after_results_simp

theorem V_v3 (c : Dev nD) : V m c main_v3 = transpose S20x1500x512 [2, 0, 1] (A3 m c) transposes_S1500x512x20_S20x1500x512_2_0_1 := by
  show StableHlo.after hostOps0 _ (Proc.devRef .tc main_v3) = _
  unfold hostOps0; after_results_simp

theorem V_v5 (c : Dev nD) : V m c main_v5 = shapeCast S320x96 (transpose S20x16x96 [0, 2, 1] (bitcastToFloat (F := Ideal) .fp8e4m3 (A4 m c)) transposes_S20x96x16_S20x16x96_0_2_1) shapeCasts_S20x16x96_S320x96 := by
  show StableHlo.after hostOps0 _ (Proc.devRef .tc main_v5) = _
  unfold hostOps0; after_results_simp; try rfl

theorem x_val (c : Dev nD) (d : Fin 1500) (k : Fin 96) (s : Fin 512) : xT m c (ix3 d k s) = Ideal.ofBits .fp8e4m3 (A0 m c (ix3 d s k)) := by
  refine (congrFun (V_v2 m c) _).trans ?_
  pointwise []

theorem co_val (c : Dev nD) (d : Fin 1500) (r : Fin 20) (s : Fin 512) : coT m c (ix3 r d s) = A3 m c (ix3 d s r) := by
  refine (congrFun (V_v3 m c) _).trans ?_
  pointwise []

theorem pr_val (c : Dev nD) (r : Fin 20) (q : Fin 16) (k : Fin 96) (j : Fin 320) (hj : j.val = r.val * 16 + q.val) :
    prT m c (ix2 j k) = Ideal.ofBits .fp8e4m3 (A4 m c (ix3 r k q)) := by
  refine (congrFun (V_v5 m c) _).trans ?_
  refine (shapeCast_apply _ _ _ (ix3 r q k) ?_).trans ?_
  · simp only [rowMajor_val3, rowMajor_val2]
    show r.val * (16 * 96) + q.val * 96 + k.val = j.val * 96 + k.val
    omega
  · pointwise []

theorem good_of (c : Dev nD) (h : Cert.Pre.Tame (A0 m c) (A1 m c) (A2 m c) (A3 m c) (A4 m c)) : Good m c where
  x i := by
    rw [eq_ix3 i]; exact (x_val m c (i 0) (i 1) (i 2)).symm ▸ byte_finite _ (h.x _)
  sc i := by
    show Fin' (V m c main_arg1 i)
    rw [V_main_arg1]; exact ⟨(h.scale i).2, (h.scale i).1⟩
  pr i := by
    rw [eq_ix2 i]
    have go : ∀ (j : Fin 320) (k : Fin 96), Fin' (prT m c (ix2 j k)) := fun j k => by
      rw [pr_val m c ⟨j.val / 16, by omega⟩ ⟨j.val % 16, by omega⟩ k j (by show j.val = j.val / 16 * 16 + j.val % 16; omega)]
      exact byte_finite _ (h.proj _)
    exact go _ _
  co i := by
    rw [eq_ix3 i]; exact (co_val m c (i 1) (i 0) (i 2)).symm ▸ code_lt _ (h.code _)

/-- The sums of document `d` at repetition `r`, bucket `k` and coordinate `q`, over the arguments. -/
def bucketSum (a0 : IVec S1500x512x96 8) (a1 : FVec Ideal S1500x512 .f32) (a2 : IVec S1500 32) (a3 : IVec S1500x512x20 32) (a4 : IVec S20x96x16 8)
    (d : Fin 1500) (r : Fin 20) (k : ℕ) (q : Fin 16) : EReal :=
  ∑ s : Fin 512, if (BitVec.ofNat 32 s.val).slt (a2 (ix1 d)) = true ∧ (a3 (ix3 d s r)).toNat = k
    then (∑ l : Fin 96, (Ideal.ofBits .fp8e4m3 (a0 (ix3 d s l)) : EReal) * (Ideal.ofBits .fp8e4m3 (a4 (ix3 r l q)) : EReal)) * (a1 (ix2 d s) : EReal) * Ideal.ofBits .f32 0x3E800000#32 else 0

theorem lenJ_val (d : Fin 1500) : lenJ m d.val = A2 m 0 (ix1 d) := by
  unfold lenJ
  exact dif_pos d.isLt

theorem fdeOf_val (c : Dev nD) (d : Fin 1500) (r : Fin 20) (k : ℕ) (q : Fin 16) :
    fdeOf (lenJ m d.val) (fun j s => ∑ k : Fin 96, prT m c (ix2 j k) * xT m c (ix3 d k s)) (fun s => scT m c (ix2 d s)) (fun r s => coT m c (ix3 r d s)) r q k
      = bucketSum (A0 m c) (A1 m c) (A2 m c) (A3 m c) (A4 m c) d r k q := by
  obtain rfl : c = 0 := Subsingleton.elim _ _
  unfold fdeOf bucketSum okAt
  refine Finset.sum_congr rfl fun s _ => ?_
  have e1 : scT m 0 (ix2 d s) = A1 m 0 (ix2 d s) := congrFun (V_main_arg1 m 0) _
  have e2 : (∑ l : Fin 96, prT m 0 (ix2 ⟨r.val * 16 + q.val, by omega⟩ l) * xT m 0 (ix3 d l s))
      = ∑ l : Fin 96, (Ideal.ofBits .fp8e4m3 (A0 m 0 (ix3 d s l)) : EReal) * (Ideal.ofBits .fp8e4m3 (A4 m 0 (ix3 r l q)) : EReal) :=
    Finset.sum_congr rfl fun l _ => by rw [pr_val m 0 r q l _ rfl, x_val]; exact mul_comm _ _
  beta_reduce
  rw [lenJ_val, co_val, e1, e2, ← mul_assoc]

theorem fdeA_val (c : Dev nD) (y : S1500x20480.Idx) (r : Fin 20) (k : ℕ) (q : Fin 16) (hk : k < 64) (h : (y 1).val = (r.val * 64 + k) * 16 + q.val) :
    fdeA m c y = bucketSum (A0 m c) (A1 m c) (A2 m c) (A3 m c) (A4 m c) (y 0) r k q := by
  refine Eq.trans ?_ (fdeOf_val m c (y 0) r k q)
  unfold fdeA
  have hr : (⟨(y 1).val / 1024, by have := (y 1).isLt; change (y 1).val < 20480 at this; omega⟩ : Fin 20) = r := Fin.ext (by show (y 1).val / 1024 = r.val; omega)
  have hq : (⟨(y 1).val % 16, by omega⟩ : Fin 16) = q := Fin.ext (by show (y 1).val % 16 = q.val; omega)
  have hb : (y 1).val / 16 % 64 = k := by omega
  rw [hr, hq, hb]

end Cert.KernelIdeal.Hand

namespace Cert.ReferenceIdeal.Hand

open Cert.ReferenceIdeal.Gen

variable (m : (ℓ : Loc nD τ sig) → Buf (Elt Ideal) ℓ)

theorem refFde_val (c : Dev nD) (a0 : IVec S1500x512x96 8) (a1 : FVec Ideal S1500x512 .f32) (a2 : IVec S1500 32) (a3 : IVec S1500x512x20 32) (a4 : IVec S20x96x16 8)
    (h0 : m ((c : Thread nD τ).loc main_arg0) = a0) (h1 : m ((c : Thread nD τ).loc main_arg1) = a1) (h2 : m ((c : Thread nD τ).loc main_arg2) = a2)
    (h3 : m ((c : Thread nD τ).loc main_arg3) = a3) (h4 : m ((c : Thread nD τ).loc main_arg4) = a4) (hcd : ∀ j, (a3 j).toNat < 64)
    (d : Fin 1500) (r : Fin 20) (k : ℕ) (q : Fin 16) (hk : k < 64) (col : Fin 20480) (h : col.val = (r.val * 64 + k) * 16 + q.val) :
    (refFde m c (ix2 d col) : EReal) = Cert.KernelIdeal.Hand.bucketSum a0 a1 a2 a3 a4 d r k q := by
  unfold refFde
  rw [V_v0, V_v1, h0, h1, h2, h3, h4]
  refine (refOut_val _ a1 a2 a3 hcd d r k hk q col h).trans ?_
  unfold Cert.KernelIdeal.Hand.bucketSum
  refine Finset.sum_congr rfl fun s _ => ?_
  rw [acc_val]
  rfl

end Cert.ReferenceIdeal.Hand

end
-- ==== Proof.lean ====
module

public import proofs.«01_k».proof.Defs
public import proofs.«01_k».proof.Proof.Pre
public import proofs.«01_k».proof.Proof.KernelWeak
public import proofs.«01_k».proof.Proof.KernelIdealWeak
public import proofs.«01_k».proof.Proof.PreTame
public import proofs.«01_k».proof.Proof.Results
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_lengths
public import proofs.«01_k».proof.Proof.Gen.Pre_tame
public import Idealize.ShloMosaic.Lib.Bf16Pair

@[expose] public section

set_option maxRecDepth 16384

noncomputable section

namespace Cert.Proof

open Idealize.ShloMosaic Idealize.SL.Sem

/-- The lengths of a tame launch are within the window. -/
theorem tame_len (m : (ℓ : Loc Cert.KernelIdeal.nD Cert.KernelIdeal.τ Cert.KernelIdeal.sig) → Buf (Elt Ideal) ℓ)
    (h : Cert.Pre_KernelIdeal_tame (hPre_tame := Cert.Pre_tame.Gen.facts) m) (j : Cert.KernelIdeal.S1536.Idx) :
    ((Cert.KernelIdeal.Gen.tbl m 0 : Cert.KernelIdeal.S1536.Idx → BitVec 32) j).toInt ≤ 512 :=
  Cert.KernelIdeal.Hand.tbl_le m (Cert.Pre.tame_of _ _ _ _ _ (h 0)).len j

/-- From tame arguments the kernel and the reference, over exact arithmetic, end with the same sums. -/
theorem algebraic : Cert.algebraic_KernelIdeal_ReferenceIdeal_pre_tame (hKernelIdeal := Cert.KernelIdeal.Gen.facts)
    (hReferenceIdeal := Cert.ReferenceIdeal.Gen.facts) (hPre_tame := Cert.Pre_tame.Gen.facts) := by
  intro m g m' g' h hm
  have ht := fun c => Cert.Pre.tame_of _ _ _ _ _ (h c)
  refine ⟨Cert.KernelIdeal.Hand.fdeA m, (θ_run _ _ _).mono (fun r hr => hr.1) (Cert.KernelIdeal.Hand.fde_run m g trivial (tame_len m h) fun c => Cert.KernelIdeal.Hand.good_of m c (ht c)),
    (θ_run _ _ _).mono (fun r hr c => ⟨(hr c).1.trans ?_, (hr c).2⟩) (Cert.ReferenceIdeal.Hand.ref_run m' g')⟩
  obtain ⟨h0, h1, h2, h3, h4⟩ := hm c
  refine funext fun (y : Cert.ReferenceIdeal.S1500x20480.Idx) => ?_
  have hy : (y 1).val < 20480 := (y 1).isLt
  rw [Cert.KernelIdeal.Hand.fdeA_val m c y ⟨(y 1).val / 1024, by omega⟩ ((y 1).val / 16 % 64) ⟨(y 1).val % 16, by omega⟩ (by omega)
    (by show (y 1).val = ((y 1).val / 1024 * 64 + (y 1).val / 16 % 64) * 16 + (y 1).val % 16; omega)]
  refine (congrArg (Cert.ReferenceIdeal.Hand.refFde m' c) (eq_ix2 y)).trans ?_
  exact Cert.ReferenceIdeal.Hand.refFde_val m' c _ _ _ _ _ h0 h1 h2 h3 h4 (fun j => Cert.KernelIdeal.Hand.code_lt _ ((ht c).code j)) (y 0) _ _ _ (by omega) (y 1)
    (by show (y 1).val = ((y 1).val / 1024 * 64 + (y 1).val / 16 % 64) * 16 + (y 1).val % 16; omega)

theorem claim : Cert.Claim :=
  ⟨Cert.Kernel.Gen.facts, Cert.KernelIdeal.Gen.facts, Cert.ReferenceIdeal.Gen.facts, Cert.Pre_lengths.Gen.facts, Cert.Pre_tame.Gen.facts,
    fun m g h => Cert.Kernel.Hand.quiescent_of m g trivial (Cert.Kernel.Hand.tbl_le m (Cert.Pre.lengths_le _ _ _ _ _ (h 0))),
    fun m g h => Cert.KernelIdeal.Hand.quiescent_of m g trivial (Cert.KernelIdeal.Hand.tbl_le m (Cert.Pre.lengths_le _ _ _ _ _ (h 0))),
    fun m g h => Cert.KernelIdeal.Hand.quiescent_of m g trivial (tame_len m h),
    fun m g _ => Cert.ReferenceIdeal.Gen.frame m g,
    fun m g _ => Cert.ReferenceIdeal.Gen.frame m g,
    ⟨IdealRules.bf16_pack.statement _, IdealRules.bf16_pair.packStatement _, IdealRules.bf16_pair.statement _ _, IdealRules.bf16_pair.packStatement _,
      IdealRules.bf16_pair.statement _ _⟩,
    algebraic⟩

end Cert.Proof

end
